-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fox_is_finite [hPre_fox_is_finite : Cert.Pre_fox_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_fox_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_fox_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_fox_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fox_is_finite [hPre_fox_is_finite : Cert.Pre_fox_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fox_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_fox_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_fox_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_mla_is_finite [hPre_mla_is_finite : Cert.Pre_mla_is_finite.Facts] (m : (ℓ : Loc Cert.LatentIdeal.nD Cert.LatentIdeal.τ Cert.LatentIdeal.sig) → Buf (Elt Ideal) ℓ) : Prop :=
  ∀ c : Dev Cert.LatentIdeal.nD,
    (Cert.Pre_mla_is_finite.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2))).1 = (fun _ => 1#1)
    ∧ (Cert.Pre_mla_is_finite.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2))).2 = (fun _ => 1#1)

def Pre_LatentRefIdeal (m : (ℓ : Loc Cert.LatentRefIdeal.nD Cert.LatentRefIdeal.τ Cert.LatentRefIdeal.sig) → Buf (Elt Ideal) ℓ) : Prop :=
  True

def Pre_LatentRefIdeal_mla_is_finite [hPre_mla_is_finite : Cert.Pre_mla_is_finite.Facts] (m : (ℓ : Loc Cert.LatentRefIdeal.nD Cert.LatentRefIdeal.τ Cert.LatentRefIdeal.sig) → Buf (Elt Ideal) ℓ) : Prop :=
  ∀ c : Dev Cert.LatentRefIdeal.nD,
    (Cert.Pre_mla_is_finite.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2))).1 = (fun _ => 1#1)
    ∧ (Cert.Pre_mla_is_finite.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2))).2 = (fun _ => 1#1)

def Pre_Experts [hPre_tiles_name_experts : Cert.Pre_tiles_name_experts.Facts] (m : (ℓ : Loc Cert.Experts.nD Cert.Experts.τ Cert.Experts.sig) → Buf (Elt Bits) ℓ) : Prop :=
  ∀ c : Dev Cert.Experts.nD,
    (Cert.Pre_tiles_name_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tiles_name_experts : Cert.Pre_tiles_name_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles_name_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tiles_name_experts [hPre_tiles_name_experts : Cert.Pre_tiles_name_experts.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tiles_name_experts.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_MoeOut (m : (ℓ : Loc Cert.MoeOut.nD Cert.MoeOut.τ Cert.MoeOut.sig) → Buf (Elt Bits) ℓ) : Prop :=
  True

def Pre_MoeOutIdeal (m : (ℓ : Loc Cert.MoeOutIdeal.nD Cert.MoeOutIdeal.τ Cert.MoeOutIdeal.sig) → Buf (Elt Ideal) ℓ) : Prop :=
  True

def Pre_MoeOutRefIdeal (m : (ℓ : Loc Cert.MoeOutRefIdeal.nD Cert.MoeOutRefIdeal.τ Cert.MoeOutRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixTwo (m : (ℓ : Loc Cert.MixTwo.nD Cert.MixTwo.τ Cert.MixTwo.sig) → Buf (Elt Bits) ℓ) : Prop :=
  True

def Pre_MixTwoIdeal (m : (ℓ : Loc Cert.MixTwoIdeal.nD Cert.MixTwoIdeal.τ Cert.MixTwoIdeal.sig) → Buf (Elt Ideal) ℓ) : Prop :=
  True

def Pre_MixTwoRefIdeal (m : (ℓ : Loc Cert.MixTwoRefIdeal.nD Cert.MixTwoRefIdeal.τ Cert.MixTwoRefIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputIdeal_l0_is_finite [hPre_l0_is_finite : Cert.Pre_l0_is_finite.Facts] (m : (ℓ : Loc Cert.InputIdeal.nD Cert.InputIdeal.τ Cert.InputIdeal.sig) → Buf (Elt Ideal) ℓ) : Prop :=
  ∀ c : Dev Cert.InputIdeal.nD,
    (Cert.Pre_l0_is_finite.fn (F := Ideal) (m ((c.tc : Thread Cert.InputIdeal.nD Cert.InputIdeal.τ).loc Cert.InputIdeal.main_arg0)) (m ((c.tc : Thread Cert.InputIdeal.nD Cert.InputIdeal.τ).loc Cert.InputIdeal.main_arg1)) (m ((c.tc : Thread Cert.InputIdeal.nD Cert.InputIdeal.τ).loc Cert.InputIdeal.main_arg2)) (m ((c.tc : Thread Cert.InputIdeal.nD Cert.InputIdeal.τ).loc Cert.InputIdeal.main_arg3)) (m ((c.tc : Thread Cert.InputIdeal.nD Cert.InputIdeal.τ).loc Cert.InputIdeal.main_arg4)) (m ((c.tc : Thread Cert.InputIdeal.nD Cert.InputIdeal.τ).loc Cert.InputIdeal.main_arg5)) (m ((c.tc : Thread Cert.InputIdeal.nD Cert.InputIdeal.τ).loc Cert.InputIdeal.main_arg6)) (m ((c.tc : Thread Cert.InputIdeal.nD Cert.InputIdeal.τ).loc Cert.InputIdeal.main_arg7)) (m ((c.tc : Thread Cert.InputIdeal.nD Cert.InputIdeal.τ).loc Cert.InputIdeal.main_arg8)) (m ((c.tc : Thread Cert.InputIdeal.nD Cert.InputIdeal.τ).loc Cert.InputIdeal.main_arg9)) (m ((c.tc : Thread Cert.InputIdeal.nD Cert.InputIdeal.τ).loc Cert.InputIdeal.main_arg10)) (m ((c.tc : Thread Cert.InputIdeal.nD Cert.InputIdeal.τ).loc Cert.InputIdeal.main_arg11))).1 = (fun _ => 1#1)
    ∧ (Cert.Pre_l0_is_finite.fn (F := Ideal) (m ((c.tc : Thread Cert.InputIdeal.nD Cert.InputIdeal.τ).loc Cert.InputIdeal.main_arg0)) (m ((c.tc : Thread Cert.InputIdeal.nD Cert.InputIdeal.τ).loc Cert.InputIdeal.main_arg1)) (m ((c.tc : Thread Cert.InputIdeal.nD Cert.InputIdeal.τ).loc Cert.InputIdeal.main_arg2)) (m ((c.tc : Thread Cert.InputIdeal.nD Cert.InputIdeal.τ).loc Cert.InputIdeal.main_arg3)) (m ((c.tc : Thread Cert.InputIdeal.nD Cert.InputIdeal.τ).loc Cert.InputIdeal.main_arg4)) (m ((c.tc : Thread Cert.InputIdeal.nD Cert.InputIdeal.τ).loc Cert.InputIdeal.main_arg5)) (m ((c.tc : Thread Cert.InputIdeal.nD Cert.InputIdeal.τ).loc Cert.InputIdeal.main_arg6)) (m ((c.tc : Thread Cert.InputIdeal.nD Cert.InputIdeal.τ).loc Cert.InputIdeal.main_arg7)) (m ((c.tc : Thread Cert.InputIdeal.nD Cert.InputIdeal.τ).loc Cert.InputIdeal.main_arg8)) (m ((c.tc : Thread Cert.InputIdeal.nD Cert.InputIdeal.τ).loc Cert.InputIdeal.main_arg9)) (m ((c.tc : Thread Cert.InputIdeal.nD Cert.InputIdeal.τ).loc Cert.InputIdeal.main_arg10)) (m ((c.tc : Thread Cert.InputIdeal.nD Cert.InputIdeal.τ).loc Cert.InputIdeal.main_arg11))).2.1 = (fun _ => 1#1)
    ∧ (Cert.Pre_l0_is_finite.fn (F := Ideal) (m ((c.tc : Thread Cert.InputIdeal.nD Cert.InputIdeal.τ).loc Cert.InputIdeal.main_arg0)) (m ((c.tc : Thread Cert.InputIdeal.nD Cert.InputIdeal.τ).loc Cert.InputIdeal.main_arg1)) (m ((c.tc : Thread Cert.InputIdeal.nD Cert.InputIdeal.τ).loc Cert.InputIdeal.main_arg2)) (m ((c.tc : Thread Cert.InputIdeal.nD Cert.InputIdeal.τ).loc Cert.InputIdeal.main_arg3)) (m ((c.tc : Thread Cert.InputIdeal.nD Cert.InputIdeal.τ).loc Cert.InputIdeal.main_arg4)) (m ((c.tc : Thread Cert.InputIdeal.nD Cert.InputIdeal.τ).loc Cert.InputIdeal.main_arg5)) (m ((c.tc : Thread Cert.InputIdeal.nD Cert.InputIdeal.τ).loc Cert.InputIdeal.main_arg6)) (m ((c.tc : Thread Cert.InputIdeal.nD Cert.InputIdeal.τ).loc Cert.InputIdeal.main_arg7)) (m ((c.tc : Thread Cert.InputIdeal.nD Cert.InputIdeal.τ).loc Cert.InputIdeal.main_arg8)) (m ((c.tc : Thread Cert.InputIdeal.nD Cert.InputIdeal.τ).loc Cert.InputIdeal.main_arg9)) (m ((c.tc : Thread Cert.InputIdeal.nD Cert.InputIdeal.τ).loc Cert.InputIdeal.main_arg10)) (m ((c.tc : Thread Cert.InputIdeal.nD Cert.InputIdeal.τ).loc Cert.InputIdeal.main_arg11))).2.2.1 = (fun _ => 1#1)
    ∧ (Cert.Pre_l0_is_finite.fn (F := Ideal) (m ((c.tc : Thread Cert.InputIdeal.nD Cert.InputIdeal.τ).loc Cert.InputIdeal.main_arg0)) (m ((c.tc : Thread Cert.InputIdeal.nD Cert.InputIdeal.τ).loc Cert.InputIdeal.main_arg1)) (m ((c.tc : Thread Cert.InputIdeal.nD Cert.InputIdeal.τ).loc Cert.InputIdeal.main_arg2)) (m ((c.tc : Thread Cert.InputIdeal.nD Cert.InputIdeal.τ).loc Cert.InputIdeal.main_arg3)) (m ((c.tc : Thread Cert.InputIdeal.nD Cert.InputIdeal.τ).loc Cert.InputIdeal.main_arg4)) (m ((c.tc : Thread Cert.InputIdeal.nD Cert.InputIdeal.τ).loc Cert.InputIdeal.main_arg5)) (m ((c.tc : Thread Cert.InputIdeal.nD Cert.InputIdeal.τ).loc Cert.InputIdeal.main_arg6)) (m ((c.tc : Thread Cert.InputIdeal.nD Cert.InputIdeal.τ).loc Cert.InputIdeal.main_arg7)) (m ((c.tc : Thread Cert.InputIdeal.nD Cert.InputIdeal.τ).loc Cert.InputIdeal.main_arg8)) (m ((c.tc : Thread Cert.InputIdeal.nD Cert.InputIdeal.τ).loc Cert.InputIdeal.main_arg9)) (m ((c.tc : Thread Cert.InputIdeal.nD Cert.InputIdeal.τ).loc Cert.InputIdeal.main_arg10)) (m ((c.tc : Thread Cert.InputIdeal.nD Cert.InputIdeal.τ).loc Cert.InputIdeal.main_arg11))).2.2.2.1 = (fun _ => 1#1)
    ∧ (Cert.Pre_l0_is_finite.fn (F := Ideal) (m ((c.tc : Thread Cert.InputIdeal.nD Cert.InputIdeal.τ).loc Cert.InputIdeal.main_arg0)) (m ((c.tc : Thread Cert.InputIdeal.nD Cert.InputIdeal.τ).loc Cert.InputIdeal.main_arg1)) (m ((c.tc : Thread Cert.InputIdeal.nD Cert.InputIdeal.τ).loc Cert.InputIdeal.main_arg2)) (m ((c.tc : Thread Cert.InputIdeal.nD Cert.InputIdeal.τ).loc Cert.InputIdeal.main_arg3)) (m ((c.tc : Thread Cert.InputIdeal.nD Cert.InputIdeal.τ).loc Cert.InputIdeal.main_arg4)) (m ((c.tc : Thread Cert.InputIdeal.nD Cert.InputIdeal.τ).loc Cert.InputIdeal.main_arg5)) (m ((c.tc : Thread Cert.InputIdeal.nD Cert.InputIdeal.τ).loc Cert.InputIdeal.main_arg6)) (m ((c.tc : Thread Cert.InputIdeal.nD Cert.InputIdeal.τ).loc Cert.InputIdeal.main_arg7)) (m ((c.tc : Thread Cert.InputIdeal.nD Cert.InputIdeal.τ).loc Cert.InputIdeal.main_arg8)) (m ((c.tc : Thread Cert.InputIdeal.nD Cert.InputIdeal.τ).loc Cert.InputIdeal.main_arg9)) (m ((c.tc : Thread Cert.InputIdeal.nD Cert.InputIdeal.τ).loc Cert.InputIdeal.main_arg10)) (m ((c.tc : Thread Cert.InputIdeal.nD Cert.InputIdeal.τ).loc Cert.InputIdeal.main_arg11))).2.2.2.2 = (fun _ => 1#1)

def Pre_InputRefIdeal (m : (ℓ : Loc Cert.InputRefIdeal.nD Cert.InputRefIdeal.τ Cert.InputRefIdeal.sig) → Buf (Elt Ideal) ℓ) : Prop :=
  True

def Pre_InputRefIdeal_l0_is_finite [hPre_l0_is_finite : Cert.Pre_l0_is_finite.Facts] (m : (ℓ : Loc Cert.InputRefIdeal.nD Cert.InputRefIdeal.τ Cert.InputRefIdeal.sig) → Buf (Elt Ideal) ℓ) : Prop :=
  ∀ c : Dev Cert.InputRefIdeal.nD,
    (Cert.Pre_l0_is_finite.fn (F := Ideal) (m ((c.tc : Thread Cert.InputRefIdeal.nD Cert.InputRefIdeal.τ).loc Cert.InputRefIdeal.main_arg0)) (m ((c.tc : Thread Cert.InputRefIdeal.nD Cert.InputRefIdeal.τ).loc Cert.InputRefIdeal.main_arg1)) (m ((c.tc : Thread Cert.InputRefIdeal.nD Cert.InputRefIdeal.τ).loc Cert.InputRefIdeal.main_arg2)) (m ((c.tc : Thread Cert.InputRefIdeal.nD Cert.InputRefIdeal.τ).loc Cert.InputRefIdeal.main_arg3)) (m ((c.tc : Thread Cert.InputRefIdeal.nD Cert.InputRefIdeal.τ).loc Cert.InputRefIdeal.main_arg4)) (m ((c.tc : Thread Cert.InputRefIdeal.nD Cert.InputRefIdeal.τ).loc Cert.InputRefIdeal.main_arg5)) (m ((c.tc : Thread Cert.InputRefIdeal.nD Cert.InputRefIdeal.τ).loc Cert.InputRefIdeal.main_arg6)) (m ((c.tc : Thread Cert.InputRefIdeal.nD Cert.InputRefIdeal.τ).loc Cert.InputRefIdeal.main_arg7)) (m ((c.tc : Thread Cert.InputRefIdeal.nD Cert.InputRefIdeal.τ).loc Cert.InputRefIdeal.main_arg8)) (m ((c.tc : Thread Cert.InputRefIdeal.nD Cert.InputRefIdeal.τ).loc Cert.InputRefIdeal.main_arg9)) (m ((c.tc : Thread Cert.InputRefIdeal.nD Cert.InputRefIdeal.τ).loc Cert.InputRefIdeal.main_arg10)) (m ((c.tc : Thread Cert.InputRefIdeal.nD Cert.InputRefIdeal.τ).loc Cert.InputRefIdeal.main_arg11))).1 = (fun _ => 1#1)
    ∧ (Cert.Pre_l0_is_finite.fn (F := Ideal) (m ((c.tc : Thread Cert.InputRefIdeal.nD Cert.InputRefIdeal.τ).loc Cert.InputRefIdeal.main_arg0)) (m ((c.tc : Thread Cert.InputRefIdeal.nD Cert.InputRefIdeal.τ).loc Cert.InputRefIdeal.main_arg1)) (m ((c.tc : Thread Cert.InputRefIdeal.nD Cert.InputRefIdeal.τ).loc Cert.InputRefIdeal.main_arg2)) (m ((c.tc : Thread Cert.InputRefIdeal.nD Cert.InputRefIdeal.τ).loc Cert.InputRefIdeal.main_arg3)) (m ((c.tc : Thread Cert.InputRefIdeal.nD Cert.InputRefIdeal.τ).loc Cert.InputRefIdeal.main_arg4)) (m ((c.tc : Thread Cert.InputRefIdeal.nD Cert.InputRefIdeal.τ).loc Cert.InputRefIdeal.main_arg5)) (m ((c.tc : Thread Cert.InputRefIdeal.nD Cert.InputRefIdeal.τ).loc Cert.InputRefIdeal.main_arg6)) (m ((c.tc : Thread Cert.InputRefIdeal.nD Cert.InputRefIdeal.τ).loc Cert.InputRefIdeal.main_arg7)) (m ((c.tc : Thread Cert.InputRefIdeal.nD Cert.InputRefIdeal.τ).loc Cert.InputRefIdeal.main_arg8)) (m ((c.tc : Thread Cert.InputRefIdeal.nD Cert.InputRefIdeal.τ).loc Cert.InputRefIdeal.main_arg9)) (m ((c.tc : Thread Cert.InputRefIdeal.nD Cert.InputRefIdeal.τ).loc Cert.InputRefIdeal.main_arg10)) (m ((c.tc : Thread Cert.InputRefIdeal.nD Cert.InputRefIdeal.τ).loc Cert.InputRefIdeal.main_arg11))).2.1 = (fun _ => 1#1)
    ∧ (Cert.Pre_l0_is_finite.fn (F := Ideal) (m ((c.tc : Thread Cert.InputRefIdeal.nD Cert.InputRefIdeal.τ).loc Cert.InputRefIdeal.main_arg0)) (m ((c.tc : Thread Cert.InputRefIdeal.nD Cert.InputRefIdeal.τ).loc Cert.InputRefIdeal.main_arg1)) (m ((c.tc : Thread Cert.InputRefIdeal.nD Cert.InputRefIdeal.τ).loc Cert.InputRefIdeal.main_arg2)) (m ((c.tc : Thread Cert.InputRefIdeal.nD Cert.InputRefIdeal.τ).loc Cert.InputRefIdeal.main_arg3)) (m ((c.tc : Thread Cert.InputRefIdeal.nD Cert.InputRefIdeal.τ).loc Cert.InputRefIdeal.main_arg4)) (m ((c.tc : Thread Cert.InputRefIdeal.nD Cert.InputRefIdeal.τ).loc Cert.InputRefIdeal.main_arg5)) (m ((c.tc : Thread Cert.InputRefIdeal.nD Cert.InputRefIdeal.τ).loc Cert.InputRefIdeal.main_arg6)) (m ((c.tc : Thread Cert.InputRefIdeal.nD Cert.InputRefIdeal.τ).loc Cert.InputRefIdeal.main_arg7)) (m ((c.tc : Thread Cert.InputRefIdeal.nD Cert.InputRefIdeal.τ).loc Cert.InputRefIdeal.main_arg8)) (m ((c.tc : Thread Cert.InputRefIdeal.nD Cert.InputRefIdeal.τ).loc Cert.InputRefIdeal.main_arg9)) (m ((c.tc : Thread Cert.InputRefIdeal.nD Cert.InputRefIdeal.τ).loc Cert.InputRefIdeal.main_arg10)) (m ((c.tc : Thread Cert.InputRefIdeal.nD Cert.InputRefIdeal.τ).loc Cert.InputRefIdeal.main_arg11))).2.2.1 = (fun _ => 1#1)
    ∧ (Cert.Pre_l0_is_finite.fn (F := Ideal) (m ((c.tc : Thread Cert.InputRefIdeal.nD Cert.InputRefIdeal.τ).loc Cert.InputRefIdeal.main_arg0)) (m ((c.tc : Thread Cert.InputRefIdeal.nD Cert.InputRefIdeal.τ).loc Cert.InputRefIdeal.main_arg1)) (m ((c.tc : Thread Cert.InputRefIdeal.nD Cert.InputRefIdeal.τ).loc Cert.InputRefIdeal.main_arg2)) (m ((c.tc : Thread Cert.InputRefIdeal.nD Cert.InputRefIdeal.τ).loc Cert.InputRefIdeal.main_arg3)) (m ((c.tc : Thread Cert.InputRefIdeal.nD Cert.InputRefIdeal.τ).loc Cert.InputRefIdeal.main_arg4)) (m ((c.tc : Thread Cert.InputRefIdeal.nD Cert.InputRefIdeal.τ).loc Cert.InputRefIdeal.main_arg5)) (m ((c.tc : Thread Cert.InputRefIdeal.nD Cert.InputRefIdeal.τ).loc Cert.InputRefIdeal.main_arg6)) (m ((c.tc : Thread Cert.InputRefIdeal.nD Cert.InputRefIdeal.τ).loc Cert.InputRefIdeal.main_arg7)) (m ((c.tc : Thread Cert.InputRefIdeal.nD Cert.InputRefIdeal.τ).loc Cert.InputRefIdeal.main_arg8)) (m ((c.tc : Thread Cert.InputRefIdeal.nD Cert.InputRefIdeal.τ).loc Cert.InputRefIdeal.main_arg9)) (m ((c.tc : Thread Cert.InputRefIdeal.nD Cert.InputRefIdeal.τ).loc Cert.InputRefIdeal.main_arg10)) (m ((c.tc : Thread Cert.InputRefIdeal.nD Cert.InputRefIdeal.τ).loc Cert.InputRefIdeal.main_arg11))).2.2.2.1 = (fun _ => 1#1)
    ∧ (Cert.Pre_l0_is_finite.fn (F := Ideal) (m ((c.tc : Thread Cert.InputRefIdeal.nD Cert.InputRefIdeal.τ).loc Cert.InputRefIdeal.main_arg0)) (m ((c.tc : Thread Cert.InputRefIdeal.nD Cert.InputRefIdeal.τ).loc Cert.InputRefIdeal.main_arg1)) (m ((c.tc : Thread Cert.InputRefIdeal.nD Cert.InputRefIdeal.τ).loc Cert.InputRefIdeal.main_arg2)) (m ((c.tc : Thread Cert.InputRefIdeal.nD Cert.InputRefIdeal.τ).loc Cert.InputRefIdeal.main_arg3)) (m ((c.tc : Thread Cert.InputRefIdeal.nD Cert.InputRefIdeal.τ).loc Cert.InputRefIdeal.main_arg4)) (m ((c.tc : Thread Cert.InputRefIdeal.nD Cert.InputRefIdeal.τ).loc Cert.InputRefIdeal.main_arg5)) (m ((c.tc : Thread Cert.InputRefIdeal.nD Cert.InputRefIdeal.τ).loc Cert.InputRefIdeal.main_arg6)) (m ((c.tc : Thread Cert.InputRefIdeal.nD Cert.InputRefIdeal.τ).loc Cert.InputRefIdeal.main_arg7)) (m ((c.tc : Thread Cert.InputRefIdeal.nD Cert.InputRefIdeal.τ).loc Cert.InputRefIdeal.main_arg8)) (m ((c.tc : Thread Cert.InputRefIdeal.nD Cert.InputRefIdeal.τ).loc Cert.InputRefIdeal.main_arg9)) (m ((c.tc : Thread Cert.InputRefIdeal.nD Cert.InputRefIdeal.τ).loc Cert.InputRefIdeal.main_arg10)) (m ((c.tc : Thread Cert.InputRefIdeal.nD Cert.InputRefIdeal.τ).loc Cert.InputRefIdeal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fox_is_finite [hKernelIdeal : Cert.KernelIdeal.Facts] [hPre_fox_is_finite : Cert.Pre_fox_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fox_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fox_is_finite [hReferenceIdeal : Cert.ReferenceIdeal.Facts] [hPre_fox_is_finite : Cert.Pre_fox_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fox_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentIdeal_pre_mla_is_finite [hLatentIdeal : Cert.LatentIdeal.Facts] [hPre_mla_is_finite : Cert.Pre_mla_is_finite.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_mla_is_finite m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2))
      ∧ r.2.sem = fun _ => 0)

def quiescent_LatentRefIdeal_pre_mla_is_finite [hLatentRefIdeal : Cert.LatentRefIdeal.Facts] [hPre_mla_is_finite : Cert.Pre_mla_is_finite.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal_mla_is_finite m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2))
      ∧ r.2.sem = fun _ => 0)

def quiescent_Experts [hExperts : Cert.Experts.Facts] [hPre_tiles_name_experts : Cert.Pre_tiles_name_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tiles_name_experts : Cert.Pre_tiles_name_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_tiles_name_experts [hExpertsRefIdeal : Cert.ExpertsRefIdeal.Facts] [hPre_tiles_name_experts : Cert.Pre_tiles_name_experts.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tiles_name_experts m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_MoeOut [hMoeOut : Cert.MoeOut.Facts] : Prop :=
  ∀ (m : (ℓ : Loc Cert.MoeOut.nD Cert.MoeOut.τ Cert.MoeOut.sig) → Buf (Elt Bits) ℓ) (g : Dev Cert.MoeOut.nD → PrngReg), Pre_MoeOut m →
    θ_run (Cert.MoeOut.defs (F := Bits)) (onTc (τ := Cert.MoeOut.τ) (Cert.MoeOut.main (F := Bits))) ⟨m, fun _ => 0, g⟩ (fun r => (∀ c : Dev Cert.MoeOut.nD,
      r.2.mem ((c.tc : Thread Cert.MoeOut.nD Cert.MoeOut.τ).loc Cert.MoeOut.main_arg0) = m ((c.tc : Thread Cert.MoeOut.nD Cert.MoeOut.τ).loc Cert.MoeOut.main_arg0)
      ∧ r.2.mem ((c.tc : Thread Cert.MoeOut.nD Cert.MoeOut.τ).loc Cert.MoeOut.main_arg1) = m ((c.tc : Thread Cert.MoeOut.nD Cert.MoeOut.τ).loc Cert.MoeOut.main_arg1)
      ∧ r.2.mem ((c.tc : Thread Cert.MoeOut.nD Cert.MoeOut.τ).loc Cert.MoeOut.main_arg2) = m ((c.tc : Thread Cert.MoeOut.nD Cert.MoeOut.τ).loc Cert.MoeOut.main_arg2)
      ∧ r.2.mem ((c.tc : Thread Cert.MoeOut.nD Cert.MoeOut.τ).loc Cert.MoeOut.main_arg3) = m ((c.tc : Thread Cert.MoeOut.nD Cert.MoeOut.τ).loc Cert.MoeOut.main_arg3)
      ∧ r.2.mem ((c.tc : Thread Cert.MoeOut.nD Cert.MoeOut.τ).loc Cert.MoeOut.main_arg4) = m ((c.tc : Thread Cert.MoeOut.nD Cert.MoeOut.τ).loc Cert.MoeOut.main_arg4)
      ∧ r.2.mem ((c.tc : Thread Cert.MoeOut.nD Cert.MoeOut.τ).loc Cert.MoeOut.main_arg5) = m ((c.tc : Thread Cert.MoeOut.nD Cert.MoeOut.τ).loc Cert.MoeOut.main_arg5)
      ∧ r.2.mem ((c.tc : Thread Cert.MoeOut.nD Cert.MoeOut.τ).loc Cert.MoeOut.main_arg6) = m ((c.tc : Thread Cert.MoeOut.nD Cert.MoeOut.τ).loc Cert.MoeOut.main_arg6))
      ∧ r.2.sem = fun _ => 0)

def quiescent_MoeOutIdeal [hMoeOutIdeal : Cert.MoeOutIdeal.Facts] : Prop :=
  ∀ (m : (ℓ : Loc Cert.MoeOutIdeal.nD Cert.MoeOutIdeal.τ Cert.MoeOutIdeal.sig) → Buf (Elt Ideal) ℓ) (g : Dev Cert.MoeOutIdeal.nD → PrngReg), Pre_MoeOutIdeal m →
    θ_run (Cert.MoeOutIdeal.defs (F := Ideal)) (onTc (τ := Cert.MoeOutIdeal.τ) (Cert.MoeOutIdeal.main (F := Ideal))) ⟨m, fun _ => 0, g⟩ (fun r => (∀ c : Dev Cert.MoeOutIdeal.nD,
      r.2.mem ((c.tc : Thread Cert.MoeOutIdeal.nD Cert.MoeOutIdeal.τ).loc Cert.MoeOutIdeal.main_arg0) = m ((c.tc : Thread Cert.MoeOutIdeal.nD Cert.MoeOutIdeal.τ).loc Cert.MoeOutIdeal.main_arg0)
      ∧ r.2.mem ((c.tc : Thread Cert.MoeOutIdeal.nD Cert.MoeOutIdeal.τ).loc Cert.MoeOutIdeal.main_arg1) = m ((c.tc : Thread Cert.MoeOutIdeal.nD Cert.MoeOutIdeal.τ).loc Cert.MoeOutIdeal.main_arg1)
      ∧ r.2.mem ((c.tc : Thread Cert.MoeOutIdeal.nD Cert.MoeOutIdeal.τ).loc Cert.MoeOutIdeal.main_arg2) = m ((c.tc : Thread Cert.MoeOutIdeal.nD Cert.MoeOutIdeal.τ).loc Cert.MoeOutIdeal.main_arg2)
      ∧ r.2.mem ((c.tc : Thread Cert.MoeOutIdeal.nD Cert.MoeOutIdeal.τ).loc Cert.MoeOutIdeal.main_arg3) = m ((c.tc : Thread Cert.MoeOutIdeal.nD Cert.MoeOutIdeal.τ).loc Cert.MoeOutIdeal.main_arg3)
      ∧ r.2.mem ((c.tc : Thread Cert.MoeOutIdeal.nD Cert.MoeOutIdeal.τ).loc Cert.MoeOutIdeal.main_arg4) = m ((c.tc : Thread Cert.MoeOutIdeal.nD Cert.MoeOutIdeal.τ).loc Cert.MoeOutIdeal.main_arg4)
      ∧ r.2.mem ((c.tc : Thread Cert.MoeOutIdeal.nD Cert.MoeOutIdeal.τ).loc Cert.MoeOutIdeal.main_arg5) = m ((c.tc : Thread Cert.MoeOutIdeal.nD Cert.MoeOutIdeal.τ).loc Cert.MoeOutIdeal.main_arg5)
      ∧ r.2.mem ((c.tc : Thread Cert.MoeOutIdeal.nD Cert.MoeOutIdeal.τ).loc Cert.MoeOutIdeal.main_arg6) = m ((c.tc : Thread Cert.MoeOutIdeal.nD Cert.MoeOutIdeal.τ).loc Cert.MoeOutIdeal.main_arg6))
      ∧ r.2.sem = fun _ => 0)

def quiescent_MoeOutRefIdeal [hMoeOutRefIdeal : Cert.MoeOutRefIdeal.Facts] : Prop :=
  ∀ (m : (ℓ : Loc Cert.MoeOutRefIdeal.nD Cert.MoeOutRefIdeal.τ Cert.MoeOutRefIdeal.sig) → Buf (Elt Ideal) ℓ) (g : Dev Cert.MoeOutRefIdeal.nD → PrngReg), Pre_MoeOutRefIdeal m →
    θ_run (Cert.MoeOutRefIdeal.defs (F := Ideal)) (onTc (τ := Cert.MoeOutRefIdeal.τ) (Cert.MoeOutRefIdeal.main (F := Ideal))) ⟨m, fun _ => 0, g⟩ (fun r => (∀ c : Dev Cert.MoeOutRefIdeal.nD,
      r.2.mem ((c.tc : Thread Cert.MoeOutRefIdeal.nD Cert.MoeOutRefIdeal.τ).loc Cert.MoeOutRefIdeal.main_arg0) = m ((c.tc : Thread Cert.MoeOutRefIdeal.nD Cert.MoeOutRefIdeal.τ).loc Cert.MoeOutRefIdeal.main_arg0)
      ∧ r.2.mem ((c.tc : Thread Cert.MoeOutRefIdeal.nD Cert.MoeOutRefIdeal.τ).loc Cert.MoeOutRefIdeal.main_arg1) = m ((c.tc : Thread Cert.MoeOutRefIdeal.nD Cert.MoeOutRefIdeal.τ).loc Cert.MoeOutRefIdeal.main_arg1)
      ∧ r.2.mem ((c.tc : Thread Cert.MoeOutRefIdeal.nD Cert.MoeOutRefIdeal.τ).loc Cert.MoeOutRefIdeal.main_arg2) = m ((c.tc : Thread Cert.MoeOutRefIdeal.nD Cert.MoeOutRefIdeal.τ).loc Cert.MoeOutRefIdeal.main_arg2)
      ∧ r.2.mem ((c.tc : Thread Cert.MoeOutRefIdeal.nD Cert.MoeOutRefIdeal.τ).loc Cert.MoeOutRefIdeal.main_arg3) = m ((c.tc : Thread Cert.MoeOutRefIdeal.nD Cert.MoeOutRefIdeal.τ).loc Cert.MoeOutRefIdeal.main_arg3)
      ∧ r.2.mem ((c.tc : Thread Cert.MoeOutRefIdeal.nD Cert.MoeOutRefIdeal.τ).loc Cert.MoeOutRefIdeal.main_arg4) = m ((c.tc : Thread Cert.MoeOutRefIdeal.nD Cert.MoeOutRefIdeal.τ).loc Cert.MoeOutRefIdeal.main_arg4)
      ∧ r.2.mem ((c.tc : Thread Cert.MoeOutRefIdeal.nD Cert.MoeOutRefIdeal.τ).loc Cert.MoeOutRefIdeal.main_arg5) = m ((c.tc : Thread Cert.MoeOutRefIdeal.nD Cert.MoeOutRefIdeal.τ).loc Cert.MoeOutRefIdeal.main_arg5)
      ∧ r.2.mem ((c.tc : Thread Cert.MoeOutRefIdeal.nD Cert.MoeOutRefIdeal.τ).loc Cert.MoeOutRefIdeal.main_arg6) = m ((c.tc : Thread Cert.MoeOutRefIdeal.nD Cert.MoeOutRefIdeal.τ).loc Cert.MoeOutRefIdeal.main_arg6))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_MixTwo [hMixTwo : Cert.MixTwo.Facts] : Prop :=
  ∀ (m : (ℓ : Loc Cert.MixTwo.nD Cert.MixTwo.τ Cert.MixTwo.sig) → Buf (Elt Bits) ℓ) (g : Dev Cert.MixTwo.nD → PrngReg), Pre_MixTwo m →
    θ_run (Cert.MixTwo.defs (F := Bits)) (onTc (τ := Cert.MixTwo.τ) (Cert.MixTwo.main (F := Bits))) ⟨m, fun _ => 0, g⟩ (fun r => (∀ c : Dev Cert.MixTwo.nD,
      r.2.mem ((c.tc : Thread Cert.MixTwo.nD Cert.MixTwo.τ).loc Cert.MixTwo.main_arg0) = m ((c.tc : Thread Cert.MixTwo.nD Cert.MixTwo.τ).loc Cert.MixTwo.main_arg0)
      ∧ r.2.mem ((c.tc : Thread Cert.MixTwo.nD Cert.MixTwo.τ).loc Cert.MixTwo.main_arg1) = m ((c.tc : Thread Cert.MixTwo.nD Cert.MixTwo.τ).loc Cert.MixTwo.main_arg1)
      ∧ r.2.mem ((c.tc : Thread Cert.MixTwo.nD Cert.MixTwo.τ).loc Cert.MixTwo.main_arg2) = m ((c.tc : Thread Cert.MixTwo.nD Cert.MixTwo.τ).loc Cert.MixTwo.main_arg2)
      ∧ r.2.mem ((c.tc : Thread Cert.MixTwo.nD Cert.MixTwo.τ).loc Cert.MixTwo.main_arg3) = m ((c.tc : Thread Cert.MixTwo.nD Cert.MixTwo.τ).loc Cert.MixTwo.main_arg3)
      ∧ r.2.mem ((c.tc : Thread Cert.MixTwo.nD Cert.MixTwo.τ).loc Cert.MixTwo.main_arg4) = m ((c.tc : Thread Cert.MixTwo.nD Cert.MixTwo.τ).loc Cert.MixTwo.main_arg4)
      ∧ r.2.mem ((c.tc : Thread Cert.MixTwo.nD Cert.MixTwo.τ).loc Cert.MixTwo.main_arg5) = m ((c.tc : Thread Cert.MixTwo.nD Cert.MixTwo.τ).loc Cert.MixTwo.main_arg5)
      ∧ r.2.mem ((c.tc : Thread Cert.MixTwo.nD Cert.MixTwo.τ).loc Cert.MixTwo.main_arg6) = m ((c.tc : Thread Cert.MixTwo.nD Cert.MixTwo.τ).loc Cert.MixTwo.main_arg6)
      ∧ r.2.mem ((c.tc : Thread Cert.MixTwo.nD Cert.MixTwo.τ).loc Cert.MixTwo.main_arg7) = m ((c.tc : Thread Cert.MixTwo.nD Cert.MixTwo.τ).loc Cert.MixTwo.main_arg7)
      ∧ r.2.mem ((c.tc : Thread Cert.MixTwo.nD Cert.MixTwo.τ).loc Cert.MixTwo.main_arg8) = m ((c.tc : Thread Cert.MixTwo.nD Cert.MixTwo.τ).loc Cert.MixTwo.main_arg8))
      ∧ r.2.sem = fun _ => 0)

def quiescent_MixTwoIdeal [hMixTwoIdeal : Cert.MixTwoIdeal.Facts] : Prop :=
  ∀ (m : (ℓ : Loc Cert.MixTwoIdeal.nD Cert.MixTwoIdeal.τ Cert.MixTwoIdeal.sig) → Buf (Elt Ideal) ℓ) (g : Dev Cert.MixTwoIdeal.nD → PrngReg), Pre_MixTwoIdeal m →
    θ_run (Cert.MixTwoIdeal.defs (F := Ideal)) (onTc (τ := Cert.MixTwoIdeal.τ) (Cert.MixTwoIdeal.main (F := Ideal))) ⟨m, fun _ => 0, g⟩ (fun r => (∀ c : Dev Cert.MixTwoIdeal.nD,
      r.2.mem ((c.tc : Thread Cert.MixTwoIdeal.nD Cert.MixTwoIdeal.τ).loc Cert.MixTwoIdeal.main_arg0) = m ((c.tc : Thread Cert.MixTwoIdeal.nD Cert.MixTwoIdeal.τ).loc Cert.MixTwoIdeal.main_arg0)
      ∧ r.2.mem ((c.tc : Thread Cert.MixTwoIdeal.nD Cert.MixTwoIdeal.τ).loc Cert.MixTwoIdeal.main_arg1) = m ((c.tc : Thread Cert.MixTwoIdeal.nD Cert.MixTwoIdeal.τ).loc Cert.MixTwoIdeal.main_arg1)
      ∧ r.2.mem ((c.tc : Thread Cert.MixTwoIdeal.nD Cert.MixTwoIdeal.τ).loc Cert.MixTwoIdeal.main_arg2) = m ((c.tc : Thread Cert.MixTwoIdeal.nD Cert.MixTwoIdeal.τ).loc Cert.MixTwoIdeal.main_arg2)
      ∧ r.2.mem ((c.tc : Thread Cert.MixTwoIdeal.nD Cert.MixTwoIdeal.τ).loc Cert.MixTwoIdeal.main_arg3) = m ((c.tc : Thread Cert.MixTwoIdeal.nD Cert.MixTwoIdeal.τ).loc Cert.MixTwoIdeal.main_arg3)
      ∧ r.2.mem ((c.tc : Thread Cert.MixTwoIdeal.nD Cert.MixTwoIdeal.τ).loc Cert.MixTwoIdeal.main_arg4) = m ((c.tc : Thread Cert.MixTwoIdeal.nD Cert.MixTwoIdeal.τ).loc Cert.MixTwoIdeal.main_arg4)
      ∧ r.2.mem ((c.tc : Thread Cert.MixTwoIdeal.nD Cert.MixTwoIdeal.τ).loc Cert.MixTwoIdeal.main_arg5) = m ((c.tc : Thread Cert.MixTwoIdeal.nD Cert.MixTwoIdeal.τ).loc Cert.MixTwoIdeal.main_arg5)
      ∧ r.2.mem ((c.tc : Thread Cert.MixTwoIdeal.nD Cert.MixTwoIdeal.τ).loc Cert.MixTwoIdeal.main_arg6) = m ((c.tc : Thread Cert.MixTwoIdeal.nD Cert.MixTwoIdeal.τ).loc Cert.MixTwoIdeal.main_arg6)
      ∧ r.2.mem ((c.tc : Thread Cert.MixTwoIdeal.nD Cert.MixTwoIdeal.τ).loc Cert.MixTwoIdeal.main_arg7) = m ((c.tc : Thread Cert.MixTwoIdeal.nD Cert.MixTwoIdeal.τ).loc Cert.MixTwoIdeal.main_arg7)
      ∧ r.2.mem ((c.tc : Thread Cert.MixTwoIdeal.nD Cert.MixTwoIdeal.τ).loc Cert.MixTwoIdeal.main_arg8) = m ((c.tc : Thread Cert.MixTwoIdeal.nD Cert.MixTwoIdeal.τ).loc Cert.MixTwoIdeal.main_arg8))
      ∧ r.2.sem = fun _ => 0)

def quiescent_MixTwoRefIdeal [hMixTwoRefIdeal : Cert.MixTwoRefIdeal.Facts] : Prop :=
  ∀ (m : (ℓ : Loc Cert.MixTwoRefIdeal.nD Cert.MixTwoRefIdeal.τ Cert.MixTwoRefIdeal.sig) → Buf (Elt Ideal) ℓ) (g : Dev Cert.MixTwoRefIdeal.nD → PrngReg), Pre_MixTwoRefIdeal m →
    θ_run (Cert.MixTwoRefIdeal.defs (F := Ideal)) (onTc (τ := Cert.MixTwoRefIdeal.τ) (Cert.MixTwoRefIdeal.main (F := Ideal))) ⟨m, fun _ => 0, g⟩ (fun r => (∀ c : Dev Cert.MixTwoRefIdeal.nD,
      r.2.mem ((c.tc : Thread Cert.MixTwoRefIdeal.nD Cert.MixTwoRefIdeal.τ).loc Cert.MixTwoRefIdeal.main_arg0) = m ((c.tc : Thread Cert.MixTwoRefIdeal.nD Cert.MixTwoRefIdeal.τ).loc Cert.MixTwoRefIdeal.main_arg0)
      ∧ r.2.mem ((c.tc : Thread Cert.MixTwoRefIdeal.nD Cert.MixTwoRefIdeal.τ).loc Cert.MixTwoRefIdeal.main_arg1) = m ((c.tc : Thread Cert.MixTwoRefIdeal.nD Cert.MixTwoRefIdeal.τ).loc Cert.MixTwoRefIdeal.main_arg1)
      ∧ r.2.mem ((c.tc : Thread Cert.MixTwoRefIdeal.nD Cert.MixTwoRefIdeal.τ).loc Cert.MixTwoRefIdeal.main_arg2) = m ((c.tc : Thread Cert.MixTwoRefIdeal.nD Cert.MixTwoRefIdeal.τ).loc Cert.MixTwoRefIdeal.main_arg2)
      ∧ r.2.mem ((c.tc : Thread Cert.MixTwoRefIdeal.nD Cert.MixTwoRefIdeal.τ).loc Cert.MixTwoRefIdeal.main_arg3) = m ((c.tc : Thread Cert.MixTwoRefIdeal.nD Cert.MixTwoRefIdeal.τ).loc Cert.MixTwoRefIdeal.main_arg3)
      ∧ r.2.mem ((c.tc : Thread Cert.MixTwoRefIdeal.nD Cert.MixTwoRefIdeal.τ).loc Cert.MixTwoRefIdeal.main_arg4) = m ((c.tc : Thread Cert.MixTwoRefIdeal.nD Cert.MixTwoRefIdeal.τ).loc Cert.MixTwoRefIdeal.main_arg4)
      ∧ r.2.mem ((c.tc : Thread Cert.MixTwoRefIdeal.nD Cert.MixTwoRefIdeal.τ).loc Cert.MixTwoRefIdeal.main_arg5) = m ((c.tc : Thread Cert.MixTwoRefIdeal.nD Cert.MixTwoRefIdeal.τ).loc Cert.MixTwoRefIdeal.main_arg5)
      ∧ r.2.mem ((c.tc : Thread Cert.MixTwoRefIdeal.nD Cert.MixTwoRefIdeal.τ).loc Cert.MixTwoRefIdeal.main_arg6) = m ((c.tc : Thread Cert.MixTwoRefIdeal.nD Cert.MixTwoRefIdeal.τ).loc Cert.MixTwoRefIdeal.main_arg6)
      ∧ r.2.mem ((c.tc : Thread Cert.MixTwoRefIdeal.nD Cert.MixTwoRefIdeal.τ).loc Cert.MixTwoRefIdeal.main_arg7) = m ((c.tc : Thread Cert.MixTwoRefIdeal.nD Cert.MixTwoRefIdeal.τ).loc Cert.MixTwoRefIdeal.main_arg7)
      ∧ r.2.mem ((c.tc : Thread Cert.MixTwoRefIdeal.nD Cert.MixTwoRefIdeal.τ).loc Cert.MixTwoRefIdeal.main_arg8) = m ((c.tc : Thread Cert.MixTwoRefIdeal.nD Cert.MixTwoRefIdeal.τ).loc Cert.MixTwoRefIdeal.main_arg8))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4)
      ∧ r.2.mem ((c.tc : Thread Cert.Input.nD Cert.Input.τ).loc Cert.Input.main_arg5) = m ((c.tc : Thread Cert.Input.nD Cert.Input.τ).loc Cert.Input.main_arg5)
      ∧ r.2.mem ((c.tc : Thread Cert.Input.nD Cert.Input.τ).loc Cert.Input.main_arg6) = m ((c.tc : Thread Cert.Input.nD Cert.Input.τ).loc Cert.Input.main_arg6)
      ∧ r.2.mem ((c.tc : Thread Cert.Input.nD Cert.Input.τ).loc Cert.Input.main_arg7) = m ((c.tc : Thread Cert.Input.nD Cert.Input.τ).loc Cert.Input.main_arg7)
      ∧ r.2.mem ((c.tc : Thread Cert.Input.nD Cert.Input.τ).loc Cert.Input.main_arg8) = m ((c.tc : Thread Cert.Input.nD Cert.Input.τ).loc Cert.Input.main_arg8)
      ∧ r.2.mem ((c.tc : Thread Cert.Input.nD Cert.Input.τ).loc Cert.Input.main_arg9) = m ((c.tc : Thread Cert.Input.nD Cert.Input.τ).loc Cert.Input.main_arg9)
      ∧ r.2.mem ((c.tc : Thread Cert.Input.nD Cert.Input.τ).loc Cert.Input.main_arg10) = m ((c.tc : Thread Cert.Input.nD Cert.Input.τ).loc Cert.Input.main_arg10)
      ∧ r.2.mem ((c.tc : Thread Cert.Input.nD Cert.Input.τ).loc Cert.Input.main_arg11) = m ((c.tc : Thread Cert.Input.nD Cert.Input.τ).loc Cert.Input.main_arg11))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
      ∧ r.2.mem ((c.tc : Thread Cert.InputIdeal.nD Cert.InputIdeal.τ).loc Cert.InputIdeal.main_arg5) = m ((c.tc : Thread Cert.InputIdeal.nD Cert.InputIdeal.τ).loc Cert.InputIdeal.main_arg5)
      ∧ r.2.mem ((c.tc : Thread Cert.InputIdeal.nD Cert.InputIdeal.τ).loc Cert.InputIdeal.main_arg6) = m ((c.tc : Thread Cert.InputIdeal.nD Cert.InputIdeal.τ).loc Cert.InputIdeal.main_arg6)
      ∧ r.2.mem ((c.tc : Thread Cert.InputIdeal.nD Cert.InputIdeal.τ).loc Cert.InputIdeal.main_arg7) = m ((c.tc : Thread Cert.InputIdeal.nD Cert.InputIdeal.τ).loc Cert.InputIdeal.main_arg7)
      ∧ r.2.mem ((c.tc : Thread Cert.InputIdeal.nD Cert.InputIdeal.τ).loc Cert.InputIdeal.main_arg8) = m ((c.tc : Thread Cert.InputIdeal.nD Cert.InputIdeal.τ).loc Cert.InputIdeal.main_arg8)
      ∧ r.2.mem ((c.tc : Thread Cert.InputIdeal.nD Cert.InputIdeal.τ).loc Cert.InputIdeal.main_arg9) = m ((c.tc : Thread Cert.InputIdeal.nD Cert.InputIdeal.τ).loc Cert.InputIdeal.main_arg9)
      ∧ r.2.mem ((c.tc : Thread Cert.InputIdeal.nD Cert.InputIdeal.τ).loc Cert.InputIdeal.main_arg10) = m ((c.tc : Thread Cert.InputIdeal.nD Cert.InputIdeal.τ).loc Cert.InputIdeal.main_arg10)
      ∧ r.2.mem ((c.tc : Thread Cert.InputIdeal.nD Cert.InputIdeal.τ).loc Cert.InputIdeal.main_arg11) = m ((c.tc : Thread Cert.InputIdeal.nD Cert.InputIdeal.τ).loc Cert.InputIdeal.main_arg11))
      ∧ r.2.sem = fun _ => 0)

def quiescent_InputIdeal_pre_l0_is_finite [hInputIdeal : Cert.InputIdeal.Facts] [hPre_l0_is_finite : Cert.Pre_l0_is_finite.Facts] : Prop :=
  ∀ (m : (ℓ : Loc Cert.InputIdeal.nD Cert.InputIdeal.τ Cert.InputIdeal.sig) → Buf (Elt Ideal) ℓ) (g : Dev Cert.InputIdeal.nD → PrngReg), Pre_InputIdeal_l0_is_finite m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
      ∧ r.2.mem ((c.tc : Thread Cert.InputIdeal.nD Cert.InputIdeal.τ).loc Cert.InputIdeal.main_arg5) = m ((c.tc : Thread Cert.InputIdeal.nD Cert.InputIdeal.τ).loc Cert.InputIdeal.main_arg5)
      ∧ r.2.mem ((c.tc : Thread Cert.InputIdeal.nD Cert.InputIdeal.τ).loc Cert.InputIdeal.main_arg6) = m ((c.tc : Thread Cert.InputIdeal.nD Cert.InputIdeal.τ).loc Cert.InputIdeal.main_arg6)
      ∧ r.2.mem ((c.tc : Thread Cert.InputIdeal.nD Cert.InputIdeal.τ).loc Cert.InputIdeal.main_arg7) = m ((c.tc : Thread Cert.InputIdeal.nD Cert.InputIdeal.τ).loc Cert.InputIdeal.main_arg7)
      ∧ r.2.mem ((c.tc : Thread Cert.InputIdeal.nD Cert.InputIdeal.τ).loc Cert.InputIdeal.main_arg8) = m ((c.tc : Thread Cert.InputIdeal.nD Cert.InputIdeal.τ).loc Cert.InputIdeal.main_arg8)
      ∧ r.2.mem ((c.tc : Thread Cert.InputIdeal.nD Cert.InputIdeal.τ).loc Cert.InputIdeal.main_arg9) = m ((c.tc : Thread Cert.InputIdeal.nD Cert.InputIdeal.τ).loc Cert.InputIdeal.main_arg9)
      ∧ r.2.mem ((c.tc : Thread Cert.InputIdeal.nD Cert.InputIdeal.τ).loc Cert.InputIdeal.main_arg10) = m ((c.tc : Thread Cert.InputIdeal.nD Cert.InputIdeal.τ).loc Cert.InputIdeal.main_arg10)
      ∧ r.2.mem ((c.tc : Thread Cert.InputIdeal.nD Cert.InputIdeal.τ).loc Cert.InputIdeal.main_arg11) = m ((c.tc : Thread Cert.InputIdeal.nD Cert.InputIdeal.τ).loc Cert.InputIdeal.main_arg11))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4)
      ∧ r.2.mem ((c.tc : Thread Cert.InputRefIdeal.nD Cert.InputRefIdeal.τ).loc Cert.InputRefIdeal.main_arg5) = m ((c.tc : Thread Cert.InputRefIdeal.nD Cert.InputRefIdeal.τ).loc Cert.InputRefIdeal.main_arg5)
      ∧ r.2.mem ((c.tc : Thread Cert.InputRefIdeal.nD Cert.InputRefIdeal.τ).loc Cert.InputRefIdeal.main_arg6) = m ((c.tc : Thread Cert.InputRefIdeal.nD Cert.InputRefIdeal.τ).loc Cert.InputRefIdeal.main_arg6)
      ∧ r.2.mem ((c.tc : Thread Cert.InputRefIdeal.nD Cert.InputRefIdeal.τ).loc Cert.InputRefIdeal.main_arg7) = m ((c.tc : Thread Cert.InputRefIdeal.nD Cert.InputRefIdeal.τ).loc Cert.InputRefIdeal.main_arg7)
      ∧ r.2.mem ((c.tc : Thread Cert.InputRefIdeal.nD Cert.InputRefIdeal.τ).loc Cert.InputRefIdeal.main_arg8) = m ((c.tc : Thread Cert.InputRefIdeal.nD Cert.InputRefIdeal.τ).loc Cert.InputRefIdeal.main_arg8)
      ∧ r.2.mem ((c.tc : Thread Cert.InputRefIdeal.nD Cert.InputRefIdeal.τ).loc Cert.InputRefIdeal.main_arg9) = m ((c.tc : Thread Cert.InputRefIdeal.nD Cert.InputRefIdeal.τ).loc Cert.InputRefIdeal.main_arg9)
      ∧ r.2.mem ((c.tc : Thread Cert.InputRefIdeal.nD Cert.InputRefIdeal.τ).loc Cert.InputRefIdeal.main_arg10) = m ((c.tc : Thread Cert.InputRefIdeal.nD Cert.InputRefIdeal.τ).loc Cert.InputRefIdeal.main_arg10)
      ∧ r.2.mem ((c.tc : Thread Cert.InputRefIdeal.nD Cert.InputRefIdeal.τ).loc Cert.InputRefIdeal.main_arg11) = m ((c.tc : Thread Cert.InputRefIdeal.nD Cert.InputRefIdeal.τ).loc Cert.InputRefIdeal.main_arg11))
      ∧ r.2.sem = fun _ => 0)

def quiescent_InputRefIdeal_pre_l0_is_finite [hInputRefIdeal : Cert.InputRefIdeal.Facts] [hPre_l0_is_finite : Cert.Pre_l0_is_finite.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal_l0_is_finite m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4)
      ∧ r.2.mem ((c.tc : Thread Cert.InputRefIdeal.nD Cert.InputRefIdeal.τ).loc Cert.InputRefIdeal.main_arg5) = m ((c.tc : Thread Cert.InputRefIdeal.nD Cert.InputRefIdeal.τ).loc Cert.InputRefIdeal.main_arg5)
      ∧ r.2.mem ((c.tc : Thread Cert.InputRefIdeal.nD Cert.InputRefIdeal.τ).loc Cert.InputRefIdeal.main_arg6) = m ((c.tc : Thread Cert.InputRefIdeal.nD Cert.InputRefIdeal.τ).loc Cert.InputRefIdeal.main_arg6)
      ∧ r.2.mem ((c.tc : Thread Cert.InputRefIdeal.nD Cert.InputRefIdeal.τ).loc Cert.InputRefIdeal.main_arg7) = m ((c.tc : Thread Cert.InputRefIdeal.nD Cert.InputRefIdeal.τ).loc Cert.InputRefIdeal.main_arg7)
      ∧ r.2.mem ((c.tc : Thread Cert.InputRefIdeal.nD Cert.InputRefIdeal.τ).loc Cert.InputRefIdeal.main_arg8) = m ((c.tc : Thread Cert.InputRefIdeal.nD Cert.InputRefIdeal.τ).loc Cert.InputRefIdeal.main_arg8)
      ∧ r.2.mem ((c.tc : Thread Cert.InputRefIdeal.nD Cert.InputRefIdeal.τ).loc Cert.InputRefIdeal.main_arg9) = m ((c.tc : Thread Cert.InputRefIdeal.nD Cert.InputRefIdeal.τ).loc Cert.InputRefIdeal.main_arg9)
      ∧ r.2.mem ((c.tc : Thread Cert.InputRefIdeal.nD Cert.InputRefIdeal.τ).loc Cert.InputRefIdeal.main_arg10) = m ((c.tc : Thread Cert.InputRefIdeal.nD Cert.InputRefIdeal.τ).loc Cert.InputRefIdeal.main_arg10)
      ∧ r.2.mem ((c.tc : Thread Cert.InputRefIdeal.nD Cert.InputRefIdeal.τ).loc Cert.InputRefIdeal.main_arg11) = m ((c.tc : Thread Cert.InputRefIdeal.nD Cert.InputRefIdeal.τ).loc Cert.InputRefIdeal.main_arg11))
      ∧ r.2.sem = fun _ => 0)

def preserves_Kernel_KernelIdeal : Prop :=
  True

def algebraic_KernelIdeal_ReferenceIdeal_pre_fox_is_finite [hKernelIdeal : Cert.KernelIdeal.Facts] [hReferenceIdeal : Cert.ReferenceIdeal.Facts] [hPre_fox_is_finite : Cert.Pre_fox_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fox_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Latent_LatentIdeal : Prop :=
  True

def algebraic_LatentIdeal_LatentRefIdeal_pre_mla_is_finite [hLatentIdeal : Cert.LatentIdeal.Facts] [hLatentRefIdeal : Cert.LatentRefIdeal.Facts] [hPre_mla_is_finite : Cert.Pre_mla_is_finite.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal_mla_is_finite m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)) →
    ∃ (v0 : (c : Dev Cert.LatentIdeal.nD) → Buf (Elt Ideal) ((c.tc : Thread Cert.LatentIdeal.nD Cert.LatentIdeal.τ).loc Cert.LatentIdeal.main_v0)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v32) = v0 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tiles_name_experts : Cert.Pre_tiles_name_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v19) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_MoeOut_MoeOutIdeal : Prop :=
  True

def algebraic_MoeOutIdeal_MoeOutRefIdeal [hMoeOutIdeal : Cert.MoeOutIdeal.Facts] [hMoeOutRefIdeal : Cert.MoeOutRefIdeal.Facts] : Prop :=
  ∀ (m : (ℓ : Loc Cert.MoeOutIdeal.nD Cert.MoeOutIdeal.τ Cert.MoeOutIdeal.sig) → Buf (Elt Ideal) ℓ) (g : Dev Cert.MoeOutIdeal.nD → PrngReg)
    (m' : (ℓ : Loc Cert.MoeOutRefIdeal.nD Cert.MoeOutRefIdeal.τ Cert.MoeOutRefIdeal.sig) → Buf (Elt Ideal) ℓ) (g' : Dev Cert.MoeOutRefIdeal.nD → PrngReg), Pre_MoeOutIdeal m →
    (∀ c : Dev Cert.MoeOutIdeal.nD,
      m' ((c.tc : Thread Cert.MoeOutRefIdeal.nD Cert.MoeOutRefIdeal.τ).loc Cert.MoeOutRefIdeal.main_arg0) = m ((c.tc : Thread Cert.MoeOutIdeal.nD Cert.MoeOutIdeal.τ).loc Cert.MoeOutIdeal.main_arg0)
      ∧ m' ((c.tc : Thread Cert.MoeOutRefIdeal.nD Cert.MoeOutRefIdeal.τ).loc Cert.MoeOutRefIdeal.main_arg1) = m ((c.tc : Thread Cert.MoeOutIdeal.nD Cert.MoeOutIdeal.τ).loc Cert.MoeOutIdeal.main_arg1)
      ∧ m' ((c.tc : Thread Cert.MoeOutRefIdeal.nD Cert.MoeOutRefIdeal.τ).loc Cert.MoeOutRefIdeal.main_arg2) = m ((c.tc : Thread Cert.MoeOutIdeal.nD Cert.MoeOutIdeal.τ).loc Cert.MoeOutIdeal.main_arg2)
      ∧ m' ((c.tc : Thread Cert.MoeOutRefIdeal.nD Cert.MoeOutRefIdeal.τ).loc Cert.MoeOutRefIdeal.main_arg3) = m ((c.tc : Thread Cert.MoeOutIdeal.nD Cert.MoeOutIdeal.τ).loc Cert.MoeOutIdeal.main_arg3)
      ∧ m' ((c.tc : Thread Cert.MoeOutRefIdeal.nD Cert.MoeOutRefIdeal.τ).loc Cert.MoeOutRefIdeal.main_arg4) = m ((c.tc : Thread Cert.MoeOutIdeal.nD Cert.MoeOutIdeal.τ).loc Cert.MoeOutIdeal.main_arg4)
      ∧ m' ((c.tc : Thread Cert.MoeOutRefIdeal.nD Cert.MoeOutRefIdeal.τ).loc Cert.MoeOutRefIdeal.main_arg5) = m ((c.tc : Thread Cert.MoeOutIdeal.nD Cert.MoeOutIdeal.τ).loc Cert.MoeOutIdeal.main_arg5)
      ∧ m' ((c.tc : Thread Cert.MoeOutRefIdeal.nD Cert.MoeOutRefIdeal.τ).loc Cert.MoeOutRefIdeal.main_arg6) = m ((c.tc : Thread Cert.MoeOutIdeal.nD Cert.MoeOutIdeal.τ).loc Cert.MoeOutIdeal.main_arg6)) →
    ∃ (v0 : (c : Dev Cert.MoeOutIdeal.nD) → Buf (Elt Ideal) ((c.tc : Thread Cert.MoeOutIdeal.nD Cert.MoeOutIdeal.τ).loc Cert.MoeOutIdeal.main_v5)),
      θ_run (Cert.MoeOutIdeal.defs (F := Ideal)) (onTc (τ := Cert.MoeOutIdeal.τ) (Cert.MoeOutIdeal.main (F := Ideal))) ⟨m, fun _ => 0, g⟩ (fun r => ∀ c : Dev Cert.MoeOutIdeal.nD,
          r.2.mem ((c.tc : Thread Cert.MoeOutIdeal.nD Cert.MoeOutIdeal.τ).loc Cert.MoeOutIdeal.main_v5) = v0 c
          ∧ r.2.mem ((c.tc : Thread Cert.MoeOutIdeal.nD Cert.MoeOutIdeal.τ).loc Cert.MoeOutIdeal.main_arg0) = m ((c.tc : Thread Cert.MoeOutIdeal.nD Cert.MoeOutIdeal.τ).loc Cert.MoeOutIdeal.main_arg0)
          ∧ r.2.mem ((c.tc : Thread Cert.MoeOutIdeal.nD Cert.MoeOutIdeal.τ).loc Cert.MoeOutIdeal.main_arg1) = m ((c.tc : Thread Cert.MoeOutIdeal.nD Cert.MoeOutIdeal.τ).loc Cert.MoeOutIdeal.main_arg1)
          ∧ r.2.mem ((c.tc : Thread Cert.MoeOutIdeal.nD Cert.MoeOutIdeal.τ).loc Cert.MoeOutIdeal.main_arg2) = m ((c.tc : Thread Cert.MoeOutIdeal.nD Cert.MoeOutIdeal.τ).loc Cert.MoeOutIdeal.main_arg2)
          ∧ r.2.mem ((c.tc : Thread Cert.MoeOutIdeal.nD Cert.MoeOutIdeal.τ).loc Cert.MoeOutIdeal.main_arg3) = m ((c.tc : Thread Cert.MoeOutIdeal.nD Cert.MoeOutIdeal.τ).loc Cert.MoeOutIdeal.main_arg3)
          ∧ r.2.mem ((c.tc : Thread Cert.MoeOutIdeal.nD Cert.MoeOutIdeal.τ).loc Cert.MoeOutIdeal.main_arg4) = m ((c.tc : Thread Cert.MoeOutIdeal.nD Cert.MoeOutIdeal.τ).loc Cert.MoeOutIdeal.main_arg4)
          ∧ r.2.mem ((c.tc : Thread Cert.MoeOutIdeal.nD Cert.MoeOutIdeal.τ).loc Cert.MoeOutIdeal.main_arg5) = m ((c.tc : Thread Cert.MoeOutIdeal.nD Cert.MoeOutIdeal.τ).loc Cert.MoeOutIdeal.main_arg5)
          ∧ r.2.mem ((c.tc : Thread Cert.MoeOutIdeal.nD Cert.MoeOutIdeal.τ).loc Cert.MoeOutIdeal.main_arg6) = m ((c.tc : Thread Cert.MoeOutIdeal.nD Cert.MoeOutIdeal.τ).loc Cert.MoeOutIdeal.main_arg6))
      ∧ θ_run (Cert.MoeOutRefIdeal.defs (F := Ideal)) (onTc (τ := Cert.MoeOutRefIdeal.τ) (Cert.MoeOutRefIdeal.main (F := Ideal))) ⟨m', fun _ => 0, g'⟩ (fun r => ∀ c : Dev Cert.MoeOutRefIdeal.nD,
          r.2.mem ((c.tc : Thread Cert.MoeOutRefIdeal.nD Cert.MoeOutRefIdeal.τ).loc Cert.MoeOutRefIdeal.main_v32) = v0 c
          ∧ r.2.mem ((c.tc : Thread Cert.MoeOutRefIdeal.nD Cert.MoeOutRefIdeal.τ).loc Cert.MoeOutRefIdeal.main_arg0) = m' ((c.tc : Thread Cert.MoeOutRefIdeal.nD Cert.MoeOutRefIdeal.τ).loc Cert.MoeOutRefIdeal.main_arg0)
          ∧ r.2.mem ((c.tc : Thread Cert.MoeOutRefIdeal.nD Cert.MoeOutRefIdeal.τ).loc Cert.MoeOutRefIdeal.main_arg1) = m' ((c.tc : Thread Cert.MoeOutRefIdeal.nD Cert.MoeOutRefIdeal.τ).loc Cert.MoeOutRefIdeal.main_arg1)
          ∧ r.2.mem ((c.tc : Thread Cert.MoeOutRefIdeal.nD Cert.MoeOutRefIdeal.τ).loc Cert.MoeOutRefIdeal.main_arg2) = m' ((c.tc : Thread Cert.MoeOutRefIdeal.nD Cert.MoeOutRefIdeal.τ).loc Cert.MoeOutRefIdeal.main_arg2)
          ∧ r.2.mem ((c.tc : Thread Cert.MoeOutRefIdeal.nD Cert.MoeOutRefIdeal.τ).loc Cert.MoeOutRefIdeal.main_arg3) = m' ((c.tc : Thread Cert.MoeOutRefIdeal.nD Cert.MoeOutRefIdeal.τ).loc Cert.MoeOutRefIdeal.main_arg3)
          ∧ r.2.mem ((c.tc : Thread Cert.MoeOutRefIdeal.nD Cert.MoeOutRefIdeal.τ).loc Cert.MoeOutRefIdeal.main_arg4) = m' ((c.tc : Thread Cert.MoeOutRefIdeal.nD Cert.MoeOutRefIdeal.τ).loc Cert.MoeOutRefIdeal.main_arg4)
          ∧ r.2.mem ((c.tc : Thread Cert.MoeOutRefIdeal.nD Cert.MoeOutRefIdeal.τ).loc Cert.MoeOutRefIdeal.main_arg5) = m' ((c.tc : Thread Cert.MoeOutRefIdeal.nD Cert.MoeOutRefIdeal.τ).loc Cert.MoeOutRefIdeal.main_arg5)
          ∧ r.2.mem ((c.tc : Thread Cert.MoeOutRefIdeal.nD Cert.MoeOutRefIdeal.τ).loc Cert.MoeOutRefIdeal.main_arg6) = m' ((c.tc : Thread Cert.MoeOutRefIdeal.nD Cert.MoeOutRefIdeal.τ).loc Cert.MoeOutRefIdeal.main_arg6))

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)) →
    ∃ (v0 : (c : Dev Cert.FrontIdeal.nD) → Buf (Elt Ideal) ((c.tc : Thread Cert.FrontIdeal.nD Cert.FrontIdeal.τ).loc Cert.FrontIdeal.main_v9_0)) (v1 : (c : Dev Cert.FrontIdeal.nD) → Buf (Elt Ideal) ((c.tc : Thread Cert.FrontIdeal.nD Cert.FrontIdeal.τ).loc Cert.FrontIdeal.main_v9_1)) (v2 : (c : Dev Cert.FrontIdeal.nD) → Buf (Elt Ideal) ((c.tc : Thread Cert.FrontIdeal.nD Cert.FrontIdeal.τ).loc Cert.FrontIdeal.main_v9_2)) (v3 : (c : Dev Cert.FrontIdeal.nD) → Buf (Elt Ideal) ((c.tc : Thread Cert.FrontIdeal.nD Cert.FrontIdeal.τ).loc Cert.FrontIdeal.main_v9_3)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v9_0) = v0 c
          ∧ r.2.mem ((c.tc : Thread Cert.FrontIdeal.nD Cert.FrontIdeal.τ).loc Cert.FrontIdeal.main_v9_1) = v1 c
          ∧ r.2.mem ((c.tc : Thread Cert.FrontIdeal.nD Cert.FrontIdeal.τ).loc Cert.FrontIdeal.main_v9_2) = v2 c
          ∧ r.2.mem ((c.tc : Thread Cert.FrontIdeal.nD Cert.FrontIdeal.τ).loc Cert.FrontIdeal.main_v9_3) = v3 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v13) = v0 c
          ∧ r.2.mem ((c.tc : Thread Cert.FrontRefIdeal.nD Cert.FrontRefIdeal.τ).loc Cert.FrontRefIdeal.main_v14) = v1 c
          ∧ r.2.mem ((c.tc : Thread Cert.FrontRefIdeal.nD Cert.FrontRefIdeal.τ).loc Cert.FrontRefIdeal.main_v15) = v2 c
          ∧ r.2.mem ((c.tc : Thread Cert.FrontRefIdeal.nD Cert.FrontRefIdeal.τ).loc Cert.FrontRefIdeal.main_v16) = v3 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v6_0)) (v1 : (c : Dev Cert.MixIdeal.nD) → Buf (Elt Ideal) ((c.tc : Thread Cert.MixIdeal.nD Cert.MixIdeal.τ).loc Cert.MixIdeal.main_v6_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6_0) = v0 c
          ∧ r.2.mem ((c.tc : Thread Cert.MixIdeal.nD Cert.MixIdeal.τ).loc Cert.MixIdeal.main_v6_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v31) = v0 c
          ∧ r.2.mem ((c.tc : Thread Cert.MixRefIdeal.nD Cert.MixRefIdeal.τ).loc Cert.MixRefIdeal.main_v32) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_MixTwo_MixTwoIdeal : Prop :=
  True

def algebraic_MixTwoIdeal_MixTwoRefIdeal [hMixTwoIdeal : Cert.MixTwoIdeal.Facts] [hMixTwoRefIdeal : Cert.MixTwoRefIdeal.Facts] : Prop :=
  ∀ (m : (ℓ : Loc Cert.MixTwoIdeal.nD Cert.MixTwoIdeal.τ Cert.MixTwoIdeal.sig) → Buf (Elt Ideal) ℓ) (g : Dev Cert.MixTwoIdeal.nD → PrngReg)
    (m' : (ℓ : Loc Cert.MixTwoRefIdeal.nD Cert.MixTwoRefIdeal.τ Cert.MixTwoRefIdeal.sig) → Buf (Elt Ideal) ℓ) (g' : Dev Cert.MixTwoRefIdeal.nD → PrngReg), Pre_MixTwoIdeal m →
    (∀ c : Dev Cert.MixTwoIdeal.nD,
      m' ((c.tc : Thread Cert.MixTwoRefIdeal.nD Cert.MixTwoRefIdeal.τ).loc Cert.MixTwoRefIdeal.main_arg0) = m ((c.tc : Thread Cert.MixTwoIdeal.nD Cert.MixTwoIdeal.τ).loc Cert.MixTwoIdeal.main_arg0)
      ∧ m' ((c.tc : Thread Cert.MixTwoRefIdeal.nD Cert.MixTwoRefIdeal.τ).loc Cert.MixTwoRefIdeal.main_arg1) = m ((c.tc : Thread Cert.MixTwoIdeal.nD Cert.MixTwoIdeal.τ).loc Cert.MixTwoIdeal.main_arg1)
      ∧ m' ((c.tc : Thread Cert.MixTwoRefIdeal.nD Cert.MixTwoRefIdeal.τ).loc Cert.MixTwoRefIdeal.main_arg2) = m ((c.tc : Thread Cert.MixTwoIdeal.nD Cert.MixTwoIdeal.τ).loc Cert.MixTwoIdeal.main_arg2)
      ∧ m' ((c.tc : Thread Cert.MixTwoRefIdeal.nD Cert.MixTwoRefIdeal.τ).loc Cert.MixTwoRefIdeal.main_arg3) = m ((c.tc : Thread Cert.MixTwoIdeal.nD Cert.MixTwoIdeal.τ).loc Cert.MixTwoIdeal.main_arg3)
      ∧ m' ((c.tc : Thread Cert.MixTwoRefIdeal.nD Cert.MixTwoRefIdeal.τ).loc Cert.MixTwoRefIdeal.main_arg4) = m ((c.tc : Thread Cert.MixTwoIdeal.nD Cert.MixTwoIdeal.τ).loc Cert.MixTwoIdeal.main_arg4)
      ∧ m' ((c.tc : Thread Cert.MixTwoRefIdeal.nD Cert.MixTwoRefIdeal.τ).loc Cert.MixTwoRefIdeal.main_arg5) = m ((c.tc : Thread Cert.MixTwoIdeal.nD Cert.MixTwoIdeal.τ).loc Cert.MixTwoIdeal.main_arg5)
      ∧ m' ((c.tc : Thread Cert.MixTwoRefIdeal.nD Cert.MixTwoRefIdeal.τ).loc Cert.MixTwoRefIdeal.main_arg6) = m ((c.tc : Thread Cert.MixTwoIdeal.nD Cert.MixTwoIdeal.τ).loc Cert.MixTwoIdeal.main_arg6)
      ∧ m' ((c.tc : Thread Cert.MixTwoRefIdeal.nD Cert.MixTwoRefIdeal.τ).loc Cert.MixTwoRefIdeal.main_arg7) = m ((c.tc : Thread Cert.MixTwoIdeal.nD Cert.MixTwoIdeal.τ).loc Cert.MixTwoIdeal.main_arg7)
      ∧ m' ((c.tc : Thread Cert.MixTwoRefIdeal.nD Cert.MixTwoRefIdeal.τ).loc Cert.MixTwoRefIdeal.main_arg8) = m ((c.tc : Thread Cert.MixTwoIdeal.nD Cert.MixTwoIdeal.τ).loc Cert.MixTwoIdeal.main_arg8)) →
    ∃ (v0 : (c : Dev Cert.MixTwoIdeal.nD) → Buf (Elt Ideal) ((c.tc : Thread Cert.MixTwoIdeal.nD Cert.MixTwoIdeal.τ).loc Cert.MixTwoIdeal.main_v6_0)) (v1 : (c : Dev Cert.MixTwoIdeal.nD) → Buf (Elt Ideal) ((c.tc : Thread Cert.MixTwoIdeal.nD Cert.MixTwoIdeal.τ).loc Cert.MixTwoIdeal.main_v6_1)),
      θ_run (Cert.MixTwoIdeal.defs (F := Ideal)) (onTc (τ := Cert.MixTwoIdeal.τ) (Cert.MixTwoIdeal.main (F := Ideal))) ⟨m, fun _ => 0, g⟩ (fun r => ∀ c : Dev Cert.MixTwoIdeal.nD,
          r.2.mem ((c.tc : Thread Cert.MixTwoIdeal.nD Cert.MixTwoIdeal.τ).loc Cert.MixTwoIdeal.main_v6_0) = v0 c
          ∧ r.2.mem ((c.tc : Thread Cert.MixTwoIdeal.nD Cert.MixTwoIdeal.τ).loc Cert.MixTwoIdeal.main_v6_1) = v1 c
          ∧ r.2.mem ((c.tc : Thread Cert.MixTwoIdeal.nD Cert.MixTwoIdeal.τ).loc Cert.MixTwoIdeal.main_arg0) = m ((c.tc : Thread Cert.MixTwoIdeal.nD Cert.MixTwoIdeal.τ).loc Cert.MixTwoIdeal.main_arg0)
          ∧ r.2.mem ((c.tc : Thread Cert.MixTwoIdeal.nD Cert.MixTwoIdeal.τ).loc Cert.MixTwoIdeal.main_arg1) = m ((c.tc : Thread Cert.MixTwoIdeal.nD Cert.MixTwoIdeal.τ).loc Cert.MixTwoIdeal.main_arg1)
          ∧ r.2.mem ((c.tc : Thread Cert.MixTwoIdeal.nD Cert.MixTwoIdeal.τ).loc Cert.MixTwoIdeal.main_arg2) = m ((c.tc : Thread Cert.MixTwoIdeal.nD Cert.MixTwoIdeal.τ).loc Cert.MixTwoIdeal.main_arg2)
          ∧ r.2.mem ((c.tc : Thread Cert.MixTwoIdeal.nD Cert.MixTwoIdeal.τ).loc Cert.MixTwoIdeal.main_arg3) = m ((c.tc : Thread Cert.MixTwoIdeal.nD Cert.MixTwoIdeal.τ).loc Cert.MixTwoIdeal.main_arg3)
          ∧ r.2.mem ((c.tc : Thread Cert.MixTwoIdeal.nD Cert.MixTwoIdeal.τ).loc Cert.MixTwoIdeal.main_arg4) = m ((c.tc : Thread Cert.MixTwoIdeal.nD Cert.MixTwoIdeal.τ).loc Cert.MixTwoIdeal.main_arg4)
          ∧ r.2.mem ((c.tc : Thread Cert.MixTwoIdeal.nD Cert.MixTwoIdeal.τ).loc Cert.MixTwoIdeal.main_arg5) = m ((c.tc : Thread Cert.MixTwoIdeal.nD Cert.MixTwoIdeal.τ).loc Cert.MixTwoIdeal.main_arg5)
          ∧ r.2.mem ((c.tc : Thread Cert.MixTwoIdeal.nD Cert.MixTwoIdeal.τ).loc Cert.MixTwoIdeal.main_arg6) = m ((c.tc : Thread Cert.MixTwoIdeal.nD Cert.MixTwoIdeal.τ).loc Cert.MixTwoIdeal.main_arg6)
          ∧ r.2.mem ((c.tc : Thread Cert.MixTwoIdeal.nD Cert.MixTwoIdeal.τ).loc Cert.MixTwoIdeal.main_arg7) = m ((c.tc : Thread Cert.MixTwoIdeal.nD Cert.MixTwoIdeal.τ).loc Cert.MixTwoIdeal.main_arg7)
          ∧ r.2.mem ((c.tc : Thread Cert.MixTwoIdeal.nD Cert.MixTwoIdeal.τ).loc Cert.MixTwoIdeal.main_arg8) = m ((c.tc : Thread Cert.MixTwoIdeal.nD Cert.MixTwoIdeal.τ).loc Cert.MixTwoIdeal.main_arg8))
      ∧ θ_run (Cert.MixTwoRefIdeal.defs (F := Ideal)) (onTc (τ := Cert.MixTwoRefIdeal.τ) (Cert.MixTwoRefIdeal.main (F := Ideal))) ⟨m', fun _ => 0, g'⟩ (fun r => ∀ c : Dev Cert.MixTwoRefIdeal.nD,
          r.2.mem ((c.tc : Thread Cert.MixTwoRefIdeal.nD Cert.MixTwoRefIdeal.τ).loc Cert.MixTwoRefIdeal.main_v32) = v0 c
          ∧ r.2.mem ((c.tc : Thread Cert.MixTwoRefIdeal.nD Cert.MixTwoRefIdeal.τ).loc Cert.MixTwoRefIdeal.main_v33) = v1 c
          ∧ r.2.mem ((c.tc : Thread Cert.MixTwoRefIdeal.nD Cert.MixTwoRefIdeal.τ).loc Cert.MixTwoRefIdeal.main_arg0) = m' ((c.tc : Thread Cert.MixTwoRefIdeal.nD Cert.MixTwoRefIdeal.τ).loc Cert.MixTwoRefIdeal.main_arg0)
          ∧ r.2.mem ((c.tc : Thread Cert.MixTwoRefIdeal.nD Cert.MixTwoRefIdeal.τ).loc Cert.MixTwoRefIdeal.main_arg1) = m' ((c.tc : Thread Cert.MixTwoRefIdeal.nD Cert.MixTwoRefIdeal.τ).loc Cert.MixTwoRefIdeal.main_arg1)
          ∧ r.2.mem ((c.tc : Thread Cert.MixTwoRefIdeal.nD Cert.MixTwoRefIdeal.τ).loc Cert.MixTwoRefIdeal.main_arg2) = m' ((c.tc : Thread Cert.MixTwoRefIdeal.nD Cert.MixTwoRefIdeal.τ).loc Cert.MixTwoRefIdeal.main_arg2)
          ∧ r.2.mem ((c.tc : Thread Cert.MixTwoRefIdeal.nD Cert.MixTwoRefIdeal.τ).loc Cert.MixTwoRefIdeal.main_arg3) = m' ((c.tc : Thread Cert.MixTwoRefIdeal.nD Cert.MixTwoRefIdeal.τ).loc Cert.MixTwoRefIdeal.main_arg3)
          ∧ r.2.mem ((c.tc : Thread Cert.MixTwoRefIdeal.nD Cert.MixTwoRefIdeal.τ).loc Cert.MixTwoRefIdeal.main_arg4) = m' ((c.tc : Thread Cert.MixTwoRefIdeal.nD Cert.MixTwoRefIdeal.τ).loc Cert.MixTwoRefIdeal.main_arg4)
          ∧ r.2.mem ((c.tc : Thread Cert.MixTwoRefIdeal.nD Cert.MixTwoRefIdeal.τ).loc Cert.MixTwoRefIdeal.main_arg5) = m' ((c.tc : Thread Cert.MixTwoRefIdeal.nD Cert.MixTwoRefIdeal.τ).loc Cert.MixTwoRefIdeal.main_arg5)
          ∧ r.2.mem ((c.tc : Thread Cert.MixTwoRefIdeal.nD Cert.MixTwoRefIdeal.τ).loc Cert.MixTwoRefIdeal.main_arg6) = m' ((c.tc : Thread Cert.MixTwoRefIdeal.nD Cert.MixTwoRefIdeal.τ).loc Cert.MixTwoRefIdeal.main_arg6)
          ∧ r.2.mem ((c.tc : Thread Cert.MixTwoRefIdeal.nD Cert.MixTwoRefIdeal.τ).loc Cert.MixTwoRefIdeal.main_arg7) = m' ((c.tc : Thread Cert.MixTwoRefIdeal.nD Cert.MixTwoRefIdeal.τ).loc Cert.MixTwoRefIdeal.main_arg7)
          ∧ r.2.mem ((c.tc : Thread Cert.MixTwoRefIdeal.nD Cert.MixTwoRefIdeal.τ).loc Cert.MixTwoRefIdeal.main_arg8) = m' ((c.tc : Thread Cert.MixTwoRefIdeal.nD Cert.MixTwoRefIdeal.τ).loc Cert.MixTwoRefIdeal.main_arg8))

def preserves_Input_InputIdeal : Prop :=
  True

def algebraic_InputIdeal_InputRefIdeal_pre_l0_is_finite [hInputIdeal : Cert.InputIdeal.Facts] [hInputRefIdeal : Cert.InputRefIdeal.Facts] [hPre_l0_is_finite : Cert.Pre_l0_is_finite.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputIdeal_l0_is_finite m →
    (∀ c : Dev Cert.InputIdeal.nD,
      m' ((c.tc : Thread Cert.InputRefIdeal.nD Cert.InputRefIdeal.τ).loc Cert.InputRefIdeal.main_arg0) = m ((c.tc : Thread Cert.InputIdeal.nD Cert.InputIdeal.τ).loc Cert.InputIdeal.main_arg0)
      ∧ m' ((c.tc : Thread Cert.InputRefIdeal.nD Cert.InputRefIdeal.τ).loc Cert.InputRefIdeal.main_arg1) = m ((c.tc : Thread Cert.InputIdeal.nD Cert.InputIdeal.τ).loc Cert.InputIdeal.main_arg1)
      ∧ m' ((c.tc : Thread Cert.InputRefIdeal.nD Cert.InputRefIdeal.τ).loc Cert.InputRefIdeal.main_arg2) = m ((c.tc : Thread Cert.InputIdeal.nD Cert.InputIdeal.τ).loc Cert.InputIdeal.main_arg2)
      ∧ m' ((c.tc : Thread Cert.InputRefIdeal.nD Cert.InputRefIdeal.τ).loc Cert.InputRefIdeal.main_arg3) = m ((c.tc : Thread Cert.InputIdeal.nD Cert.InputIdeal.τ).loc Cert.InputIdeal.main_arg3)
      ∧ m' ((c.tc : Thread Cert.InputRefIdeal.nD Cert.InputRefIdeal.τ).loc Cert.InputRefIdeal.main_arg4) = m ((c.tc : Thread Cert.InputIdeal.nD Cert.InputIdeal.τ).loc Cert.InputIdeal.main_arg4)
      ∧ m' ((c.tc : Thread Cert.InputRefIdeal.nD Cert.InputRefIdeal.τ).loc Cert.InputRefIdeal.main_arg5) = m ((c.tc : Thread Cert.InputIdeal.nD Cert.InputIdeal.τ).loc Cert.InputIdeal.main_arg5)
      ∧ m' ((c.tc : Thread Cert.InputRefIdeal.nD Cert.InputRefIdeal.τ).loc Cert.InputRefIdeal.main_arg6) = m ((c.tc : Thread Cert.InputIdeal.nD Cert.InputIdeal.τ).loc Cert.InputIdeal.main_arg6)
      ∧ m' ((c.tc : Thread Cert.InputRefIdeal.nD Cert.InputRefIdeal.τ).loc Cert.InputRefIdeal.main_arg7) = m ((c.tc : Thread Cert.InputIdeal.nD Cert.InputIdeal.τ).loc Cert.InputIdeal.main_arg7)
      ∧ m' ((c.tc : Thread Cert.InputRefIdeal.nD Cert.InputRefIdeal.τ).loc Cert.InputRefIdeal.main_arg8) = m ((c.tc : Thread Cert.InputIdeal.nD Cert.InputIdeal.τ).loc Cert.InputIdeal.main_arg8)
      ∧ m' ((c.tc : Thread Cert.InputRefIdeal.nD Cert.InputRefIdeal.τ).loc Cert.InputRefIdeal.main_arg9) = m ((c.tc : Thread Cert.InputIdeal.nD Cert.InputIdeal.τ).loc Cert.InputIdeal.main_arg9)
      ∧ m' ((c.tc : Thread Cert.InputRefIdeal.nD Cert.InputRefIdeal.τ).loc Cert.InputRefIdeal.main_arg10) = m ((c.tc : Thread Cert.InputIdeal.nD Cert.InputIdeal.τ).loc Cert.InputIdeal.main_arg10)
      ∧ m' ((c.tc : Thread Cert.InputRefIdeal.nD Cert.InputRefIdeal.τ).loc Cert.InputRefIdeal.main_arg11) = m ((c.tc : Thread Cert.InputIdeal.nD Cert.InputIdeal.τ).loc Cert.InputIdeal.main_arg11)) →
    ∃ (v0 : (c : Dev Cert.InputIdeal.nD) → Buf (Elt Ideal) ((c.tc : Thread Cert.InputIdeal.nD Cert.InputIdeal.τ).loc Cert.InputIdeal.main_v64_0)) (v1 : (c : Dev Cert.InputIdeal.nD) → Buf (Elt Ideal) ((c.tc : Thread Cert.InputIdeal.nD Cert.InputIdeal.τ).loc Cert.InputIdeal.main_v64_1)) (v2 : (c : Dev Cert.InputIdeal.nD) → Buf (Elt Ideal) ((c.tc : Thread Cert.InputIdeal.nD Cert.InputIdeal.τ).loc Cert.InputIdeal.main_v64_2)) (v3 : (c : Dev Cert.InputIdeal.nD) → Buf (Elt Ideal) ((c.tc : Thread Cert.InputIdeal.nD Cert.InputIdeal.τ).loc Cert.InputIdeal.main_v64_3)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v64_0) = v0 c
          ∧ r.2.mem ((c.tc : Thread Cert.InputIdeal.nD Cert.InputIdeal.τ).loc Cert.InputIdeal.main_v64_1) = v1 c
          ∧ r.2.mem ((c.tc : Thread Cert.InputIdeal.nD Cert.InputIdeal.τ).loc Cert.InputIdeal.main_v64_2) = v2 c
          ∧ r.2.mem ((c.tc : Thread Cert.InputIdeal.nD Cert.InputIdeal.τ).loc Cert.InputIdeal.main_v64_3) = v3 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
          ∧ r.2.mem ((c.tc : Thread Cert.InputIdeal.nD Cert.InputIdeal.τ).loc Cert.InputIdeal.main_arg5) = m ((c.tc : Thread Cert.InputIdeal.nD Cert.InputIdeal.τ).loc Cert.InputIdeal.main_arg5)
          ∧ r.2.mem ((c.tc : Thread Cert.InputIdeal.nD Cert.InputIdeal.τ).loc Cert.InputIdeal.main_arg6) = m ((c.tc : Thread Cert.InputIdeal.nD Cert.InputIdeal.τ).loc Cert.InputIdeal.main_arg6)
          ∧ r.2.mem ((c.tc : Thread Cert.InputIdeal.nD Cert.InputIdeal.τ).loc Cert.InputIdeal.main_arg7) = m ((c.tc : Thread Cert.InputIdeal.nD Cert.InputIdeal.τ).loc Cert.InputIdeal.main_arg7)
          ∧ r.2.mem ((c.tc : Thread Cert.InputIdeal.nD Cert.InputIdeal.τ).loc Cert.InputIdeal.main_arg8) = m ((c.tc : Thread Cert.InputIdeal.nD Cert.InputIdeal.τ).loc Cert.InputIdeal.main_arg8)
          ∧ r.2.mem ((c.tc : Thread Cert.InputIdeal.nD Cert.InputIdeal.τ).loc Cert.InputIdeal.main_arg9) = m ((c.tc : Thread Cert.InputIdeal.nD Cert.InputIdeal.τ).loc Cert.InputIdeal.main_arg9)
          ∧ r.2.mem ((c.tc : Thread Cert.InputIdeal.nD Cert.InputIdeal.τ).loc Cert.InputIdeal.main_arg10) = m ((c.tc : Thread Cert.InputIdeal.nD Cert.InputIdeal.τ).loc Cert.InputIdeal.main_arg10)
          ∧ r.2.mem ((c.tc : Thread Cert.InputIdeal.nD Cert.InputIdeal.τ).loc Cert.InputIdeal.main_arg11) = m ((c.tc : Thread Cert.InputIdeal.nD Cert.InputIdeal.τ).loc Cert.InputIdeal.main_arg11))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v345) = v0 c
          ∧ r.2.mem ((c.tc : Thread Cert.InputRefIdeal.nD Cert.InputRefIdeal.τ).loc Cert.InputRefIdeal.main_v350) = v1 c
          ∧ r.2.mem ((c.tc : Thread Cert.InputRefIdeal.nD Cert.InputRefIdeal.τ).loc Cert.InputRefIdeal.main_v353) = v2 c
          ∧ r.2.mem ((c.tc : Thread Cert.InputRefIdeal.nD Cert.InputRefIdeal.τ).loc Cert.InputRefIdeal.main_v354) = v3 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2)
          ∧ r.2.mem ((c.tc : Thread Cert.InputRefIdeal.nD Cert.InputRefIdeal.τ).loc Cert.InputRefIdeal.main_arg3) = m' ((c.tc : Thread Cert.InputRefIdeal.nD Cert.InputRefIdeal.τ).loc Cert.InputRefIdeal.main_arg3)
          ∧ r.2.mem ((c.tc : Thread Cert.InputRefIdeal.nD Cert.InputRefIdeal.τ).loc Cert.InputRefIdeal.main_arg4) = m' ((c.tc : Thread Cert.InputRefIdeal.nD Cert.InputRefIdeal.τ).loc Cert.InputRefIdeal.main_arg4)
          ∧ r.2.mem ((c.tc : Thread Cert.InputRefIdeal.nD Cert.InputRefIdeal.τ).loc Cert.InputRefIdeal.main_arg5) = m' ((c.tc : Thread Cert.InputRefIdeal.nD Cert.InputRefIdeal.τ).loc Cert.InputRefIdeal.main_arg5)
          ∧ r.2.mem ((c.tc : Thread Cert.InputRefIdeal.nD Cert.InputRefIdeal.τ).loc Cert.InputRefIdeal.main_arg6) = m' ((c.tc : Thread Cert.InputRefIdeal.nD Cert.InputRefIdeal.τ).loc Cert.InputRefIdeal.main_arg6)
          ∧ r.2.mem ((c.tc : Thread Cert.InputRefIdeal.nD Cert.InputRefIdeal.τ).loc Cert.InputRefIdeal.main_arg7) = m' ((c.tc : Thread Cert.InputRefIdeal.nD Cert.InputRefIdeal.τ).loc Cert.InputRefIdeal.main_arg7)
          ∧ r.2.mem ((c.tc : Thread Cert.InputRefIdeal.nD Cert.InputRefIdeal.τ).loc Cert.InputRefIdeal.main_arg8) = m' ((c.tc : Thread Cert.InputRefIdeal.nD Cert.InputRefIdeal.τ).loc Cert.InputRefIdeal.main_arg8)
          ∧ r.2.mem ((c.tc : Thread Cert.InputRefIdeal.nD Cert.InputRefIdeal.τ).loc Cert.InputRefIdeal.main_arg9) = m' ((c.tc : Thread Cert.InputRefIdeal.nD Cert.InputRefIdeal.τ).loc Cert.InputRefIdeal.main_arg9)
          ∧ r.2.mem ((c.tc : Thread Cert.InputRefIdeal.nD Cert.InputRefIdeal.τ).loc Cert.InputRefIdeal.main_arg10) = m' ((c.tc : Thread Cert.InputRefIdeal.nD Cert.InputRefIdeal.τ).loc Cert.InputRefIdeal.main_arg10)
          ∧ r.2.mem ((c.tc : Thread Cert.InputRefIdeal.nD Cert.InputRefIdeal.τ).loc Cert.InputRefIdeal.main_arg11) = m' ((c.tc : Thread Cert.InputRefIdeal.nD Cert.InputRefIdeal.τ).loc Cert.InputRefIdeal.main_arg11))

def Claim : Prop :=
  ∃ (hKernel : Cert.Kernel.Facts) (hKernelIdeal : Cert.KernelIdeal.Facts) (hReferenceIdeal : Cert.ReferenceIdeal.Facts) (hLatent : Cert.Latent.Facts) (hLatentIdeal : Cert.LatentIdeal.Facts) (hLatentRefIdeal : Cert.LatentRefIdeal.Facts) (hExperts : Cert.Experts.Facts) (hExpertsIdeal : Cert.ExpertsIdeal.Facts) (hExpertsRefIdeal : Cert.ExpertsRefIdeal.Facts) (hMoeOut : Cert.MoeOut.Facts) (hMoeOutIdeal : Cert.MoeOutIdeal.Facts) (hMoeOutRefIdeal : Cert.MoeOutRefIdeal.Facts) (hFront : Cert.Front.Facts) (hFrontIdeal : Cert.FrontIdeal.Facts) (hFrontRefIdeal : Cert.FrontRefIdeal.Facts) (hMix : Cert.Mix.Facts) (hMixIdeal : Cert.MixIdeal.Facts) (hMixRefIdeal : Cert.MixRefIdeal.Facts) (hMixTwo : Cert.MixTwo.Facts) (hMixTwoIdeal : Cert.MixTwoIdeal.Facts) (hMixTwoRefIdeal : Cert.MixTwoRefIdeal.Facts) (hInput : Cert.Input.Facts) (hInputIdeal : Cert.InputIdeal.Facts) (hInputRefIdeal : Cert.InputRefIdeal.Facts) (hPre_fox_is_finite : Cert.Pre_fox_is_finite.Facts) (hPre_mla_is_finite : Cert.Pre_mla_is_finite.Facts) (hPre_tiles_name_experts : Cert.Pre_tiles_name_experts.Facts) (hPre_l0_is_finite : Cert.Pre_l0_is_finite.Facts),
    quiescent_Kernel (hKernel := hKernel)
    ∧ quiescent_KernelIdeal (hKernelIdeal := hKernelIdeal)
    ∧ quiescent_KernelIdeal_pre_fox_is_finite (hKernelIdeal := hKernelIdeal) (hPre_fox_is_finite := hPre_fox_is_finite)
    ∧ quiescent_ReferenceIdeal (hReferenceIdeal := hReferenceIdeal)
    ∧ quiescent_ReferenceIdeal_pre_fox_is_finite (hReferenceIdeal := hReferenceIdeal) (hPre_fox_is_finite := hPre_fox_is_finite)
    ∧ quiescent_Latent (hLatent := hLatent)
    ∧ quiescent_LatentIdeal (hLatentIdeal := hLatentIdeal)
    ∧ quiescent_LatentIdeal_pre_mla_is_finite (hLatentIdeal := hLatentIdeal) (hPre_mla_is_finite := hPre_mla_is_finite)
    ∧ quiescent_LatentRefIdeal (hLatentRefIdeal := hLatentRefIdeal)
    ∧ quiescent_LatentRefIdeal_pre_mla_is_finite (hLatentRefIdeal := hLatentRefIdeal) (hPre_mla_is_finite := hPre_mla_is_finite)
    ∧ quiescent_Experts (hExperts := hExperts) (hPre_tiles_name_experts := hPre_tiles_name_experts)
    ∧ quiescent_ExpertsIdeal (hExpertsIdeal := hExpertsIdeal) (hPre_tiles_name_experts := hPre_tiles_name_experts)
    ∧ quiescent_ExpertsRefIdeal (hExpertsRefIdeal := hExpertsRefIdeal)
    ∧ quiescent_ExpertsRefIdeal_pre_tiles_name_experts (hExpertsRefIdeal := hExpertsRefIdeal) (hPre_tiles_name_experts := hPre_tiles_name_experts)
    ∧ quiescent_MoeOut (hMoeOut := hMoeOut)
    ∧ quiescent_MoeOutIdeal (hMoeOutIdeal := hMoeOutIdeal)
    ∧ quiescent_MoeOutRefIdeal (hMoeOutRefIdeal := hMoeOutRefIdeal)
    ∧ quiescent_Front (hFront := hFront)
    ∧ quiescent_FrontIdeal (hFrontIdeal := hFrontIdeal)
    ∧ quiescent_FrontRefIdeal (hFrontRefIdeal := hFrontRefIdeal)
    ∧ quiescent_Mix (hMix := hMix)
    ∧ quiescent_MixIdeal (hMixIdeal := hMixIdeal)
    ∧ quiescent_MixRefIdeal (hMixRefIdeal := hMixRefIdeal)
    ∧ quiescent_MixTwo (hMixTwo := hMixTwo)
    ∧ quiescent_MixTwoIdeal (hMixTwoIdeal := hMixTwoIdeal)
    ∧ quiescent_MixTwoRefIdeal (hMixTwoRefIdeal := hMixTwoRefIdeal)
    ∧ quiescent_Input (hInput := hInput)
    ∧ quiescent_InputIdeal (hInputIdeal := hInputIdeal)
    ∧ quiescent_InputIdeal_pre_l0_is_finite (hInputIdeal := hInputIdeal) (hPre_l0_is_finite := hPre_l0_is_finite)
    ∧ quiescent_InputRefIdeal (hInputRefIdeal := hInputRefIdeal)
    ∧ quiescent_InputRefIdeal_pre_l0_is_finite (hInputRefIdeal := hInputRefIdeal) (hPre_l0_is_finite := hPre_l0_is_finite)
    ∧ preserves_Kernel_KernelIdeal
    ∧ algebraic_KernelIdeal_ReferenceIdeal_pre_fox_is_finite (hKernelIdeal := hKernelIdeal) (hReferenceIdeal := hReferenceIdeal) (hPre_fox_is_finite := hPre_fox_is_finite)
    ∧ preserves_Latent_LatentIdeal
    ∧ algebraic_LatentIdeal_LatentRefIdeal_pre_mla_is_finite (hLatentIdeal := hLatentIdeal) (hLatentRefIdeal := hLatentRefIdeal) (hPre_mla_is_finite := hPre_mla_is_finite)
    ∧ preserves_Experts_ExpertsIdeal
    ∧ algebraic_ExpertsIdeal_ExpertsRefIdeal (hExpertsIdeal := hExpertsIdeal) (hExpertsRefIdeal := hExpertsRefIdeal) (hPre_tiles_name_experts := hPre_tiles_name_experts)
    ∧ preserves_MoeOut_MoeOutIdeal
    ∧ algebraic_MoeOutIdeal_MoeOutRefIdeal (hMoeOutIdeal := hMoeOutIdeal) (hMoeOutRefIdeal := hMoeOutRefIdeal)
    ∧ preserves_Front_FrontIdeal
    ∧ algebraic_FrontIdeal_FrontRefIdeal (hFrontIdeal := hFrontIdeal) (hFrontRefIdeal := hFrontRefIdeal)
    ∧ preserves_Mix_MixIdeal
    ∧ algebraic_MixIdeal_MixRefIdeal (hMixIdeal := hMixIdeal) (hMixRefIdeal := hMixRefIdeal)
    ∧ preserves_MixTwo_MixTwoIdeal
    ∧ algebraic_MixTwoIdeal_MixTwoRefIdeal (hMixTwoIdeal := hMixTwoIdeal) (hMixTwoRefIdeal := hMixTwoRefIdeal)
    ∧ preserves_Input_InputIdeal
    ∧ algebraic_InputIdeal_InputRefIdeal_pre_l0_is_finite (hInputIdeal := hInputIdeal) (hInputRefIdeal := hInputRefIdeal) (hPre_l0_is_finite := hPre_l0_is_finite)
-- ==== Pre_fox_is_finite.lean ====
abbrev S8x4096x1024 : Shape := ⟨3, ![8, 4096, 1024]⟩
abbrev S8x16x4096 : Shape := ⟨3, ![8, 16, 4096]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  bcast_S_S8x16x4096 : S_.BroadcastsInDim S8x16x4096 (![] : Fin 0 → Fin S8x16x4096.rank)

variable [Facts]

def fn {F : FTy → Type} [FloatOps F] (main_arg0 : FVec F S8x4096x1024 .bf16) (main_arg1 : FVec F S8x4096x1024 .bf16) (main_arg2 : FVec F S8x4096x1024 .bf16) (main_arg3 : FVec F S8x16x4096 .f32) : IVec S8x4096x1024 1 × IVec S8x4096x1024 1 × IVec S8x16x4096 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_v4 : FVec F S8x4096x1024 .f32 := (extf .f32 · bitsLt_bf16_f32) main_arg1
  let main_v5 : FVec F S8x4096x1024 .f32 := Host.absf main_v4
  let main_cst_0 : FVec F S_ .f32 := constant S_ .f32 0x7F800000#32
  let main_v6 : FVec F S8x4096x1024 .f32 := broadcastInDim S8x4096x1024 ![] bcast_S_S8x4096x1024 main_cst_0
  let main_v7 : IVec S8x4096x1024 1 := cmpf .olt main_v5 main_v6
  let main_v8 : FVec F S8x16x4096 .f32 := Host.absf main_arg3
  let main_cst_1 : FVec F S_ .f32 := constant S_ .f32 0x7F800000#32
  let main_v9 : FVec F S8x16x4096 .f32 := broadcastInDim S8x16x4096 ![] bcast_S_S8x16x4096 main_cst_1
  let main_v10 : IVec S8x16x4096 1 := cmpf .olt main_v8 main_v9
  (main_v3, main_v7, main_v10)
-- ==== Pre_l0_is_finite.lean ====
abbrev S8x4096x1024 : Shape := ⟨3, ![8, 4096, 1024]⟩
abbrev S8x4096 : Shape := ⟨2, ![8, 4096]⟩
abbrev S1024x1440 : Shape := ⟨2, ![1024, 1440]⟩
abbrev S1440 : Shape := ⟨1, ![1440]⟩
abbrev S31x512 : Shape := ⟨2, ![31, 512]⟩
abbrev S512 : Shape := ⟨1, ![512]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S_ : Shape := ⟨0, ![]⟩

class Facts : Prop where
  bcast_S_S8x4096x1024 : S_.BroadcastsInDim S8x4096x1024 (![] : Fin 0 → Fin S8x4096x1024.rank)
  bcast_S_S1024x1440 : S_.BroadcastsInDim S1024x1440 (![] : Fin 0 → Fin S1024x1440.rank)
  bcast_S_S1440 : S_.BroadcastsInDim S1440 (![] : Fin 0 → Fin S1440.rank)
  bcast_S_S256 : S_.BroadcastsInDim S256 (![] : Fin 0 → Fin S256.rank)
  bcast_S_S256x768 : S_.BroadcastsInDim S256x768 (![] : Fin 0 → Fin S256x768.rank)

variable [Facts]

def fn {F : FTy → Type} [FloatOps F] (main_arg0 : FVec F S8x4096x1024 .f32) (main_arg1 : IVec S8x4096 32) (main_arg2 : FVec F S1024x1440 .f32) (main_arg3 : FVec F S1440 .f32) (main_arg4 : FVec F S31x512 .f32) (main_arg5 : FVec F S512 .f32) (main_arg6 : FVec F S512 .f32) (main_arg7 : FVec F S512 .f32) (main_arg8 : FVec F S256 .f32) (main_arg9 : FVec F S256x768 .f32) (main_arg10 : FVec F S128 .f32) (main_arg11 : FVec F S128x1024 .f32) : IVec S8x4096x1024 1 × IVec S1024x1440 1 × IVec S1440 1 × IVec S256 1 × IVec S256x768 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S1024x1440 .f32 := Host.absf main_arg2
  let main_cst_0 : FVec F S_ .f32 := constant S_ .f32 0x7F800000#32
  let main_v4 : FVec F S1024x1440 .f32 := broadcastInDim S1024x1440 ![] bcast_S_S1024x1440 main_cst_0
  let main_v5 : IVec S1024x1440 1 := cmpf .olt main_v3 main_v4
  let main_v6 : FVec F S1440 .f32 := Host.absf main_arg3
  let main_cst_1 : FVec F S_ .f32 := constant S_ .f32 0x7F800000#32
  let main_v7 : FVec F S1440 .f32 := broadcastInDim S1440 ![] bcast_S_S1440 main_cst_1
  let main_v8 : IVec S1440 1 := cmpf .olt main_v6 main_v7
  let main_v9 : FVec F S256 .f32 := Host.absf main_arg8
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256x768 .f32 := Host.absf main_arg9
  let main_cst_3 : FVec F S_ .f32 := constant S_ .f32 0x7F800000#32
  let main_v13 : FVec F S256x768 .f32 := broadcastInDim S256x768 ![] bcast_S_S256x768 main_cst_3
  let main_v14 : IVec S256x768 1 := cmpf .olt main_v12 main_v13
  (main_v2, main_v5, main_v8, main_v11, main_v14)
-- ==== Pre_mla_is_finite.lean ====
abbrev S8x4096x1024 : Shape := ⟨3, ![8, 4096, 1024]⟩
abbrev S8x4096x512 : Shape := ⟨3, ![8, 4096, 512]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)

variable [Facts]

def fn {F : FTy → Type} [FloatOps F] (main_arg0 : FVec F S8x4096x1024 .bf16) (main_arg1 : FVec F S8x4096x1024 .bf16) (main_arg2 : FVec F S8x4096x512 .bf16) : IVec S8x4096x1024 1 × IVec S8x4096x1024 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_v4 : FVec F S8x4096x1024 .f32 := (extf .f32 · bitsLt_bf16_f32) main_arg1
  let main_v5 : FVec F S8x4096x1024 .f32 := Host.absf main_v4
  let main_cst_0 : FVec F S_ .f32 := constant S_ .f32 0x7F800000#32
  let main_v6 : FVec F S8x4096x1024 .f32 := broadcastInDim S8x4096x1024 ![] bcast_S_S8x4096x1024 main_cst_0
  let main_v7 : IVec S8x4096x1024 1 := cmpf .olt main_v5 main_v6
  (main_v3, main_v7)
-- ==== Pre_tiles_name_experts.lean ====
abbrev S229376x1024 : Shape := ⟨2, ![229376, 1024]⟩
abbrev S448 : Shape := ⟨1, ![448]⟩
abbrev S64x1024x256 : Shape := ⟨3, ![64, 1024, 256]⟩
abbrev S64x256x1024 : Shape := ⟨3, ![64, 256, 1024]⟩
abbrev S_ : Shape := ⟨0, ![]⟩

class Facts : Prop where
  bcast_S_S448 : S_.BroadcastsInDim S448 (![] : Fin 0 → Fin S448.rank)

variable [Facts]

def fn {F : FTy → Type} [FloatOps F] (main_arg0 : FVec F S229376x1024 .bf16) (main_arg1 : IVec S448 32) (main_arg2 : IVec S448 32) (main_arg3 : FVec F S64x1024x256 .f32) (main_arg4 : FVec F S64x1024x256 .f32) (main_arg5 : FVec F S64x256x1024 .f32) : IVec S448 1 :=
  let main_c : IVec S_ 32 := constantI S_ 32 0#32
  let main_v0 : IVec S448 32 := broadcastInDim S448 ![] bcast_S_S448 main_c
  let main_v1 : IVec S448 1 := cmpi .sge main_arg1 main_v0
  let main_c_0 : IVec S_ 32 := constantI S_ 32 64#32
  let main_v2 : IVec S448 32 := broadcastInDim S448 ![] bcast_S_S448 main_c_0
  let main_v3 : IVec S448 1 := cmpi .slt main_arg1 main_v2
  let main_v4 : IVec S448 1 := andi main_v1 main_v3
  main_v4
-- ==== Kernel.lean ====
abbrev S8x4096x1024 : Shape := ⟨3, ![8, 4096, 1024]⟩
abbrev S8x16x4096 : Shape := ⟨3, ![8, 16, 4096]⟩
abbrev S8x16x1x4096 : Shape := ⟨4, ![8, 16, 1, 4096]⟩
abbrev S1x512x128 : Shape := ⟨3, ![1, 512, 128]⟩
abbrev S1x4096x128 : Shape := ⟨3, ![1, 4096, 128]⟩
abbrev S1x2x1x4096 : Shape := ⟨4, ![1, 2, 1, 4096]⟩
abbrev S512x128 : Shape := ⟨2, ![512, 128]⟩
abbrev S512x1 : Shape := ⟨2, ![512, 1]⟩
abbrev S512x512 : Shape := ⟨2, ![512, 512]⟩
abbrev S1x1x1x512 : Shape := ⟨4, ![1, 1, 1, 512]⟩
abbrev S1x512 : Shape := ⟨2, ![1, 512]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S8x16x4096, .f32⟩
  | .hbm, ⟨4, _⟩ => ⟨S8x16x1x4096, .f32⟩
  | .hbm, ⟨5, _⟩ => ⟨S8x4096x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x2x1x4096, .f32⟩
  | .local _ .vmem, ⟨7, _⟩ => ⟨S1x2x1x4096, .f32⟩
  | .local _ .vmem, ⟨8, _⟩ => ⟨S1x512x128, .bf16⟩
  | .local _ .vmem, ⟨9, _⟩ => ⟨S1x512x128, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 8], ![false, false, false]⟩

@[reducible] def k0_t1_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_9 : BitVec 32 := 1#32
  ⟨c0_i32, v20, c1_i32_9⟩
def k0_mult1 (i : grid0.Coords) (k0_t1 : Fin (k0_t1_loop i).trips) : BitVec 32 :=
  let c0_i32 : BitVec 32 := 0#32
  let c1_i32_9 : BitVec 32 := 1#32
  let arg8 : BitVec 32 := Scf.iv c0_i32 c1_i32_9 k0_t1
  let c512_i32_38 : BitVec 32 := 512#32
  let v106 : BitVec 32 := Scalar.muli arg8 c512_i32_38
  v106
def k0_off1 (i : grid0.Coords) (k0_t1 : Fin (k0_t1_loop i).trips) : Fin 3 → Nat :=
  let c0_39 : Index := 0#32
  let c0_i32 : BitVec 32 := 0#32
  let c1_i32_9 : BitVec 32 := 1#32
  let arg8 : BitVec 32 := Scf.iv c0_i32 c1_i32_9 k0_t1
  let c512_i32_38 : BitVec 32 := 512#32
  let v106 : BitVec 32 := Scalar.muli arg8 c512_i32_38
  let v107 : BitVec 32 := v106
  let v108 : Index := Scalar.indexCast v107
  let c0_40 : Index := 0#32
  ![0, v108.toNat, 0]
def k0_mult2 (i : grid0.Coords) (k0_t1 : Fin (k0_t1_loop i).trips) : BitVec 32 :=
  let c0_i32 : BitVec 32 := 0#32
  let c1_i32_9 : BitVec 32 := 1#32
  let arg8 : BitVec 32 := Scf.iv c0_i32 c1_i32_9 k0_t1
  let c512_i32_41 : BitVec 32 := 512#32
  let v111 : BitVec 32 := Scalar.muli arg8 c512_i32_41
  v111
def k0_off2 (i : grid0.Coords) (k0_t1 : Fin (k0_t1_loop i).trips) : Fin 4 → Nat :=
  let c0_45 : Index := 0#32
  let c0_46 : Index := 0#32
  let c0_47 : Index := 0#32
  let c0_i32 : BitVec 32 := 0#32
  let c1_i32_9 : BitVec 32 := 1#32
  let arg8 : BitVec 32 := Scf.iv c0_i32 c1_i32_9 k0_t1
  let c512_i32_38 : BitVec 32 := 512#32
  let v106 : BitVec 32 := Scalar.muli arg8 c512_i32_38
  let v107 : BitVec 32 := v106
  let v117 : Index := Scalar.indexCast v107
  ![0, 0, 0, v117.toNat]
def k0_mult3 (i : grid0.Coords) (k0_t1 : Fin (k0_t1_loop i).trips) : BitVec 32 :=
  let c0_i32 : BitVec 32 := 0#32
  let c1_i32_9 : BitVec 32 := 1#32
  let arg8 : BitVec 32 := Scf.iv c0_i32 c1_i32_9 k0_t1
  let c512_i32_51 : BitVec 32 := 512#32
  let v139 : BitVec 32 := Scalar.muli arg8 c512_i32_51
  v139
def k0_off3 (i : grid0.Coords) (k0_t1 : Fin (k0_t1_loop i).trips) : Fin 4 → Nat :=
  let c0_55 : Index := 0#32
  let c1_56 : Index := 1#32
  let c0_57 : Index := 0#32
  let c0_i32 : BitVec 32 := 0#32
  let c1_i32_9 : BitVec 32 := 1#32
  let arg8 : BitVec 32 := Scf.iv c0_i32 c1_i32_9 k0_t1
  let c512_i32_38 : BitVec 32 := 512#32
  let v106 : BitVec 32 := Scalar.muli arg8 c512_i32_38
  let v107 : BitVec 32 := v106
  let v145 : Index := Scalar.indexCast v107
  ![0, 1, 0, v145.toNat]
@[reducible] def k0_t2_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_10 : BitVec 32 := 1#32
  ⟨v20, v17, c1_i32_10⟩
def k0_mult4 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg8 : BitVec 32 := Scf.iv v20 c1_i32_10 k0_t2
  let c512_i32_38 : BitVec 32 := 512#32
  let v106 : BitVec 32 := Scalar.muli arg8 c512_i32_38
  v106
def k0_off4 (i : grid0.Coords) (k0_t2 : Fin (k0_t2_loop i).trips) : Fin 3 → Nat :=
  let c0_39 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg8 : BitVec 32 := Scf.iv v20 c1_i32_10 k0_t2
  let c512_i32_38 : BitVec 32 := 512#32
  let v106 : BitVec 32 := Scalar.muli arg8 c512_i32_38
  let v107 : BitVec 32 := v106
  let v108 : Index := Scalar.indexCast v107
  let c0_40 : Index := 0#32
  ![0, v108.toNat, 0]
def k0_mult5 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg8 : BitVec 32 := Scf.iv v20 c1_i32_10 k0_t2
  let c512_i32_41 : BitVec 32 := 512#32
  let v111 : BitVec 32 := Scalar.muli arg8 c512_i32_41
  v111
def k0_off5 (i : grid0.Coords) (k0_t2 : Fin (k0_t2_loop i).trips) : Fin 4 → Nat :=
  let c0_45 : Index := 0#32
  let c0_46 : Index := 0#32
  let c0_47 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg8 : BitVec 32 := Scf.iv v20 c1_i32_10 k0_t2
  let c512_i32_38 : BitVec 32 := 512#32
  let v106 : BitVec 32 := Scalar.muli arg8 c512_i32_38
  let v107 : BitVec 32 := v106
  let v117 : Index := Scalar.indexCast v107
  ![0, 0, 0, v117.toNat]
def k0_mult6 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg8 : BitVec 32 := Scf.iv v20 c1_i32_10 k0_t2
  let c512_i32_51 : BitVec 32 := 512#32
  let v139 : BitVec 32 := Scalar.muli arg8 c512_i32_51
  v139
def k0_off6 (i : grid0.Coords) (k0_t2 : Fin (k0_t2_loop i).trips) : Fin 4 → Nat :=
  let c0_55 : Index := 0#32
  let c1_56 : Index := 1#32
  let c0_57 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg8 : BitVec 32 := Scf.iv v20 c1_i32_10 k0_t2
  let c512_i32_38 : BitVec 32 := 512#32
  let v106 : BitVec 32 := Scalar.muli arg8 c512_i32_38
  let v107 : BitVec 32 := v106
  let v145 : Index := Scalar.indexCast v107
  ![0, 1, 0, v145.toNat]
def k0_mult7 (i : grid0.Coords) : BitVec 32 :=
  let arg2 : BitVec 32 := BitVec.ofNat 32 (i 2).val
  let c512_i32 : BitVec 32 := 512#32
  let v23 : BitVec 32 := Scalar.muli arg2 c512_i32
  v23
def k0_off7 (i : grid0.Coords) : Fin 3 → Nat :=
  let c0_11 : Index := 0#32
  let arg2 : BitVec 32 := BitVec.ofNat 32 (i 2).val
  let c512_i32 : BitVec 32 := 512#32
  let v23 : BitVec 32 := Scalar.muli arg2 c512_i32
  let v24 : BitVec 32 := v23
  let v25 : Index := Scalar.indexCast v24
  let c0_12 : Index := 0#32
  ![0, v25.toNat, 0]
def k0_mult8 (i : grid0.Coords) : BitVec 32 :=
  let arg2 : BitVec 32 := BitVec.ofNat 32 (i 2).val
  let c512_i32_13 : BitVec 32 := 512#32
  let v28 : BitVec 32 := Scalar.muli arg2 c512_i32_13
  v28
def k0_off8 (i : grid0.Coords) : Fin 4 → Nat :=
  let c0_17 : Index := 0#32
  let c0_18 : Index := 0#32
  let c0_19 : Index := 0#32
  let arg2 : BitVec 32 := BitVec.ofNat 32 (i 2).val
  let c512_i32 : BitVec 32 := 512#32
  let v23 : BitVec 32 := Scalar.muli arg2 c512_i32
  let v24 : BitVec 32 := v23
  let v34 : Index := Scalar.indexCast v24
  ![0, 0, 0, v34.toNat]
def k0_mult9 (i : grid0.Coords) : BitVec 32 :=
  let arg2 : BitVec 32 := BitVec.ofNat 32 (i 2).val
  let c512_i32_24 : BitVec 32 := 512#32
  let v61 : BitVec 32 := Scalar.muli arg2 c512_i32_24
  v61
def k0_off9 (i : grid0.Coords) : Fin 4 → Nat :=
  let c0_28 : Index := 0#32
  let c1 : Index := 1#32
  let c0_29 : Index := 0#32
  let arg2 : BitVec 32 := BitVec.ofNat 32 (i 2).val
  let c512_i32 : BitVec 32 := 512#32
  let v23 : BitVec 32 := Scalar.muli arg2 c512_i32
  let v24 : BitVec 32 := v23
  let v67 : Index := Scalar.indexCast v24
  ![0, 1, 0, v67.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x4096x1024 : Shape := ⟨3, ![8, 4096, 1024]⟩
abbrev S8x16x4096 : Shape := ⟨3, ![8, 16, 4096]⟩
abbrev S8x4096x16x64 : Shape := ⟨4, ![8, 4096, 16, 64]⟩
abbrev S8x16x4096x64 : Shape := ⟨4, ![8, 16, 4096, 64]⟩
abbrev S8x16x4096x1 : Shape := ⟨4, ![8, 16, 4096, 1]⟩
abbrev S8x16x1x4096 : Shape := ⟨4, ![8, 16, 1, 4096]⟩
abbrev S8x16x4096x4096 : Shape := ⟨4, ![8, 16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S8x16x4096, .f32⟩
  | .hbm, ⟨4, _⟩ => ⟨S8x16x4096, .f32⟩
  | .hbm, ⟨5, _⟩ => ⟨S8x4096x1024, .f32⟩
  | .hbm, ⟨6, _⟩ => ⟨S8x4096x16x64, .f32⟩
  | .hbm, ⟨7, _⟩ => ⟨S8x16x4096x64, .f32⟩
  | .hbm, ⟨8, _⟩ => ⟨S8x4096x1024, .f32⟩
  | .hbm, ⟨9, _⟩ => ⟨S8x4096x16x64, .f32⟩
  | .hbm, ⟨10, _⟩ => ⟨S8x16x4096x64, .f32⟩
  | .hbm, ⟨11, _⟩ => ⟨S8x4096x1024, .f32⟩
  | .hbm, ⟨12, _⟩ => ⟨S8x4096x16x64, .f32⟩
  | .hbm, ⟨13, _⟩ => ⟨S8x16x4096x64, .f32⟩
  | .hbm, ⟨14, _⟩ => ⟨S8x16x4096x1, .f32⟩
  | .hbm, ⟨15, _⟩ => ⟨S8x16x1x4096, .f32⟩
  | .hbm, ⟨16, _⟩ => ⟨S8x16x4096x4096, .f32⟩
  | .hbm, ⟨17, _⟩ => ⟨S8x16x4096x4096, .f32⟩
  | .hbm, ⟨18, _⟩ => ⟨S8x16x4096x4096, .f32⟩
  | .hbm, ⟨19, _⟩ => ⟨S8x16x4096x4096, .f32⟩
  | .hbm, ⟨20, _⟩ => ⟨S8x16x4096x4096, .f32⟩
  | .hbm, ⟨21, _⟩ => ⟨S4096, .i32⟩
  | .hbm, ⟨22, _⟩ => ⟨S4096x1, .i32⟩
  | .hbm, ⟨23, _⟩ => ⟨S4096, .i32⟩
  | .hbm, ⟨24, _⟩ => ⟨S1x4096, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S8x16x4096x4096, .i1⟩
  | .hbm, ⟨31, _⟩ => ⟨S8x16x4096x4096, .f32⟩
  | .hbm, ⟨32, _⟩ => ⟨S8x16x4096x4096, .f32⟩
  | .hbm, ⟨33, _⟩ => ⟨S_, .f32⟩
  | .hbm, ⟨34, _⟩ => ⟨S8x16x4096, .f32⟩
  | .hbm, ⟨35, _⟩ => ⟨S_, .f32⟩
  | .hbm, ⟨36, _⟩ => ⟨S8x16x4096, .f32⟩
  | .hbm, ⟨37, _⟩ => ⟨S8x16x4096, .f32⟩
  | .hbm, ⟨38, _⟩ => ⟨S8x16x4096x1, .f32⟩
  | .hbm, ⟨39, _⟩ => ⟨S8x16x4096x4096, .f32⟩
  | .hbm, ⟨40, _⟩ => ⟨S8x16x4096x4096, .f32⟩
  | .hbm, ⟨41, _⟩ => ⟨S8x16x4096x4096, .f32⟩
  | .hbm, ⟨42, _⟩ => ⟨S_, .f32⟩
  | .hbm, ⟨43, _⟩ => ⟨S8x16x4096, .f32⟩
  | .hbm, ⟨44, _⟩ => ⟨S8x16x4096x1, .f32⟩
  | .hbm, ⟨45, _⟩ => ⟨S8x16x4096x4096, .f32⟩
  | .hbm, ⟨46, _⟩ => ⟨S8x16x4096x4096, .f32⟩
  | .hbm, ⟨47, _⟩ => ⟨S8x16x4096x64, .f32⟩
  | .hbm, ⟨48, _⟩ => ⟨S8x4096x16x64, .f32⟩
  | .hbm, ⟨49, _⟩ => ⟨S8x4096x1024, .f32⟩
  | .hbm, ⟨50, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Latent.lean ====
abbrev S8x4096x1024 : Shape := ⟨3, ![8, 4096, 1024]⟩
abbrev S8x4096x512 : Shape := ⟨3, ![8, 4096, 512]⟩
abbrev S1x512x256 : Shape := ⟨3, ![1, 512, 256]⟩
abbrev S1x4096x256 : Shape := ⟨3, ![1, 4096, 256]⟩
abbrev S1x4096x128 : Shape := ⟨3, ![1, 4096, 128]⟩
abbrev S1x512x128 : Shape := ⟨3, ![1, 512, 128]⟩
abbrev S512x256 : Shape := ⟨2, ![512, 256]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x512, .bf16⟩
  | .hbm, ⟨3, _⟩ => ⟨S8x4096x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_7 : BitVec 32 := 1#32
  ⟨c0_i32, v14, c1_i32_7⟩
def k0_mult1 (i : grid0.Coords) (k0_t1 : Fin (k0_t1_loop i).trips) : BitVec 32 :=
  let c0_i32 : BitVec 32 := 0#32
  let c1_i32_7 : BitVec 32 := 1#32
  let arg7 : BitVec 32 := Scf.iv c0_i32 c1_i32_7 k0_t1
  let c512_i32_29 : BitVec 32 := 512#32
  let v90 : BitVec 32 := Scalar.muli arg7 c512_i32_29
  v90
def k0_off1 (i : grid0.Coords) (k0_t1 : Fin (k0_t1_loop i).trips) : Fin 3 → Nat :=
  let c0_30 : Index := 0#32
  let c0_i32 : BitVec 32 := 0#32
  let c1_i32_7 : BitVec 32 := 1#32
  let arg7 : BitVec 32 := Scf.iv c0_i32 c1_i32_7 k0_t1
  let c512_i32_29 : BitVec 32 := 512#32
  let v90 : BitVec 32 := Scalar.muli arg7 c512_i32_29
  let v91 : BitVec 32 := v90
  let v92 : Index := Scalar.indexCast v91
  let c0_31 : Index := 0#32
  ![0, v92.toNat, 0]
def k0_mult2 (i : grid0.Coords) (k0_t1 : Fin (k0_t1_loop i).trips) : BitVec 32 :=
  let c0_i32 : BitVec 32 := 0#32
  let c1_i32_7 : BitVec 32 := 1#32
  let arg7 : BitVec 32 := Scf.iv c0_i32 c1_i32_7 k0_t1
  let c512_i32_32 : BitVec 32 := 512#32
  let v95 : BitVec 32 := Scalar.muli arg7 c512_i32_32
  v95
def k0_off2 (i : grid0.Coords) (k0_t1 : Fin (k0_t1_loop i).trips) : Fin 3 → Nat :=
  let c0_33 : Index := 0#32
  let c0_i32 : BitVec 32 := 0#32
  let c1_i32_7 : BitVec 32 := 1#32
  let arg7 : BitVec 32 := Scf.iv c0_i32 c1_i32_7 k0_t1
  let c512_i32_32 : BitVec 32 := 512#32
  let v95 : BitVec 32 := Scalar.muli arg7 c512_i32_32
  let v96 : BitVec 32 := v95
  let v97 : Index := Scalar.indexCast v96
  let c0_34 : Index := 0#32
  ![0, v97.toNat, 0]
def k0_mult3 (i : grid0.Coords) (k0_t1 : Fin (k0_t1_loop i).trips) : BitVec 32 :=
  let c0_i32 : BitVec 32 := 0#32
  let c1_i32_7 : BitVec 32 := 1#32
  let arg7 : BitVec 32 := Scf.iv c0_i32 c1_i32_7 k0_t1
  let c512_i32_39 : BitVec 32 := 512#32
  let v118 : BitVec 32 := Scalar.muli arg7 c512_i32_39
  v118
def k0_off3 (i : grid0.Coords) (k0_t1 : Fin (k0_t1_loop i).trips) : Fin 3 → Nat :=
  let c0_40 : Index := 0#32
  let c0_i32 : BitVec 32 := 0#32
  let c1_i32_7 : BitVec 32 := 1#32
  let arg7 : BitVec 32 := Scf.iv c0_i32 c1_i32_7 k0_t1
  let c512_i32_39 : BitVec 32 := 512#32
  let v118 : BitVec 32 := Scalar.muli arg7 c512_i32_39
  let v119 : BitVec 32 := v118
  let v120 : Index := Scalar.indexCast v119
  let c128_41 : Index := 128#32
  ![0, v120.toNat, 128]
@[reducible] def k0_t2_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_8 : BitVec 32 := 1#32
  ⟨v14, v11, c1_i32_8⟩
def k0_mult4 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg7 : BitVec 32 := Scf.iv v14 c1_i32_8 k0_t2
  let c512_i32_29 : BitVec 32 := 512#32
  let v90 : BitVec 32 := Scalar.muli arg7 c512_i32_29
  v90
def k0_off4 (i : grid0.Coords) (k0_t2 : Fin (k0_t2_loop i).trips) : Fin 3 → Nat :=
  let c0_30 : Index := 0#32
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg7 : BitVec 32 := Scf.iv v14 c1_i32_8 k0_t2
  let c512_i32_29 : BitVec 32 := 512#32
  let v90 : BitVec 32 := Scalar.muli arg7 c512_i32_29
  let v91 : BitVec 32 := v90
  let v92 : Index := Scalar.indexCast v91
  let c0_31 : Index := 0#32
  ![0, v92.toNat, 0]
def k0_mult5 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg7 : BitVec 32 := Scf.iv v14 c1_i32_8 k0_t2
  let c512_i32_32 : BitVec 32 := 512#32
  let v95 : BitVec 32 := Scalar.muli arg7 c512_i32_32
  v95
def k0_off5 (i : grid0.Coords) (k0_t2 : Fin (k0_t2_loop i).trips) : Fin 3 → Nat :=
  let c0_33 : Index := 0#32
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg7 : BitVec 32 := Scf.iv v14 c1_i32_8 k0_t2
  let c512_i32_32 : BitVec 32 := 512#32
  let v95 : BitVec 32 := Scalar.muli arg7 c512_i32_32
  let v96 : BitVec 32 := v95
  let v97 : Index := Scalar.indexCast v96
  let c0_34 : Index := 0#32
  ![0, v97.toNat, 0]
def k0_mult6 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg7 : BitVec 32 := Scf.iv v14 c1_i32_8 k0_t2
  let c512_i32_39 : BitVec 32 := 512#32
  let v118 : BitVec 32 := Scalar.muli arg7 c512_i32_39
  v118
def k0_off6 (i : grid0.Coords) (k0_t2 : Fin (k0_t2_loop i).trips) : Fin 3 → Nat :=
  let c0_40 : Index := 0#32
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg7 : BitVec 32 := Scf.iv v14 c1_i32_8 k0_t2
  let c512_i32_39 : BitVec 32 := 512#32
  let v118 : BitVec 32 := Scalar.muli arg7 c512_i32_39
  let v119 : BitVec 32 := v118
  let v120 : Index := Scalar.indexCast v119
  let c128_41 : Index := 128#32
  ![0, v120.toNat, 128]
def k0_mult7 (i : grid0.Coords) : BitVec 32 :=
  let arg2 : BitVec 32 := BitVec.ofNat 32 (i 2).val
  let c512_i32 : BitVec 32 := 512#32
  let v17 : BitVec 32 := Scalar.muli arg2 c512_i32
  v17
def k0_off7 (i : grid0.Coords) : Fin 3 → Nat :=
  let c0_9 : Index := 0#32
  let arg2 : BitVec 32 := BitVec.ofNat 32 (i 2).val
  let c512_i32 : BitVec 32 := 512#32
  let v17 : BitVec 32 := Scalar.muli arg2 c512_i32
  let v18 : BitVec 32 := v17
  let v19 : Index := Scalar.indexCast v18
  let c0_10 : Index := 0#32
  ![0, v19.toNat, 0]
def k0_mult8 (i : grid0.Coords) : BitVec 32 :=
  let arg2 : BitVec 32 := BitVec.ofNat 32 (i 2).val
  let c512_i32_11 : BitVec 32 := 512#32
  let v22 : BitVec 32 := Scalar.muli arg2 c512_i32_11
  v22
def k0_off8 (i : grid0.Coords) : Fin 3 → Nat :=
  let c0_12 : Index := 0#32
  let arg2 : BitVec 32 := BitVec.ofNat 32 (i 2).val
  let c512_i32_11 : BitVec 32 := 512#32
  let v22 : BitVec 32 := Scalar.muli arg2 c512_i32_11
  let v23 : BitVec 32 := v22
  let v24 : Index := Scalar.indexCast v23
  let c0_13 : Index := 0#32
  ![0, v24.toNat, 0]
def k0_mult9 (i : grid0.Coords) : BitVec 32 :=
  let arg2 : BitVec 32 := BitVec.ofNat 32 (i 2).val
  let c512_i32_19 : BitVec 32 := 512#32
  let v50 : BitVec 32 := Scalar.muli arg2 c512_i32_19
  v50
def k0_off9 (i : grid0.Coords) : Fin 3 → Nat :=
  let c0_20 : Index := 0#32
  let arg2 : BitVec 32 := BitVec.ofNat 32 (i 2).val
  let c512_i32_19 : BitVec 32 := 512#32
  let v50 : BitVec 32 := Scalar.muli arg2 c512_i32_19
  let v51 : BitVec 32 := v50
  let v52 : Index := Scalar.indexCast v51
  let c128 : Index := 128#32
  ![0, v52.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== LatentRefIdeal.lean ====
abbrev S8x4096x1024 : Shape := ⟨3, ![8, 4096, 1024]⟩
abbrev S8x4096x512 : Shape := ⟨3, ![8, 4096, 512]⟩
abbrev S8x4096x8x128 : Shape := ⟨4, ![8, 4096, 8, 128]⟩
abbrev S8x8x4096x128 : Shape := ⟨4, ![8, 8, 4096, 128]⟩
abbrev S8x4096x8x64 : Shape := ⟨4, ![8, 4096, 8, 64]⟩
abbrev S8x8x4096x64 : Shape := ⟨4, ![8, 8, 4096, 64]⟩
abbrev S8x8x4096x4096 : Shape := ⟨4, ![8, 8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x8x4096 : Shape := ⟨3, ![8, 8, 4096]⟩
abbrev S8x8x4096x1 : Shape := ⟨4, ![8, 8, 4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x512, .bf16⟩
  | .hbm, ⟨3, _⟩ => ⟨S8x4096x1024, .f32⟩
  | .hbm, ⟨4, _⟩ => ⟨S8x4096x8x128, .f32⟩
  | .hbm, ⟨5, _⟩ => ⟨S8x8x4096x128, .f32⟩
  | .hbm, ⟨6, _⟩ => ⟨S8x4096x1024, .f32⟩
  | .hbm, ⟨7, _⟩ => ⟨S8x4096x8x128, .f32⟩
  | .hbm, ⟨8, _⟩ => ⟨S8x8x4096x128, .f32⟩
  | .hbm, ⟨9, _⟩ => ⟨S8x4096x512, .f32⟩
  | .hbm, ⟨10, _⟩ => ⟨S8x4096x8x64, .f32⟩
  | .hbm, ⟨11, _⟩ => ⟨S8x8x4096x64, .f32⟩
  | .hbm, ⟨12, _⟩ => ⟨S8x8x4096x4096, .f32⟩
  | .hbm, ⟨13, _⟩ => ⟨S4096, .i32⟩
  | .hbm, ⟨14, _⟩ => ⟨S4096x1, .i32⟩
  | .hbm, ⟨15, _⟩ => ⟨S4096, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S8x8x4096x4096, .i1⟩
  | .hbm, ⟨23, _⟩ => ⟨S8x8x4096x4096, .f32⟩
  | .hbm, ⟨24, _⟩ => ⟨S8x8x4096x4096, .f32⟩
  | .hbm, ⟨25, _⟩ => ⟨S_, .f32⟩
  | .hbm, ⟨26, _⟩ => ⟨S8x8x4096, .f32⟩
  | .hbm, ⟨27, _⟩ => ⟨S_, .f32⟩
  | .hbm, ⟨28, _⟩ => ⟨S8x8x4096, .f32⟩
  | .hbm, ⟨29, _⟩ => ⟨S8x8x4096, .f32⟩
  | .hbm, ⟨30, _⟩ => ⟨S8x8x4096x1, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S_, .f32⟩
  | .hbm, ⟨35, _⟩ => ⟨S8x8x4096, .f32⟩
  | .hbm, ⟨36, _⟩ => ⟨S8x8x4096x1, .f32⟩
  | .hbm, ⟨37, _⟩ => ⟨S8x8x4096x4096, .f32⟩
  | .hbm, ⟨38, _⟩ => ⟨S8x8x4096x4096, .f32⟩
  | .hbm, ⟨39, _⟩ => ⟨S8x8x4096x64, .f32⟩
  | .hbm, ⟨40, _⟩ => ⟨S8x4096x8x64, .f32⟩
  | .hbm, ⟨41, _⟩ => ⟨S8x4096x512, .f32⟩
  | .hbm, ⟨42, _⟩ => ⟨S8x4096x512, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Experts.lean ====
abbrev S229376x1024 : Shape := ⟨2, ![229376, 1024]⟩
abbrev S448 : Shape := ⟨1, ![448]⟩
abbrev S64x1024x256 : Shape := ⟨3, ![64, 1024, 256]⟩
abbrev S64x256x1024 : Shape := ⟨3, ![64, 256, 1024]⟩
abbrev S512x1024 : Shape := ⟨2, ![512, 1024]⟩
abbrev S1x1024x256 : Shape := ⟨3, ![1, 1024, 256]⟩
abbrev S1 : Shape := ⟨1, ![1]⟩
abbrev S1x256x1024 : Shape := ⟨3, ![1, 256, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 8
  | .vmem => 10
  | .smem => 2
  | _ => 0

abbrev bufTy : (tb : Table) → Fin (tcTables nBuf tb) → BufTy
  | .hbm, ⟨0, _⟩ => ⟨S229376x1024, .bf16⟩
  | .hbm, ⟨1, _⟩ => ⟨S64x1024x256, .f32⟩
  | .hbm, ⟨2, _⟩ => ⟨S64x1024x256, .f32⟩
  | .hbm, ⟨3, _⟩ => ⟨S64x256x1024, .f32⟩
  | .hbm, ⟨4, _⟩ => ⟨S64x1024x256, .bf16⟩
  | .hbm, ⟨5, _⟩ => ⟨S64x1024x256, .bf16⟩
  | .hbm, ⟨6, _⟩ => ⟨S64x256x1024, .bf16⟩
  | .hbm, ⟨7, _⟩ => ⟨S229376x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S512x1024, .f32⟩
  | .local _ .vmem, ⟨9, _⟩ => ⟨S512x1024, .f32⟩
  | .local _ .smem, ⟨0, _⟩ => ⟨S448, .i32⟩
  | .local _ .smem, ⟨1, _⟩ => ⟨S448, .i32⟩
  | _, _ => ⟨S229376x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![448], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32 : BitVec 32 := 0#32
  let v2 : BitVec 1 := Scalar.cmpi .sgt v1 c0_i32
  let v_true : BitVec 1 := 1#1
  let v5 : BitVec 1 := Scalar.xori v2 v_true
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S229376x1024 : Shape := ⟨2, ![229376, 1024]⟩
abbrev S448 : Shape := ⟨1, ![448]⟩
abbrev S64x1024x256 : Shape := ⟨3, ![64, 1024, 256]⟩
abbrev S64x256x1024 : Shape := ⟨3, ![64, 256, 1024]⟩
abbrev S448x1 : Shape := ⟨2, ![448, 1]⟩
abbrev S1x64 : Shape := ⟨2, ![1, 64]⟩
abbrev S448x64 : Shape := ⟨2, ![448, 64]⟩
abbrev S_ : Shape := ⟨0, ![]⟩
abbrev S448x512x64 : Shape := ⟨3, ![448, 512, 64]⟩
abbrev S229376x64 : Shape := ⟨2, ![229376, 64]⟩
abbrev S229376x64x256 : Shape := ⟨3, ![229376, 64, 256]⟩
abbrev S64x1024x229376 : Shape := ⟨3, ![64, 1024, 229376]⟩
abbrev S229376x64x1024 : Shape := ⟨3, ![229376, 64, 1024]⟩
abbrev S229376x64x1 : Shape := ⟨3, ![229376, 64, 1]⟩

abbrev nBuf : Space → Nat
  | .hbm => 41
  | .vmem => 0
  | .smem => 0
  | _ => 0

abbrev bufTy : (tb : Table) → Fin (tcTables nBuf tb) → BufTy
  | .hbm, ⟨0, _⟩ => ⟨S229376x1024, .bf16⟩
  | .hbm, ⟨1, _⟩ => ⟨S448, .i32⟩
  | .hbm, ⟨2, _⟩ => ⟨S448, .i32⟩
  | .hbm, ⟨3, _⟩ => ⟨S64x1024x256, .f32⟩
  | .hbm, ⟨4, _⟩ => ⟨S64x1024x256, .f32⟩
  | .hbm, ⟨5, _⟩ => ⟨S64x256x1024, .f32⟩
  | .hbm, ⟨6, _⟩ => ⟨S229376x1024, .f32⟩
  | .hbm, ⟨7, _⟩ => ⟨S448x1, .i32⟩
  | .hbm, ⟨8, _⟩ => ⟨S1x64, .i32⟩
  | .hbm, ⟨9, _⟩ => ⟨S448x64, .i32⟩
  | .hbm, ⟨10, _⟩ => ⟨S448x64, .i32⟩
  | .hbm, ⟨11, _⟩ => ⟨S448x64, .i1⟩
  | .hbm, ⟨12, _⟩ => ⟨S448x64, .f32⟩
  | .hbm, ⟨13, _⟩ => ⟨S_, .i32⟩
  | .hbm, ⟨14, _⟩ => ⟨S448, .i32⟩
  | .hbm, ⟨15, _⟩ => ⟨S448, .i1⟩
  | .hbm, ⟨16, _⟩ => ⟨S448, .f32⟩
  | .hbm, ⟨17, _⟩ => ⟨S448x1, .f32⟩
  | .hbm, ⟨18, _⟩ => ⟨S448x64, .f32⟩
  | .hbm, ⟨19, _⟩ => ⟨S448x64, .f32⟩
  | .hbm, ⟨20, _⟩ => ⟨S448x512x64, .f32⟩
  | .hbm, ⟨21, _⟩ => ⟨S229376x64, .f32⟩
  | .hbm, ⟨22, _⟩ => ⟨S229376x64x256, .f32⟩
  | .hbm, ⟨23, _⟩ => ⟨S229376x64x256, .f32⟩
  | .hbm, ⟨24, _⟩ => ⟨S229376x64x256, .f32⟩
  | .hbm, ⟨25, _⟩ => ⟨S_, .f32⟩
  | .hbm, ⟨26, _⟩ => ⟨S229376x64x256, .f32⟩
  | .hbm, ⟨27, _⟩ => ⟨S229376x64x256, .f32⟩
  | .hbm, ⟨28, _⟩ => ⟨S_, .f32⟩
  | .hbm, ⟨29, _⟩ => ⟨S229376x64x256, .f32⟩
  | .hbm, ⟨30, _⟩ => ⟨S229376x64x256, .f32⟩
  | .hbm, ⟨31, _⟩ => ⟨S229376x64x256, .f32⟩
  | .hbm, ⟨32, _⟩ => ⟨S229376x64x256, .f32⟩
  | .hbm, ⟨33, _⟩ => ⟨S229376x64x256, .f32⟩
  | .hbm, ⟨34, _⟩ => ⟨S64x1024x229376, .f32⟩
  | .hbm, ⟨35, _⟩ => ⟨S229376x64x1024, .f32⟩
  | .hbm, ⟨36, _⟩ => ⟨S229376x64x1, .f32⟩
  | .hbm, ⟨37, _⟩ => ⟨S229376x64x1024, .f32⟩
  | .hbm, ⟨38, _⟩ => ⟨S229376x64x1024, .f32⟩
  | .hbm, ⟨39, _⟩ => ⟨S_, .f32⟩
  | .hbm, ⟨40, _⟩ => ⟨S229376x1024, .f32⟩
  | _, _ => ⟨S229376x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩

abbrev nD : Nat := 1
abbrev τ : Topo := Topo.v7x

variable {F : FTy → Type} [FloatOps F]
-- ==== MoeOut.lean ====
abbrev S32768x1024 : Shape := ⟨2, ![32768, 1024]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x256, .f32⟩
  | .hbm, ⟨3, _⟩ => ⟨S1024x256, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S1024x256, .bf16⟩
  | .hbm, ⟨8, _⟩ => ⟨S1024x256, .bf16⟩
  | .hbm, ⟨9, _⟩ => ⟨S256x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MoeOutRefIdeal.lean ====
abbrev S32768x1024 : Shape := ⟨2, ![32768, 1024]⟩
abbrev S1024x256 : Shape := ⟨2, ![1024, 256]⟩
abbrev S256x1024 : Shape := ⟨2, ![256, 1024]⟩
abbrev S1024 : Shape := ⟨1, ![1024]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x256, .f32⟩
  | .hbm, ⟨3, _⟩ => ⟨S1024x256, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S_, .f32⟩
  | .hbm, ⟨11, _⟩ => ⟨S32768x256, .f32⟩
  | .hbm, ⟨12, _⟩ => ⟨S32768x256, .f32⟩
  | .hbm, ⟨13, _⟩ => ⟨S_, .f32⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Front.lean ====
abbrev S8x4096x1024 : Shape := ⟨3, ![8, 4096, 1024]⟩
abbrev S1024x3088 : Shape := ⟨2, ![1024, 3088]⟩
abbrev S3088 : Shape := ⟨1, ![3088]⟩
abbrev S1024x3072 : Shape := ⟨2, ![1024, 3072]⟩
abbrev S3072 : Shape := ⟨1, ![3072]⟩
abbrev S1x3072 : Shape := ⟨2, ![1, 3072]⟩
abbrev S1024x16 : Shape := ⟨2, ![1024, 16]⟩
abbrev S16x1024 : Shape := ⟨2, ![16, 1024]⟩
abbrev S16 : Shape := ⟨1, ![16]⟩
abbrev S16x1 : Shape := ⟨2, ![16, 1]⟩
abbrev S8x16x4096 : Shape := ⟨3, ![8, 16, 4096]⟩
abbrev S1x512x1024 : Shape := ⟨3, ![1, 512, 1024]⟩
abbrev S1x16x512 : Shape := ⟨3, ![1, 16, 512]⟩
abbrev S512x1024 : Shape := ⟨2, ![512, 1024]⟩
abbrev S1024x1024 : Shape := ⟨2, ![1024, 1024]⟩
abbrev S1x1024 : Shape := ⟨2, ![1, 1024]⟩
abbrev S16x512 : Shape := ⟨2, ![16, 512]⟩
abbrev S512x512 : Shape := ⟨2, ![512, 512]⟩

abbrev nBuf : Space → Nat
  | .hbm => 16
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S1024x3088, .f32⟩
  | .hbm, ⟨2, _⟩ => ⟨S3088, .f32⟩
  | .hbm, ⟨3, _⟩ => ⟨S1024x3072, .f32⟩
  | .hbm, ⟨4, _⟩ => ⟨S1024x3072, .bf16⟩
  | .hbm, ⟨5, _⟩ => ⟨S3072, .f32⟩
  | .hbm, ⟨6, _⟩ => ⟨S1x3072, .f32⟩
  | .hbm, ⟨7, _⟩ => ⟨S1024x16, .f32⟩
  | .hbm, ⟨8, _⟩ => ⟨S16x1024, .f32⟩
  | .hbm, ⟨9, _⟩ => ⟨S16x1024, .bf16⟩
  | .hbm, ⟨10, _⟩ => ⟨S16, .f32⟩
  | .hbm, ⟨11, _⟩ => ⟨S16x1, .f32⟩
  | .hbm, ⟨12, _⟩ => ⟨S8x4096x1024, .bf16⟩
  | .hbm, ⟨13, _⟩ => ⟨S8x4096x1024, .bf16⟩
  | .hbm, ⟨14, _⟩ => ⟨S8x4096x1024, .bf16⟩
  | .hbm, ⟨15, _⟩ => ⟨S8x16x4096, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x3072, .f32⟩
  | .local _ .vmem, ⟨4, _⟩ => ⟨S16x1024, .bf16⟩
  | .local _ .vmem, ⟨5, _⟩ => ⟨S16x1, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x16x512, .f32⟩
  | .local _ .vmem, ⟨13, _⟩ => ⟨S1x16x512, .f32⟩
  | .local _ .vmem, ⟨14, _⟩ => ⟨S16x1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FrontRefIdeal.lean ====
abbrev S8x4096x1024 : Shape := ⟨3, ![8, 4096, 1024]⟩
abbrev S1024x3088 : Shape := ⟨2, ![1024, 3088]⟩
abbrev S3088 : Shape := ⟨1, ![3088]⟩
abbrev S8x4096x3088 : Shape := ⟨3, ![8, 4096, 3088]⟩
abbrev S1x1x3088 : Shape := ⟨3, ![1, 1, 3088]⟩
abbrev S_ : Shape := ⟨0, ![]⟩
abbrev S8x4096x16 : Shape := ⟨3, ![8, 4096, 16]⟩
abbrev S8x16x4096 : Shape := ⟨3, ![8, 16, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x3088, .f32⟩
  | .hbm, ⟨2, _⟩ => ⟨S3088, .f32⟩
  | .hbm, ⟨3, _⟩ => ⟨S8x4096x3088, .f32⟩
  | .hbm, ⟨4, _⟩ => ⟨S1x1x3088, .f32⟩
  | .hbm, ⟨5, _⟩ => ⟨S8x4096x3088, .f32⟩
  | .hbm, ⟨6, _⟩ => ⟨S8x4096x3088, .f32⟩
  | .hbm, ⟨7, _⟩ => ⟨S8x4096x1024, .f32⟩
  | .hbm, ⟨8, _⟩ => ⟨S_, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S8x4096x16, .f32⟩
  | .hbm, ⟨14, _⟩ => ⟨S8x4096x16, .f32⟩
  | .hbm, ⟨15, _⟩ => ⟨S_, .f32⟩
  | .hbm, ⟨16, _⟩ => ⟨S8x4096x16, .f32⟩
  | .hbm, ⟨17, _⟩ => ⟨S8x4096x16, .f32⟩
  | .hbm, ⟨18, _⟩ => ⟨S8x4096x16, .f32⟩
  | .hbm, ⟨19, _⟩ => ⟨S8x4096x16, .f32⟩
  | .hbm, ⟨20, _⟩ => ⟨S8x4096x16, .i1⟩
  | .hbm, ⟨21, _⟩ => ⟨S8x4096x16, .f32⟩
  | .hbm, ⟨22, _⟩ => ⟨S8x4096x16, .f32⟩
  | .hbm, ⟨23, _⟩ => ⟨S8x4096x16, .f32⟩
  | .hbm, ⟨24, _⟩ => ⟨S8x4096x16, .f32⟩
  | .hbm, ⟨25, _⟩ => ⟨S8x4096x16, .f32⟩
  | .hbm, ⟨26, _⟩ => ⟨S8x4096x16, .f32⟩
  | .hbm, ⟨27, _⟩ => ⟨S8x4096x16, .f32⟩
  | .hbm, ⟨28, _⟩ => ⟨S8x4096x16, .f32⟩
  | .hbm, ⟨29, _⟩ => ⟨S8x4096x16, .f32⟩
  | .hbm, ⟨30, _⟩ => ⟨S_, .f32⟩
  | .hbm, ⟨31, _⟩ => ⟨S_, .f32⟩
  | .hbm, ⟨32, _⟩ => ⟨S8x4096x16, .f32⟩
  | .hbm, ⟨33, _⟩ => ⟨S8x16x4096, .f32⟩
  | .hbm, ⟨34, _⟩ => ⟨S8x4096x1024, .bf16⟩
  | .hbm, ⟨35, _⟩ => ⟨S8x4096x1024, .bf16⟩
  | .hbm, ⟨36, _⟩ => ⟨S8x4096x1024, .bf16⟩
  | .hbm, ⟨37, _⟩ => ⟨S8x16x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_call1_call0_cst : Ref sig .tc := ⟨.hbm, 30, rfl⟩
abbrev main_call1_call0_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Mix.lean ====
abbrev S32768x1024 : Shape := ⟨2, ![32768, 1024]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S1x1024 : Shape := ⟨2, ![1, 1024]⟩
abbrev S64x1024 : Shape := ⟨2, ![64, 1024]⟩
abbrev S64x1 : Shape := ⟨2, ![64, 1]⟩
abbrev S8x32768 : Shape := ⟨2, ![8, 32768]⟩
abbrev S64x128 : Shape := ⟨2, ![64, 128]⟩
abbrev S512x512 : Shape := ⟨2, ![512, 512]⟩
abbrev S512x1024 : Shape := ⟨2, ![512, 1024]⟩
abbrev S8x512 : Shape := ⟨2, ![8, 512]⟩
abbrev S512 : Shape := ⟨1, ![512]⟩
abbrev S512x1 : Shape := ⟨2, ![512, 1]⟩
abbrev S64x512 : Shape := ⟨2, ![64, 512]⟩
abbrev S1x512 : Shape := ⟨2, ![1, 512]⟩
abbrev S2x512 : Shape := ⟨2, ![2, 512]⟩

abbrev nBuf : Space → Nat
  | .hbm => 20
  | .vmem => 25
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x64, .f32⟩
  | .hbm, ⟨7, _⟩ => ⟨S64, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S64x1024, .f32⟩
  | .hbm, ⟨13, _⟩ => ⟨S64x1, .f32⟩
  | .hbm, ⟨14, _⟩ => ⟨S32768x1024, .f32⟩
  | .hbm, ⟨15, _⟩ => ⟨S32768x1024, .bf16⟩
  | .hbm, ⟨16, _⟩ => ⟨S8x32768, .i32⟩
  | .hbm, ⟨17, _⟩ => ⟨S8x32768, .f32⟩
  | .hbm, ⟨18, _⟩ => ⟨S8x32768, .i32⟩
  | .hbm, ⟨19, _⟩ => ⟨S64x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S64x1024, .f32⟩
  | .local _ .vmem, ⟨12, _⟩ => ⟨S64x1, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x512, .i32⟩
  | .local _ .vmem, ⟨18, _⟩ => ⟨S8x512, .i32⟩
  | .local _ .vmem, ⟨19, _⟩ => ⟨S8x512, .f32⟩
  | .local _ .vmem, ⟨20, _⟩ => ⟨S8x512, .f32⟩
  | .local _ .vmem, ⟨21, _⟩ => ⟨S8x512, .i32⟩
  | .local _ .vmem, ⟨22, _⟩ => ⟨S8x512, .i32⟩
  | .local _ .vmem, ⟨23, _⟩ => ⟨S64x128, .f32⟩
  | .local _ .vmem, ⟨24, _⟩ => ⟨S64x1, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MixRefIdeal.lean ====
abbrev S32768x1024 : Shape := ⟨2, ![32768, 1024]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S_ : Shape := ⟨0, ![]⟩
abbrev S1x1024 : Shape := ⟨2, ![1, 1024]⟩
abbrev S32768 : Shape := ⟨1, ![32768]⟩
abbrev S32768x1 : Shape := ⟨2, ![32768, 1]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x64, .f32⟩
  | .hbm, ⟨7, _⟩ => ⟨S64, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S1x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== MixTwo.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S1x1024 : Shape := ⟨2, ![1, 1024]⟩
abbrev S64x1024 : Shape := ⟨2, ![64, 1024]⟩
abbrev S64x1 : Shape := ⟨2, ![64, 1]⟩
abbrev S8x32768 : Shape := ⟨2, ![8, 32768]⟩
abbrev S64x128 : Shape := ⟨2, ![64, 128]⟩
abbrev S512x512 : Shape := ⟨2, ![512, 512]⟩
abbrev S512x1024 : Shape := ⟨2, ![512, 1024]⟩
abbrev S8x512 : Shape := ⟨2, ![8, 512]⟩
abbrev S512 : Shape := ⟨1, ![512]⟩
abbrev S512x1 : Shape := ⟨2, ![512, 1]⟩
abbrev S64x512 : Shape := ⟨2, ![64, 512]⟩
abbrev S1x512 : Shape := ⟨2, ![1, 512]⟩
abbrev S2x512 : Shape := ⟨2, ![2, 512]⟩

abbrev nBuf : Space → Nat
  | .hbm => 21
  | .vmem => 25
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x64, .f32⟩
  | .hbm, ⟨8, _⟩ => ⟨S64, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S64x1024, .f32⟩
  | .hbm, ⟨14, _⟩ => ⟨S64x1, .f32⟩
  | .hbm, ⟨15, _⟩ => ⟨S32768x1024, .f32⟩
  | .hbm, ⟨16, _⟩ => ⟨S32768x1024, .bf16⟩
  | .hbm, ⟨17, _⟩ => ⟨S8x32768, .i32⟩
  | .hbm, ⟨18, _⟩ => ⟨S8x32768, .f32⟩
  | .hbm, ⟨19, _⟩ => ⟨S8x32768, .i32⟩
  | .hbm, ⟨20, _⟩ => ⟨S64x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S64x1024, .f32⟩
  | .local _ .vmem, ⟨12, _⟩ => ⟨S64x1, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x512, .i32⟩
  | .local _ .vmem, ⟨18, _⟩ => ⟨S8x512, .i32⟩
  | .local _ .vmem, ⟨19, _⟩ => ⟨S8x512, .f32⟩
  | .local _ .vmem, ⟨20, _⟩ => ⟨S8x512, .f32⟩
  | .local _ .vmem, ⟨21, _⟩ => ⟨S8x512, .i32⟩
  | .local _ .vmem, ⟨22, _⟩ => ⟨S8x512, .i32⟩
  | .local _ .vmem, ⟨23, _⟩ => ⟨S64x128, .f32⟩
  | .local _ .vmem, ⟨24, _⟩ => ⟨S64x1, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MixTwoRefIdeal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S_ : Shape := ⟨0, ![]⟩
abbrev S1x1024 : Shape := ⟨2, ![1, 1024]⟩
abbrev S32768 : Shape := ⟨1, ![32768]⟩
abbrev S32768x1 : Shape := ⟨2, ![32768, 1]⟩

abbrev nBuf : Space → Nat
  | .hbm => 49
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x64, .f32⟩
  | .hbm, ⟨8, _⟩ => ⟨S64, .f32⟩
  | .hbm, ⟨9, _⟩ => ⟨S32768x1024, .bf16⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Input.lean ====
abbrev S8x4096x1024 : Shape := ⟨3, ![8, 4096, 1024]⟩
abbrev S8x4096 : Shape := ⟨2, ![8, 4096]⟩
abbrev S1024x1440 : Shape := ⟨2, ![1024, 1440]⟩
abbrev S1440 : Shape := ⟨1, ![1440]⟩
abbrev S31x512 : Shape := ⟨2, ![31, 512]⟩
abbrev S512 : Shape := ⟨1, ![512]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S_ : Shape := ⟨0, ![]⟩
abbrev S1024x64 : Shape := ⟨2, ![1024, 64]⟩
abbrev S1024x32 : Shape := ⟨2, ![1024, 32]⟩
abbrev S1024x1408 : Shape := ⟨2, ![1024, 1408]⟩
abbrev S1024x16 : Shape := ⟨2, ![1024, 16]⟩
abbrev S1024x1664 : Shape := ⟨2, ![1024, 1664]⟩
abbrev S32 : Shape := ⟨1, ![32]⟩
abbrev S64 : Shape := ⟨1, ![64]⟩
abbrev S1408 : Shape := ⟨1, ![1408]⟩
abbrev S16 : Shape := ⟨1, ![16]⟩
abbrev S1664 : Shape := ⟨1, ![1664]⟩
abbrev S1x1664 : Shape := ⟨2, ![1, 1664]⟩
abbrev S256x8x96 : Shape := ⟨3, ![256, 8, 96]⟩
abbrev S256x8x32 : Shape := ⟨3, ![256, 8, 32]⟩
abbrev S256x8x128 : Shape := ⟨3, ![256, 8, 128]⟩
abbrev S256x1024 : Shape := ⟨2, ![256, 1024]⟩
abbrev S256x8x64 : Shape := ⟨3, ![256, 8, 64]⟩
abbrev S256x8x16 : Shape := ⟨3, ![256, 8, 16]⟩
abbrev S128x8x128 : Shape := ⟨3, ![128, 8, 128]⟩
abbrev S128x8x64 : Shape := ⟨3, ![128, 8, 64]⟩
abbrev S128x512 : Shape := ⟨2, ![128, 512]⟩
abbrev S1x128 : Shape := ⟨2, ![1, 128]⟩
abbrev S8x4096x1 : Shape := ⟨3, ![8, 4096, 1]⟩
abbrev S1x512 : Shape := ⟨2, ![1, 512]⟩
abbrev S1x256 : Shape := ⟨2, ![1, 256]⟩
abbrev S8x4096x512 : Shape := ⟨3, ![8, 4096, 512]⟩
abbrev S1x512x1024 : Shape := ⟨3, ![1, 512, 1024]⟩
abbrev S1x512x1 : Shape := ⟨3, ![1, 512, 1]⟩
abbrev S1x512x512 : Shape := ⟨3, ![1, 512, 512]⟩
abbrev S544x512 : Shape := ⟨2, ![544, 512]⟩
abbrev S32x512 : Shape := ⟨2, ![32, 512]⟩
abbrev S512x1024 : Shape := ⟨2, ![512, 1024]⟩
abbrev S512x1664 : Shape := ⟨2, ![512, 1664]⟩
abbrev S512x512 : Shape := ⟨2, ![512, 512]⟩
abbrev S64x512 : Shape := ⟨2, ![64, 512]⟩
abbrev S32x1 : Shape := ⟨2, ![32, 1]⟩
abbrev S1x32x512 : Shape := ⟨3, ![1, 32, 512]⟩
abbrev S512x1 : Shape := ⟨2, ![512, 1]⟩
abbrev S512x128 : Shape := ⟨2, ![512, 128]⟩
abbrev S512x256 : Shape := ⟨2, ![512, 256]⟩
abbrev S1x512x128 : Shape := ⟨3, ![1, 512, 128]⟩

abbrev nBuf : Space → Nat
  | .hbm => 94
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024x1440, .f32⟩
  | .hbm, ⟨3, _⟩ => ⟨S1440, .f32⟩
  | .hbm, ⟨4, _⟩ => ⟨S31x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S256, .f32⟩
  | .hbm, ⟨9, _⟩ => ⟨S256x768, .f32⟩
  | .hbm, ⟨10, _⟩ => ⟨S128, .f32⟩
  | .hbm, ⟨11, _⟩ => ⟨S128x1024, .f32⟩
  | .hbm, ⟨12, _⟩ => ⟨S_, .f32⟩
  | .hbm, ⟨13, _⟩ => ⟨S1024x64, .f32⟩
  | .hbm, ⟨14, _⟩ => ⟨S_, .f32⟩
  | .hbm, ⟨15, _⟩ => ⟨S1024x32, .f32⟩
  | .hbm, ⟨16, _⟩ => ⟨S1024x32, .f32⟩
  | .hbm, ⟨17, _⟩ => ⟨S1024x1408, .f32⟩
  | .hbm, ⟨18, _⟩ => ⟨S1024x16, .f32⟩
  | .hbm, ⟨19, _⟩ => ⟨S1024x16, .f32⟩
  | .hbm, ⟨20, _⟩ => ⟨S1024x16, .f32⟩
  | .hbm, ⟨21, _⟩ => ⟨S1024x32, .f32⟩
  | .hbm, ⟨22, _⟩ => ⟨S1024x1664, .f32⟩
  | .hbm, ⟨23, _⟩ => ⟨S1024x1664, .bf16⟩
  | .hbm, ⟨24, _⟩ => ⟨S32, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S32, .f32⟩
  | .hbm, ⟨29, _⟩ => ⟨S1408, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S32, .f32⟩
  | .hbm, ⟨34, _⟩ => ⟨S1664, .f32⟩
  | .hbm, ⟨35, _⟩ => ⟨S1x1664, .f32⟩
  | .hbm, ⟨36, _⟩ => ⟨S256x8x96, .f32⟩
  | .hbm, ⟨37, _⟩ => ⟨S_, .f32⟩
  | .hbm, ⟨38, _⟩ => ⟨S256x8x32, .f32⟩
  | .hbm, ⟨39, _⟩ => ⟨S256x8x128, .f32⟩
  | .hbm, ⟨40, _⟩ => ⟨S256x1024, .f32⟩
  | .hbm, ⟨41, _⟩ => ⟨S_, .f32⟩
  | .hbm, ⟨42, _⟩ => ⟨S256x8x64, .f32⟩
  | .hbm, ⟨43, _⟩ => ⟨S256x8x32, .f32⟩
  | .hbm, ⟨44, _⟩ => ⟨S256x8x16, .f32⟩
  | .hbm, ⟨45, _⟩ => ⟨S256x8x16, .f32⟩
  | .hbm, ⟨46, _⟩ => ⟨S256x8x16, .f32⟩
  | .hbm, ⟨47, _⟩ => ⟨S256x8x32, .f32⟩
  | .hbm, ⟨48, _⟩ => ⟨S256x8x128, .f32⟩
  | .hbm, ⟨49, _⟩ => ⟨S256x1024, .f32⟩
  | .hbm, ⟨50, _⟩ => ⟨S128x8x128, .f32⟩
  | .hbm, ⟨51, _⟩ => ⟨S128x8x64, .f32⟩
  | .hbm, ⟨52, _⟩ => ⟨S_, .f32⟩
  | .hbm, ⟨53, _⟩ => ⟨S128x8x64, .f32⟩
  | .hbm, ⟨54, _⟩ => ⟨S128x8x128, .f32⟩
  | .hbm, ⟨55, _⟩ => ⟨S128x1024, .f32⟩
  | .hbm, ⟨56, _⟩ => ⟨S128x8x64, .f32⟩
  | .hbm, ⟨57, _⟩ => ⟨S128x512, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S64, .f32⟩
  | .hbm, ⟨76, _⟩ => ⟨S_, .f32⟩
  | .hbm, ⟨77, _⟩ => ⟨S32, .f32⟩
  | .hbm, ⟨78, _⟩ => ⟨S128, .f32⟩
  | .hbm, ⟨79, _⟩ => ⟨S1x128, .f32⟩
  | .hbm, ⟨80, _⟩ => ⟨S8x4096x1, .i32⟩
  | .hbm, ⟨81, _⟩ => ⟨S1x512, .f32⟩
  | .hbm, ⟨82, _⟩ => ⟨S1x512, .f32⟩
  | .hbm, ⟨83, _⟩ => ⟨S1x512, .f32⟩
  | .hbm, ⟨84, _⟩ => ⟨S1x256, .f32⟩
  | .hbm, ⟨85, _⟩ => ⟨S256x1024, .bf16⟩
  | .hbm, ⟨86, _⟩ => ⟨S256x1024, .bf16⟩
  | .hbm, ⟨87, _⟩ => ⟨S1x128, .f32⟩
  | .hbm, ⟨88, _⟩ => ⟨S128x1024, .bf16⟩
  | .hbm, ⟨89, _⟩ => ⟨S128x512, .bf16⟩
  | .hbm, ⟨90, _⟩ => ⟨S8x4096x512, .bf16⟩
  | .hbm, ⟨91, _⟩ => ⟨S8x4096x1024, .bf16⟩
  | .hbm, ⟨92, _⟩ => ⟨S8x4096x1024, .bf16⟩
  | .hbm, ⟨93, _⟩ => ⟨S8x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1, .i32⟩
  | .local _ .vmem, ⟨3, _⟩ => ⟨S1x512x1, .i32⟩
  | .local _ .vmem, ⟨4, _⟩ => ⟨S1024x1664, .bf16⟩
  | .local _ .vmem, ⟨5, _⟩ => ⟨S1x1664, .f32⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x256, .f32⟩
  | .local _ .vmem, ⟨11, _⟩ => ⟨S256x1024, .bf16⟩
  | .local _ .vmem, ⟨12, _⟩ => ⟨S256x1024, .bf16⟩
  | .local _ .vmem, ⟨13, _⟩ => ⟨S1x128, .f32⟩
  | .local _ .vmem, ⟨14, _⟩ => ⟨S128x1024, .bf16⟩
  | .local _ .vmem, ⟨15, _⟩ => ⟨S128x512, .bf16⟩
  | .local _ .vmem, ⟨16, _⟩ => ⟨S1x128, .f32⟩
  | .local _ .vmem, ⟨17, _⟩ => ⟨S1x512x512, .bf16⟩
  | .local _ .vmem, ⟨18, _⟩ => ⟨S1x512x512, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x512, .bf16⟩
  | .local _ .vmem, ⟨24, _⟩ => ⟨S1x512x512, .bf16⟩
  | .local _ .vmem, ⟨25, _⟩ => ⟨S544x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64_0 : Ref sig .tc := ⟨.hbm, 90, rfl⟩
abbrev main_v64_1 : Ref sig .tc := ⟨.hbm, 91, rfl⟩
abbrev main_v64_2 : Ref sig .tc := ⟨.hbm, 92, rfl⟩
abbrev main_v64_3 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_8 : BitVec 32 := 0#32
  let c16_i32 : BitVec 32 := 16#32
  let v20 : BitVec 32 := Scalar.addi c0_i32_8 c16_i32
  let c1_i32 : BitVec 32 := 1#32
  ⟨c0_i32_8, v20, c1_i32⟩
def k0_mult1 (k0_t1 : Fin k0_t1_loop.trips) : BitVec 32 :=
  let c0_i32_8 : BitVec 32 := 0#32
  let c1_i32 : BitVec 32 := 1#32
  let arg22 : BitVec 32 := Scf.iv c0_i32_8 c1_i32 k0_t1
  let c32_i32 : BitVec 32 := 32#32
  let v212 : BitVec 32 := Scalar.muli arg22 c32_i32
  v212
def k0_off1 (k0_t1 : Fin k0_t1_loop.trips) : Fin 2 → Nat :=
  let c0_i32_8 : BitVec 32 := 0#32
  let c1_i32 : BitVec 32 := 1#32
  let arg22 : BitVec 32 := Scf.iv c0_i32_8 c1_i32 k0_t1
  let c32_i32 : BitVec 32 := 32#32
  let v212 : BitVec 32 := Scalar.muli arg22 c32_i32
  let v213 : BitVec 32 := v212
  let v214 : Index := Scalar.indexCast v213
  let c0_87 : Index := 0#32
  ![v214.toNat, 0]
def k0_off2 (k0_t1 : Fin k0_t1_loop.trips) : Fin 3 → Nat :=
  let c0_131 : Index := 0#32
  let c0_i32_8 : BitVec 32 := 0#32
  let c1_i32 : BitVec 32 := 1#32
  let arg22 : BitVec 32 := Scf.iv c0_i32_8 c1_i32 k0_t1
  let c32_i32 : BitVec 32 := 32#32
  let v212 : BitVec 32 := Scalar.muli arg22 c32_i32
  let v213 : BitVec 32 := v212
  let v402 : Index := Scalar.indexCast v213
  let c0_132 : Index := 0#32
  ![0, v402.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== InputRefIdeal.lean ====
abbrev S8x4096x1024 : Shape := ⟨3, ![8, 4096, 1024]⟩
abbrev S8x4096 : Shape := ⟨2, ![8, 4096]⟩
abbrev S1024x1440 : Shape := ⟨2, ![1024, 1440]⟩
abbrev S1440 : Shape := ⟨1, ![1440]⟩
abbrev S31x512 : Shape := ⟨2, ![31, 512]⟩
abbrev S512 : Shape := ⟨1, ![512]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S16 : Shape := ⟨1, ![16]⟩
abbrev S_ : Shape := ⟨0, ![]⟩
abbrev S8x4096x1 : Shape := ⟨3, ![8, 4096, 1]⟩
abbrev S1x1x16 : Shape := ⟨3, ![1, 1, 16]⟩
abbrev S8x4096x16 : Shape := ⟨3, ![8, 4096, 16]⟩
abbrev S8x4096x1x16 : Shape := ⟨4, ![8, 4096, 1, 16]⟩
abbrev S8x4096x1440 : Shape := ⟨3, ![8, 4096, 1440]⟩
abbrev S1x1x1440 : Shape := ⟨3, ![1, 1, 1440]⟩
abbrev S8x4096x512 : Shape := ⟨3, ![8, 4096, 512]⟩
abbrev S8x4126x512 : Shape := ⟨3, ![8, 4126, 512]⟩
abbrev S1x512 : Shape := ⟨2, ![1, 512]⟩
abbrev S1x1x512 : Shape := ⟨3, ![1, 1, 512]⟩
abbrev S8x4096x256 : Shape := ⟨3, ![8, 4096, 256]⟩
abbrev S1x1x256 : Shape := ⟨3, ![1, 1, 256]⟩
abbrev S8x4096x768 : Shape := ⟨3, ![8, 4096, 768]⟩
abbrev S8x4096x8x96 : Shape := ⟨4, ![8, 4096, 8, 96]⟩
abbrev S8x4096x8x64 : Shape := ⟨4, ![8, 4096, 8, 64]⟩
abbrev S8x4096x8x32 : Shape := ⟨4, ![8, 4096, 8, 32]⟩
abbrev S8x4096x8x16 : Shape := ⟨4, ![8, 4096, 8, 16]⟩
abbrev S8x4096x128 : Shape := ⟨3, ![8, 4096, 128]⟩
abbrev S1x1x128 : Shape := ⟨3, ![1, 1, 128]⟩
abbrev S8x4096x8x128 : Shape := ⟨4, ![8, 4096, 8, 128]⟩
abbrev S8x4096x32 : Shape := ⟨3, ![8, 4096, 32]⟩
abbrev S8x4096x1x32 : Shape := ⟨4, ![8, 4096, 1, 32]⟩

abbrev nBuf : Space → Nat
  | .hbm => 401
  | .vmem => 0
  | .smem => 0
  | _ => 0

abbrev hbmTy0_0 (i : Nat) : BufTy := match i % 128 with
  | 0 => ⟨S8x4096x1024, .f32⟩
  | 1 => ⟨S8x4096, .i32⟩
  | 2 => ⟨S1024x1440, .f32⟩
  | 3 => ⟨S1440, .f32⟩
  | 4 => ⟨S31x512, .f32⟩
  | 5 => ⟨S512, .f32⟩
  | 6 => ⟨S512, .f32⟩
  | 7 => ⟨S512, .f32⟩
  | 8 => ⟨S256, .f32⟩
  | 9 => ⟨S256x768, .f32⟩
  | 10 => ⟨S128, .f32⟩
  | 11 => ⟨S128x1024, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S8x4096, .f32⟩
  | 29 => ⟨S8x4096x1, .f32⟩
  | 30 => ⟨S1x1x16, .f32⟩
  | 31 => ⟨S8x4096x16, .f32⟩
  | 32 => ⟨S8x4096x16, .f32⟩
  | 33 => ⟨S8x4096x16, .f32⟩
  | 34 => ⟨S8x4096x16, .f32⟩
  | 35 => ⟨S8x4096x1x16, .f32⟩
  | 36 => ⟨S8x4096x16, .f32⟩
  | 37 => ⟨S8x4096x1x16, .f32⟩
  | 38 => ⟨S8x4096x1440, .f32⟩
  | 39 => ⟨S1x1x1440, .f32⟩
  | 40 => ⟨S8x4096x1440, .f32⟩
  | 41 => ⟨S8x4096x1440, .f32⟩
  | 42 => ⟨S8x4096x512, .f32⟩
  | 43 => ⟨S8x4096x512, .f32⟩
  | 44 => ⟨S8x4096x512, .f32⟩
  | 45 => ⟨S8x4096x512, .f32⟩
  | 46 => ⟨S_, .f32⟩
  | 47 => ⟨S8x4096x512, .f32⟩
  | 48 => ⟨S8x4096x512, .f32⟩
  | 49 => ⟨S_, .f32⟩
  | 50 => ⟨S8x4096x512, .f32⟩
  | 51 => ⟨S8x4096x512, .f32⟩
  | 52 => ⟨S8x4096x512, .f32⟩
  | 53 => ⟨S_, .i32⟩
  | 54 => ⟨S_, .f32⟩
  | 55 => ⟨S8x4126x512, .f32⟩
  | 56 => ⟨S8x4096x512, .f32⟩
  | 57 => ⟨S1x512, .f32⟩
  | 58 => ⟨S512, .f32⟩
  | 59 => ⟨S1x1x512, .f32⟩
  | 60 => ⟨S8x4096x512, .f32⟩
  | 61 => ⟨S8x4096x512, .f32⟩
  | 62 => ⟨S_, .f32⟩
  | 63 => ⟨S8x4096x512, .f32⟩
  | 64 => ⟨S8x4096x512, .f32⟩
  | 65 => ⟨S8x4096x512, .f32⟩
  | 66 => ⟨S1x512, .f32⟩
  | 67 => ⟨S512, .f32⟩
  | 68 => ⟨S1x1x512, .f32⟩
  | 69 => ⟨S8x4096x512, .f32⟩
  | 70 => ⟨S8x4096x512, .f32⟩
  | 71 => ⟨S8x4096x512, .f32⟩
  | 72 => ⟨S8x4096x512, .f32⟩
  | 73 => ⟨S1x512, .f32⟩
  | 74 => ⟨S512, .f32⟩
  | 75 => ⟨S1x1x512, .f32⟩
  | 76 => ⟨S8x4096x512, .f32⟩
  | 77 => ⟨S8x4096x512, .f32⟩
  | 78 => ⟨S8x4096x512, .f32⟩
  | 79 => ⟨S8x4096x512, .f32⟩
  | 80 => ⟨S1x512, .f32⟩
  | 81 => ⟨S512, .f32⟩
  | 82 => ⟨S1x1x512, .f32⟩
  | 83 => ⟨S8x4096x512, .f32⟩
  | 84 => ⟨S8x4096x512, .f32⟩
  | 85 => ⟨S8x4096x512, .f32⟩
  | 86 => ⟨S8x4096x512, .f32⟩
  | 87 => ⟨S1x512, .f32⟩
  | 88 => ⟨S512, .f32⟩
  | 89 => ⟨S1x1x512, .f32⟩
  | 90 => ⟨S8x4096x512, .f32⟩
  | 91 => ⟨S8x4096x512, .f32⟩
  | 92 => ⟨S8x4096x512, .f32⟩
  | 93 => ⟨S8x4096x512, .f32⟩
  | 94 => ⟨S1x512, .f32⟩
  | 95 => ⟨S512, .f32⟩
  | 96 => ⟨S1x1x512, .f32⟩
  | 97 => ⟨S8x4096x512, .f32⟩
  | 98 => ⟨S8x4096x512, .f32⟩
  | 99 => ⟨S8x4096x512, .f32⟩
  | 100 => ⟨S8x4096x512, .f32⟩
  | 101 => ⟨S1x512, .f32⟩
  | 102 => ⟨S512, .f32⟩
  | 103 => ⟨S1x1x512, .f32⟩
  | 104 => ⟨S8x4096x512, .f32⟩
  | 105 => ⟨S8x4096x512, .f32⟩
  | 106 => ⟨S8x4096x512, .f32⟩
  | 107 => ⟨S8x4096x512, .f32⟩
  | 108 => ⟨S1x512, .f32⟩
  | 109 => ⟨S512, .f32⟩
  | 110 => ⟨S1x1x512, .f32⟩
  | 111 => ⟨S8x4096x512, .f32⟩
  | 112 => ⟨S8x4096x512, .f32⟩
  | 113 => ⟨S8x4096x512, .f32⟩
  | 114 => ⟨S8x4096x512, .f32⟩
  | 115 => ⟨S1x512, .f32⟩
  | 116 => ⟨S512, .f32⟩
  | 117 => ⟨S1x1x512, .f32⟩
  | 118 => ⟨S8x4096x512, .f32⟩
  | 119 => ⟨S8x4096x512, .f32⟩
  | 120 => ⟨S8x4096x512, .f32⟩
  | 121 => ⟨S8x4096x512, .f32⟩
  | 122 => ⟨S1x512, .f32⟩
  | 123 => ⟨S512, .f32⟩
  | 124 => ⟨S1x1x512, .f32⟩
  | 125 => ⟨S8x4096x512, .f32⟩
  | 126 => ⟨S8x4096x512, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S1x512, .f32⟩
  | 2 => ⟨S512, .f32⟩
  | 3 => ⟨S1x1x512, .f32⟩
  | 4 => ⟨S8x4096x512, .f32⟩
  | 5 => ⟨S8x4096x512, .f32⟩
  | 6 => ⟨S8x4096x512, .f32⟩
  | 7 => ⟨S8x4096x512, .f32⟩
  | 8 => ⟨S1x512, .f32⟩
  | 9 => ⟨S512, .f32⟩
  | 10 => ⟨S1x1x512, .f32⟩
  | 11 => ⟨S8x4096x512, .f32⟩
  | 12 => ⟨S8x4096x512, .f32⟩
  | 13 => ⟨S8x4096x512, .f32⟩
  | 14 => ⟨S8x4096x512, .f32⟩
  | 15 => ⟨S1x512, .f32⟩
  | 16 => ⟨S512, .f32⟩
  | 17 => ⟨S1x1x512, .f32⟩
  | 18 => ⟨S8x4096x512, .f32⟩
  | 19 => ⟨S8x4096x512, .f32⟩
  | 20 => ⟨S8x4096x512, .f32⟩
  | 21 => ⟨S8x4096x512, .f32⟩
  | 22 => ⟨S1x512, .f32⟩
  | 23 => ⟨S512, .f32⟩
  | 24 => ⟨S1x1x512, .f32⟩
  | 25 => ⟨S8x4096x512, .f32⟩
  | 26 => ⟨S8x4096x512, .f32⟩
  | 27 => ⟨S8x4096x512, .f32⟩
  | 28 => ⟨S8x4096x512, .f32⟩
  | 29 => ⟨S1x512, .f32⟩
  | 30 => ⟨S512, .f32⟩
  | 31 => ⟨S1x1x512, .f32⟩
  | 32 => ⟨S8x4096x512, .f32⟩
  | 33 => ⟨S8x4096x512, .f32⟩
  | 34 => ⟨S8x4096x512, .f32⟩
  | 35 => ⟨S8x4096x512, .f32⟩
  | 36 => ⟨S1x512, .f32⟩
  | 37 => ⟨S512, .f32⟩
  | 38 => ⟨S1x1x512, .f32⟩
  | 39 => ⟨S8x4096x512, .f32⟩
  | 40 => ⟨S8x4096x512, .f32⟩
  | 41 => ⟨S8x4096x512, .f32⟩
  | 42 => ⟨S8x4096x512, .f32⟩
  | 43 => ⟨S1x512, .f32⟩
  | 44 => ⟨S512, .f32⟩
  | 45 => ⟨S1x1x512, .f32⟩
  | 46 => ⟨S8x4096x512, .f32⟩
  | 47 => ⟨S8x4096x512, .f32⟩
  | 48 => ⟨S8x4096x512, .f32⟩
  | 49 => ⟨S8x4096x512, .f32⟩
  | 50 => ⟨S1x512, .f32⟩
  | 51 => ⟨S512, .f32⟩
  | 52 => ⟨S1x1x512, .f32⟩
  | 53 => ⟨S8x4096x512, .f32⟩
  | 54 => ⟨S8x4096x512, .f32⟩
  | 55 => ⟨S8x4096x512, .f32⟩
  | 56 => ⟨S8x4096x512, .f32⟩
  | 57 => ⟨S1x512, .f32⟩
  | 58 => ⟨S512, .f32⟩
  | 59 => ⟨S1x1x512, .f32⟩
  | 60 => ⟨S8x4096x512, .f32⟩
  | 61 => ⟨S8x4096x512, .f32⟩
  | 62 => ⟨S8x4096x512, .f32⟩
  | 63 => ⟨S8x4096x512, .f32⟩
  | 64 => ⟨S1x512, .f32⟩
  | 65 => ⟨S512, .f32⟩
  | 66 => ⟨S1x1x512, .f32⟩
  | 67 => ⟨S8x4096x512, .f32⟩
  | 68 => ⟨S8x4096x512, .f32⟩
  | 69 => ⟨S8x4096x512, .f32⟩
  | 70 => ⟨S8x4096x512, .f32⟩
  | 71 => ⟨S1x512, .f32⟩
  | 72 => ⟨S512, .f32⟩
  | 73 => ⟨S1x1x512, .f32⟩
  | 74 => ⟨S8x4096x512, .f32⟩
  | 75 => ⟨S8x4096x512, .f32⟩
  | 76 => ⟨S8x4096x512, .f32⟩
  | 77 => ⟨S8x4096x512, .f32⟩
  | 78 => ⟨S1x512, .f32⟩
  | 79 => ⟨S512, .f32⟩
  | 80 => ⟨S1x1x512, .f32⟩
  | 81 => ⟨S8x4096x512, .f32⟩
  | 82 => ⟨S8x4096x512, .f32⟩
  | 83 => ⟨S8x4096x512, .f32⟩
  | 84 => ⟨S8x4096x512, .f32⟩
  | 85 => ⟨S1x512, .f32⟩
  | 86 => ⟨S512, .f32⟩
  | 87 => ⟨S1x1x512, .f32⟩
  | 88 => ⟨S8x4096x512, .f32⟩
  | 89 => ⟨S8x4096x512, .f32⟩
  | 90 => ⟨S8x4096x512, .f32⟩
  | 91 => ⟨S8x4096x512, .f32⟩
  | 92 => ⟨S1x512, .f32⟩
  | 93 => ⟨S512, .f32⟩
  | 94 => ⟨S1x1x512, .f32⟩
  | 95 => ⟨S8x4096x512, .f32⟩
  | 96 => ⟨S8x4096x512, .f32⟩
  | 97 => ⟨S8x4096x512, .f32⟩
  | 98 => ⟨S8x4096x512, .f32⟩
  | 99 => ⟨S1x512, .f32⟩
  | 100 => ⟨S512, .f32⟩
  | 101 => ⟨S1x1x512, .f32⟩
  | 102 => ⟨S8x4096x512, .f32⟩
  | 103 => ⟨S8x4096x512, .f32⟩
  | 104 => ⟨S8x4096x512, .f32⟩
  | 105 => ⟨S8x4096x512, .f32⟩
  | 106 => ⟨S1x512, .f32⟩
  | 107 => ⟨S512, .f32⟩
  | 108 => ⟨S1x1x512, .f32⟩
  | 109 => ⟨S8x4096x512, .f32⟩
  | 110 => ⟨S8x4096x512, .f32⟩
  | 111 => ⟨S8x4096x512, .f32⟩
  | 112 => ⟨S8x4096x512, .f32⟩
  | 113 => ⟨S1x512, .f32⟩
  | 114 => ⟨S512, .f32⟩
  | 115 => ⟨S1x1x512, .f32⟩
  | 116 => ⟨S8x4096x512, .f32⟩
  | 117 => ⟨S8x4096x512, .f32⟩
  | 118 => ⟨S8x4096x512, .f32⟩
  | 119 => ⟨S8x4096x512, .f32⟩
  | 120 => ⟨S1x512, .f32⟩
  | 121 => ⟨S512, .f32⟩
  | 122 => ⟨S1x1x512, .f32⟩
  | 123 => ⟨S8x4096x512, .f32⟩
  | 124 => ⟨S8x4096x512, .f32⟩
  | 125 => ⟨S8x4096x512, .f32⟩
  | 126 => ⟨S8x4096x512, .f32⟩
  | 127 => ⟨S1x512, .f32⟩
  | _ => ⟨S8x4096x1024, .f32⟩

abbrev hbmTy0_2 (i : Nat) : BufTy := match i % 128 with
  | 0 => ⟨S512, .f32⟩
  | 1 => ⟨S1x1x512, .f32⟩
  | 2 => ⟨S8x4096x512, .f32⟩
  | 3 => ⟨S8x4096x512, .f32⟩
  | 4 => ⟨S8x4096x512, .f32⟩
  | 5 => ⟨S8x4096x512, .f32⟩
  | 6 => ⟨S1x512, .f32⟩
  | 7 => ⟨S512, .f32⟩
  | 8 => ⟨S1x1x512, .f32⟩
  | 9 => ⟨S8x4096x512, .f32⟩
  | 10 => ⟨S8x4096x512, .f32⟩
  | 11 => ⟨S8x4096x512, .f32⟩
  | 12 => ⟨S8x4096x512, .f32⟩
  | 13 => ⟨S1x512, .f32⟩
  | 14 => ⟨S512, .f32⟩
  | 15 => ⟨S1x1x512, .f32⟩
  | 16 => ⟨S8x4096x512, .f32⟩
  | 17 => ⟨S8x4096x512, .f32⟩
  | 18 => ⟨S8x4096x512, .f32⟩
  | 19 => ⟨S1x1x512, .f32⟩
  | 20 => ⟨S8x4096x512, .f32⟩
  | 21 => ⟨S8x4096x512, .f32⟩
  | 22 => ⟨S_, .f32⟩
  | 23 => ⟨S8x4096, .f32⟩
  | 24 => ⟨S8x4096x1, .f32⟩
  | 25 => ⟨S_, .f32⟩
  | 26 => ⟨S8x4096x1, .f32⟩
  | 27 => ⟨S8x4096x1, .f32⟩
  | 28 => ⟨S8x4096x512, .f32⟩
  | 29 => ⟨S8x4096x512, .f32⟩
  | 30 => ⟨S8x4096x512, .f32⟩
  | 31 => ⟨S_, .f32⟩
  | 32 => ⟨S8x4096, .f32⟩
  | 33 => ⟨S8x4096x1, .f32⟩
  | 34 => ⟨S_, .f32⟩
  | 35 => ⟨S8x4096x1, .f32⟩
  | 36 => ⟨S8x4096x1, .f32⟩
  | 37 => ⟨S8x4096x512, .f32⟩
  | 38 => ⟨S8x4096x512, .f32⟩
  | 39 => ⟨S_, .f32⟩
  | 40 => ⟨S8x4096x1, .f32⟩
  | 41 => ⟨S8x4096x1, .f32⟩
  | 42 => ⟨S8x4096x1, .f32⟩
  | 43 => ⟨S8x4096x512, .f32⟩
  | 44 => ⟨S8x4096x512, .f32⟩
  | 45 => ⟨S1x1x512, .f32⟩
  | 46 => ⟨S8x4096x512, .f32⟩
  | 47 => ⟨S8x4096x512, .f32⟩
  | 48 => ⟨S1x1x512, .f32⟩
  | 49 => ⟨S8x4096x512, .f32⟩
  | 50 => ⟨S8x4096x512, .f32⟩
  | 51 => ⟨S8x4096x512, .f32⟩
  | 52 => ⟨S8x4096x512, .f32⟩
  | 53 => ⟨S_, .f32⟩
  | 54 => ⟨S8x4096x512, .f32⟩
  | 55 => ⟨S8x4096x512, .f32⟩
  | 56 => ⟨S_, .f32⟩
  | 57 => ⟨S8x4096x512, .f32⟩
  | 58 => ⟨S8x4096x512, .f32⟩
  | 59 => ⟨S8x4096x512, .f32⟩
  | 60 => ⟨S8x4096x256, .f32⟩
  | 61 => ⟨S8x4096x256, .f32⟩
  | 62 => ⟨S_, .f32⟩
  | 63 => ⟨S8x4096, .f32⟩
  | 64 => ⟨S8x4096x1, .f32⟩
  | 65 => ⟨S_, .f32⟩
  | 66 => ⟨S8x4096x1, .f32⟩
  | 67 => ⟨S8x4096x1, .f32⟩
  | 68 => ⟨S_, .f32⟩
  | 69 => ⟨S8x4096x1, .f32⟩
  | 70 => ⟨S8x4096x1, .f32⟩
  | 71 => ⟨S8x4096x1, .f32⟩
  | 72 => ⟨S8x4096x256, .f32⟩
  | 73 => ⟨S8x4096x256, .f32⟩
  | 74 => ⟨S1x1x256, .f32⟩
  | 75 => ⟨S8x4096x256, .f32⟩
  | 76 => ⟨S8x4096x256, .f32⟩
  | 77 => ⟨S8x4096x768, .f32⟩
  | 78 => ⟨S8x4096x8x96, .f32⟩
  | 79 => ⟨S8x4096x8x64, .f32⟩
  | 80 => ⟨S8x4096x8x32, .f32⟩
  | 81 => ⟨S8x4096x8x16, .f32⟩
  | 82 => ⟨S8x4096x8x16, .f32⟩
  | 83 => ⟨S8x4096x8x16, .f32⟩
  | 84 => ⟨S8x4096x8x16, .f32⟩
  | 85 => ⟨S8x4096x8x16, .f32⟩
  | 86 => ⟨S8x4096x8x16, .f32⟩
  | 87 => ⟨S8x4096x8x16, .f32⟩
  | 88 => ⟨S8x4096x8x16, .f32⟩
  | 89 => ⟨S8x4096x8x16, .f32⟩
  | 90 => ⟨S8x4096x8x16, .f32⟩
  | 91 => ⟨S8x4096x8x16, .f32⟩
  | 92 => ⟨S8x4096x8x16, .f32⟩
  | 93 => ⟨S8x4096x8x32, .f32⟩
  | 94 => ⟨S8x4096x8x96, .f32⟩
  | 95 => ⟨S8x4096x128, .f32⟩
  | 96 => ⟨S8x4096x128, .f32⟩
  | 97 => ⟨S_, .f32⟩
  | 98 => ⟨S8x4096, .f32⟩
  | 99 => ⟨S8x4096x1, .f32⟩
  | 100 => ⟨S_, .f32⟩
  | 101 => ⟨S8x4096x1, .f32⟩
  | 102 => ⟨S8x4096x1, .f32⟩
  | 103 => ⟨S_, .f32⟩
  | 104 => ⟨S8x4096x1, .f32⟩
  | 105 => ⟨S8x4096x1, .f32⟩
  | 106 => ⟨S8x4096x1, .f32⟩
  | 107 => ⟨S8x4096x128, .f32⟩
  | 108 => ⟨S8x4096x128, .f32⟩
  | 109 => ⟨S1x1x128, .f32⟩
  | 110 => ⟨S8x4096x128, .f32⟩
  | 111 => ⟨S8x4096x128, .f32⟩
  | 112 => ⟨S8x4096x1024, .f32⟩
  | 113 => ⟨S8x4096x8x128, .f32⟩
  | 114 => ⟨S8x4096x32, .f32⟩
  | 115 => ⟨S8x4096x1x32, .f32⟩
  | 116 => ⟨S8x4096x1x16, .f32⟩
  | 117 => ⟨S8x4096x1x16, .f32⟩
  | 118 => ⟨S8x4096x1x16, .f32⟩
  | 119 => ⟨S8x4096x1x16, .f32⟩
  | 120 => ⟨S8x4096x1x16, .f32⟩
  | 121 => ⟨S8x4096x1x16, .f32⟩
  | 122 => ⟨S8x4096x1x16, .f32⟩
  | 123 => ⟨S8x4096x1x16, .f32⟩
  | 124 => ⟨S8x4096x1x32, .f32⟩
  | 125 => ⟨S8x4096x8x32, .f32⟩
  | 126 => ⟨S8x4096x8x64, .f32⟩
  | 127 => ⟨S8x4096x8x96, .f32⟩
  | _ => ⟨S8x4096x1024, .f32⟩

abbrev hbmTy0_3 (i : Nat) : BufTy := match i % 128 with
  | 0 => ⟨S8x4096x8x64, .f32⟩
  | 1 => ⟨S8x4096x512, .f32⟩
  | 2 => ⟨S8x4096x512, .bf16⟩
  | 3 => ⟨S_, .f32⟩
  | 4 => ⟨S8x4096x8x96, .f32⟩
  | 5 => ⟨S8x4096x8x96, .f32⟩
  | 6 => ⟨S_, .i32⟩
  | 7 => ⟨S_, .f32⟩
  | 8 => ⟨S8x4096x8x128, .f32⟩
  | 9 => ⟨S8x4096x1024, .f32⟩
  | 10 => ⟨S8x4096x1024, .bf16⟩
  | 11 => ⟨S_, .i32⟩
  | 12 => ⟨S_, .f32⟩
  | 13 => ⟨S8x4096x8x128, .f32⟩
  | 14 => ⟨S8x4096x1024, .f32⟩
  | 15 => ⟨S8x4096x1024, .bf16⟩
  | 16 => ⟨S8x4096x512, .bf16⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c : Ref sig .tc := ⟨.hbm, 53, rfl⟩
abbrev main_call0_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_cst_7 : Ref sig .tc := ⟨.hbm, 278, rfl⟩
abbrev main_v256 : Ref sig .tc := ⟨.hbm, 279, rfl⟩
abbrev main_v257 : Ref sig .tc := ⟨.hbm, 280, rfl⟩
abbrev main_cst_8 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_cst_9 : Ref sig .tc := ⟨.hbm, 287, rfl⟩
abbrev main_v263 : Ref sig .tc := ⟨.hbm, 288, rfl⟩
abbrev main_v264 : Ref sig .tc := ⟨.hbm, 289, rfl⟩
abbrev main_cst_10 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_cst_11 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_call1_v0 : Ref sig .tc := ⟨.hbm, 307, rfl⟩
abbrev main_call1_v1 : Ref sig .tc := ⟨.hbm, 308, rfl⟩
abbrev main_call1_cst : Ref sig .tc := ⟨.hbm, 309, rfl⟩
abbrev main_call1_v2 : Ref sig .tc := ⟨.hbm, 310, rfl⟩
abbrev main_call1_v3 : Ref sig .tc := ⟨.hbm, 311, rfl⟩
abbrev main_call1_cst_0 : Ref sig .tc := ⟨.hbm, 312, rfl⟩
abbrev main_call1_v4 : Ref sig .tc := ⟨.hbm, 313, rfl⟩
abbrev main_call1_v5 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_cst_12 : Ref sig .tc := ⟨.hbm, 318, rfl⟩
abbrev main_v283 : Ref sig .tc := ⟨.hbm, 319, rfl⟩
abbrev main_v284 : Ref sig .tc := ⟨.hbm, 320, rfl⟩
abbrev main_cst_13 : Ref sig .tc := ⟨.hbm, 321, rfl⟩
abbrev main_v285 : Ref sig .tc := ⟨.hbm, 322, rfl⟩
abbrev main_v286 : Ref sig .tc := ⟨.hbm, 323, rfl⟩
abbrev main_cst_14 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_cst_15 : Ref sig .tc := ⟨.hbm, 353, rfl⟩
abbrev main_v315 : Ref sig .tc := ⟨.hbm, 354, rfl⟩
abbrev main_v316 : Ref sig .tc := ⟨.hbm, 355, rfl⟩
abbrev main_cst_16 : Ref sig .tc := ⟨.hbm, 356, rfl⟩
abbrev main_v317 : Ref sig .tc := ⟨.hbm, 357, rfl⟩
abbrev main_v318 : Ref sig .tc := ⟨.hbm, 358, rfl⟩
abbrev main_cst_17 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_v329 : Ref sig .tc := ⟨.hbm, 370, rfl⟩
abbrev main_v330 : Ref sig .tc := ⟨.hbm, 371, rfl⟩
abbrev main_v331 : Ref sig .tc := ⟨.hbm, 372, rfl⟩
abbrev main_v332 : Ref sig .tc := ⟨.hbm, 373, rfl⟩
abbrev main_v333 : Ref sig .tc := ⟨.hbm, 374, rfl⟩
abbrev main_v334 : Ref sig .tc := ⟨.hbm, 375, rfl⟩
abbrev main_v335 : Ref sig .tc := ⟨.hbm, 376, rfl⟩
abbrev main_v336 : Ref sig .tc := ⟨.hbm, 377, rfl⟩
abbrev main_v337 : Ref sig .tc := ⟨.hbm, 378, rfl⟩
abbrev main_v338 : Ref sig .tc := ⟨.hbm, 379, rfl⟩
abbrev main_v339 : Ref sig .tc := ⟨.hbm, 380, rfl⟩
abbrev main_v340 : Ref sig .tc := ⟨.hbm, 381, rfl⟩
abbrev main_v341 : Ref sig .tc := ⟨.hbm, 382, rfl⟩
abbrev main_v342 : Ref sig .tc := ⟨.hbm, 383, rfl⟩
abbrev main_v343 : Ref sig .tc := ⟨.hbm, 384, rfl⟩
abbrev main_v344 : Ref sig .tc := ⟨.hbm, 385, rfl⟩
abbrev main_v345 : Ref sig .tc := ⟨.hbm, 386, rfl⟩
abbrev main_cst_18 : Ref sig .tc := ⟨.hbm, 387, rfl⟩
abbrev main_v346 : Ref sig .tc := ⟨.hbm, 388, rfl⟩
abbrev main_v347 : Ref sig .tc := ⟨.hbm, 389, rfl⟩
abbrev main_c_19 : Ref sig .tc := ⟨.hbm, 390, rfl⟩
abbrev main_call2_v0 : Ref sig .tc := ⟨.hbm, 391, rfl⟩
abbrev main_v348 : Ref sig .tc := ⟨.hbm, 392, rfl⟩
abbrev main_v349 : Ref sig .tc := ⟨.hbm, 393, rfl⟩
abbrev main_v350 : Ref sig .tc := ⟨.hbm, 394, rfl⟩
abbrev main_c_20 : Ref sig .tc := ⟨.hbm, 395, rfl⟩
abbrev main_call3_v0 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩

abbrev nD : Nat := 1
abbrev τ : Topo := Topo.v7x

variable {F : FTy → Type} [FloatOps F]
-- ==== Proof.Softmax.lean ====
/- The online softmax over the extended reals: the running maximum, the running sum of the weights and the running
   weighted sum of a row of scores, how they move when a block of keys is added, and why their quotient at the end is the
   softmax of the whole row against the values. The row is a function of the key's number; a key that a query may not see
   has the score `⊥`. -/
module

public import Idealize.ShloMosaic.Lib.Pointwise

@[expose] public section

noncomputable section

namespace Cert.Softmax

open Idealize.ShloMosaic

/-- The largest score among the first `n` keys (`⊥` if there is none). -/
def rowMax (s : ℕ → EReal) (n : ℕ) : EReal := (Finset.range n).sup s

/-- The sum of the weights of the first `n` keys, relative to their largest score. -/
def rowSum (s : ℕ → EReal) (n : ℕ) : EReal := ∑ k ∈ Finset.range n, Ideal.exp (s k - rowMax s n)

/-- The weighted sum of the values of the first `n` keys, relative to their largest score. -/
def rowAcc (s v : ℕ → EReal) (n : ℕ) : EReal := ∑ k ∈ Finset.range n, Ideal.exp (s k - rowMax s n) * v k

/-- A weight relative to an upper bound of the scores is a real number in `[0, 1]`. -/
theorem exp_sub_real {x m : EReal} (h : x ≤ m) : ∃ r : ℝ, 0 ≤ r ∧ Ideal.exp (x - m) = (r : EReal) := by
  induction m using EReal.rec with
  | top => exact ⟨0, le_rfl, by rw [EReal.sub_top]; rfl⟩
  | bot => exact ⟨0, le_rfl, by rw [le_bot_iff.1 h, EReal.bot_sub]; rfl⟩
  | coe m =>
    induction x using EReal.rec with
    | top => simp at h
    | bot => exact ⟨0, le_rfl, by rw [EReal.bot_sub]; rfl⟩
    | coe x => exact ⟨Real.exp (x - m), (Real.exp_pos _).le, by rw [← EReal.coe_sub]; rfl⟩

/-- Moving the bound from `m` to a larger `m'` multiplies a weight by the weight of `m`, at the infinities too. -/
theorem exp_rescale {x m m' : EReal} (h : x ≤ m) (h' : m ≤ m') :
    Ideal.exp (m - m') * Ideal.exp (x - m) = Ideal.exp (x - m') := by
  induction m' using EReal.rec with
  | top => simp only [EReal.sub_top, Ideal.exp_bot, zero_mul]
  | bot => rw [le_bot_iff.1 h', EReal.bot_sub, le_bot_iff.1 (h.trans h'), EReal.bot_sub, Ideal.exp_bot, zero_mul]
  | coe m' =>
    induction m using EReal.rec with
    | top => simp at h'
    | bot => rw [le_bot_iff.1 h, EReal.bot_sub, EReal.bot_sub, Ideal.exp_bot, zero_mul]
    | coe m =>
      induction x using EReal.rec with
      | top => simp at h
      | bot => rw [EReal.bot_sub, EReal.bot_sub, Ideal.exp_bot, mul_zero]
      | coe x =>
        simp only [← EReal.coe_sub, Ideal.exp_coe, ← EReal.coe_mul, ← Real.exp_add]
        congr 2; ring

/-- A nonnegative real factor distributes over a finite sum of extended reals. -/
theorem real_mul_sum {ι : Type*} (S : Finset ι) (r : ℝ) (h : 0 ≤ r) (f : ι → EReal) :
    (r : EReal) * ∑ k ∈ S, f k = ∑ k ∈ S, (r : EReal) * f k := by
  classical
  induction S using Finset.induction_on with
  | empty => simp
  | insert a S ha ih =>
    rw [Finset.sum_insert ha, Finset.sum_insert ha,
      EReal.left_distrib_of_nonneg_of_ne_top (by exact_mod_cast h) (EReal.coe_ne_top r), ih]

/-- `fold max` from `⊥` over a finite type is its supremum. -/
theorem fold_max_eq_sup {ι : Type*} [Fintype ι] (f : ι → EReal) :
    Finset.univ.fold max ⊥ f = Finset.univ.sup f := rfl

theorem le_rowMax (s : ℕ → EReal) {n k : ℕ} (h : k < n) : s k ≤ rowMax s n :=
  Finset.le_sup (f := s) (Finset.mem_range.2 h)

/-- The largest score after a further block of `T` keys. -/
theorem rowMax_add (s : ℕ → EReal) (n T : ℕ) :
    rowMax s (n + T) = max (rowMax s n) (Finset.univ.fold max ⊥ fun t : Fin T => s (n + t)) := by
  rw [fold_max_eq_sup]
  apply le_antisymm
  · refine Finset.sup_le fun k hk => ?_
    rcases Nat.lt_or_ge k n with h | h
    · exact le_max_of_le_left (le_rowMax s h)
    · have hk := Finset.mem_range.1 hk
      refine le_max_of_le_right ?_
      have := Finset.le_sup (f := fun t : Fin T => s (n + t)) (Finset.mem_univ ⟨k - n, by omega⟩)
      simpa [Nat.add_sub_cancel' h] using this
  · refine max_le (Finset.sup_le fun k hk => ?_) (Finset.sup_le fun t _ => ?_)
    · exact le_rowMax s (by have := Finset.mem_range.1 hk; omega)
    · exact le_rowMax s (by have := t.isLt; omega)

theorem rowMax_mono (s : ℕ → EReal) (n T : ℕ) : rowMax s n ≤ rowMax s (n + T) := by
  rw [rowMax_add]; exact le_max_left _ _

/-- The sum of the weights after a further block of `T` keys. -/
theorem rowSum_add (s : ℕ → EReal) (n T : ℕ) :
    rowSum s (n + T) = Ideal.exp (rowMax s n - rowMax s (n + T)) * rowSum s n
      + ∑ t : Fin T, Ideal.exp (s (n + t) - rowMax s (n + T)) := by
  obtain ⟨r, hr, e⟩ := exp_sub_real (rowMax_mono s n T)
  unfold rowSum
  rw [Finset.sum_range_add, e, real_mul_sum _ r hr, Finset.sum_range]
  rw [Finset.sum_range (fun i => Ideal.exp (s (n + i) - rowMax s (n + T)))]
  rw [Finset.sum_range (fun k => (r : EReal) * Ideal.exp (s k - rowMax s n))]
  congr 1
  refine Finset.sum_congr rfl fun k _ => ?_
  rw [← e, exp_rescale (le_rowMax s k.isLt) (rowMax_mono s n T)]

/-- The weighted sum of the values after a further block of `T` keys. -/
theorem rowAcc_add (s v : ℕ → EReal) (n T : ℕ) :
    rowAcc s v (n + T) = Ideal.exp (rowMax s n - rowMax s (n + T)) * rowAcc s v n
      + ∑ t : Fin T, Ideal.exp (s (n + t) - rowMax s (n + T)) * v (n + t) := by
  obtain ⟨r, hr, e⟩ := exp_sub_real (rowMax_mono s n T)
  unfold rowAcc
  rw [Finset.sum_range_add, e, real_mul_sum _ r hr, Finset.sum_range]
  rw [Finset.sum_range (fun i => Ideal.exp (s (n + i) - rowMax s (n + T)) * v (n + i))]
  rw [Finset.sum_range (fun k => (r : EReal) * (Ideal.exp (s k - rowMax s n) * v k))]
  congr 1
  refine Finset.sum_congr rfl fun k _ => ?_
  rw [← e, ← mul_assoc, exp_rescale (le_rowMax s k.isLt) (rowMax_mono s n T)]

theorem rowMax_zero (s : ℕ → EReal) : rowMax s 0 = ⊥ := rfl
theorem rowSum_zero (s : ℕ → EReal) : rowSum s 0 = 0 := rfl
theorem rowAcc_zero (s v : ℕ → EReal) : rowAcc s v 0 = 0 := rfl

/-- Keys that are not seen change nothing: neither the largest score, … -/
theorem rowMax_unseen (s : ℕ → EReal) {n N : ℕ} (hn : n ≤ N) (h : ∀ k, n ≤ k → k < N → s k = ⊥) :
    rowMax s N = rowMax s n := by
  obtain ⟨T, rfl⟩ := Nat.exists_eq_add_of_le hn
  rw [rowMax_add, fold_max_eq_sup]
  refine max_eq_left (Finset.sup_le fun t _ => ?_)
  rw [h (n + t) (by omega) (by have := t.isLt; omega)]
  exact bot_le

/-- … nor the sum of the weights, … -/
theorem rowSum_unseen (s : ℕ → EReal) {n N : ℕ} (hn : n ≤ N) (h : ∀ k, n ≤ k → k < N → s k = ⊥) :
    rowSum s N = rowSum s n := by
  obtain ⟨T, rfl⟩ := Nat.exists_eq_add_of_le hn
  unfold rowSum
  rw [rowMax_unseen s hn h, Finset.sum_range_add]
  rw [Finset.sum_eq_zero (s := Finset.range T), add_zero]
  intro t ht
  rw [h (n + t) (by omega) (by have := Finset.mem_range.1 ht; omega), EReal.bot_sub, Ideal.exp_bot]

/-- … nor the weighted sum of the values. -/
theorem rowAcc_unseen (s v : ℕ → EReal) {n N : ℕ} (hn : n ≤ N) (h : ∀ k, n ≤ k → k < N → s k = ⊥) :
    rowAcc s v N = rowAcc s v n := by
  obtain ⟨T, rfl⟩ := Nat.exists_eq_add_of_le hn
  unfold rowAcc
  rw [rowMax_unseen s hn h, Finset.sum_range_add]
  rw [Finset.sum_eq_zero (s := Finset.range T), add_zero]
  intro t ht
  rw [h (n + t) (by omega) (by have := Finset.mem_range.1 ht; omega), EReal.bot_sub, Ideal.exp_bot, zero_mul]

/-- A real constant added to every score moves the largest score by it. -/
theorem sup_add_real {ι : Type*} [Fintype ι] (f : ι → EReal) (r : ℝ) :
    Finset.univ.sup (fun k => f k + (r : EReal)) = Finset.univ.sup f + (r : EReal) := by
  refine (Finset.comp_sup_eq_sup_comp (fun x : EReal => x + (r : EReal)) ?_ (EReal.bot_add _)).symm
  intro x y
  have mono : Monotone fun x : EReal => x + (r : EReal) := fun a b h => add_le_add_left h _
  exact mono.map_sup x y

/-- A real constant added to both cancels. -/
theorem sub_add_real (x m : EReal) (r : ℝ) : (x + (r : EReal)) - (m + (r : EReal)) = x - m := by
  induction x using EReal.rec with
  | bot => rw [EReal.bot_add, EReal.bot_sub, EReal.bot_sub]
  | top =>
    rw [EReal.top_add_coe]
    induction m using EReal.rec with
    | bot => rw [EReal.bot_add]
    | top => rw [EReal.top_add_coe]
    | coe m => rw [← EReal.coe_add, EReal.top_sub_coe, EReal.top_sub_coe]
  | coe x =>
    induction m using EReal.rec with
    | bot => rw [EReal.bot_add, ← EReal.coe_add, EReal.coe_sub_bot, EReal.coe_sub_bot]
    | top => rw [EReal.top_add_coe, EReal.sub_top, EReal.sub_top]
    | coe m =>
      simp only [← EReal.coe_add, ← EReal.coe_sub]
      congr 1; ring

/-- Of scores none of which is `⊤` and one of which is seen, the sum of the weights is a positive real. -/
theorem rowSum_pos (s : ℕ → EReal) (n k₀ : ℕ) (hk : k₀ < n) (h₀ : s k₀ ≠ ⊥) (ht : ∀ k, k < n → s k ≠ ⊤) :
    ∃ r : ℝ, 0 < r ∧ rowSum s n = (r : EReal) := by
  have hmt : rowMax s n ≠ ⊤ := by
    refine ((Finset.sup_lt_iff bot_lt_top).2 fun k hk => ?_).ne
    exact lt_top_iff_ne_top.2 (ht k (Finset.mem_range.1 hk))
  have hmb : rowMax s n ≠ ⊥ := fun e => h₀ (le_bot_iff.1 (e ▸ le_rowMax s hk))
  choose! w hw e using fun k (hk : k < n) => exp_sub_real (le_rowMax s hk)
  have hsum : rowSum s n = ((∑ k ∈ Finset.range n, w k : ℝ) : EReal) := by
    unfold rowSum
    rw [Finset.sum_congr rfl fun k hk => e k (Finset.mem_range.1 hk)]
    exact (map_sum (⟨⟨Real.toEReal, rfl⟩, fun a b => EReal.coe_add a b⟩ : ℝ →+ EReal) w _).symm
  refine ⟨_, ?_, hsum⟩
  refine Finset.sum_pos' (fun k hk => hw k (Finset.mem_range.1 hk)) ⟨k₀, Finset.mem_range.2 hk, ?_⟩
  have := e k₀ hk
  lift rowMax s n to ℝ using ⟨hmt, hmb⟩ with m
  lift s k₀ to ℝ using ⟨ht k₀ hk, h₀⟩ with x
  rw [← EReal.coe_sub, Ideal.exp_coe] at this
  rw [← EReal.coe_eq_coe_iff.1 this]
  exact Real.exp_pos _

/-- THE SOFTMAX OF A ROW AGAINST THE VALUES is the quotient the online sums end with. The row `s'` of the softmax is the
    scores `s` moved by one real number `r`; no score is `⊤`, key `k₀` is seen, and no key from `n` on is. -/
theorem softmax_row {N : ℕ} (s v : ℕ → EReal) (s' v' : Fin N → EReal) (r : ℝ) (n k₀ : ℕ) (hn : n ≤ N)
    (hs : ∀ k : Fin N, s' k = s k + (r : EReal)) (hv : ∀ k : Fin N, v' k = v k)
    (hu : ∀ k, n ≤ k → k < N → s k = ⊥) (hk : k₀ < n) (h₀ : s k₀ ≠ ⊥) (ht : ∀ k, k < n → s k ≠ ⊤) :
    ∑ k : Fin N, Ideal.div (Ideal.exp (s' k - Finset.univ.fold max ⊥ s'))
        (∑ j : Fin N, Ideal.exp (s' j - Finset.univ.fold max ⊥ s')) * v' k
      = Ideal.div (rowAcc s v n) (rowSum s n) := by
  have hmax : Finset.univ.fold max ⊥ s' = rowMax s N + (r : EReal) := by
    have e : rowMax s N = Finset.univ.sup fun k : Fin N => s k := by
      have := rowMax_add s 0 N
      simpa [rowMax_zero, fold_max_eq_sup] using this
    rw [fold_max_eq_sup, e, ← sup_add_real]
    exact congrArg _ (funext hs)
  have hexp : ∀ k : Fin N, Ideal.exp (s' k - Finset.univ.fold max ⊥ s') = Ideal.exp (s k - rowMax s N) := fun k => by
    rw [hmax, hs k, sub_add_real]
  have hsum : ∑ j : Fin N, Ideal.exp (s' j - Finset.univ.fold max ⊥ s') = rowSum s n := by
    rw [← rowSum_unseen s hn hu, rowSum, Finset.sum_range]
    exact Finset.sum_congr rfl fun k _ => hexp k
  obtain ⟨L, hL, eL⟩ := rowSum_pos s n k₀ hk h₀ ht
  rw [hsum, eL, Ideal.div_coe hL.ne', ← rowAcc_unseen s v hn hu, rowAcc, mul_comm,
    real_mul_sum _ _ (by positivity), Finset.sum_range]
  refine Finset.sum_congr rfl fun k _ => ?_
  rw [hexp, hv, Ideal.div_coe hL.ne']
  ac_rfl

end Cert.Softmax

end
-- ==== Proof.FoxStep.lean ====
module
public import proofs.«01_k».proof.Proof.Gen.KernelIdeal.Value
public import proofs.«01_k».proof.Proof.Softmax
public import Idealize.ShloMosaic.Lib.Pipeline.ValueKit
public import Idealize.ShloMosaic.Lib.Pointwise
@[expose] public section
/-! One key tile of the forgetting attention, for one head of the pair a grid point holds: what the
    running maximum, the running sum and the running product become, as functions of the tile's
    scores alone; and the scores themselves. -/
set_option maxRecDepth 16384
noncomputable section
namespace Cert.FoxStep
open Cert.KernelIdeal Cert.KernelIdeal.Gen Idealize.ShloMosaic Idealize.ShloMosaic.TcCoe Idealize.SL.Sem
open Cert.Softmax

/-- The kernel's word for minus infinity. -/
theorem ofBits_bot : Ideal.ofBits .f32 0xFF800000#32 = (⊥ : EReal) := by decide +kernel

/-- Two coordinates below 2³¹ compare as numbers. -/
theorem sge_coord (a b : ℕ) (ha : a < 2 ^ 31) (hb : b < 2 ^ 31) (x y : EReal) :
    Scalar.select (IntOp.cmpi .sge (BitVec.ofNat 32 a) (BitVec.ofNat 32 b)) x y = if b ≤ a then x else y := by
  have e : IntOp.cmpi .sge (BitVec.ofNat 32 a) (BitVec.ofNat 32 b) = BitVec.ofBool (decide (b ≤ a)) := by
    have h1 : (BitVec.ofNat 32 a).toInt = a := by rw [BitVec.toInt_ofNat']; simp [Int.bmod]; omega
    have h2 : (BitVec.ofNat 32 b).toInt = b := by rw [BitVec.toInt_ofNat']; simp [Int.bmod]; omega
    simp [IntOp.cmpi, BitVec.sle, BitVec.slt, h1, h2]
  rw [e]
  by_cases h : b ≤ a <;> simp [Scalar.select, h]

theorem slt_coord (a b : ℕ) (ha : a < 2 ^ 31) (hb : b < 2 ^ 31) (x y : EReal) :
    Scalar.select (IntOp.cmpi .slt (BitVec.ofNat 32 a) (BitVec.ofNat 32 b)) x y = if a < b then x else y := by
  have e : IntOp.cmpi .slt (BitVec.ofNat 32 a) (BitVec.ofNat 32 b) = BitVec.ofBool (decide (a < b)) := by
    have h1 : (BitVec.ofNat 32 a).toInt = a := by rw [BitVec.toInt_ofNat']; simp [Int.bmod]; omega
    have h2 : (BitVec.ofNat 32 b).toInt = b := by rw [BitVec.toInt_ofNat']; simp [Int.bmod]; omega
    simp [IntOp.cmpi, BitVec.sle, BitVec.slt, h1, h2]
  rw [e]
  by_cases h : a < b <;> simp [Scalar.select, h]

/-- The largest score after a tile: the one before it against the tile's. -/
def newMax (a : FVec Ideal S512x1 .f32) (S : FVec Ideal S512x512 .f32) : FVec Ideal S512x1 .f32 :=
  maximumf a (shapeCast S512x1 (multiReduction .maximumf [1] S512 S 0xFF800000#32 reduces_S512x512_S512 (.inl rfl) rfl) shapeCasts_S512_S512x1)

/-- The factor an earlier sum is brought to the new maximum by. -/
def scale (a : FVec Ideal S512x1 .f32) (S : FVec Ideal S512x512 .f32) : FVec Ideal S512x1 .f32 :=
  exp (subf a (newMax a S))

/-- The tile's weights against the new maximum. -/
def weights (a : FVec Ideal S512x1 .f32) (S : FVec Ideal S512x512 .f32) : FVec Ideal S512x512 .f32 :=
  exp (subf S (broadcastTo S512x512 (newMax a S) broadcasts_S512x1_S512x512))

/-- The sum of the weights after a tile. -/
def newSum (a l : FVec Ideal S512x1 .f32) (S : FVec Ideal S512x512 .f32) : FVec Ideal S512x1 .f32 :=
  addf (mulf (scale a S) l) (shapeCast S512x1 (multiReduction .add [1] S512 (weights a S) 0x00000000#32 reduces_S512x512_S512 (.inl rfl) rfl) shapeCasts_S512_S512x1)

/-- The weighted values after a tile. -/
def newAcc (a : FVec Ideal S512x1 .f32) (A : FVec Ideal S512x128 .f32) (S : FVec Ideal S512x512 .f32) (V : FVec Ideal S512x128 .bf16) : FVec Ideal S512x128 .f32 :=
  addf (mulf (broadcastTo S512x128 (scale a S) broadcasts_S512x1_S512x128) A)
    (matmul dot_S512x512_S512x128_S512x128_1_0_0_1_n_n none (truncf .bf16 (weights a S) bitsLt_bf16_f32) V (constant S512x128 .f32 0x00000000#32))

variable (a l : FVec Ideal S512x1 .f32) (A : FVec Ideal S512x128 .f32) (S : FVec Ideal S512x512 .f32) (V : FVec Ideal S512x128 .bf16)
variable (s v : ℕ → EReal) (n : ℕ) (r : Fin 512) (d : Fin 128)

theorem newMax_at (ha : a (ix2 r 0) = rowMax s n) (hS : ∀ t : Fin 512, S (ix2 r t) = s (n + t)) :
    newMax a S (ix2 r 0) = rowMax s (n + 512) := by
  pointwise [newMax]
  rw [rowMax_add, ha, ofBits_bot]
  simp only [hS]

theorem scale_at (ha : a (ix2 r 0) = rowMax s n) (hS : ∀ t : Fin 512, S (ix2 r t) = s (n + t)) :
    scale a S (ix2 r 0) = Ideal.exp (rowMax s n - rowMax s (n + 512)) := by
  pointwise [scale]
  rw [newMax_at a S s n r ha hS, ha]

theorem weights_at (ha : a (ix2 r 0) = rowMax s n) (hS : ∀ t : Fin 512, S (ix2 r t) = s (n + t)) (t : Fin 512) :
    weights a S (ix2 r t) = Ideal.exp (s (n + t) - rowMax s (n + 512)) := by
  pointwise [weights]
  rw [newMax_at a S s n r ha hS, hS]

theorem newSum_at (ha : a (ix2 r 0) = rowMax s n) (hl : l (ix2 r 0) = rowSum s n) (hS : ∀ t : Fin 512, S (ix2 r t) = s (n + t)) :
    newSum a l S (ix2 r 0) = rowSum s (n + 512) := by
  pointwise [newSum]
  rw [scale_at a S s n r ha hS, hl, rowSum_add]
  simp only [weights_at a S s n r ha hS]

theorem newAcc_at (ha : a (ix2 r 0) = rowMax s n) (hA : A (ix2 r d) = rowAcc s v n) (hS : ∀ t : Fin 512, S (ix2 r t) = s (n + t))
    (hV : ∀ t : Fin 512, V (ix2 t d) = v (n + t)) :
    newAcc a A S V (ix2 r d) = rowAcc s v (n + 512) := by
  pointwise [newAcc]
  rw [scale_at a S s n r ha hS, hA, rowAcc_add]
  simp only [weights_at a S s n r ha hS, hV]

theorem pay4_eq (q : FVec Ideal S512x128 .bf16) (K : Vec Ideal S1x512x128 .bf16) (C : Vec Ideal S1x1x1x512 .f32) :
    k0_pay4 q a K C = newMax a (k0_pay3 q K C) := rfl
theorem pay7_eq (q : FVec Ideal S512x128 .bf16) (K : Vec Ideal S1x512x128 .bf16) (C : Vec Ideal S1x1x1x512 .f32) :
    k0_pay7 q a l K C = newSum a l (k0_pay3 q K C) := rfl
theorem pay8_eq (q : FVec Ideal S512x128 .bf16) (K W : Vec Ideal S1x512x128 .bf16) (C : Vec Ideal S1x1x1x512 .f32) :
    k0_pay8 q a A W K C = newAcc a A (k0_pay3 q K C) (k0_pay2 W) := rfl
theorem pay29_eq (T : FVec Ideal S512x512 .f32) (C : Vec Ideal S1x1x1x512 .f32) :
    k0_pay29 a T C = newMax a (k0_pay28 T C) := rfl
theorem pay32_eq (T : FVec Ideal S512x512 .f32) (C : Vec Ideal S1x1x1x512 .f32) :
    k0_pay32 a l T C = newSum a l (k0_pay28 T C) := rfl
theorem pay33_eq (T : FVec Ideal S512x512 .f32) (C : Vec Ideal S1x1x1x512 .f32) :
    k0_pay33 a A V T C = newAcc a A (k0_pay28 T C) V := rfl
theorem pay46_eq (T : FVec Ideal S512x512 .f32) (C : Vec Ideal S1x1x1x512 .f32) :
    k0_pay46 a l T C = newSum a l (k0_pay42 T C) := rfl
theorem pay47_eq (T : FVec Ideal S512x512 .f32) (C : Vec Ideal S1x1x1x512 .f32) :
    k0_pay47 a A V T C = newAcc a A (k0_pay42 T C) V := rfl

/-- A head's scores of a key tile before the mask: lane by lane over the pair's 128 lanes, the
    other head's lanes of the query at zero. -/
theorem pay3_lo (q : Vec Ideal S1x512x128 .bf16) (K : Vec Ideal S1x512x128 .bf16) (C : Vec Ideal S1x1x1x512 .f32) (t : Fin 512) :
    k0_pay3 (k0_pay20 q) K C (ix2 r t) = (∑ e : Fin 128, if e.val < 64 then q (ix3 0 r e) * K (ix3 0 t e) else 0) + C (ix4 0 0 0 t) := by
  have hx : ∀ (e : Fin 128) (z : EReal), Scalar.select (IntOp.cmpi .slt (BitVec.ofNat 32 e.val) 64#32) z 0 = if e.val < 64 then z else 0 := fun e z => slt_coord e.val 64 (by omega) (by norm_num) z 0
  generalize hG : (∑ e : Fin 128, if e.val < 64 then q (ix3 0 r e) * K (ix3 0 t e) else 0) = G
  pointwise [k0_pay3, k0_pay20, k0_pay19, k0_pay18]
  simp only [hx, hG]

theorem pay28_hi (q : Vec Ideal S1x512x128 .bf16) (K : Vec Ideal S1x512x128 .bf16) (C : Vec Ideal S1x1x1x512 .f32) (t : Fin 512) :
    k0_pay28 (k0_pay9 (k0_pay21 q) K) C (ix2 r t) = (∑ e : Fin 128, if 64 ≤ e.val then q (ix3 0 r e) * K (ix3 0 t e) else 0) + C (ix4 0 0 0 t) := by
  have hx : ∀ (e : Fin 128) (z : EReal), Scalar.select (IntOp.cmpi .sge (BitVec.ofNat 32 e.val) 64#32) z 0 = if 64 ≤ e.val then z else 0 := fun e z => sge_coord e.val 64 (by omega) (by norm_num) z 0
  generalize hG : (∑ e : Fin 128, if 64 ≤ e.val then q (ix3 0 r e) * K (ix3 0 t e) else 0) = G
  pointwise [k0_pay28, k0_pay9, k0_pay21, k0_pay19, k0_pay18]
  simp only [hx, hG]

theorem pay42_lo (q : Vec Ideal S1x512x128 .bf16) (K : Vec Ideal S1x512x128 .bf16) (C : Vec Ideal S1x1x1x512 .f32) (t : Fin 512) :
    k0_pay42 (k0_pay41 q K) C (ix2 r t) = if t ≤ r then (∑ e : Fin 128, if e.val < 64 then q (ix3 0 r e) * K (ix3 0 t e) else 0) + C (ix4 0 0 0 t) else ⊥ := by
  have hx : ∀ (e : Fin 128) (z : EReal), Scalar.select (IntOp.cmpi .slt (BitVec.ofNat 32 e.val) 64#32) z 0 = if e.val < 64 then z else 0 := fun e z => slt_coord e.val 64 (by omega) (by norm_num) z 0
  generalize hG : (∑ e : Fin 128, if e.val < 64 then q (ix3 0 r e) * K (ix3 0 t e) else 0) = G
  pointwise [k0_pay42, k0_pay41, k0_pay20, k0_pay19, k0_pay18]
  simp only [hx, hG]
  rw [ofBits_bot, sge_coord _ _ (by omega) (by omega)]
  rfl

theorem pay48_hi (q : Vec Ideal S1x512x128 .bf16) (K : Vec Ideal S1x512x128 .bf16) (C : Vec Ideal S1x1x1x512 .f32) (t : Fin 512) :
    k0_pay48 (k0_pay21 q) K C (ix2 r t) = if t ≤ r then (∑ e : Fin 128, if 64 ≤ e.val then q (ix3 0 r e) * K (ix3 0 t e) else 0) + C (ix4 0 0 0 t) else ⊥ := by
  have hx : ∀ (e : Fin 128) (z : EReal), Scalar.select (IntOp.cmpi .sge (BitVec.ofNat 32 e.val) 64#32) z 0 = if 64 ≤ e.val then z else 0 := fun e z => sge_coord e.val 64 (by omega) (by norm_num) z 0
  generalize hG : (∑ e : Fin 128, if 64 ≤ e.val then q (ix3 0 r e) * K (ix3 0 t e) else 0) = G
  pointwise [k0_pay48, k0_pay21, k0_pay19, k0_pay18]
  simp only [hx, hG]
  rw [ofBits_bot, sge_coord _ _ (by omega) (by omega)]
  rfl

/-- The block the body stores: both heads finished, each in its half of the lanes. -/
theorem pay1_at (q K W : Vec Ideal S1x512x128 .bf16) (C : Vec Ideal S1x1x1x512 .f32) (l₀ : FVec Ideal S512x1 .f32) (A₀ : FVec Ideal S512x128 .f32)  :
    k0_pay1 a l A (k0_pay40 W) l₀ A₀ (k0_pay48 (k0_pay21 q) K C) (k0_pay49 (k0_pay21 q) K C) (ix3 0 r d)
     = if d.val < 64 then Ideal.div (A₀ (ix2 r d)) (l₀ (ix2 r 0)) else
       Ideal.div (newAcc a A (k0_pay48 (k0_pay21 q) K C) (k0_pay40 W) (ix2 r d)) (newSum a l (k0_pay48 (k0_pay21 q) K C) (ix2 r 0)) := by
  have e : k0_pay49 (k0_pay21 q) K C = multiReduction .maximumf [1] S512 (k0_pay48 (k0_pay21 q) K C) 0xFF800000#32 reduces_S512x512_S512 (.inl rfl) rfl := rfl
  rw [e]
  generalize k0_pay48 (k0_pay21 q) K C = S
  pointwise [k0_pay1, newAcc, newSum, scale, weights, newMax]
  exact slt_coord d.val 64 (by omega) (by norm_num) _ _
end Cert.FoxStep
end
-- ==== Proof.FoxBlock.lean ====
module
public import proofs.«01_k».proof.Proof.FoxStep
@[expose] public section
/-! What one grid point of the forgetting attention stores: the softmax quotients of its 512 query
    rows, by the loops over the key tiles. -/
set_option maxRecDepth 16384
noncomputable section
namespace Cert.FoxBlock
open Cert.KernelIdeal Cert.KernelIdeal.Gen Idealize.ShloMosaic Idealize.ShloMosaic.TcCoe Idealize.SL.Sem
open Idealize.ShloMosaic.Pipeline (Dat)
open Cert.Softmax Cert.FoxStep
variable (m : (ℓ : Loc nD τ sig) → Buf (Elt Ideal) ℓ) (c : Dev nD) (t : Fin cfg0.N)

/-- The tile of query rows a grid point works on. -/
abbrev tile : ℕ := (grid0.coords t 2).val

/-- Query row `r`'s lanes in the point's block. -/
def query (r : Fin 512) (e : Fin 128) : EReal := iblk m c 0 t (ix3 0 r e)

/-- Key `j`'s lanes in the point's block (zero past the last key, which no row reaches). -/
def key (j : ℕ) (e : Fin 128) : EReal := if h : j < 4096 then iblk m c 1 t (ix3 0 ⟨j, h⟩ e) else 0

/-- Value `j`'s lane in the point's block. -/
def val (e : Fin 128) (j : ℕ) : EReal := if h : j < 4096 then iblk m c 2 t (ix3 0 ⟨j, h⟩ e) else 0

/-- The negated running log forget gate at key `j`, of the pair's head `g`. -/
def gate (g : Fin 2) (j : ℕ) : EReal := if h : j < 4096 then iblk m c 3 t (ix4 0 g 0 ⟨j, h⟩) else 0

/-- The masked scores of query row `r` for the head in the low lanes. -/
def scoreLo (r : Fin 512) (j : ℕ) : EReal :=
  if j ≤ 512 * tile t + r.val then (∑ e : Fin 128, if e.val < 64 then query m c t r e * key m c t j e else 0) + gate m c t 0 j else ⊥

/-- The masked scores of query row `r` for the head in the high lanes. -/
def scoreHi (r : Fin 512) (j : ℕ) : EReal :=
  if j ≤ 512 * tile t + r.val then (∑ e : Fin 128, if 64 ≤ e.val then query m c t r e * key m c t j e else 0) + gate m c t 1 j else ⊥

/-- What the loops carry: per head of the pair the maximum, the sum and the weighted values. -/
abbrev Carried := FVec Ideal S512x1 .f32 × FVec Ideal S512x1 .f32 × FVec Ideal S512x128 .f32 × FVec Ideal S512x1 .f32 × FVec Ideal S512x1 .f32 × FVec Ideal S512x128 .f32

/-- The carried values are those of the first `n` keys. -/
structure Seen (x : Carried) (n : ℕ) : Prop where
  maxLo : ∀ r : Fin 512, x.1 (ix2 r 0) = rowMax (scoreLo m c t r) n
  sumLo : ∀ r : Fin 512, x.2.1 (ix2 r 0) = rowSum (scoreLo m c t r) n
  accLo : ∀ (r : Fin 512) (d : Fin 128), x.2.2.1 (ix2 r d) = rowAcc (scoreLo m c t r) (val m c t d) n
  maxHi : ∀ r : Fin 512, x.2.2.2.1 (ix2 r 0) = rowMax (scoreHi m c t r) n
  sumHi : ∀ r : Fin 512, x.2.2.2.2.1 (ix2 r 0) = rowSum (scoreHi m c t r) n
  accHi : ∀ (r : Fin 512) (d : Fin 128), x.2.2.2.2.2 (ix2 r d) = rowAcc (scoreHi m c t r) (val m c t d) n

/-- A value tile without its leading axis. -/
theorem lanes (W : Vec Ideal S1x512x128 .bf16) (s : Fin 512) (e : Fin 128) : k0_pay2 W (ix2 s e) = W (ix3 0 s e) := by
  pointwise [k0_pay2]

/-- Before the first key tile. -/
abbrev start : Carried := (k0_pay22, k0_pay23, k0_pay24, k0_pay25, k0_pay26, k0_pay27)

theorem seen_start : Seen m c t start 0 := by
  constructor
  · intro r; rw [rowMax_zero]; exact ofBits_bot
  · intro r; rw [rowSum_zero]; pointwise [k0_pay23]
  · intro r d; rw [rowAcc_zero]; pointwise [k0_pay24]
  · intro r; rw [rowMax_zero]; exact ofBits_bot
  · intro r; rw [rowSum_zero]; pointwise [k0_pay26]
  · intro r d; rw [rowAcc_zero]; pointwise [k0_pay27]

/-- The number of key tiles wholly before the query tile. -/
theorem trips1 : ∀ t : Fin cfg0.N, (k0_t1_loop (grid0.coords t)).trips = tile t :=
  (by decide +kernel : ∀ t : Fin grid0.N, _)

theorem tile_lt : ∀ t : Fin cfg0.N, tile t < 8 :=
  (by decide +kernel : ∀ t : Fin grid0.N, (grid0.coords t 2).val < 8)

/-- The carried values before trip `k` of the loop over whole key tiles. -/
abbrev st1 (k : ℕ) : Carried := st_k0_t1 (F := Ideal) Variants.none c none (grid0.coords t) (ms0_0 t) (hs0_0 t) (ms0_1 t) (hs0_1 t) (ms0_2 t) (hs0_2 t) (ms0_3 t) (hs0_3 t) (ms0_4 t) (hs0_4 t) (iblk m c 0 t) ((hs0_1 t).unread (iblk m c 1 t)) ((hs0_2 t).unread (iblk m c 2 t)) ((hs0_3 t).unread (iblk m c 3 t)) start k

theorem seen_trip (k : Fin (k0_t1_loop (grid0.coords t)).trips) (x : Carried) (h : Seen m c t x (512 * k.val)) :
    Seen m c t (tripR_k0_t1 Variants.none c none (grid0.coords t) (ms0_0 t) (hs0_0 t) (ms0_1 t) (hs0_1 t) (ms0_2 t) (hs0_2 t) (ms0_3 t) (hs0_3 t) (ms0_4 t) (hs0_4 t) (iblk m c 0 t) ((hs0_1 t).unread (iblk m c 1 t)) ((hs0_2 t).unread (iblk m c 2 t)) ((hs0_3 t).unread (iblk m c 3 t)) k x) (512 * k.val + 512) := by
  have hk : k.val < tile t := lt_of_lt_of_eq k.isLt (trips1 t)
  have ht := tile_lt t
  unfold tripR_k0_t1 trip_k0_t1
  frame_out
  have hK : ∀ (s : Fin 512) (e : Fin 128), View.ld (iblk m c 1 t) (Rect.unit (k0_off1 (grid0.coords t) k) ![1, 512, 128] (k0_off1_inb _ _)) (ix3 0 s e) = key m c t (512 * k.val + s.val) e := by
    intro s e
    pointwise
    unfold key
    rw [dif_pos (by omega)]
    congr 1
    simp only [k0_off1_eq]
    congr 1
    exact Fin.ext (Nat.zero_add _)
  have hV : ∀ (s : Fin 512) (e : Fin 128), View.ld (iblk m c 2 t) (Rect.unit (k0_off1 (grid0.coords t) k) ![1, 512, 128] (k0_off1_inb _ _)) (ix3 0 s e) = val m c t e (512 * k.val + s.val) := by
    intro s e
    pointwise
    unfold val
    rw [dif_pos (by omega)]
    congr 1
    simp only [k0_off1_eq]
    congr 1
    exact Fin.ext (Nat.zero_add _)
  have hC : ∀ (s : Fin 512), View.ld (iblk m c 3 t) (Rect.unit (k0_off2 (grid0.coords t) k) ![1, 1, 1, 512] (k0_off2_inb _ _)) (ix4 0 0 0 s) = gate m c t 0 (512 * k.val + s.val) := by
    intro s
    pointwise
    unfold gate
    rw [dif_pos (by omega)]
    congr 1
    simp only [k0_off2_eq]
    rfl
  have hD : ∀ (s : Fin 512), View.ld (iblk m c 3 t) (Rect.unit (k0_off3 (grid0.coords t) k) ![1, 1, 1, 512] (k0_off3_inb _ _)) (ix4 0 0 0 s) = gate m c t 1 (512 * k.val + s.val) := by
    intro s
    pointwise
    unfold gate
    rw [dif_pos (by omega)]
    congr 1
    simp only [k0_off3_eq]
    rfl
  have hlo : ∀ (r s : Fin 512), k0_pay3 (k0_pay20 (iblk m c 0 t)) (View.ld (iblk m c 1 t) (Rect.unit (k0_off1 (grid0.coords t) k) ![1, 512, 128] (k0_off1_inb _ _)))
      (View.ld (iblk m c 3 t) (Rect.unit (k0_off2 (grid0.coords t) k) ![1, 1, 1, 512] (k0_off2_inb _ _))) (ix2 r s) = scoreLo m c t r (512 * k.val + s.val) := by
    intro r s
    rw [pay3_lo, hC s]
    unfold scoreLo
    rw [if_pos (by omega)]
    simp only [hK]
    rfl
  have hhi : ∀ (r s : Fin 512), k0_pay28 (k0_pay9 (k0_pay21 (iblk m c 0 t)) (View.ld (iblk m c 1 t) (Rect.unit (k0_off1 (grid0.coords t) k) ![1, 512, 128] (k0_off1_inb _ _))))
      (View.ld (iblk m c 3 t) (Rect.unit (k0_off3 (grid0.coords t) k) ![1, 1, 1, 512] (k0_off3_inb _ _))) (ix2 r s) = scoreHi m c t r (512 * k.val + s.val) := by
    intro r s
    rw [pay28_hi, hD s]
    unfold scoreHi
    rw [if_pos (by omega)]
    simp only [hK]
    rfl
  have hV' : ∀ (s : Fin 512) (e : Fin 128), k0_pay2 (View.ld (iblk m c 2 t) (Rect.unit (k0_off1 (grid0.coords t) k) ![1, 512, 128] (k0_off1_inb _ _))) (ix2 s e) = val m c t e (512 * k.val + s.val) := by
    intro s e
    rw [← hV]
    exact lanes _ s e
  constructor
  · intro r; rw [pay4_eq]; exact newMax_at _ _ _ _ r (h.maxLo r) (hlo r)
  · intro r; rw [pay7_eq]; exact newSum_at _ _ _ _ _ r (h.maxLo r) (h.sumLo r) (hlo r)
  · intro r d; rw [pay8_eq]; exact newAcc_at _ _ _ _ _ _ _ r d (h.maxLo r) (h.accLo r d) (hlo r) fun s => hV' s d
  · intro r; rw [pay29_eq]; exact newMax_at _ _ _ _ r (h.maxHi r) (hhi r)
  · intro r; rw [pay32_eq]; exact newSum_at _ _ _ _ _ r (h.maxHi r) (h.sumHi r) (hhi r)
  · intro r d; rw [pay33_eq]; exact newAcc_at _ _ _ _ _ _ _ r d (h.maxHi r) (h.accHi r d) (hhi r) fun s => hV' s d

/-- The loop over whole key tiles leaves the carried values of all keys before the query tile. -/
theorem seen_st1 (k : ℕ) (hk : k ≤ tile t) : Seen m c t (st1 m c t k) (512 * k) := by
  induction k with
  | zero => exact seen_start m c t
  | succ k ih =>
    have hk' : k < (k0_t1_loop (grid0.coords t)).trips := by rw [trips1]; omega
    have e := st_k0_t1_succ (F := Ideal) Variants.none c none (grid0.coords t) (ms0_0 t) (hs0_0 t) (ms0_1 t) (hs0_1 t) (ms0_2 t) (hs0_2 t) (ms0_3 t) (hs0_3 t) (ms0_4 t) (hs0_4 t) (iblk m c 0 t) ((hs0_1 t).unread (iblk m c 1 t)) ((hs0_2 t).unread (iblk m c 2 t)) ((hs0_3 t).unread (iblk m c 3 t)) start ⟨k, hk'⟩
    unfold st1
    rw [e]
    exact seen_trip m c t ⟨k, hk'⟩ _ (ih (by omega))

/-- The loop after it has no trip. -/
theorem trips2 : ∀ t : Fin cfg0.N, (k0_t2_loop (grid0.coords t)).trips = 0 :=
  (by decide +kernel : ∀ t : Fin grid0.N, _)

/-- What the point stores: each query row's weighted values over its weights' sum, of the keys up to
    the end of its own tile. -/
theorem stored (r : Fin 512) (d : Fin 128) : (dats m 0 c).after 4 t (ix3 0 r d)
    = if d.val < 64 then Ideal.div (rowAcc (scoreLo m c t r) (val m c t d) (512 * tile t + 512)) (rowSum (scoreLo m c t r) (512 * tile t + 512))
      else Ideal.div (rowAcc (scoreHi m c t r) (val m c t d) (512 * tile t + 512)) (rowSum (scoreHi m c t r) (512 * tile t + 512)) := by
  rw [after0_4]
  unfold outsAt0
  frame_out
  generalize hS : st_k0_t2 (F := Ideal) _ _ _ _ _ _ _ _ _ _ _ _ _ _ _ _ _ _ _ _ _ = S2
  have h : Seen m c t S2 (512 * tile t) := by
    rw [← hS]
    rw [show Scf.trips (Scalar.addi (0#32) (Scalar.muli (Scalar.divsi (Scalar.subi (BitVec.ofNat 32 ↑(grid0.coords t 2)) 0#32) 1#32) 1#32))
      (Scalar.addi (0#32) (Scalar.subi (BitVec.ofNat 32 ↑(grid0.coords t 2)) 0#32)) 1#32 = 0 from trips2 t, st_k0_t2_zero]
    rw [show Scf.trips (0#32) (Scalar.addi (0#32) (Scalar.muli (Scalar.divsi (Scalar.subi (BitVec.ofNat 32 ↑(grid0.coords t 2)) 0#32) 1#32) 1#32)) 1#32 = tile t from trips1 t]
    exact seen_st1 m c t (tile t) le_rfl
  clear hS
  have ht := tile_lt t
  have hK : ∀ (s : Fin 512) (e : Fin 128), View.ld (iblk m c 1 t) (Rect.unit (k0_off7 (grid0.coords t)) ![1, 512, 128] (k0_off7_inb _)) (ix3 0 s e) = key m c t (512 * tile t + s.val) e := by
    intro s e
    pointwise
    unfold key
    rw [dif_pos (by omega)]
    congr 1
    simp only [k0_off7_eq]
    congr 1
    exact Fin.ext (Nat.zero_add _)
  have hV : ∀ (s : Fin 512) (e : Fin 128), View.ld (iblk m c 2 t) (Rect.unit (k0_off7 (grid0.coords t)) ![1, 512, 128] (k0_off7_inb _)) (ix3 0 s e) = val m c t e (512 * tile t + s.val) := by
    intro s e
    pointwise
    unfold val
    rw [dif_pos (by omega)]
    congr 1
    simp only [k0_off7_eq]
    congr 1
    exact Fin.ext (Nat.zero_add _)
  have hC : ∀ (s : Fin 512), View.ld (iblk m c 3 t) (Rect.unit (k0_off8 (grid0.coords t)) ![1, 1, 1, 512] (k0_off8_inb _)) (ix4 0 0 0 s) = gate m c t 0 (512 * tile t + s.val) := by
    intro s
    pointwise
    unfold gate
    rw [dif_pos (by omega)]
    congr 1
    simp only [k0_off8_eq]
    rfl
  have hD : ∀ (s : Fin 512), View.ld (iblk m c 3 t) (Rect.unit (k0_off9 (grid0.coords t)) ![1, 1, 1, 512] (k0_off9_inb _)) (ix4 0 0 0 s) = gate m c t 1 (512 * tile t + s.val) := by
    intro s
    pointwise
    unfold gate
    rw [dif_pos (by omega)]
    congr 1
    simp only [k0_off9_eq]
    rfl
  have hlo : ∀ (r s : Fin 512), k0_pay42 (k0_pay41 (iblk m c 0 t) (View.ld (iblk m c 1 t) (Rect.unit (k0_off7 (grid0.coords t)) ![1, 512, 128] (k0_off7_inb _))))
      (View.ld (iblk m c 3 t) (Rect.unit (k0_off8 (grid0.coords t)) ![1, 1, 1, 512] (k0_off8_inb _))) (ix2 r s) = scoreLo m c t r (512 * tile t + s.val) := by
    intro r s
    rw [pay42_lo, hC s]
    simp only [hK]
    unfold scoreLo
    by_cases hs : s ≤ r
    · have hs' : s.val ≤ r.val := hs
      rw [if_pos hs, if_pos (by omega)]
      rfl
    · have hs' : ¬ s.val ≤ r.val := hs
      rw [if_neg hs, if_neg (by omega)]
  have hhi : ∀ (r s : Fin 512), k0_pay48 (k0_pay21 (iblk m c 0 t)) (View.ld (iblk m c 1 t) (Rect.unit (k0_off7 (grid0.coords t)) ![1, 512, 128] (k0_off7_inb _)))
      (View.ld (iblk m c 3 t) (Rect.unit (k0_off9 (grid0.coords t)) ![1, 1, 1, 512] (k0_off9_inb _))) (ix2 r s) = scoreHi m c t r (512 * tile t + s.val) := by
    intro r s
    rw [pay48_hi, hD s]
    simp only [hK]
    unfold scoreHi
    by_cases hs : s ≤ r
    · have hs' : s.val ≤ r.val := hs
      rw [if_pos hs, if_pos (by omega)]
      rfl
    · have hs' : ¬ s.val ≤ r.val := hs
      rw [if_neg hs, if_neg (by omega)]
  have hV' : ∀ (s : Fin 512) (e : Fin 128), k0_pay40 (View.ld (iblk m c 2 t) (Rect.unit (k0_off7 (grid0.coords t)) ![1, 512, 128] (k0_off7_inb _))) (ix2 s e) = val m c t e (512 * tile t + s.val) := by
    intro s e
    rw [← hV]
    exact lanes _ s e
  rw [pay1_at]
  by_cases hd : d.val < 64
  · rw [if_pos hd, if_pos hd, pay46_eq, pay47_eq]
    congr 1
    · exact newAcc_at _ _ _ _ _ _ _ r d (h.maxLo r) (h.accLo r d) (hlo r) fun s => hV' s d
    · exact newSum_at _ _ _ _ _ r (h.maxLo r) (h.sumLo r) (hlo r)
  · rw [if_neg hd, if_neg hd]
    congr 1
    · exact newAcc_at _ _ _ _ _ _ _ r d (h.maxHi r) (h.accHi r d) (hhi r) fun s => hV' s d
    · exact newSum_at _ _ _ _ _ r (h.maxHi r) (h.sumHi r) (hhi r)

end Cert.FoxBlock
end
-- ==== Proof.FoxArray.lean ====
module
public import proofs.«01_k».proof.Proof.FoxBlock
public import Idealize.ShloMosaic.Lib.Claim
@[expose] public section
/-! The forgetting attention's block reads as entries of the argument arrays. -/
set_option maxRecDepth 16384
noncomputable section
namespace Cert.FoxArray
open Cert.KernelIdeal Cert.KernelIdeal.Gen Idealize.ShloMosaic Idealize.ShloMosaic.TcCoe Idealize.SL.Sem
open Idealize.ShloMosaic.Pipeline (Dat)
open Cert.FoxBlock
variable (m : (ℓ : Loc nD τ sig) → Buf (Elt Ideal) ℓ) (c : Dev nD) (t : Fin cfg0.N)

/-- Where each window's block lies, at every grid point. -/
theorem place : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 1).val, 0, 0]
    ∧ win0_4.index t = ![(grid0.coords t 0).val, (grid0.coords t 2).val, (grid0.coords t 1).val]
    ∧ (grid0.coords t 0).val < 8 ∧ (grid0.coords t 1).val < 8 ∧ (grid0.coords t 2).val < 8 :=
  (by decide +kernel : ∀ t : Fin grid0.N, _)

/-- The point's batch entry and pair of heads. -/
def batch : Fin 8 := ⟨(grid0.coords t 0).val, (place t).2.2.2.2.2.1⟩
def pair : Fin 8 := ⟨(grid0.coords t 1).val, (place t).2.2.2.2.2.2.1⟩
def rows : Fin 8 := ⟨(grid0.coords t 2).val, (place t).2.2.2.2.2.2.2⟩

theorem query_read (r : Fin 512) (e : Fin 128) :
    query m c t r e = m ((c : Thread nD τ).loc main_arg0) (ix3 (batch t) ⟨512 * (rows t).val + r.val, by have := (rows t).isLt; omega⟩ ⟨128 * (pair t).val + e.val, by have := (pair t).isLt; omega⟩) := by
  unfold query batch rows pair
  blk_ext [iblk, V, place t]

theorem key_read (j : Fin 4096) (e : Fin 128) :
    key m c t j.val e = m ((c : Thread nD τ).loc main_arg1) (ix3 (batch t) j ⟨128 * (pair t).val + e.val, by have := (pair t).isLt; omega⟩) := by
  unfold key batch pair
  rw [dif_pos j.isLt]
  blk_ext [iblk, V, place t]

theorem val_read (j : Fin 4096) (e : Fin 128) :
    val m c t e j.val = m ((c : Thread nD τ).loc main_arg2) (ix3 (batch t) j ⟨128 * (pair t).val + e.val, by have := (pair t).isLt; omega⟩) := by
  unfold val batch pair
  rw [dif_pos j.isLt]
  blk_ext [iblk, V, place t]

theorem gate_read (j : Fin 4096) (g : Fin 2) :
    gate m c t g j.val = m ((c : Thread nD τ).loc main_arg3) (ix3 (batch t) ⟨2 * (pair t).val + g.val, by have := (pair t).isLt; omega⟩ j) := by
  unfold gate batch pair
  rw [dif_pos j.isLt]
  unfold iblk
  entry_read
  blk_simp
  pointwise
  change m ((c : Thread nD τ).loc main_arg3) _ = m ((c : Thread nD τ).loc main_arg3) _
  blk_ext [place t]

/-- A function of the result array, from what each point stores. -/
theorem of_stored (G : FVec Ideal S8x4096x1024 .bf16)
    (h : ∀ (t : Fin cfg0.N) (r : Fin 512) (d : Fin 128), (dats m 0 c).after 4 t (ix3 0 r d) = G (ix3 (batch t) ⟨512 * (rows t).val + r.val, by have := (rows t).isLt; omega⟩ ⟨128 * (pair t).val + d.val, by have := (pair t).isLt; omega⟩)) :
    (dats m 0 c).arrAt 4 cfg0.N = G := by
  refine (dats m 0 c).arrAt_eq_of_covers 4 _ (by decide +kernel) fun t _ y => ?_
  blk_simp
  obtain ⟨z, r, d, rfl⟩ : ∃ (z : Fin 1) (r : Fin 512) (d : Fin 128), y = ix3 z r d := ⟨y 0, y 1, y 2, by funext a; fin_cases a <;> rfl⟩
  obtain rfl : z = 0 := Subsingleton.elim _ _
  rw [h]
  unfold batch rows pair
  blk_ext [place t]
end Cert.FoxArray
end
-- ==== Proof.FoxRef.lean ====
module
public import proofs.«01_k».proof.Proof.Gen.ReferenceIdeal.Run
public import proofs.«01_k».proof.Proof.FoxStep
public import Idealize.ShloMosaic.Lib.Pointwise
@[expose] public section
/-! The forgetting attention as the reference writes it, read at one result: the masked scores of the
    result's query row, their softmax, the weighted sum of the values. -/
set_option maxRecDepth 16384
noncomputable section
namespace Cert.FoxRef
open Cert.ReferenceIdeal Cert.ReferenceIdeal.Gen Idealize.ShloMosaic Idealize.ShloMosaic.TcCoe Idealize.SL.Sem

/-- Which keys a query row sees: those not after it. -/
def mask : IVec S8x16x4096x4096 1 :=
  broadcastInDim S8x16x4096x4096 ![2, 3] bcast_S4096x4096_S8x16x4096x4096_2_3 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))

theorem mask_at (b : Fin 8) (h : Fin 16) (s j : Fin 4096) :
    mask (ix4 b h s j) = IntOp.cmpi .sge (BitVec.ofNat 32 s) (BitVec.ofNat 32 j) := by
  pointwise [mask]

/-- The query rows against the keys, head by head. -/
def dots (q k : FVec Ideal S8x4096x1024 .bf16) : FVec Ideal S8x16x4096x4096 .f32 :=
  Host.dotGeneral dot_S8x16x4096x64_S8x16x4096x64_S8x16x4096x4096_3_3_2_2_01_01 none
    (transpose S8x16x4096x64 [0, 2, 1, 3] (shapeCast _ (extf .f32 q bitsLt_bf16_f32) shapeCasts_S8x4096x1024_S8x4096x16x64) transposes_S8x4096x16x64_S8x16x4096x64_0_2_1_3)
    (transpose S8x16x4096x64 [0, 2, 1, 3] (shapeCast _ (extf .f32 k bitsLt_bf16_f32) shapeCasts_S8x4096x1024_S8x4096x16x64) transposes_S8x4096x16x64_S8x16x4096x64_0_2_1_3)

theorem dots_at (q k : FVec Ideal S8x4096x1024 .bf16) (b : Fin 8) (h : Fin 16) (s j : Fin 4096) :
    dots q k (ix4 b h s j) = ∑ x : Fin 64, q (ix3 b s ⟨h.val * 64 + x.val, by omega⟩) * k (ix3 b j ⟨h.val * 64 + x.val, by omega⟩) := by
  pointwise [dots]

/-- The running log forget gates, the query row's less the key's. -/
def gates (g : FVec Ideal S8x16x4096 .f32) : FVec Ideal S8x16x4096x4096 .f32 :=
  subf (broadcastInDim S8x16x4096x4096 ![0, 1, 2, 3] bcast_S8x16x4096x1_S8x16x4096x4096_0_1_2_3 (broadcastInDim S8x16x4096x1 ![0, 1, 2] bcast_S8x16x4096_S8x16x4096x1_0_1_2 (Host.negf g)))
    (broadcastInDim S8x16x4096x4096 ![0, 1, 2, 3] bcast_S8x16x1x4096_S8x16x4096x4096_0_1_2_3 (broadcastInDim S8x16x1x4096 ![0, 1, 3] bcast_S8x16x4096_S8x16x1x4096_0_1_3 (Host.negf g)))

theorem gates_at (g : FVec Ideal S8x16x4096 .f32) (b : Fin 8) (h : Fin 16) (s j : Fin 4096) :
    gates g (ix4 b h s j) = -g (ix3 b h s) - -g (ix3 b h j) := by
  pointwise [gates]

/-- Minus infinity everywhere, for the unseen keys. -/
def unseen : FVec Ideal S8x16x4096x4096 .f32 :=
  broadcastInDim S8x16x4096x4096 ![] bcast_S_S8x16x4096x4096 (id (constant (F := Ideal) S_ .f32 0xFF800000#32))

theorem unseen_at (b : Fin 8) (h : Fin 16) (s j : Fin 4096) : unseen (ix4 b h s j) = ⊥ := by
  rw [← Cert.FoxStep.ofBits_bot]
  pointwise [unseen, id]

/-- The masked scores. -/
def scores (q k : FVec Ideal S8x4096x1024 .bf16) (g : FVec Ideal S8x16x4096 .f32) : FVec Ideal S8x16x4096x4096 .f32 :=
  select mask (addf (dots q k) (gates g)) unseen

theorem scores_at (q k : FVec Ideal S8x4096x1024 .bf16) (g : FVec Ideal S8x16x4096 .f32) (b : Fin 8) (h : Fin 16) (s j : Fin 4096) :
    scores q k g (ix4 b h s j) = if j.val ≤ s.val then
      (∑ x : Fin 64, q (ix3 b s ⟨h.val * 64 + x.val, by omega⟩) * k (ix3 b j ⟨h.val * 64 + x.val, by omega⟩)) + (-g (ix3 b h s) - -g (ix3 b h j)) else ⊥ := by
  have e : scores q k g (ix4 b h s j) = Scalar.select (mask (ix4 b h s j)) (dots q k (ix4 b h s j) + gates g (ix4 b h s j)) (unseen (ix4 b h s j)) := rfl
  rw [e, mask_at, dots_at, gates_at, unseen_at, Cert.FoxStep.sge_coord _ _ (by omega) (by omega)]

/-- Each row's largest score. -/
def largest (S : FVec Ideal S8x16x4096x4096 .f32) : FVec Ideal S8x16x4096 .f32 :=
  Host.reduce FloatOps.maximumf S (constant S_ .f32 0xFF800000#32) reducesTo_S8x16x4096x4096_S8x16x4096_d3 h_S_

theorem largest_at (S : FVec Ideal S8x16x4096x4096 .f32) (b : Fin 8) (h : Fin 16) (s : Fin 4096) :
    largest S (ix3 b h s) = Finset.univ.fold max (Ideal.ofBits .f32 0xFF800000#32) fun i : Fin 4096 => S (ix4 b h s i) := by
  pointwise [largest]

/-- Against it, the exponentials of the scores. -/
def against (S : FVec Ideal S8x16x4096x4096 .f32) (M : FVec Ideal S8x16x4096 .f32) : FVec Ideal S8x16x4096x4096 .f32 :=
  Host.exp (subf S (broadcastInDim S8x16x4096x4096 ![0, 1, 2, 3] bcast_S8x16x4096x1_S8x16x4096x4096_0_1_2_3 (broadcastInDim S8x16x4096x1 ![0, 1, 2] bcast_S8x16x4096_S8x16x4096x1_0_1_2 (maximumf (broadcastInDim S8x16x4096 ![] bcast_S_S8x16x4096 (constant S_ .f32 0xFF800000#32)) M))))

theorem against_at (S : FVec Ideal S8x16x4096x4096 .f32) (M : FVec Ideal S8x16x4096 .f32) (b : Fin 8) (h : Fin 16) (s j : Fin 4096) :
    against S M (ix4 b h s j) = Ideal.exp (S (ix4 b h s j) - max (Ideal.ofBits .f32 0xFF800000#32) (M (ix3 b h s))) := by
  pointwise [against]

/-- The exponentials of the scores against their row's largest. -/
def weights (S : FVec Ideal S8x16x4096x4096 .f32) : FVec Ideal S8x16x4096x4096 .f32 := against S (largest S)

theorem weights_at (S : FVec Ideal S8x16x4096x4096 .f32) (b : Fin 8) (h : Fin 16) (s j : Fin 4096) :
    weights S (ix4 b h s j) = Ideal.exp (S (ix4 b h s j) - Finset.univ.fold max ⊥ fun i : Fin 4096 => S (ix4 b h s i)) := by
  rw [weights, against_at, largest_at, Cert.FoxStep.ofBits_bot, max_eq_right bot_le]

/-- The attention of the weights: each over its row's sum, times the values. -/
def attend (W : FVec Ideal S8x16x4096x4096 .f32) (v : FVec Ideal S8x4096x1024 .bf16) : FVec Ideal S8x4096x1024 .bf16 :=
  truncf .bf16 (shapeCast _ (transpose S8x4096x16x64 [0, 2, 1, 3] (Host.dotGeneral dot_S8x16x4096x4096_S8x16x4096x64_S8x16x4096x64_3_2_2_3_01_01 none
    (Host.divf W (broadcastInDim S8x16x4096x4096 ![0, 1, 2, 3] bcast_S8x16x4096x1_S8x16x4096x4096_0_1_2_3 (broadcastInDim S8x16x4096x1 ![0, 1, 2] bcast_S8x16x4096_S8x16x4096x1_0_1_2 (Host.reduceAdd W (constant S_ .f32 0x00000000#32) reducesTo_S8x16x4096x4096_S8x16x4096_d3 h_S_))))
    (transpose S8x16x4096x64 [0, 2, 1, 3] (shapeCast _ (extf .f32 v bitsLt_bf16_f32) shapeCasts_S8x4096x1024_S8x4096x16x64) transposes_S8x4096x16x64_S8x16x4096x64_0_2_1_3)) transposes_S8x16x4096x64_S8x4096x16x64_0_2_1_3) shapeCasts_S8x4096x16x64_S8x4096x1024) bitsLt_bf16_f32

theorem attend_at (W : FVec Ideal S8x16x4096x4096 .f32) (v : FVec Ideal S8x4096x1024 .bf16) (b : Fin 8) (s : Fin 4096) (l : Fin 1024) :
    attend W v (ix3 b s l) = ∑ j : Fin 4096, Ideal.div (W (ix4 b ⟨l.val / 64, by omega⟩ s j)) (∑ i : Fin 4096, W (ix4 b ⟨l.val / 64, by omega⟩ s i)) * v (ix3 b j l) := by
  pointwise [attend]

/-- The reference's result array. -/
theorem result (m : (ℓ : Loc nD τ sig) → Buf (Elt Ideal) ℓ) (c : Dev nD) :
    Value.res_main_v39 m c = attend (weights (scores (m ((c.tc : Thread nD τ).loc main_arg0)) (m ((c.tc : Thread nD τ).loc main_arg1)) (m ((c.tc : Thread nD τ).loc main_arg3)))) (m ((c.tc : Thread nD τ).loc main_arg2)) := rfl
end Cert.FoxRef
end
-- ==== Proof.Fox.lean ====
module
public import proofs.«01_k».proof.Proof.FoxArray
public import proofs.«01_k».proof.Proof.FoxRef
@[expose] public section
/-! The forgetting attention: the kernel's result array is the reference's, for finite queries, keys
    and gates. -/
set_option maxRecDepth 16384
noncomputable section
namespace Cert.Fox
open Cert.KernelIdeal Cert.KernelIdeal.Gen Idealize.ShloMosaic Idealize.ShloMosaic.TcCoe Idealize.SL.Sem
open Cert.FoxBlock Cert.FoxArray Cert.Softmax

/-- A sum of products of finite numbers is finite. -/
theorem finite_dot {ι : Type} (S : Finset ι) (x y : ι → EReal) (hx : ∀ i, ∃ a : ℝ, x i = a) (hy : ∀ i, ∃ a : ℝ, y i = a) :
    ∃ a : ℝ, ∑ i ∈ S, x i * y i = a := by
  classical
  choose f hf using hx
  choose g hg using hy
  refine ⟨∑ i ∈ S, f i * g i, ?_⟩
  induction S using Finset.induction_on with
  | empty => simp
  | insert i S hi ih => rw [Finset.sum_insert hi, Finset.sum_insert hi, ih, hf, hg]; push_cast; rfl

/-- A sum over the pair's lanes with the high half at zero is the low half's. -/
theorem sum_lo (f : Fin 128 → EReal) : (∑ e : Fin 128, if e.val < 64 then f e else 0) = ∑ x : Fin 64, f ⟨x.val, by omega⟩ := by
  rw [show (∑ e : Fin 128, if e.val < 64 then f e else 0) = ∑ e : Fin (64 + 64), if e.val < 64 then f e else 0 from rfl, Fin.sum_univ_add]
  have h2 : (∑ i : Fin 64, if (Fin.natAdd 64 i : Fin (64 + 64)).val < 64 then f (Fin.natAdd 64 i) else 0) = 0 :=
    Finset.sum_eq_zero fun i _ => if_neg (by simp)
  rw [h2, add_zero]
  exact Finset.sum_congr rfl fun i _ => if_pos i.isLt

theorem sum_hi (f : Fin 128 → EReal) : (∑ e : Fin 128, if 64 ≤ e.val then f e else 0) = ∑ x : Fin 64, f ⟨64 + x.val, by omega⟩ := by
  rw [show (∑ e : Fin 128, if 64 ≤ e.val then f e else 0) = ∑ e : Fin (64 + 64), if 64 ≤ e.val then f e else 0 from rfl, Fin.sum_univ_add]
  have h2 : (∑ i : Fin 64, if 64 ≤ (Fin.castAdd 64 i : Fin (64 + 64)).val then f (Fin.castAdd 64 i) else 0) = 0 :=
    Finset.sum_eq_zero fun i _ => if_neg (by have := i.isLt; simp)
  rw [h2, zero_add]
  exact Finset.sum_congr rfl fun i _ => if_pos (by simp)

variable (m : (ℓ : Loc nD τ sig) → Buf (Elt Ideal) ℓ) (c : Dev nD) (t : Fin cfg0.N)

/-- The argument arrays' entries the claim asks to be finite. -/
structure Finite (q k : FVec Ideal S8x4096x1024 .bf16) (g : FVec Ideal S8x16x4096 .f32) : Prop where
  q : ∀ i, ∃ a : ℝ, q i = a
  k : ∀ i, ∃ a : ℝ, k i = a
  g : ∀ i, ∃ a : ℝ, g i = a

/-- One query row of one head: the kernel's quotient is the reference's weighted sum, when the
    kernel's masked scores are the reference's dot products plus the key's gate. -/
theorem row (q k v : FVec Ideal S8x4096x1024 .bf16) (g : FVec Ideal S8x16x4096 .f32) (hf : Finite q k g)
    (b : Fin 8) (h : Fin 16) (u : Fin 8) (r : Fin 512) (l : Fin 1024) (hl : l.val / 64 = h.val) (s w : ℕ → EReal)
    (hs : ∀ j : Fin 4096, s j.val = if j.val ≤ 512 * u.val + r.val then
      (∑ x : Fin 64, q (ix3 b ⟨512 * u.val + r.val, by omega⟩ ⟨h.val * 64 + x.val, by omega⟩) * k (ix3 b j ⟨h.val * 64 + x.val, by omega⟩)) + g (ix3 b h j) else ⊥)
    (hw : ∀ j : Fin 4096, w j.val = v (ix3 b j l)) :
    Ideal.div (rowAcc s w (512 * u.val + 512)) (rowSum s (512 * u.val + 512))
      = FoxRef.attend (FoxRef.weights (FoxRef.scores q k g)) v (ix3 b ⟨512 * u.val + r.val, by omega⟩ l) := by
  rw [FoxRef.attend_at]
  have eh : (⟨l.val / 64, by omega⟩ : Fin 16) = h := Fin.ext hl
  rw [eh]
  simp only [FoxRef.weights_at]
  obtain ⟨γ, hγ⟩ := hf.g (ix3 b h ⟨512 * u.val + r.val, by omega⟩)
  symm
  have hfin : ∀ j : Fin 4096, ∃ a : ℝ, (∑ x : Fin 64, q (ix3 b ⟨512 * u.val + r.val, by omega⟩ ⟨h.val * 64 + x.val, by omega⟩) * k (ix3 b j ⟨h.val * 64 + x.val, by omega⟩)) + g (ix3 b h j) = a := by
    intro j
    obtain ⟨a, ha⟩ := finite_dot Finset.univ (fun x : Fin 64 => q (ix3 b ⟨512 * u.val + r.val, by omega⟩ ⟨h.val * 64 + x.val, by omega⟩)) (fun x : Fin 64 => k (ix3 b j ⟨h.val * 64 + x.val, by omega⟩)) (fun x => hf.q _) (fun x => hf.k _)
    obtain ⟨g', hg'⟩ := hf.g (ix3 b h j)
    exact ⟨a + g', by rw [ha, hg']; push_cast; rfl⟩
  refine softmax_row s w _ _ (-γ) (512 * u.val + 512) 0 (by omega) ?_ ?_ ?_ (by omega) ?_ ?_
  · intro j
    rw [FoxRef.scores_at, hs]
    by_cases hj : j.val ≤ 512 * u.val + r.val
    · rw [if_pos hj, if_pos hj, hγ, sub_eq_add_neg, neg_neg, add_assoc, add_comm (-(γ : EReal))]
      push_cast
      rfl
    · rw [if_neg hj, if_neg hj, EReal.bot_add]
  · intro j; exact (hw j).symm
  · intro j hj hj'
    rw [hs ⟨j, hj'⟩, if_neg (by simp only []; omega)]
  · have := hs ⟨0, by omega⟩
    rw [if_pos (Nat.zero_le _)] at this
    obtain ⟨a, ha⟩ := hfin ⟨0, by omega⟩
    rw [this, ha]
    exact EReal.coe_ne_bot a
  · intro j hj
    have hj' : j < 4096 := by omega
    have := hs ⟨j, hj'⟩
    obtain ⟨a, ha⟩ := hfin ⟨j, hj'⟩
    rw [this]
    split
    · rw [ha]; exact EReal.coe_ne_top a
    · exact bot_ne_top

/-- The kernel's result array. -/
theorem final (hf : Finite (m ((c : Thread nD τ).loc main_arg0)) (m ((c : Thread nD τ).loc main_arg1)) (m ((c : Thread nD τ).loc main_arg3))) :
    (dats m 0 c).arrAt 4 cfg0.N
      = FoxRef.attend (FoxRef.weights (FoxRef.scores (m ((c : Thread nD τ).loc main_arg0)) (m ((c : Thread nD τ).loc main_arg1)) (m ((c : Thread nD τ).loc main_arg3)))) (m ((c : Thread nD τ).loc main_arg2)) := by
  refine of_stored m c _ fun t r d => ?_
  rw [stored]
  have hu : tile t = (rows t).val := rfl
  have hp := (pair t).isLt
  by_cases hd : d.val < 64
  · rw [if_pos hd, hu]
    refine row _ _ _ _ hf (batch t) ⟨2 * (pair t).val + 0, by omega⟩ (rows t) r _ ?_ _ _ ?_ ?_
    · simp only []; omega
    · intro j
      unfold scoreLo
      rw [hu, gate_read, sum_lo]
      simp only [query_read, key_read]
      have e : ∀ x : Fin 64, 128 * (pair t).val + x.val = (2 * (pair t).val + 0) * 64 + x.val := fun x => by omega
      simp only [e]
      rfl
    · intro j; rw [val_read]
  · rw [if_neg hd, hu]
    refine row _ _ _ _ hf (batch t) ⟨2 * (pair t).val + 1, by omega⟩ (rows t) r _ ?_ _ _ ?_ ?_
    · simp only []; omega
    · intro j
      unfold scoreHi
      rw [hu, gate_read, sum_hi]
      simp only [query_read, key_read]
      have e : ∀ x : Fin 64, 128 * (pair t).val + (64 + x.val) = (2 * (pair t).val + 1) * 64 + x.val := fun x => by omega
      simp only [e]
      rfl
    · intro j; rw [val_read]
end Cert.Fox
end
-- ==== Proof.Finite.lean ====
module
public import Idealize.ShloMosaic.PureOps.Ideal
public import Idealize.ShloMosaic.Lib.Claim
@[expose] public section
/-! What the comparison `|x| < inf` says of an extended real. -/
noncomputable section
namespace Cert.Finite
open Idealize.ShloMosaic

theorem ofBits_top : Ideal.ofBits .f32 0x7F800000#32 = (⊤ : EReal) := by decide +kernel

/-- A value whose absolute value is below infinity is a real number. -/
theorem real_of_olt (x : EReal) (h : FloatOps.cmpf (F := Ideal) (φ := .f32) .olt (FloatOps.hostAbsf (F := Ideal) (φ := .f32) x) (Ideal.ofBits .f32 0x7F800000#32) = 1#1) :
    ∃ a : ℝ, x = a := by
  rw [ofBits_top] at h
  have h' : BitVec.ofBool (decide (max x (-x) < (⊤ : EReal))) = 1#1 := h
  have hlt : max x (-x) < ⊤ := by
    by_contra hc
    rw [decide_eq_false hc] at h'
    exact absurd h' (by decide)
  induction x with
  | bot => simp at hlt
  | coe a => exact ⟨a, rfl⟩
  | top => simp at hlt
end Cert.Finite
end
-- ==== Proof.FoxClaim.lean ====
module
public import proofs.«01_k».proof.Defs
public import proofs.«01_k».proof.Proof.Fox
public import proofs.«01_k».proof.Proof.Finite
public import proofs.«01_k».proof.Proof.Gen.Pre_fox_is_finite
@[expose] public section
/-! The forgetting attention's claim: the precondition read, and the two runs put side by side. -/
set_option maxRecDepth 16384
noncomputable section
namespace Cert.Fox
open Idealize.ShloMosaic Idealize.ShloMosaic.TcCoe Idealize.SL.Sem

/-- The precondition, read: queries, keys and gates are real numbers. -/
theorem pre_finite (q k v : FVec Ideal Cert.KernelIdeal.S8x4096x1024 .bf16) (g : FVec Ideal Cert.KernelIdeal.S8x16x4096 .f32)
    (h : (Cert.Pre_fox_is_finite.fn (F := Ideal) q k v g).1 = (fun _ => 1#1)
      ∧ (Cert.Pre_fox_is_finite.fn (F := Ideal) q k v g).2.1 = (fun _ => 1#1)
      ∧ (Cert.Pre_fox_is_finite.fn (F := Ideal) q k v g).2.2 = (fun _ => 1#1)) : Finite q k g := by
  simp only [Cert.Pre_fox_is_finite.fn] at h
  exact ⟨fun i => Cert.Finite.real_of_olt _ (congrFun h.1 i), fun i => Cert.Finite.real_of_olt _ (congrFun h.2.1 i),
    fun i => Cert.Finite.real_of_olt _ (congrFun h.2.2 i)⟩

/-- The reference runs, leaves its arguments unchanged and declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- For finite queries, keys and gates the kernel's result array is the reference's. -/
theorem algebraic : Cert.algebraic_KernelIdeal_ReferenceIdeal_pre_fox_is_finite := by
  pair_intro
  · run_from Cert.KernelIdeal.Gen.run_main m g
  · run_from Cert.ReferenceIdeal.Value.run m' g'
    rw [Cert.FoxRef.result, (hagree c).1, (hagree c).2.1, (hagree c).2.2.1, (hagree c).2.2.2]
    exact (final m c (pre_finite _ _ _ _ (hpre c))).symm
end Cert.Fox
end
-- ==== Proof.LatentStep.lean ====
module
public import proofs.«01_k».proof.Proof.Gen.LatentIdeal.Value
public import proofs.«01_k».proof.Proof.FoxStep
@[expose] public section
/-! One key tile of the latent attention, for one head of the pair a grid point holds: the running
    maximum, sum and product move by the same steps as the forgetting attention's; the scores are
    dot products over the head's own 128 lanes, with no gate. -/
set_option maxRecDepth 16384
noncomputable section
namespace Cert.LatentStep
open Cert.LatentIdeal Cert.LatentIdeal.Gen Idealize.ShloMosaic Idealize.ShloMosaic.TcCoe Idealize.SL.Sem
open Cert.FoxStep (newMax newSum newAcc ofBits_bot sge_coord slt_coord)

variable (a l : FVec Ideal S512x1 .f32) (A : FVec Ideal S512x128 .f32) (V : FVec Ideal S512x128 .bf16)
variable (r : Fin 512) (d : Fin 128)

theorem pay4_eq (q : FVec Ideal S512x128 .bf16) (K : Vec Ideal S1x512x128 .bf16) : k0_pay4 q a K = newMax a (k0_pay3 q K) := rfl
theorem pay7_eq (q : FVec Ideal S512x128 .bf16) (K : Vec Ideal S1x512x128 .bf16) : k0_pay7 q a l K = newSum a l (k0_pay3 q K) := rfl
theorem pay8_eq (q : FVec Ideal S512x128 .bf16) (K W : Vec Ideal S1x512x128 .bf16) : k0_pay8 q a A W K = newAcc a A (k0_pay3 q K) (k0_pay2 W) := rfl
theorem pay10_eq (q : FVec Ideal S512x128 .bf16) (K : Vec Ideal S1x512x128 .bf16) : k0_pay10 q a K = newMax a (k0_pay9 q K) := rfl
theorem pay35_eq (q : FVec Ideal S512x128 .bf16) (K : Vec Ideal S1x512x128 .bf16) :
    k0_pay35 (k0_pay12 q a K) (k0_pay13 q a l K) = newSum a l (k0_pay9 q K) := rfl
theorem pay36_eq (q : FVec Ideal S512x128 .bf16) (K : Vec Ideal S1x512x128 .bf16) :
    k0_pay36 A V (k0_pay11 q a K) (k0_pay12 q a K) = newAcc a A (k0_pay9 q K) V := rfl

/-- A head's scores of a key tile before the mask: the dot products over its 128 lanes. -/
theorem pay3_lo (q : Vec Ideal S1x512x256 .bf16) (K : Vec Ideal S1x512x128 .bf16) (t : Fin 512) :
    k0_pay3 (k0_pay27 q) K (ix2 r t) = ∑ e : Fin 128, q (ix3 0 r ⟨e.val, by omega⟩) * K (ix3 0 t e) := by
  pointwise [k0_pay3, k0_pay27, k0_pay26]

theorem pay9_hi (q : Vec Ideal S1x512x256 .bf16) (K : Vec Ideal S1x512x128 .bf16) (t : Fin 512) :
    k0_pay9 (k0_pay28 q) K (ix2 r t) = ∑ e : Fin 128, q (ix3 0 r ⟨128 + e.val, by omega⟩) * K (ix3 0 t e) := by
  pointwise [k0_pay9, k0_pay28, k0_pay26]

theorem pay40_lo (q : Vec Ideal S1x512x256 .bf16) (K : Vec Ideal S1x512x128 .bf16) (t : Fin 512) :
    k0_pay40 q K (ix2 r t) = if t ≤ r then ∑ e : Fin 128, q (ix3 0 r ⟨e.val, by omega⟩) * K (ix3 0 t e) else ⊥ := by
  generalize hG : (∑ e : Fin 128, q (ix3 0 r ⟨e.val, by omega⟩) * K (ix3 0 t e)) = G
  pointwise [k0_pay40, k0_pay27, k0_pay26]
  simp only [hG]
  rw [ofBits_bot, sge_coord _ _ (by omega) (by omega)]
  rfl

theorem pay42_hi (q : Vec Ideal S1x512x256 .bf16) (K : Vec Ideal S1x512x128 .bf16) (t : Fin 512) :
    k0_pay42 (k0_pay28 q) K (ix2 r t) = if t ≤ r then ∑ e : Fin 128, q (ix3 0 r ⟨128 + e.val, by omega⟩) * K (ix3 0 t e) else ⊥ := by
  generalize hG : (∑ e : Fin 128, q (ix3 0 r ⟨128 + e.val, by omega⟩) * K (ix3 0 t e)) = G
  pointwise [k0_pay42, k0_pay28, k0_pay26]
  simp only [hG]
  rw [ofBits_bot, sge_coord _ _ (by omega) (by omega)]
  rfl

/-- The low head finished: its weighted values over its weights' sum. -/
theorem pay48_eq (S : FVec Ideal S512x512 .f32) :
    k0_pay48 a l A V S (shapeCast S512x1 (multiReduction .maximumf [1] S512 S 0xFF800000#32 reduces_S512x512_S512 (.inl rfl) rfl) shapeCasts_S512_S512x1)
      = divf (newAcc a A S V) (broadcastTo S512x128 (newSum a l S) broadcasts_S512x1_S512x128) := rfl
theorem pay41_eq (q : Vec Ideal S1x512x256 .bf16) (K : Vec Ideal S1x512x128 .bf16) :
    k0_pay41 q K = shapeCast S512x1 (multiReduction .maximumf [1] S512 (k0_pay40 q K) 0xFF800000#32 reduces_S512x512_S512 (.inl rfl) rfl) shapeCasts_S512_S512x1 := rfl
theorem pay46_eq (q : FVec Ideal S512x128 .bf16) (K : Vec Ideal S1x512x128 .bf16) :
    k0_pay46 q a A V K = newAcc a A (k0_pay42 q K) V := rfl
theorem pay49_eq (q : FVec Ideal S512x128 .bf16) (K : Vec Ideal S1x512x128 .bf16) :
    k0_pay49 q a l K = broadcastTo S512x128 (newSum a l (k0_pay42 q K)) broadcasts_S512x1_S512x128 := rfl

/-- The block the body stores: both heads finished, each in its half of the lanes. -/
theorem pay1_at (A₀ B : FVec Ideal S512x128 .f32) (s₀ s₁ : FVec Ideal S512x1 .f32) :
    k0_pay1 B k0_pay47 (divf A₀ (broadcastTo S512x128 s₀ broadcasts_S512x1_S512x128)) (broadcastTo S512x128 s₁ broadcasts_S512x1_S512x128) (ix3 0 r d)
     = if d.val < 64 then Ideal.div (A₀ (ix2 r d)) (s₀ (ix2 r 0)) else Ideal.div (B (ix2 r d)) (s₁ (ix2 r 0)) := by
  pointwise [k0_pay1, k0_pay47]
  exact slt_coord d.val 64 (by omega) (by norm_num) _ _
end Cert.LatentStep
end
-- ==== Proof.LatentBlock.lean ====
module
public import proofs.«01_k».proof.Proof.LatentStep
@[expose] public section
/-! What one grid point of the latent attention stores: the softmax quotients of its 512 query
    rows, by the loops over the key tiles. -/
set_option maxRecDepth 16384
noncomputable section
namespace Cert.LatentBlock
open Cert.LatentIdeal Cert.LatentIdeal.Gen Idealize.ShloMosaic Idealize.ShloMosaic.TcCoe Idealize.SL.Sem
open Idealize.ShloMosaic.Pipeline (Dat)
open Cert.Softmax Cert.LatentStep
open Cert.FoxStep (ofBits_bot newMax_at newSum_at newAcc_at)
variable (m : (ℓ : Loc nD τ sig) → Buf (Elt Ideal) ℓ) (c : Dev nD) (t : Fin cfg0.N)

/-- The tile of query rows a grid point works on. -/
abbrev tile : ℕ := (grid0.coords t 2).val

/-- Query row `r`'s lanes in the point's block, the pair's two heads one after the other. -/
def query (r : Fin 512) (e : Fin 256) : EReal := iblk m c 0 t (ix3 0 r e)

/-- Key `j`'s lanes in the point's block (zero past the last key, which no row reaches). -/
def key (j : ℕ) (e : Fin 256) : EReal := if h : j < 4096 then iblk m c 1 t (ix3 0 ⟨j, h⟩ e) else 0

/-- Value `j`'s lane in the point's block. -/
def val (e : Fin 128) (j : ℕ) : EReal := if h : j < 4096 then iblk m c 2 t (ix3 0 ⟨j, h⟩ e) else 0

/-- The masked scores of query row `r` for the head in the low lanes. -/
def scoreLo (r : Fin 512) (j : ℕ) : EReal :=
  if j ≤ 512 * tile t + r.val then ∑ e : Fin 128, query m c t r ⟨e.val, by omega⟩ * key m c t j ⟨e.val, by omega⟩ else ⊥

/-- The masked scores of query row `r` for the head in the high lanes. -/
def scoreHi (r : Fin 512) (j : ℕ) : EReal :=
  if j ≤ 512 * tile t + r.val then ∑ e : Fin 128, query m c t r ⟨128 + e.val, by omega⟩ * key m c t j ⟨128 + e.val, by omega⟩ else ⊥

/-- What the loops carry: per head of the pair the maximum, the sum and the weighted values. -/
abbrev Carried := FVec Ideal S512x1 .f32 × FVec Ideal S512x1 .f32 × FVec Ideal S512x128 .f32 × FVec Ideal S512x1 .f32 × FVec Ideal S512x1 .f32 × FVec Ideal S512x128 .f32

/-- The carried values are those of the first `n` keys. -/
structure Seen (x : Carried) (n : ℕ) : Prop where
  maxLo : ∀ r : Fin 512, x.1 (ix2 r 0) = rowMax (scoreLo m c t r) n
  sumLo : ∀ r : Fin 512, x.2.1 (ix2 r 0) = rowSum (scoreLo m c t r) n
  accLo : ∀ (r : Fin 512) (d : Fin 128), x.2.2.1 (ix2 r d) = rowAcc (scoreLo m c t r) (val m c t d) n
  maxHi : ∀ r : Fin 512, x.2.2.2.1 (ix2 r 0) = rowMax (scoreHi m c t r) n
  sumHi : ∀ r : Fin 512, x.2.2.2.2.1 (ix2 r 0) = rowSum (scoreHi m c t r) n
  accHi : ∀ (r : Fin 512) (d : Fin 128), x.2.2.2.2.2 (ix2 r d) = rowAcc (scoreHi m c t r) (val m c t d) n

/-- A value tile without its leading axis. -/
theorem lanes (W : Vec Ideal S1x512x128 .bf16) (s : Fin 512) (e : Fin 128) : k0_pay2 W (ix2 s e) = W (ix3 0 s e) := by
  pointwise [k0_pay2]

/-- Before the first key tile. -/
abbrev start : Carried := (k0_pay29, k0_pay30, k0_pay31, k0_pay32, k0_pay33, k0_pay34)

theorem seen_start : Seen m c t start 0 := by
  constructor
  · intro r; rw [rowMax_zero]; exact ofBits_bot
  · intro r; rw [rowSum_zero]; pointwise [k0_pay30]
  · intro r d; rw [rowAcc_zero]; pointwise [k0_pay31]
  · intro r; rw [rowMax_zero]; exact ofBits_bot
  · intro r; rw [rowSum_zero]; pointwise [k0_pay33]
  · intro r d; rw [rowAcc_zero]; pointwise [k0_pay34]

/-- The number of key tiles wholly before the query tile. -/
theorem trips1 : ∀ t : Fin cfg0.N, (k0_t1_loop (grid0.coords t)).trips = tile t :=
  (by decide +kernel : ∀ t : Fin grid0.N, _)

theorem tile_lt : ∀ t : Fin cfg0.N, tile t < 8 :=
  (by decide +kernel : ∀ t : Fin grid0.N, (grid0.coords t 2).val < 8)

/-- The carried values before trip `k` of the loop over whole key tiles. -/
abbrev st1 (k : ℕ) : Carried := st_k0_t1 (F := Ideal) Variants.none c none (grid0.coords t) (ms0_0 t) (hs0_0 t) (ms0_1 t) (hs0_1 t) (ms0_2 t) (hs0_2 t) (ms0_3 t) (hs0_3 t) (iblk m c 0 t) ((hs0_1 t).unread (iblk m c 1 t)) ((hs0_2 t).unread (iblk m c 2 t)) start k

theorem seen_trip (k : Fin (k0_t1_loop (grid0.coords t)).trips) (x : Carried) (h : Seen m c t x (512 * k.val)) :
    Seen m c t (tripR_k0_t1 Variants.none c none (grid0.coords t) (ms0_0 t) (hs0_0 t) (ms0_1 t) (hs0_1 t) (ms0_2 t) (hs0_2 t) (ms0_3 t) (hs0_3 t) (iblk m c 0 t) ((hs0_1 t).unread (iblk m c 1 t)) ((hs0_2 t).unread (iblk m c 2 t)) k x) (512 * k.val + 512) := by
  have hk : k.val < tile t := lt_of_lt_of_eq k.isLt (trips1 t)
  have ht := tile_lt t
  unfold tripR_k0_t1 trip_k0_t1
  frame_out
  have hL : ∀ (s : Fin 512) (e : Fin 128), View.ld (iblk m c 1 t) (Rect.unit (k0_off2 (grid0.coords t) k) ![1, 512, 128] (k0_off2_inb _ _)) (ix3 0 s e) = key m c t (512 * k.val + s.val) ⟨e.val, by omega⟩ := by
    intro s e
    pointwise
    unfold key
    rw [dif_pos (by omega)]
    congr 1
    simp only [k0_off2_eq]
    congr 1
    exact Fin.ext (Nat.zero_add _)
  have hH : ∀ (s : Fin 512) (e : Fin 128), View.ld (iblk m c 1 t) (Rect.unit (k0_off3 (grid0.coords t) k) ![1, 512, 128] (k0_off3_inb _ _)) (ix3 0 s e) = key m c t (512 * k.val + s.val) ⟨128 + e.val, by omega⟩ := by
    intro s e
    pointwise
    unfold key
    rw [dif_pos (by omega)]
    congr 1
    simp only [k0_off3_eq]
    rfl
  have hV : ∀ (s : Fin 512) (e : Fin 128), View.ld (iblk m c 2 t) (Rect.unit (k0_off1 (grid0.coords t) k) ![1, 512, 128] (k0_off1_inb _ _)) (ix3 0 s e) = val m c t e (512 * k.val + s.val) := by
    intro s e
    pointwise
    unfold val
    rw [dif_pos (by omega)]
    congr 1
    simp only [k0_off1_eq]
    congr 1
    exact Fin.ext (Nat.zero_add _)
  have hlo : ∀ (r s : Fin 512), k0_pay3 (k0_pay27 (iblk m c 0 t)) (View.ld (iblk m c 1 t) (Rect.unit (k0_off2 (grid0.coords t) k) ![1, 512, 128] (k0_off2_inb _ _))) (ix2 r s) = scoreLo m c t r (512 * k.val + s.val) := by
    intro r s
    rw [pay3_lo]
    unfold scoreLo
    rw [if_pos (by omega)]
    simp only [hL]
    rfl
  have hhi : ∀ (r s : Fin 512), k0_pay9 (k0_pay28 (iblk m c 0 t)) (View.ld (iblk m c 1 t) (Rect.unit (k0_off3 (grid0.coords t) k) ![1, 512, 128] (k0_off3_inb _ _))) (ix2 r s) = scoreHi m c t r (512 * k.val + s.val) := by
    intro r s
    rw [pay9_hi]
    unfold scoreHi
    rw [if_pos (by omega)]
    simp only [hH]
    rfl
  have hV' : ∀ (s : Fin 512) (e : Fin 128), k0_pay2 (View.ld (iblk m c 2 t) (Rect.unit (k0_off1 (grid0.coords t) k) ![1, 512, 128] (k0_off1_inb _ _))) (ix2 s e) = val m c t e (512 * k.val + s.val) := by
    intro s e
    rw [← hV]
    exact lanes _ s e
  constructor
  · intro r; rw [pay4_eq]; exact newMax_at _ _ _ _ r (h.maxLo r) (hlo r)
  · intro r; rw [pay7_eq]; exact newSum_at _ _ _ _ _ r (h.maxLo r) (h.sumLo r) (hlo r)
  · intro r d; rw [pay8_eq]; exact newAcc_at _ _ _ _ _ _ _ r d (h.maxLo r) (h.accLo r d) (hlo r) fun s => hV' s d
  · intro r; rw [pay10_eq]; exact newMax_at _ _ _ _ r (h.maxHi r) (hhi r)
  · intro r; rw [pay35_eq]; exact newSum_at _ _ _ _ _ r (h.maxHi r) (h.sumHi r) (hhi r)
  · intro r d; rw [pay36_eq]; exact newAcc_at _ _ _ _ _ _ _ r d (h.maxHi r) (h.accHi r d) (hhi r) fun s => hV' s d

/-- The loop over whole key tiles leaves the carried values of all keys before the query tile. -/
theorem seen_st1 (k : ℕ) (hk : k ≤ tile t) : Seen m c t (st1 m c t k) (512 * k) := by
  induction k with
  | zero => exact seen_start m c t
  | succ k ih =>
    have hk' : k < (k0_t1_loop (grid0.coords t)).trips := by rw [trips1]; omega
    have e := st_k0_t1_succ (F := Ideal) Variants.none c none (grid0.coords t) (ms0_0 t) (hs0_0 t) (ms0_1 t) (hs0_1 t) (ms0_2 t) (hs0_2 t) (ms0_3 t) (hs0_3 t) (iblk m c 0 t) ((hs0_1 t).unread (iblk m c 1 t)) ((hs0_2 t).unread (iblk m c 2 t)) start ⟨k, hk'⟩
    unfold st1
    rw [e]
    exact seen_trip m c t ⟨k, hk'⟩ _ (ih (by omega))

/-- The loop after it has no trip. -/
theorem trips2 : ∀ t : Fin cfg0.N, (k0_t2_loop (grid0.coords t)).trips = 0 :=
  (by decide +kernel : ∀ t : Fin grid0.N, _)

/-- What the point stores: each query row's weighted values over its weights' sum, of the keys up to
    the end of its own tile. -/
theorem stored (r : Fin 512) (d : Fin 128) : (dats m 0 c).after 3 t (ix3 0 r d)
    = if d.val < 64 then Ideal.div (rowAcc (scoreLo m c t r) (val m c t d) (512 * tile t + 512)) (rowSum (scoreLo m c t r) (512 * tile t + 512))
      else Ideal.div (rowAcc (scoreHi m c t r) (val m c t d) (512 * tile t + 512)) (rowSum (scoreHi m c t r) (512 * tile t + 512)) := by
  rw [after0_3]
  unfold outsAt0
  frame_out
  generalize hS : st_k0_t2 (F := Ideal) _ _ _ _ _ _ _ _ _ _ _ _ _ _ _ _ _ _ = S2
  have h : Seen m c t S2 (512 * tile t) := by
    rw [← hS]
    rw [show Scf.trips (Scalar.addi (0#32) (Scalar.muli (Scalar.divsi (Scalar.subi (BitVec.ofNat 32 ↑(grid0.coords t 2)) 0#32) 1#32) 1#32))
      (Scalar.addi (0#32) (Scalar.subi (BitVec.ofNat 32 ↑(grid0.coords t 2)) 0#32)) 1#32 = 0 from trips2 t, st_k0_t2_zero]
    rw [show Scf.trips (0#32) (Scalar.addi (0#32) (Scalar.muli (Scalar.divsi (Scalar.subi (BitVec.ofNat 32 ↑(grid0.coords t 2)) 0#32) 1#32) 1#32)) 1#32 = tile t from trips1 t]
    exact seen_st1 m c t (tile t) le_rfl
  clear hS
  have ht := tile_lt t
  have hL : ∀ (s : Fin 512) (e : Fin 128), View.ld (iblk m c 1 t) (Rect.unit (k0_off8 (grid0.coords t)) ![1, 512, 128] (k0_off8_inb _)) (ix3 0 s e) = key m c t (512 * tile t + s.val) ⟨e.val, by omega⟩ := by
    intro s e
    pointwise
    unfold key
    rw [dif_pos (by omega)]
    congr 1
    simp only [k0_off8_eq]
    congr 1
    exact Fin.ext (Nat.zero_add _)
  have hH : ∀ (s : Fin 512) (e : Fin 128), View.ld (iblk m c 1 t) (Rect.unit (k0_off9 (grid0.coords t)) ![1, 512, 128] (k0_off9_inb _)) (ix3 0 s e) = key m c t (512 * tile t + s.val) ⟨128 + e.val, by omega⟩ := by
    intro s e
    pointwise
    unfold key
    rw [dif_pos (by omega)]
    congr 1
    simp only [k0_off9_eq]
    rfl
  have hV : ∀ (s : Fin 512) (e : Fin 128), View.ld (iblk m c 2 t) (Rect.unit (k0_off7 (grid0.coords t)) ![1, 512, 128] (k0_off7_inb _)) (ix3 0 s e) = val m c t e (512 * tile t + s.val) := by
    intro s e
    pointwise
    unfold val
    rw [dif_pos (by omega)]
    congr 1
    simp only [k0_off7_eq]
    congr 1
    exact Fin.ext (Nat.zero_add _)
  have hlo : ∀ (r s : Fin 512), k0_pay40 (iblk m c 0 t) (View.ld (iblk m c 1 t) (Rect.unit (k0_off8 (grid0.coords t)) ![1, 512, 128] (k0_off8_inb _))) (ix2 r s) = scoreLo m c t r (512 * tile t + s.val) := by
    intro r s
    rw [pay40_lo]
    simp only [hL]
    unfold scoreLo
    by_cases hs : s ≤ r
    · have hs' : s.val ≤ r.val := hs
      rw [if_pos hs, if_pos (by omega)]
      rfl
    · have hs' : ¬ s.val ≤ r.val := hs
      rw [if_neg hs, if_neg (by omega)]
  have hhi : ∀ (r s : Fin 512), k0_pay42 (k0_pay28 (iblk m c 0 t)) (View.ld (iblk m c 1 t) (Rect.unit (k0_off9 (grid0.coords t)) ![1, 512, 128] (k0_off9_inb _))) (ix2 r s) = scoreHi m c t r (512 * tile t + s.val) := by
    intro r s
    rw [pay42_hi]
    simp only [hH]
    unfold scoreHi
    by_cases hs : s ≤ r
    · have hs' : s.val ≤ r.val := hs
      rw [if_pos hs, if_pos (by omega)]
      rfl
    · have hs' : ¬ s.val ≤ r.val := hs
      rw [if_neg hs, if_neg (by omega)]
  have hV' : ∀ (s : Fin 512) (e : Fin 128), k0_pay39 (View.ld (iblk m c 2 t) (Rect.unit (k0_off7 (grid0.coords t)) ![1, 512, 128] (k0_off7_inb _))) (ix2 s e) = val m c t e (512 * tile t + s.val) := by
    intro s e
    rw [← hV]
    exact lanes _ s e
  rw [pay41_eq, pay48_eq, pay46_eq, pay49_eq, pay1_at]
  by_cases hd : d.val < 64
  · rw [if_pos hd, if_pos hd]
    congr 1
    · exact newAcc_at _ _ _ _ _ _ _ r d (h.maxLo r) (h.accLo r d) (hlo r) fun s => hV' s d
    · exact newSum_at _ _ _ _ _ r (h.maxLo r) (h.sumLo r) (hlo r)
  · rw [if_neg hd, if_neg hd]
    congr 1
    · exact newAcc_at _ _ _ _ _ _ _ r d (h.maxHi r) (h.accHi r d) (hhi r) fun s => hV' s d
    · exact newSum_at _ _ _ _ _ r (h.maxHi r) (h.sumHi r) (hhi r)

end Cert.LatentBlock
end
-- ==== Proof.LatentArray.lean ====
module
public import proofs.«01_k».proof.Proof.LatentBlock
public import Idealize.ShloMosaic.Lib.Claim
@[expose] public section
/-! The latent attention's block reads as entries of the argument arrays. -/
set_option maxRecDepth 16384
noncomputable section
namespace Cert.LatentArray
open Cert.LatentIdeal Cert.LatentIdeal.Gen Idealize.ShloMosaic Idealize.ShloMosaic.TcCoe Idealize.SL.Sem
open Idealize.ShloMosaic.Pipeline (Dat)
open Cert.LatentBlock
variable (m : (ℓ : Loc nD τ sig) → Buf (Elt Ideal) ℓ) (c : Dev nD) (t : Fin cfg0.N)

/-- Where each window's block lies, at every grid point. -/
theorem place : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 2).val, (grid0.coords t 1).val]
    ∧ (grid0.coords t 0).val < 8 ∧ (grid0.coords t 1).val < 4 ∧ (grid0.coords t 2).val < 8 :=
  (by decide +kernel : ∀ t : Fin grid0.N, _)

/-- The point's batch entry and pair of heads. -/
def batch : Fin 8 := ⟨(grid0.coords t 0).val, (place t).2.2.2.2.1⟩
def pair : Fin 4 := ⟨(grid0.coords t 1).val, (place t).2.2.2.2.2.1⟩
def rows : Fin 8 := ⟨(grid0.coords t 2).val, (place t).2.2.2.2.2.2⟩

theorem query_read (r : Fin 512) (e : Fin 256) :
    query m c t r e = m ((c : Thread nD τ).loc main_arg0) (ix3 (batch t) ⟨512 * (rows t).val + r.val, by have := (rows t).isLt; omega⟩ ⟨256 * (pair t).val + e.val, by have := (pair t).isLt; omega⟩) := by
  unfold query batch rows pair
  blk_ext [iblk, V, place t]

theorem key_read (j : Fin 4096) (e : Fin 256) :
    key m c t j.val e = m ((c : Thread nD τ).loc main_arg1) (ix3 (batch t) j ⟨256 * (pair t).val + e.val, by have := (pair t).isLt; omega⟩) := by
  unfold key batch pair
  rw [dif_pos j.isLt]
  blk_ext [iblk, V, place t]

theorem val_read (j : Fin 4096) (e : Fin 128) :
    val m c t e j.val = m ((c : Thread nD τ).loc main_arg2) (ix3 (batch t) j ⟨128 * (pair t).val + e.val, by have := (pair t).isLt; omega⟩) := by
  unfold val batch pair
  rw [dif_pos j.isLt]
  blk_ext [iblk, V, place t]

/-- A function of the result array, from what each point stores. -/
theorem of_stored (G : FVec Ideal S8x4096x512 .bf16)
    (h : ∀ (t : Fin cfg0.N) (r : Fin 512) (d : Fin 128), (dats m 0 c).after 3 t (ix3 0 r d) = G (ix3 (batch t) ⟨512 * (rows t).val + r.val, by have := (rows t).isLt; omega⟩ ⟨128 * (pair t).val + d.val, by have := (pair t).isLt; omega⟩)) :
    (dats m 0 c).arrAt 3 cfg0.N = G := by
  refine (dats m 0 c).arrAt_eq_of_covers 3 _ (by decide +kernel) fun t _ y => ?_
  blk_simp
  obtain ⟨z, r, d, rfl⟩ : ∃ (z : Fin 1) (r : Fin 512) (d : Fin 128), y = ix3 z r d := ⟨y 0, y 1, y 2, by funext a; fin_cases a <;> rfl⟩
  obtain rfl : z = 0 := Subsingleton.elim _ _
  rw [h]
  unfold batch rows pair
  blk_ext [place t]
end Cert.LatentArray
end
-- ==== Proof.LatentRef.lean ====
module
public import proofs.«01_k».proof.Proof.Gen.LatentRefIdeal.Run
public import proofs.«01_k».proof.Proof.FoxStep
public import Idealize.ShloMosaic.Lib.Pointwise
@[expose] public section
/-! The latent attention as the reference writes it, read at one result: the masked scores of the
    result's query row, their softmax, the weighted sum of the values. -/
set_option maxRecDepth 16384
noncomputable section
namespace Cert.LatentRef
open Cert.LatentRefIdeal Cert.LatentRefIdeal.Gen Idealize.ShloMosaic Idealize.ShloMosaic.TcCoe Idealize.SL.Sem

/-- Which keys a query row sees: those not after it. -/
def mask : IVec S8x8x4096x4096 1 :=
  broadcastInDim S8x8x4096x4096 ![2, 3] bcast_S4096x4096_S8x8x4096x4096_2_3 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))

theorem mask_at (b : Fin 8) (h : Fin 8) (s j : Fin 4096) :
    mask (ix4 b h s j) = IntOp.cmpi .sge (BitVec.ofNat 32 s) (BitVec.ofNat 32 j) := by
  pointwise [mask]

/-- The query rows against the keys, head by head. -/
def dots (q k : FVec Ideal S8x4096x1024 .bf16) : FVec Ideal S8x8x4096x4096 .f32 :=
  Host.dotGeneral dot_S8x8x4096x128_S8x8x4096x128_S8x8x4096x4096_3_3_2_2_01_01 none
    (transpose S8x8x4096x128 [0, 2, 1, 3] (shapeCast _ (extf .f32 q bitsLt_bf16_f32) shapeCasts_S8x4096x1024_S8x4096x8x128) transposes_S8x4096x8x128_S8x8x4096x128_0_2_1_3)
    (transpose S8x8x4096x128 [0, 2, 1, 3] (shapeCast _ (extf .f32 k bitsLt_bf16_f32) shapeCasts_S8x4096x1024_S8x4096x8x128) transposes_S8x4096x8x128_S8x8x4096x128_0_2_1_3)

theorem dots_at (q k : FVec Ideal S8x4096x1024 .bf16) (b : Fin 8) (h : Fin 8) (s j : Fin 4096) :
    dots q k (ix4 b h s j) = ∑ x : Fin 128, q (ix3 b s ⟨h.val * 128 + x.val, by omega⟩) * k (ix3 b j ⟨h.val * 128 + x.val, by omega⟩) := by
  pointwise [dots]

/-- Minus infinity everywhere, for the unseen keys. -/
def unseen : FVec Ideal S8x8x4096x4096 .f32 :=
  broadcastInDim S8x8x4096x4096 ![] bcast_S_S8x8x4096x4096 (id (constant (F := Ideal) S_ .f32 0xFF800000#32))

theorem unseen_at (b : Fin 8) (h : Fin 8) (s j : Fin 4096) : unseen (ix4 b h s j) = ⊥ := by
  rw [← Cert.FoxStep.ofBits_bot]
  pointwise [unseen, id]

/-- The masked scores. -/
def scores (q k : FVec Ideal S8x4096x1024 .bf16) : FVec Ideal S8x8x4096x4096 .f32 :=
  select mask (dots q k) unseen

theorem scores_at (q k : FVec Ideal S8x4096x1024 .bf16) (b : Fin 8) (h : Fin 8) (s j : Fin 4096) :
    scores q k (ix4 b h s j) = if j.val ≤ s.val then
      ∑ x : Fin 128, q (ix3 b s ⟨h.val * 128 + x.val, by omega⟩) * k (ix3 b j ⟨h.val * 128 + x.val, by omega⟩) else ⊥ := by
  have e : scores q k (ix4 b h s j) = Scalar.select (mask (ix4 b h s j)) (dots q k (ix4 b h s j)) (unseen (ix4 b h s j)) := rfl
  rw [e, mask_at, dots_at, unseen_at, Cert.FoxStep.sge_coord _ _ (by omega) (by omega)]

/-- Each row's largest score. -/
def largest (S : FVec Ideal S8x8x4096x4096 .f32) : FVec Ideal S8x8x4096 .f32 :=
  Host.reduce FloatOps.maximumf S (constant S_ .f32 0xFF800000#32) reducesTo_S8x8x4096x4096_S8x8x4096_d3 h_S_

theorem largest_at (S : FVec Ideal S8x8x4096x4096 .f32) (b : Fin 8) (h : Fin 8) (s : Fin 4096) :
    largest S (ix3 b h s) = Finset.univ.fold max (Ideal.ofBits .f32 0xFF800000#32) fun i : Fin 4096 => S (ix4 b h s i) := by
  pointwise [largest]

/-- Against it, the exponentials of the scores. -/
def against (S : FVec Ideal S8x8x4096x4096 .f32) (M : FVec Ideal S8x8x4096 .f32) : FVec Ideal S8x8x4096x4096 .f32 :=
  Host.exp (subf S (broadcastInDim S8x8x4096x4096 ![0, 1, 2, 3] bcast_S8x8x4096x1_S8x8x4096x4096_0_1_2_3 (broadcastInDim S8x8x4096x1 ![0, 1, 2] bcast_S8x8x4096_S8x8x4096x1_0_1_2 (maximumf (broadcastInDim S8x8x4096 ![] bcast_S_S8x8x4096 (constant S_ .f32 0xFF800000#32)) M))))

theorem against_at (S : FVec Ideal S8x8x4096x4096 .f32) (M : FVec Ideal S8x8x4096 .f32) (b : Fin 8) (h : Fin 8) (s j : Fin 4096) :
    against S M (ix4 b h s j) = Ideal.exp (S (ix4 b h s j) - max (Ideal.ofBits .f32 0xFF800000#32) (M (ix3 b h s))) := by
  pointwise [against]

/-- The exponentials of the scores against their row's largest. -/
def weights (S : FVec Ideal S8x8x4096x4096 .f32) : FVec Ideal S8x8x4096x4096 .f32 := against S (largest S)

theorem weights_at (S : FVec Ideal S8x8x4096x4096 .f32) (b : Fin 8) (h : Fin 8) (s j : Fin 4096) :
    weights S (ix4 b h s j) = Ideal.exp (S (ix4 b h s j) - Finset.univ.fold max ⊥ fun i : Fin 4096 => S (ix4 b h s i)) := by
  rw [weights, against_at, largest_at, Cert.FoxStep.ofBits_bot, max_eq_right bot_le]

/-- The attention of the weights: each over its row's sum, times the values. -/
def attend (W : FVec Ideal S8x8x4096x4096 .f32) (v : FVec Ideal S8x4096x512 .bf16) : FVec Ideal S8x4096x512 .bf16 :=
  truncf .bf16 (shapeCast _ (transpose S8x4096x8x64 [0, 2, 1, 3] (Host.dotGeneral dot_S8x8x4096x4096_S8x8x4096x64_S8x8x4096x64_3_2_2_3_01_01 none
    (Host.divf W (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd W (constant S_ .f32 0x00000000#32) reducesTo_S8x8x4096x4096_S8x8x4096_d3 h_S_))))
    (transpose S8x8x4096x64 [0, 2, 1, 3] (shapeCast _ (extf .f32 v bitsLt_bf16_f32) shapeCasts_S8x4096x512_S8x4096x8x64) transposes_S8x4096x8x64_S8x8x4096x64_0_2_1_3)) transposes_S8x8x4096x64_S8x4096x8x64_0_2_1_3) shapeCasts_S8x4096x8x64_S8x4096x512) bitsLt_bf16_f32

theorem attend_at (W : FVec Ideal S8x8x4096x4096 .f32) (v : FVec Ideal S8x4096x512 .bf16) (b : Fin 8) (s : Fin 4096) (l : Fin 512) :
    attend W v (ix3 b s l) = ∑ j : Fin 4096, Ideal.div (W (ix4 b ⟨l.val / 64, by omega⟩ s j)) (∑ i : Fin 4096, W (ix4 b ⟨l.val / 64, by omega⟩ s i)) * v (ix3 b j l) := by
  pointwise [attend]

/-- The reference's result array. -/
theorem result (m : (ℓ : Loc nD τ sig) → Buf (Elt Ideal) ℓ) (c : Dev nD) :
    Value.res_main_v32 m c = attend (weights (scores (m ((c.tc : Thread nD τ).loc main_arg0)) (m ((c.tc : Thread nD τ).loc main_arg1)))) (m ((c.tc : Thread nD τ).loc main_arg2)) := rfl
end Cert.LatentRef
end
-- ==== Proof.Latent.lean ====
module
public import proofs.«01_k».proof.Proof.LatentArray
public import proofs.«01_k».proof.Proof.LatentRef
public import proofs.«01_k».proof.Proof.Fox
@[expose] public section
/-! The latent attention: the kernel's result array is the reference's, for finite queries
    and keys. -/
set_option maxRecDepth 16384
noncomputable section
namespace Cert.Latent
open Cert.LatentIdeal Cert.LatentIdeal.Gen Idealize.ShloMosaic Idealize.ShloMosaic.TcCoe Idealize.SL.Sem
open Cert.Fox (finite_dot)
open Cert.LatentBlock Cert.LatentArray Cert.Softmax

variable (m : (ℓ : Loc nD τ sig) → Buf (Elt Ideal) ℓ) (c : Dev nD) (t : Fin cfg0.N)

/-- The argument arrays' entries the claim asks to be finite. -/
structure Finite (q k : FVec Ideal S8x4096x1024 .bf16) : Prop where
  q : ∀ i, ∃ a : ℝ, q i = a
  k : ∀ i, ∃ a : ℝ, k i = a

/-- One query row of one head: the kernel's quotient is the reference's weighted sum, when the
    kernel's masked scores are the reference's. -/
theorem row (q k : FVec Ideal S8x4096x1024 .bf16) (v : FVec Ideal S8x4096x512 .bf16) (hf : Finite q k)
    (b : Fin 8) (h : Fin 8) (u : Fin 8) (r : Fin 512) (l : Fin 512) (hl : l.val / 64 = h.val) (s w : ℕ → EReal)
    (hs : ∀ j : Fin 4096, s j.val = if j.val ≤ 512 * u.val + r.val then
      ∑ x : Fin 128, q (ix3 b ⟨512 * u.val + r.val, by omega⟩ ⟨h.val * 128 + x.val, by omega⟩) * k (ix3 b j ⟨h.val * 128 + x.val, by omega⟩) else ⊥)
    (hw : ∀ j : Fin 4096, w j.val = v (ix3 b j l)) :
    Ideal.div (rowAcc s w (512 * u.val + 512)) (rowSum s (512 * u.val + 512))
      = LatentRef.attend (LatentRef.weights (LatentRef.scores q k)) v (ix3 b ⟨512 * u.val + r.val, by omega⟩ l) := by
  rw [LatentRef.attend_at]
  have eh : (⟨l.val / 64, by omega⟩ : Fin 8) = h := Fin.ext hl
  rw [eh]
  simp only [LatentRef.weights_at]
  symm
  have hfin : ∀ j : Fin 4096, ∃ a : ℝ, (∑ x : Fin 128, q (ix3 b ⟨512 * u.val + r.val, by omega⟩ ⟨h.val * 128 + x.val, by omega⟩) * k (ix3 b j ⟨h.val * 128 + x.val, by omega⟩)) = a :=
    fun j => finite_dot Finset.univ _ _ (fun x => hf.q _) (fun x => hf.k _)
  refine softmax_row s w _ _ 0 (512 * u.val + 512) 0 (by omega) ?_ ?_ ?_ (by omega) ?_ ?_
  · intro j
    rw [LatentRef.scores_at, hs]
    exact (add_zero _).symm
  · intro j; exact (hw j).symm
  · intro j hj hj'
    rw [hs ⟨j, hj'⟩, if_neg (by simp only []; omega)]
  · have := hs ⟨0, by omega⟩
    rw [if_pos (Nat.zero_le _)] at this
    obtain ⟨a, ha⟩ := hfin ⟨0, by omega⟩
    rw [this, ha]
    exact EReal.coe_ne_bot a
  · intro j hj
    have hj' : j < 4096 := by omega
    have := hs ⟨j, hj'⟩
    obtain ⟨a, ha⟩ := hfin ⟨j, hj'⟩
    rw [this]
    split
    · rw [ha]; exact EReal.coe_ne_top a
    · exact bot_ne_top

/-- The kernel's result array. -/
theorem final (hf : Finite (m ((c : Thread nD τ).loc main_arg0)) (m ((c : Thread nD τ).loc main_arg1))) :
    (dats m 0 c).arrAt 3 cfg0.N
      = LatentRef.attend (LatentRef.weights (LatentRef.scores (m ((c : Thread nD τ).loc main_arg0)) (m ((c : Thread nD τ).loc main_arg1)))) (m ((c : Thread nD τ).loc main_arg2)) := by
  refine of_stored m c _ fun t r d => ?_
  rw [stored]
  have hu : tile t = (rows t).val := rfl
  have hp := (pair t).isLt
  by_cases hd : d.val < 64
  · rw [if_pos hd, hu]
    refine row _ _ _ hf (batch t) ⟨2 * (pair t).val + 0, by omega⟩ (rows t) r _ ?_ _ _ ?_ ?_
    · simp only []; omega
    · intro j
      unfold scoreLo
      rw [hu]
      simp only [query_read, key_read]
      have e : ∀ x : Fin 128, 256 * (pair t).val + x.val = (2 * (pair t).val + 0) * 128 + x.val := fun x => by omega
      simp only [e]
    · intro j; rw [val_read]
  · rw [if_neg hd, hu]
    refine row _ _ _ hf (batch t) ⟨2 * (pair t).val + 1, by omega⟩ (rows t) r _ ?_ _ _ ?_ ?_
    · simp only []; omega
    · intro j
      unfold scoreHi
      rw [hu]
      simp only [query_read, key_read]
      have e : ∀ x : Fin 128, 256 * (pair t).val + (128 + x.val) = (2 * (pair t).val + 1) * 128 + x.val := fun x => by omega
      simp only [e]
    · intro j; rw [val_read]
end Cert.Latent
end
-- ==== Proof.LatentClaim.lean ====
module
public import proofs.«01_k».proof.Defs
public import proofs.«01_k».proof.Proof.Latent
public import proofs.«01_k».proof.Proof.Finite
public import proofs.«01_k».proof.Proof.Gen.Pre_mla_is_finite
@[expose] public section
/-! The latent attention's claim: the precondition read, and the two runs put side by side. -/
set_option maxRecDepth 16384
noncomputable section
namespace Cert.Latent
open Idealize.ShloMosaic Idealize.ShloMosaic.TcCoe Idealize.SL.Sem

/-- The precondition, read: queries and keys are real numbers. -/
theorem pre_finite (q k : FVec Ideal Cert.LatentIdeal.S8x4096x1024 .bf16) (v : FVec Ideal Cert.LatentIdeal.S8x4096x512 .bf16)
    (h : (Cert.Pre_mla_is_finite.fn (F := Ideal) q k v).1 = (fun _ => 1#1)
      ∧ (Cert.Pre_mla_is_finite.fn (F := Ideal) q k v).2 = (fun _ => 1#1)) : Finite q k := by
  simp only [Cert.Pre_mla_is_finite.fn] at h
  exact ⟨fun i => Cert.Finite.real_of_olt _ (congrFun h.1 i), fun i => Cert.Finite.real_of_olt _ (congrFun h.2 i)⟩

/-- The reference runs, leaves its arguments unchanged and declares no semaphore. -/
theorem frame_reference : Cert.quiescent_LatentRefIdeal := fun m g _ =>
  (θ_run Cert.LatentRefIdeal.defs _ _).mono (fun r h => ⟨fun c => (h c).2, sem_eq_zero_of_no_sems (by decide) r.2⟩)
    (Cert.LatentRefIdeal.Value.run (F := Ideal) m g)

/-- For finite queries and keys the kernel's result array is the reference's. -/
theorem algebraic : Cert.algebraic_LatentIdeal_LatentRefIdeal_pre_mla_is_finite := by
  pair_intro
  · run_from Cert.LatentIdeal.Gen.run_main m g
  · run_from Cert.LatentRefIdeal.Value.run m' g'
    rw [Cert.LatentRef.result, (hagree c).1, (hagree c).2.1, (hagree c).2.2]
    exact (final m c (pre_finite _ _ _ (hpre c))).symm
end Cert.Latent
end
-- ==== Proof.ExpertsIdealRuns.lean ====
module
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
@[expose] public section
/-! The routed experts' launch: what the region finds in memory, the tables it reads, the blocks its
    windows carry and the staging memrefs at a point. -/
set_option maxRecDepth 16384
noncomputable section
namespace Cert.ExpertsIdeal.Body
open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-- Window 0 (operand 2 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 4 (result 0 (%3)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_ffn (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S448 .i32 := Memref.whole main_arg1
abbrev htbM0_0 : tbM0_0.IsWhole := Memref.isWhole_whole _
abbrev tbM0_1 : Memref sig .tc .smem S448 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ExpertsIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The kernel body on any staging memrefs: a subtype the run finds -/

/-- One staging buffer of output window 4, through which its contents are stated (`View.read_writes_of_cover`: the
    choice does not matter). -/
abbrev VO0_4 : View sig .tc .vmem S512x1024 .f32 := (Memref.whole cc0_stg4_0 : Memref sig .tc .vmem S512x1024 .f32).view
/-- Each window's current staging memref at point `t`, spelled as the pipeline passes it (`bodyAt0`), and its wholeness. -/
abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .f32 := spec0_4.stage ((cfgM m hO).slots t 4)
abbrev hs0_4 (hO : Ok m) (t : Fin (cfgM m hO).N) : (ms0_4 m hO t).IsWhole := hstage0_4 (((cfgM m hO).slots t 4).cast nbuf0_4)

end Cert.ExpertsIdeal.Body
end
-- ==== Proof.ExpertsIdealRun.lean ====
module
public import proofs.«01_k».proof.Proof.ExpertsIdealRuns
public import Idealize.ShloMosaic.Lib.VecWindow
@[expose] public section
/-! The experts' body, run once on any staging memrefs: a tile whose word says it is in use ends with the
    feed-forward of its rows, any other with zeros. -/
set_option maxRecDepth 16384
noncomputable section
namespace Cert.ExpertsIdeal.Body
open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The word of the second table the body loads at a point. -/
def word {c : Dev nD} (xt1 : TbBuf0 (F := F) c tbM0_1) (i : grid0.Coords) : BitVec 32 :=
  tbM0_1.view.readAt (Elt F) (Rect.unit (s := S448) (k0_off1 i) S1.size (k0_off1_inb i)).toLoadRect xt1 (Shape.Idx.first (numel1_S1.symm ▸ Nat.one_pos))

/-- The two conditions of the body exclude each other. -/
theorem cond_not_both (w : BitVec 32) (h1 : k0_cond1 w = 1#1) (h2 : k0_cond2 w = 1#1) : False := by
  have h : ∀ b : BitVec 1, Scalar.cmpi .ne (Scalar.extui b : BitVec 32) 0#32 = 1#1 →
      ¬Scalar.cmpi .ne (Scalar.extui (Scalar.xori b 1#1) : BitVec 32) 0#32 = 1#1 := by decide
  exact h _ h1 h2

/-- One of the two conditions of the body holds. -/
theorem cond_one (w : BitVec 32) (h1 : ¬k0_cond1 w = 1#1) : k0_cond2 w = 1#1 := by
  have h : ∀ b : BitVec 1, ¬Scalar.cmpi .ne (Scalar.extui b : BitVec 32) 0#32 = 1#1 →
      Scalar.cmpi .ne (Scalar.extui (Scalar.xori b 1#1) : BitVec 32) 0#32 = 1#1 := by decide
  exact h _ h1

/-- What the body leaves in the result's staging buffer. -/
def left (w : BitVec 32) (x0 : Vec F S512x1024 .bf16) (x1 : Vec F S1x1024x256 .bf16) (x2 : Vec F S1x1024x256 .bf16) (x3 : Vec F S1x256x1024 .bf16) : Vec F S512x1024 .f32 :=
  if k0_cond1 w = 1#1 then k0_pay1 x0 x1 x2 x3 else k0_pay2

set_option maxHeartbeats 1000000 in
/-- The body on whole staging memrefs: the inputs' are kept, the result's ends at `left`. -/
theorem run (c : Dev nD) (i : grid0.Coords) (arg3 : Memref sig .tc .vmem S512x1024 .bf16) (harg3 : arg3.IsWhole) (arg4 : Memref sig .tc .vmem S1x1024x256 .bf16) (harg4 : arg4.IsWhole) (arg5 : Memref sig .tc .vmem S1x1024x256 .bf16) (harg5 : arg5.IsWhole)
    (arg6 : Memref sig .tc .vmem S1x256x1024 .bf16) (harg6 : arg6.IsWhole) (arg7 : Memref sig .tc .vmem S512x1024 .f32) (harg7 : arg7.IsWhole)
    (x0 : Vec F S512x1024 .bf16) (x1 : Vec F S1x1024x256 .bf16) (x2 : Vec F S1x1024x256 .bf16) (x3 : Vec F S1x256x1024 .bf16) (xt0 : TbBuf0 (F := F) c tbM0_0) (xt1 : TbBuf0 (F := F) c tbM0_1)
    (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (left (word xt1 i) x0 x1 x2 x3) ∗ tbPt0 c tbM0_0 xt0 ∗ tbPt0 c tbM0_1 xt1) -∗ K ⟨⟩))
      ⊢ wp frame (wpE (defs₀ (F := F)) Variants.none c none) E (cc0_expert_ffn i tbM0_0 htbM0_0 tbM0_1 htbM0_1 arg3 harg3 arg4 harg4 arg5 harg5 arg6 harg6 arg7 harg7) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    split_ifs with h2 h1 h1
    · exact absurd h2 (cond_not_both _ h1)
    · rw [View.read_writes_full]
      exact (if_neg h1).symm
    · rw [View.read_writes_full, View.readAt_full, View.readAt_full, View.readAt_full, View.readAt_full,
        harg3.read_unread, harg4.read_unread, harg5.read_unread, harg6.read_unread]
      exact (if_pos h1).symm
    · exact absurd (cond_one _ h1) h2
  isplitl [HT0]; · iexact HT0
  iexact HT1

end Cert.ExpertsIdeal.Body
end
-- ==== Proof.ExpertsIdealFrame.lean ====
module
public import proofs.«01_k».proof.Proof.ExpertsIdealRun
public import Idealize.ShloMosaic.Lib.Claim
@[expose] public section
/-! The experts' frame: what the result's staging buffer holds point by point, the body obligation, the run
    and the frame, for tables that meet the pipeline's side condition. -/
set_option maxRecDepth 16384
noncomputable section
namespace Cert.ExpertsIdeal.Body
open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## What the outputs hold after each point -/

/-- What the result's staging buffer holds after the body at point `t`. -/
def outsAt0 (hO : Ok m) (c : Dev nD) (t : Fin (cfgM m hO).N) : Vec F S512x1024 .f32 :=
  left (word (c := c) (tbl m 1) (grid0.coords t)) (iblk m hO c 0 t) (iblk m hO c 1 t) (iblk m hO c 2 t) (iblk m hO c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1⟩⟩, Ho, ⟨%d0, H0⟩, ⟨%d1, H1⟩, ⟨%d2, H2⟩, ⟨%d3, H3⟩, ⟨%d4, H4⟩⟩
  iapply (run c (grid0.coords t) _ _ _ _ _ _ _ _ _ _ (iblk m hO c 0 t) (iblk m hO c 1 t) (iblk m hO c 2 t) (iblk m hO c 3 t) (tbl m 0) (tbl m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body is idle nowhere: one of its two conditions holds. -/
theorem not_idle (pf : pre0.Contents (Elt F)) (i : grid0.Coords) : idle0 pf 4 i = false := by
  change (!(k0_cond1 (pf.atD 1 (k0_off1 i)) == 1#1) && !(k0_cond2 (pf.atD 1 (k0_off1 i)) == 1#1)) = false
  generalize pf.atD 1 (k0_off1 i) = w
  by_cases h : k0_cond1 w = 1#1
  · simp [h]
  · simp [cond_one w h]

/-- The library's body obligation at every point, the body's triple restated. -/
theorem body_obligation (hO : Ok m) (c : Dev nD) : BodyObligation (dats (F := F) m hO 0 c) (defs₀ (F := F)) Variants.none () Set.univ := fun t => by
  rw [bigSep_W0, bigSep_W0, defs₀_row m hO]
  dsimp only
  rw [not_idle (tbl m)]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame under the tables' side condition: the argument arrays end unchanged, every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ExpertsIdeal.Body
end
-- ==== Proof.ExpertsFfn.lean ====
module
public import Idealize.ShloMosaic.PureOps.Ideal
@[expose] public section
/-! The routed experts' feed-forward of one row: what the kernel's block and the reference's term are both
    read as. -/
noncomputable section
namespace Cert.Ffn
open Idealize.ShloMosaic

/-- One hidden entry: the gate's product through `silu`, times the up product. -/
def hid (x : Fin 1024 → EReal) (g u : Fin 1024 → Fin 256 → EReal) (f : Fin 256) : EReal :=
  (∑ k, x k * g k f) * Ideal.logistic (∑ k, x k * g k f) * ∑ k, x k * u k f

/-- The feed-forward of a row: its hidden entries against the down weights. -/
def ffn (x : Fin 1024 → EReal) (g u : Fin 1024 → Fin 256 → EReal) (w : Fin 256 → Fin 1024 → EReal) (d : Fin 1024) : EReal :=
  ∑ f, hid x g u f * w f d

/-- A sum over the experts in which one alone counts, and only when its tile is in use. -/
theorem sum_one (e₀ : Fin 64) (b : BitVec 1) (Y : Fin 64 → EReal) (G : Fin 64 → BitVec 1) (hG : ∀ e, G e = 1#1 ↔ e = e₀) :
    (∑ e, Y e * (((((G e).toNat : ℝ)) : EReal) * ((((b).toNat : ℝ)) : EReal))) = if b = 1#1 then Y e₀ else 0 := by
  have bit : ∀ p : BitVec 1, p ≠ 1#1 → p = 0#1 := by decide
  have one : (((((1#1 : BitVec 1).toNat : ℝ))) : EReal) = 1 := by simp
  have zero : (((((0#1 : BitVec 1).toNat : ℝ))) : EReal) = 0 := by simp
  by_cases hb : b = 1#1
  · rw [if_pos hb, hb, Finset.sum_eq_single e₀]
    · rw [(hG e₀).mpr rfl, one, one_mul, mul_one]
    · intro e _ he
      rw [bit (G e) (fun h => he ((hG e).mp h)), zero, zero_mul, mul_zero]
    · exact fun h => absurd (Finset.mem_univ _) h
  · rw [if_neg hb, bit b hb, zero]
    exact Finset.sum_eq_zero fun e _ => by rw [mul_zero, mul_zero]
end Cert.Ffn
end
-- ==== Proof.ExpertsBlock.lean ====
module
public import proofs.«01_k».proof.Proof.ExpertsIdealFrame
public import proofs.«01_k».proof.Proof.ExpertsFfn
public import Idealize.ShloMosaic.Lib.Pipeline.ValueKit
public import Idealize.ShloMosaic.Lib.Pointwise
@[expose] public section
/-! What one grid point of the routed experts computes: the feed-forward of its rows, or zeros. -/
set_option maxRecDepth 16384
noncomputable section
namespace Cert.ExpertsBlock
open Cert.ExpertsIdeal Cert.ExpertsIdeal.Gen Cert.ExpertsIdeal.Body Idealize.ShloMosaic Idealize.ShloMosaic.TcCoe Idealize.SL.Sem
open Cert.Ffn

/-- The rows against one of the two input weights. -/
def product (x : Vec Ideal S512x1024 .bf16) (w : Vec Ideal S1x1024x256 .bf16) : FVec Ideal S512x256 .f32 :=
  matmul (φ₁ := .bf16) (φ₂ := .bf16) dot_S512x1024_S1024x256_S512x256_1_0_0_1_n_n none x (shapeCast (α := Ideal .bf16) S1024x256 w shapeCasts_S1x1024x256_S1024x256) (constant S512x256 .f32 0x00000000#32)

theorem product_at (x : Vec Ideal S512x1024 .bf16) (w : Vec Ideal S1x1024x256 .bf16) (r : Fin 512) (f : Fin 256) :
    product x w (ix2 r f) = ∑ k : Fin 1024, x (ix2 r k) * w (ix3 0 k f) := by
  pointwise [product]

/-- The hidden entries. -/
def hidden (P Q : FVec Ideal S512x256 .f32) : FVec Ideal S512x256 .bf16 :=
  truncf .bf16 (mulf (mulf P (logistic P)) Q) bitsLt_bf16_f32

theorem hidden_at (P Q : FVec Ideal S512x256 .f32) (r : Fin 512) (f : Fin 256) :
    hidden P Q (ix2 r f) = P (ix2 r f) * Ideal.logistic (P (ix2 r f)) * Q (ix2 r f) := by
  pointwise [hidden]

/-- Them against the down weights. -/
def down (H : FVec Ideal S512x256 .bf16) (w : Vec Ideal S1x256x1024 .bf16) : FVec Ideal S512x1024 .f32 :=
  matmul (φ₁ := .bf16) (φ₂ := .bf16) dot_S512x256_S256x1024_S512x1024_1_0_0_1_n_n none H (shapeCast (α := Ideal .bf16) S256x1024 w shapeCasts_S1x256x1024_S256x1024) (constant S512x1024 .f32 0x00000000#32)

theorem down_at (H : FVec Ideal S512x256 .bf16) (w : Vec Ideal S1x256x1024 .bf16) (r : Fin 512) (d : Fin 1024) :
    down H w (ix2 r d) = ∑ f : Fin 256, H (ix2 r f) * w (ix3 0 f d) := by
  pointwise [down]

theorem pay1_eq (x : Vec Ideal S512x1024 .bf16) (g u : Vec Ideal S1x1024x256 .bf16) (w : Vec Ideal S1x256x1024 .bf16) :
    k0_pay1 x g u w = down (hidden (product x g) (product x u)) w := rfl

/-- What a tile in use stores. -/
theorem pay1_at (x : Vec Ideal S512x1024 .bf16) (g u : Vec Ideal S1x1024x256 .bf16) (w : Vec Ideal S1x256x1024 .bf16) (r : Fin 512) (d : Fin 1024) :
    k0_pay1 x g u w (ix2 r d) = ffn (fun k => x (ix2 r k)) (fun k f => g (ix3 0 k f)) (fun k f => u (ix3 0 k f)) (fun f d => w (ix3 0 f d)) d := by
  rw [pay1_eq, down_at]
  simp only [hidden_at, product_at]
  rfl

/-- What a tile not in use stores. -/
theorem pay2_at (r : Fin 512) (d : Fin 1024) : k0_pay2 (F := Ideal) (ix2 r d) = 0 := by
  pointwise [k0_pay2]

/-- The body's condition is that the tile's word is positive. -/
theorem cond1_iff (w : BitVec 32) : k0_cond1 w = 1#1 ↔ IntOp.cmpi .sgt w 0#32 = 1#1 := by
  have h : ∀ b : BitVec 1, Scalar.cmpi .ne (Scalar.extui b : BitVec 32) 0#32 = 1#1 ↔ b = 1#1 := by decide
  exact h _

/-- What the body leaves, entry by entry. -/
theorem left_at (n : BitVec 32) (x : Vec Ideal S512x1024 .bf16) (g u : Vec Ideal S1x1024x256 .bf16) (w : Vec Ideal S1x256x1024 .bf16) (r : Fin 512) (d : Fin 1024) :
    left n x g u w (ix2 r d) = if IntOp.cmpi .sgt n 0#32 = 1#1 then
      ffn (fun k => x (ix2 r k)) (fun k f => g (ix3 0 k f)) (fun k f => u (ix3 0 k f)) (fun f d => w (ix3 0 f d)) d else 0 := by
  unfold left
  by_cases h : k0_cond1 n = 1#1
  · rw [if_pos h, if_pos ((cond1_iff n).mp h), pay1_at]
  · rw [if_neg h, if_neg (fun h' => h ((cond1_iff n).mpr h')), pay2_at]

/-- The same, for blocks whose entries are known. -/
theorem left_of (n n' : BitVec 32) (x : Vec Ideal S512x1024 .bf16) (g u : Vec Ideal S1x1024x256 .bf16) (w : Vec Ideal S1x256x1024 .bf16) (r : Fin 512) (d : Fin 1024)
    (X : Fin 1024 → EReal) (G U : Fin 1024 → Fin 256 → EReal) (W : Fin 256 → Fin 1024 → EReal) (hn : n = n')
    (hx : ∀ k, x (ix2 r k) = X k) (hg : ∀ k f, g (ix3 0 k f) = G k f) (hu : ∀ k f, u (ix3 0 k f) = U k f) (hw : ∀ f d, w (ix3 0 f d) = W f d) :
    left n x g u w (ix2 r d) = if IntOp.cmpi .sgt n' 0#32 = 1#1 then ffn X G U W d else 0 := by
  rw [left_at, hn, funext hx, funext fun k => funext (hg k), funext fun k => funext (hu k), funext fun f => funext (hw f)]
end Cert.ExpertsBlock
end
-- ==== Proof.ExpertsIdealTiles.lean ====
module
public import proofs.«01_k».proof.Proof.ExpertsIdealFrame
public import Idealize.ShloMosaic.Lib.Pointwise
@[expose] public section
/-! The routed experts' tables: the words a grid point reads of them, and the side condition of the pipeline
    from a bound on the experts they name. -/
set_option maxRecDepth 16384
noncomputable section
namespace Cert.ExpertsIdeal.Body
open Cert.ExpertsIdeal Cert.ExpertsIdeal.Gen Idealize.ShloMosaic Idealize.ShloMosaic.TcCoe Idealize.SL.Sem
variable {F : FTy → Type} [FloatOps F]

/-- The one tile a grid point works on. -/
def tile (i : grid0.Coords) : Fin 448 := i 0

/-- The multi-index a table is read at, at a grid point. -/
theorem read_at (i : grid0.Coords) : (Rect.unit (s := S448) (k0_off1 i) S1.size (k0_off1_inb i)).emb (Shape.Idx.first (numel1_S1.symm ▸ Nat.one_pos)) = ix1 (tile i) := by
  funext a
  obtain rfl : a = 0 := Subsingleton.elim _ _
  refine Fin.ext ?_
  have h : (i 0).val < 448 := (i 0).isLt
  change k0_off1 i 0 + 0 * 1 = (i 0).val
  simp [k0_off1, Scalar.indexCast]
  omega

/-- The word the body loads is the tile's. -/
theorem word_eq {c : Dev nD} (xt1 : TbBuf0 (F := F) c tbM0_1) (i : grid0.Coords) : word xt1 i = xt1 (ix1 (tile i)) :=
  congrArg xt1 (read_at i)

/-- The experts' side condition, from a bound on the experts the first table names. -/
theorem ok_of (pf : pre0.Contents (Elt F)) (h : ∀ t : Fin 448, (pf 0 (ix1 t) : BitVec 32).toNat < 64) : ok0 pf := by
  have e1 : ∀ i, cc0_transform_1 k0_off1_inb numel1_S1 pf i = ![(pf 0 (ix1 (tile i)) : BitVec 32).toNat, 0, 0] := fun i => by
    rw [← read_at i]; rfl
  have e2 : ∀ i, cc0_transform_2 k0_off1_inb numel1_S1 pf i = ![(pf 0 (ix1 (tile i)) : BitVec 32).toNat, 0, 0] := fun i => by
    rw [← read_at i]; rfl
  have e3 : ∀ i, cc0_transform_3 k0_off1_inb numel1_S1 pf i = ![(pf 0 (ix1 (tile i)) : BitVec 32).toNat, 0, 0] := fun i => by
    rw [← read_at i]; rfl
  refine ⟨fun i => ?_, fun i => ?_, fun i => ?_⟩
  · have hi := h (tile i)
    refine ⟨fun a => ?_, .inr (.inr ⟨by decide, rfl, ?_, rfl⟩)⟩
    · rw [e1]; fin_cases a <;> simp <;> omega
    · change cc0_transform_1 k0_off1_inb numel1_S1 pf i 1 * 1024 = 0
      rw [e1]; rfl
  · have hi := h (tile i)
    refine ⟨fun a => ?_, .inr (.inr ⟨by decide, rfl, ?_, rfl⟩)⟩
    · rw [e2]; fin_cases a <;> simp <;> omega
    · change cc0_transform_2 k0_off1_inb numel1_S1 pf i 1 * 1024 = 0
      rw [e2]; rfl
  · have hi := h (tile i)
    refine ⟨fun a => ?_, .inr (.inr ⟨by decide, rfl, ?_, rfl⟩)⟩
    · rw [e3]; fin_cases a <;> simp <;> omega
    · change cc0_transform_3 k0_off1_inb numel1_S1 pf i 1 * 256 = 0
      rw [e3]; rfl

variable (m : (ℓ : Loc nD τ sig) → Buf (Elt F) ℓ)

/-- The tables are the launch memory's. -/
theorem tbl_experts : tbl m 0 = m (((0 : Dev nD) : Thread nD τ).loc main_arg1) := V_main_arg1 m 0
theorem tbl_used : tbl m 1 = m (((0 : Dev nD) : Thread nD τ).loc main_arg2) := V_main_arg2 m 0

/-- The same for the program's own tables. -/
theorem ok_of_memory (h : ∀ t : Fin 448, (m (((0 : Dev nD) : Thread nD τ).loc main_arg1) (ix1 t) : BitVec 32).toNat < 64) : Ok m :=
  ok_of (tbl m) fun t => by rw [tbl_experts]; exact h t
end Cert.ExpertsIdeal.Body
end
-- ==== Proof.ExpertsArray.lean ====
module
public import proofs.«01_k».proof.Proof.ExpertsBlock
public import proofs.«01_k».proof.Proof.ExpertsIdealTiles
public import Idealize.ShloMosaic.Lib.Claim
@[expose] public section
/-! The routed experts' block reads as entries of the argument arrays, and their result array. -/
set_option maxRecDepth 16384
noncomputable section
namespace Cert.ExpertsArray
open Cert.ExpertsIdeal Cert.ExpertsIdeal.Gen Cert.ExpertsIdeal.Body Idealize.ShloMosaic Idealize.ShloMosaic.TcCoe Idealize.SL.Sem
open Idealize.ShloMosaic.Pipeline (Dat)
variable (m : (ℓ : Loc nD τ sig) → Buf (Elt Ideal) ℓ) (hO : Ok m) (c : Dev nD) (t : Fin (cfgM m hO).N)

/-- The tile of a grid point. -/
def point : Fin 448 := tile (grid0.coords t)

/-- A row of the tile, among all rows. -/
def row (r : Fin 512) : Fin 229376 := ⟨512 * (point m hO t).val + r.val, by have := (point m hO t).isLt; omega⟩

/-- The word of a coordinate below the number of tiles. -/
theorem coord (n : Fin 448) : (BitVec.ofNat 32 n.val).toNat = n.val := by
  rw [BitVec.toNat_ofNat]; omega

theorem emb_rows (r : Fin 512) (k : Fin 1024) : (((cfgM m hO).win 0).blk t).view.emb (ix2 r k) = ix2 (row m hO t r) k := by
  funext a
  refine Fin.ext ?_
  fin_cases a
  · change (BitVec.ofNat 32 (point m hO t).val).toNat * 512 + 1 * r.val = 512 * (point m hO t).val + r.val
    rw [coord]; omega
  · change 0 * 1024 + 1 * k.val = k.val
    omega

theorem rows_read (r : Fin 512) (k : Fin 1024) :
    iblk m hO c 0 t (ix2 r k) = m ((c : Thread nD τ).loc main_arg0) (ix2 (row m hO t r) k) := by
  change V m c main_arg0 ((((cfgM m hO).win 0).blk t).view.emb (ix2 r k)) = _
  exact (congrArg (V m c main_arg0) (emb_rows m hO t r k)).trans (congrFun (V_main_arg0 m c) _)

/-- The expert the point's tile names. -/
theorem expert_lt : (tbl m 0 (ix1 (point m hO t)) : BitVec 32).toNat < 64 := by
  obtain ⟨h, _⟩ := hO.1 (grid0.coords t)
  have h0 := h 0
  have e : cc0_transform_1 k0_off1_inb numel1_S1 (tbl m) (grid0.coords t) 0 = (tbl m 0 (ix1 (point m hO t)) : BitVec 32).toNat := by
    rw [point, ← read_at]; rfl
  rw [e] at h0
  change (_ + 1) * 1 ≤ 64 at h0
  omega
def expert : Fin 64 := ⟨(tbl m 0 (ix1 (point m hO t)) : BitVec 32).toNat, expert_lt m hO t⟩

theorem emb_gate (k : Fin 1024) (f : Fin 256) : (((cfgM m hO).win 1).blk t).view.emb (ix3 0 k f) = ix3 (expert m hO t) k f := by
  have e : cc0_transform_1 k0_off1_inb numel1_S1 (tbl m) (grid0.coords t) 0 = (expert m hO t).val := by
    change _ = (tbl m 0 (ix1 (point m hO t)) : BitVec 32).toNat
    rw [point, ← read_at]; rfl
  funext a
  refine Fin.ext ?_
  fin_cases a
  · change cc0_transform_1 k0_off1_inb numel1_S1 (tbl m) (grid0.coords t) 0 * 1 + 1 * 0 = (expert m hO t).val
    rw [e]; omega
  · change 0 * 1024 + 1 * k.val = k.val
    omega
  · change 0 * 256 + 1 * f.val = f.val
    omega

theorem gate_read (k : Fin 1024) (f : Fin 256) :
    iblk m hO c 1 t (ix3 0 k f) = m ((c : Thread nD τ).loc main_arg3) (ix3 (expert m hO t) k f) := by
  change V m c main_v0 ((((cfgM m hO).win 1).blk t).view.emb (ix3 0 k f)) = _
  refine (congrArg (V m c main_v0) (emb_gate m hO t k f)).trans ?_
  entry_read
  rfl
theorem emb_up (k : Fin 1024) (f : Fin 256) : (((cfgM m hO).win 2).blk t).view.emb (ix3 0 k f) = ix3 (expert m hO t) k f := by
  have e : cc0_transform_2 k0_off1_inb numel1_S1 (tbl m) (grid0.coords t) 0 = (expert m hO t).val := by
    change _ = (tbl m 0 (ix1 (point m hO t)) : BitVec 32).toNat
    rw [point, ← read_at]; rfl
  funext a
  refine Fin.ext ?_
  fin_cases a
  · change cc0_transform_2 k0_off1_inb numel1_S1 (tbl m) (grid0.coords t) 0 * 1 + 1 * 0 = (expert m hO t).val
    rw [e]; omega
  · change 0 * 1024 + 1 * k.val = k.val
    omega
  · change 0 * 256 + 1 * f.val = f.val
    omega

theorem up_read (k : Fin 1024) (f : Fin 256) :
    iblk m hO c 2 t (ix3 0 k f) = m ((c : Thread nD τ).loc main_arg4) (ix3 (expert m hO t) k f) := by
  change V m c main_v1 ((((cfgM m hO).win 2).blk t).view.emb (ix3 0 k f)) = _
  refine (congrArg (V m c main_v1) (emb_up m hO t k f)).trans ?_
  entry_read
  rfl
theorem emb_down (f : Fin 256) (d : Fin 1024) : (((cfgM m hO).win 3).blk t).view.emb (ix3 0 f d) = ix3 (expert m hO t) f d := by
  have e : cc0_transform_3 k0_off1_inb numel1_S1 (tbl m) (grid0.coords t) 0 = (expert m hO t).val := by
    change _ = (tbl m 0 (ix1 (point m hO t)) : BitVec 32).toNat
    rw [point, ← read_at]; rfl
  funext a
  refine Fin.ext ?_
  fin_cases a
  · change cc0_transform_3 k0_off1_inb numel1_S1 (tbl m) (grid0.coords t) 0 * 1 + 1 * 0 = (expert m hO t).val
    rw [e]; omega
  · change 0 * 256 + 1 * f.val = f.val
    omega
  · change 0 * 1024 + 1 * d.val = d.val
    omega

theorem down_read (f : Fin 256) (d : Fin 1024) :
    iblk m hO c 3 t (ix3 0 f d) = m ((c : Thread nD τ).loc main_arg5) (ix3 (expert m hO t) f d) := by
  change V m c main_v2 ((((cfgM m hO).win 3).blk t).view.emb (ix3 0 f d)) = _
  refine (congrArg (V m c main_v2) (emb_down m hO t f d)).trans ?_
  entry_read
  rfl
/-- The word that says whether the point's tile is in use. -/
theorem used_read : word (c := c) (tbl m 1) (grid0.coords t) = tbl m 1 (ix1 (point m hO t)) :=
  word_eq _ _

/-- What a point stores, from the argument arrays. -/
theorem stored (r : Fin 512) (d : Fin 1024) : (dats m hO 0 c).after 4 t (ix2 r d)
    = if IntOp.cmpi .sgt (m ((c : Thread nD τ).loc main_arg2) (ix1 (point m hO t)) : BitVec 32) 0#32 = 1#1 then
      Cert.Ffn.ffn (fun k => m ((c : Thread nD τ).loc main_arg0) (ix2 (row m hO t r) k))
        (fun k f => m ((c : Thread nD τ).loc main_arg3) (ix3 (expert m hO t) k f)) (fun k f => m ((c : Thread nD τ).loc main_arg4) (ix3 (expert m hO t) k f))
        (fun f d => m ((c : Thread nD τ).loc main_arg5) (ix3 (expert m hO t) f d)) d else 0 := by
  obtain rfl : c = 0 := Subsingleton.elim _ _
  rw [after0_4]
  exact Cert.ExpertsBlock.left_of _ _ _ _ _ _ r d _ _ _ _ ((used_read m hO 0 t).trans (congrFun (tbl_used m) _))
    (rows_read m hO 0 t r) (gate_read m hO 0 t) (up_read m hO 0 t) (down_read m hO 0 t)

theorem emb_out (r : Fin 512) (d : Fin 1024) : (((cfgM m hO).win 4).blk t).view.emb (ix2 r d) = ix2 (row m hO t r) d := by
  funext a
  refine Fin.ext ?_
  fin_cases a
  · change (BitVec.ofNat 32 (point m hO t).val).toNat * 512 + 1 * r.val = 512 * (point m hO t).val + r.val
    rw [coord]; omega
  · change 0 * 1024 + 1 * d.val = d.val
    omega

/-- The point that works on a tile. -/
noncomputable def pointOf (n : Fin 448) : Fin (cfgM m hO).N := ⟨n.val, n.isLt⟩

theorem coords_of : ∀ t : Fin grid0.N, (grid0.coords t 0).val = t.val := by decide +kernel

theorem point_of (n : Fin 448) : (point m hO (pointOf m hO n)).val = n.val := coords_of _

/-- An index of a two-axis array is its two coordinates. -/
theorem split {a b : ℕ} (y : (⟨2, ![a, b]⟩ : Shape).Idx) : ∃ (r : Fin a) (d : Fin b), y = ix2 r d :=
  ⟨y 0, y 1, by funext a; fin_cases a <;> rfl⟩

/-- A function of the result array, from what each point stores. -/
theorem of_stored (G : FVec Ideal S229376x1024 .f32)
    (h : ∀ (t : Fin (cfgM m hO).N) (r : Fin 512) (d : Fin 1024), (dats m hO 0 c).after 4 t (ix2 r d) = G (ix2 (row m hO t r) d)) :
    (dats m hO 0 c).arrAt 4 (cfgM m hO).N = G := by
  refine (dats m hO 0 c).arrAt_eq_of_emb 4 _ (fun t _ y => ?_) fun i => ?_
  · obtain ⟨r, d, e⟩ := split (a := 512) (b := 1024) y
    subst e
    exact (h t r d).trans (congrArg G (emb_out m hO t r d)).symm
  · obtain ⟨s, d, e⟩ := split (a := 229376) (b := 1024) i
    have hs : s.val / 512 < 448 := by omega
    have hr : s.val % 512 < 512 := by omega
    refine ⟨pointOf m hO ⟨s.val / 512, hs⟩, flush0_4 _ _, ?_⟩
    have e' : (((cfgM m hO).win 4).blk (pointOf m hO ⟨s.val / 512, hs⟩)).view.emb (ix2 (⟨s.val % 512, hr⟩ : Fin 512) d) = i := by
      refine (emb_out m hO _ _ d).trans (Eq.trans ?_ e.symm)
      congr 1
      refine Fin.ext ?_
      change 512 * (point m hO (pointOf m hO ⟨s.val / 512, hs⟩)).val + s.val % 512 = s.val
      rw [point_of]
      change 512 * (s.val / 512) + s.val % 512 = s.val
      omega
    exact e' ▸ View.emb_mem_set _ _
end Cert.ExpertsArray
end
-- ==== Proof.ExpertsRef.lean ====
module
public import proofs.«01_k».proof.Proof.Gen.ExpertsRefIdeal.Run
public import proofs.«01_k».proof.Proof.ExpertsFfn
public import Idealize.ShloMosaic.Lib.Pointwise
@[expose] public section
/-! The routed experts as the reference writes them, read at one result: every expert's feed-forward of the
    row, weighted by whether the row's tile names the expert and is in use. -/
set_option maxRecDepth 16384
noncomputable section
namespace Cert.ExpertsRef
open Cert.ExpertsRefIdeal Cert.ExpertsRefIdeal.Gen Idealize.ShloMosaic Idealize.ShloMosaic.TcCoe Idealize.SL.Sem
open Cert.Ffn

/-- The rows against one of the two input weights, expert by expert. -/
def product (x : FVec Ideal S229376x1024 .bf16) (w : FVec Ideal S64x1024x256 .f32) : FVec Ideal S229376x64x256 .f32 :=
  Host.dotGeneral dot_S229376x1024_S64x1024x256_S229376x64x256_1_1_0_02_n_n none (extf .f32 x bitsLt_bf16_f32) w

theorem product_at (x : FVec Ideal S229376x1024 .bf16) (w : FVec Ideal S64x1024x256 .f32) (r : Fin 229376) (e : Fin 64) (f : Fin 256) :
    product x w (ix3 r e f) = ∑ k : Fin 1024, x (ix2 r k) * w (ix3 e k f) := by
  pointwise [product]

/-- `silu`, entry by entry. -/
def silu (h : FVec Ideal S229376x64x256 .f32) : FVec Ideal S229376x64x256 .f32 :=
  mulf h (Host.divf (broadcastInDim S229376x64x256 ![] bcast_S_S229376x64x256 (constant S_ .f32 0x3F800000#32)) (addf (broadcastInDim S229376x64x256 ![] bcast_S_S229376x64x256 (constant S_ .f32 0x3F800000#32)) (Host.exp (Host.negf h))))

theorem silu_at (h : FVec Ideal S229376x64x256 .f32) (r : Fin 229376) (e : Fin 64) (f : Fin 256) :
    silu h (ix3 r e f) = h (ix3 r e f) * Ideal.logistic (h (ix3 r e f)) := by
  pointwise [silu, Ideal.logistic]

/-- The hidden entries against the down weights. -/
def down (w : FVec Ideal S64x256x1024 .f32) (h : FVec Ideal S229376x64x256 .f32) : FVec Ideal S229376x64x1024 .f32 :=
  transpose S229376x64x1024 [2, 0, 1] (Host.dotGeneral dot_S64x256x1024_S229376x64x256_S64x1024x229376_1_2_2_0_0_1 none w h) transposes_S64x1024x229376_S229376x64x1024_2_0_1

theorem down_at (w : FVec Ideal S64x256x1024 .f32) (h : FVec Ideal S229376x64x256 .f32) (r : Fin 229376) (e : Fin 64) (d : Fin 1024) :
    down w h (ix3 r e d) = ∑ f : Fin 256, w (ix3 e f d) * h (ix3 r e f) := by
  pointwise [down]

/-- Whether each tile names each expert, and is in use, as numbers. -/
def perTile (te on : IVec S448 32) : FVec Ideal S448x64 .f32 :=
  mulf (uitofp .f32 (cmpi .eq (broadcastInDim S448x64 ![0, 1] bcast_S448x1_S448x64_0_1 (broadcastInDim S448x1 ![0] bcast_S448_S448x1_0 te)) (broadcastInDim S448x64 ![0, 1] bcast_S1x64_S448x64_0_1 (iotaInDim S1x64 32 1)))) (broadcastInDim S448x64 ![0, 1] bcast_S448x1_S448x64_0_1 (broadcastInDim S448x1 ![0] bcast_S448_S448x1_0 (uitofp .f32 (cmpi .sgt on (broadcastInDim S448 ![] bcast_S_S448 (constantI S_ 32 0#32))))))

theorem perTile_at (te on : IVec S448 32) (t : Fin 448) (e : Fin 64) :
    perTile te on (ix2 t e) = (((IntOp.cmpi .eq (te (ix1 t)) (BitVec.ofNat 32 e.val)).toNat : ℝ) : EReal) * (((IntOp.cmpi .sgt (on (ix1 t)) 0#32).toNat : ℝ) : EReal) := by
  pointwise [perTile]
  rfl

/-- The same for each row, its tile's, and the weighted sum over the experts. -/
def total (Y : FVec Ideal S229376x64x1024 .f32) (G : FVec Ideal S448x64 .f32) : FVec Ideal S229376x1024 .f32 :=
  Host.reduceAdd (mulf Y (broadcastInDim S229376x64x1024 ![0, 1, 2] bcast_S229376x64x1_S229376x64x1024_0_1_2 (broadcastInDim S229376x64x1 ![0, 1] bcast_S229376x64_S229376x64x1_0_1 (shapeCast _ (broadcastInDim S448x512x64 ![0, 2] bcast_S448x64_S448x512x64_0_2 G) shapeCasts_S448x512x64_S229376x64)))) (constant S_ .f32 0x00000000#32) reducesTo_S229376x64x1024_S229376x1024_d1 h_S_

theorem total_at (Y : FVec Ideal S229376x64x1024 .f32) (G : FVec Ideal S448x64 .f32) (r : Fin 229376) (d : Fin 1024) :
    total Y G (ix2 r d) = ∑ e : Fin 64, Y (ix3 r e d) * G (ix2 ⟨r.val / 512, by omega⟩ e) := by
  pointwise [total]

/-- The reference's result array. -/
def value (x : FVec Ideal S229376x1024 .bf16) (te on : IVec S448 32) (g u : FVec Ideal S64x1024x256 .f32) (w : FVec Ideal S64x256x1024 .f32) : FVec Ideal S229376x1024 .f32 :=
  total (down w (mulf (silu (product x g)) (product x u))) (perTile te on)

/-- An entry of it: the feed-forward of the row by its tile's expert, or zero when the tile is not in use. -/
theorem value_at (x : FVec Ideal S229376x1024 .bf16) (te on : IVec S448 32) (g u : FVec Ideal S64x1024x256 .f32) (w : FVec Ideal S64x256x1024 .f32)
    (r : Fin 229376) (d : Fin 1024) (h : (te (ix1 ⟨r.val / 512, by omega⟩)).toNat < 64) :
    value x te on g u w (ix2 r d) = if IntOp.cmpi .sgt (on (ix1 ⟨r.val / 512, by omega⟩)) 0#32 = 1#1 then
      ffn (fun k => x (ix2 r k)) (fun k f => g (ix3 ⟨_, h⟩ k f)) (fun k f => u (ix3 ⟨_, h⟩ k f)) (fun f d => w (ix3 ⟨_, h⟩ f d)) d else 0 := by
  have hv : ∀ e f, mulf (silu (product x g)) (product x u) (ix3 r e f) = hid (fun k => x (ix2 r k)) (fun k f => g (ix3 e k f)) (fun k f => u (ix3 e k f)) f := by
    intro e f
    have e1 : mulf (silu (product x g)) (product x u) (ix3 r e f) = silu (product x g) (ix3 r e f) * product x u (ix3 r e f) := rfl
    rw [e1, silu_at, product_at, product_at]; rfl
  rw [value, total_at]
  simp only [perTile_at, down_at, hv]
  rw [sum_one ⟨_, h⟩ _ (fun e => ∑ f, w (ix3 e f d) * hid (fun k => x (ix2 r k)) (fun k f => g (ix3 e k f)) (fun k f => u (ix3 e k f)) f) (fun e : Fin 64 => IntOp.cmpi .eq (te (ix1 ⟨r.val / 512, by omega⟩)) (BitVec.ofNat 32 e.val))]
  · congr 1
    exact Finset.sum_congr rfl fun f _ => mul_comm _ _
  · intro e
    have hb : ∀ p : Bool, BitVec.ofBool p = 1#1 ↔ p = true := by decide
    simp only [IntOp.cmpi, hb, beq_iff_eq]
    constructor
    · intro he; exact Fin.ext (by simp only [he, BitVec.toNat_ofNat]; omega)
    · intro he; subst he; simp

theorem result (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v19) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m g
end Cert.ExpertsRef
end
-- ==== Proof.ExpertsClaim.lean ====
module
public import proofs.«01_k».proof.Defs
public import proofs.«01_k».proof.Proof.ExpertsArray
public import proofs.«01_k».proof.Proof.ExpertsRef
public import proofs.«01_k».proof.Proof.ExpertsTiles
public import proofs.«01_k».proof.Proof.Gen.Pre_tiles_name_experts
public import Idealize.ShloMosaic.Lib.Claim
@[expose] public section
/-! The routed experts' claim: the precondition read, the frames, and the two runs put side by side. -/
set_option maxRecDepth 16384
noncomputable section
namespace Cert.ExpertsClaim
open Idealize.ShloMosaic Idealize.ShloMosaic.TcCoe Idealize.SL.Sem

/-- A word between 0 and 63, compared signed, is a number below 64. -/
theorem word_range (x : BitVec 32) (h : IntOp.andi (IntOp.cmpi .sge x 0#32) (IntOp.cmpi .slt x 64#32) = 1#1) : x.toNat < 64 := by
  have ha : ∀ p q : Bool, IntOp.andi (BitVec.ofBool p) (BitVec.ofBool q) = 1#1 ↔ p = true ∧ q = true := by decide
  simp only [IntOp.cmpi, ha, BitVec.sle_eq_decide, BitVec.slt_eq_decide, decide_eq_true_eq] at h
  have h0 : (0#32 : BitVec 32).toInt = 0 := by decide
  have h4 : (64#32 : BitVec 32).toInt = 64 := by decide
  rw [h0, h4, BitVec.toInt_eq_toNat_cond] at h
  have := x.isLt
  split at h <;> omega

/-- The precondition, read: every tile names one of the 64 experts. -/
theorem pre_range {F : FTy → Type} [FloatOps F] (x : FVec F Cert.ExpertsIdeal.S229376x1024 .bf16) (te on : IVec Cert.ExpertsIdeal.S448 32) (g u : FVec F Cert.ExpertsIdeal.S64x1024x256 .f32) (w : FVec F Cert.ExpertsIdeal.S64x256x1024 .f32)
    (h : Cert.Pre_tiles_name_experts.fn (F := F) x te on g u w = fun _ => 1#1) (t : Fin 448) : (te (ix1 t)).toNat < 64 :=
  word_range _ (congrFun h (ix1 t))

theorem ok_bits (m : (ℓ : Loc Cert.Experts.nD Cert.Experts.τ Cert.Experts.sig) → Buf (Elt Bits) ℓ) (h : Cert.Pre_Experts m) : Cert.Experts.Body.Ok m :=
  Cert.Experts.Body.ok_of_memory m (pre_range _ _ _ _ _ _ (h 0))

theorem ok_ideal (m : (ℓ : Loc Cert.ExpertsIdeal.nD Cert.ExpertsIdeal.τ Cert.ExpertsIdeal.sig) → Buf (Elt Ideal) ℓ) (h : Cert.Pre_ExpertsIdeal m) : Cert.ExpertsIdeal.Body.Ok m :=
  Cert.ExpertsIdeal.Body.ok_of_memory m (pre_range _ _ _ _ _ _ (h 0))

/-- The kernel's frames, in its own arithmetic and on the reals. -/
theorem frame_bits : Cert.quiescent_Experts := fun m g h => Cert.Experts.Body.frame m g (ok_bits m h)
theorem frame_ideal : Cert.quiescent_ExpertsIdeal := fun m g h => Cert.ExpertsIdeal.Body.frame m g (ok_ideal m h)

/-- The reference runs, leaves its arguments unchanged and declares no semaphore. -/
theorem frame_reference : Cert.quiescent_ExpertsRefIdeal := fun m g _ =>
  (θ_run Cert.ExpertsRefIdeal.defs _ _).mono (fun r h => ⟨fun c => (h c).2, sem_eq_zero_of_no_sems (by decide) r.2⟩)
    (Cert.ExpertsRefIdeal.Value.run (F := Ideal) m g)

section final
open Cert.ExpertsIdeal Cert.ExpertsIdeal.Gen Cert.ExpertsIdeal.Body Cert.ExpertsArray
variable (m : (ℓ : Loc nD τ sig) → Buf (Elt Ideal) ℓ) (h : Cert.Pre_ExpertsIdeal m) (c : Dev nD)

/-- The kernel's result array is the reference's term of its arguments. -/
theorem final : (dats m (ok_ideal m h) 0 c).arrAt 4 (cfgM m (ok_ideal m h)).N
    = Cert.ExpertsRef.value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  obtain rfl : c = 0 := Subsingleton.elim _ _
  refine of_stored m _ 0 _ fun t r d => ?_
  have ht : (⟨(row m (ok_ideal m h) t r).val / 512, by have := (row m (ok_ideal m h) t r).isLt; omega⟩ : Fin 448) = point m (ok_ideal m h) t :=
    Fin.ext (by change (512 * (point m (ok_ideal m h) t).val + r.val) / 512 = _; omega)
  have hr := pre_range _ _ _ _ _ _ (h 0)
  rw [stored, Cert.ExpertsRef.value_at _ _ _ _ _ _ _ _ (hr _)]
  have he : expert m (ok_ideal m h) t = ⟨_, hr ⟨(row m (ok_ideal m h) t r).val / 512, by have := (row m (ok_ideal m h) t r).isLt; omega⟩⟩ := by
    refine Fin.ext ?_
    change (tbl m 0 (ix1 (point m (ok_ideal m h) t)) : BitVec 32).toNat = _
    rw [tbl_experts, ht]
  rw [← he, ht]

variable (g : Dev nD → PrngReg)
include h

/-- The kernel runs, ends with the reference's term of its arguments, and leaves its arguments unchanged. -/
theorem run_result : θ_run defs (onTc (τ := τ) (main (F := Ideal))) ⟨m, fun _ => 0, g⟩ (fun r => ∀ c : Dev nD,
      r.2.mem ((c.tc : Thread nD τ).loc main_v3)
        = Cert.ExpertsRef.value (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨(hr.2.out_eq c 4).trans (final m h c), hr.1 c⟩)
    (θ_run_and (unchanged m g (ok_ideal m h)) (run_main m g (ok_ideal m h)))
end final

/-- Equal arguments, equal terms. -/
theorem agree (x x' : FVec Ideal Cert.ExpertsIdeal.S229376x1024 .bf16) (te te' on on' : IVec Cert.ExpertsIdeal.S448 32) (g g' u u' : FVec Ideal Cert.ExpertsIdeal.S64x1024x256 .f32) (w w' : FVec Ideal Cert.ExpertsIdeal.S64x256x1024 .f32)
    (h0 : x = x') (h1 : te = te') (h2 : on = on') (h3 : g = g') (h4 : u = u') (h5 : w = w') :
    Cert.ExpertsRef.value x te on g u w = Cert.ExpertsRef.value x' te' on' g' u' w' := by
  rw [h0, h1, h2, h3, h4, h5]

/-- The kernel's result array is the reference's. -/
theorem algebraic : Cert.algebraic_ExpertsIdeal_ExpertsRefIdeal := by
  intro m g m' g' hpre hagree
  refine ⟨_, run_result m hpre g, (θ_run Cert.ExpertsRefIdeal.defs _ _).mono (fun r hr c => ⟨(hr c).1.trans ?_, (hr c).2⟩) (Cert.ExpertsRef.result m' g')⟩
  obtain ⟨h0, h1, h2, h3, h4, h5⟩ := hagree c
  exact agree _ _ _ _ _ _ _ _ _ _ _ _ h0 h1 h2 h3 h4 h5
end Cert.ExpertsClaim
end
-- ==== Proof.NormRow.lean ====
module
public import proofs.«01_k».proof.Proof.ExpertsFfn
@[expose] public section
/-! The closing step of a layer for one row: the residual with the routed and the shared experts' outcomes,
    and its layer norm. What the kernel's block and the reference's term are both read as. -/
noncomputable section
namespace Cert.NormRow
open Idealize.ShloMosaic Cert.Ffn

/-- The residual's weight, the row's length and the norm's addend, as the programs write them. -/
abbrev alpha : EReal := Ideal.ofBits .f32 0x3FB504F3#32
abbrev width : EReal := Ideal.ofBits .f32 0x44800000#32
abbrev eps : EReal := Ideal.ofBits .f32 0x3727C5AC#32

/-- The row before its norm. -/
def pre (x y : Fin 1024 → EReal) (g u : Fin 1024 → Fin 256 → EReal) (w : Fin 256 → Fin 1024 → EReal) (d : Fin 1024) : EReal :=
  alpha * x d + (y d + ffn x g u w d)

/-- A row's mean. -/
def mean (y : Fin 1024 → EReal) : EReal := Ideal.div (∑ d, y d) width

/-- A row less its mean. -/
def centred (y : Fin 1024 → EReal) (d : Fin 1024) : EReal := y d - mean y

/-- The mean of its square. -/
def variance (y : Fin 1024 → EReal) : EReal := Ideal.div (∑ d, centred y d * centred y d) width

/-- The row's layer norm. -/
def norm (y a b : Fin 1024 → EReal) (d : Fin 1024) : EReal := centred y d * Ideal.rsqrt (variance y + eps) * a d + b d
end Cert.NormRow
end
-- ==== Proof.MoeOutBlock.lean ====
module
public import proofs.«01_k».proof.Proof.Gen.MoeOutIdeal.Value
public import proofs.«01_k».proof.Proof.NormRow
public import Idealize.ShloMosaic.Lib.Pipeline.ValueKit
public import Idealize.ShloMosaic.Lib.Pointwise
@[expose] public section
/-! What one grid point of a layer's closing step computes: the norm of its rows' residuals. -/
set_option maxRecDepth 16384
noncomputable section
namespace Cert.MoeOutBlock
open Cert.MoeOutIdeal Cert.MoeOutIdeal.Gen Idealize.ShloMosaic Idealize.ShloMosaic.TcCoe Idealize.SL.Sem
open Cert.Ffn Cert.NormRow

/-- The rows against one of the two input weights. -/
def product (x : Vec Ideal S512x1024 .f32) (w : Vec Ideal S1024x256 .bf16) : FVec Ideal S512x256 .f32 :=
  matmul (φ₁ := .bf16) (φ₂ := .bf16) dot_S512x1024_S1024x256_S512x256_1_0_0_1_n_n none (truncf (φ := .f32) .bf16 x bitsLt_bf16_f32) (shapeCast (α := Ideal .bf16) S1024x256 w shapeCasts_S1024x256_S1024x256) (constant S512x256 .f32 0x00000000#32)

theorem product_at (x : Vec Ideal S512x1024 .f32) (w : Vec Ideal S1024x256 .bf16) (r : Fin 512) (f : Fin 256) :
    product x w (ix2 r f) = ∑ k : Fin 1024, x (ix2 r k) * w (ix2 k f) := by
  pointwise [product]

/-- The hidden entries. -/
def hidden (P Q : FVec Ideal S512x256 .f32) : FVec Ideal S512x256 .bf16 :=
  truncf .bf16 (mulf (mulf P (logistic P)) Q) bitsLt_bf16_f32

theorem hidden_at (P Q : FVec Ideal S512x256 .f32) (r : Fin 512) (f : Fin 256) :
    hidden P Q (ix2 r f) = P (ix2 r f) * Ideal.logistic (P (ix2 r f)) * Q (ix2 r f) := by
  pointwise [hidden]

/-- Them against the down weights. -/
def down (H : FVec Ideal S512x256 .bf16) (w : Vec Ideal S256x1024 .bf16) : FVec Ideal S512x1024 .f32 :=
  matmul (φ₁ := .bf16) (φ₂ := .bf16) dot_S512x256_S256x1024_S512x1024_1_0_0_1_n_n none H (shapeCast (α := Ideal .bf16) S256x1024 w shapeCasts_S256x1024_S256x1024) (constant S512x1024 .f32 0x00000000#32)

theorem down_at (H : FVec Ideal S512x256 .bf16) (w : Vec Ideal S256x1024 .bf16) (r : Fin 512) (d : Fin 1024) :
    down H w (ix2 r d) = ∑ f : Fin 256, H (ix2 r f) * w (ix2 f d) := by
  pointwise [down]

/-- The residual of the rows with what the experts add. -/
def residual (x y : Vec Ideal S512x1024 .f32) (D : FVec Ideal S512x1024 .f32) : FVec Ideal S512x1024 .f32 :=
  addf (φ := .f32) (mulf (φ := .f32) (broadcast S512x1024 (Scalar.ofBits (F := Ideal) .f32 0x3FB504F3#32)) x) (addf (φ := .f32) y D)

theorem residual_at (x y : Vec Ideal S512x1024 .f32) (D : FVec Ideal S512x1024 .f32) (r : Fin 512) (d : Fin 1024) :
    residual x y D (ix2 r d) = alpha * x (ix2 r d) + (y (ix2 r d) + D (ix2 r d)) := by
  pointwise [residual]

/-- Each row's mean, in a column. -/
def means (Y : FVec Ideal S512x1024 .f32) : FVec Ideal S512x1 .f32 :=
  divf (shapeCast S512x1 (multiReduction .add [1] S512 Y 0x00000000#32 reduces_S512x1024_S512 (.inl rfl) rfl) shapeCasts_S512_S512x1) (broadcast S512x1 (Scalar.ofBits (F := Ideal) .f32 0x44800000#32))

theorem means_at (Y : FVec Ideal S512x1024 .f32) (r : Fin 512) : means Y (ix2 r 0) = mean fun d => Y (ix2 r d) := by
  pointwise [means, mean]

/-- The rows less their means. -/
def centre (Y : FVec Ideal S512x1024 .f32) : FVec Ideal S512x1024 .f32 :=
  subf Y (broadcastTo S512x1024 (means Y) broadcasts_S512x1_S512x1024)

theorem centre_at (Y : FVec Ideal S512x1024 .f32) (r : Fin 512) (d : Fin 1024) : centre Y (ix2 r d) = centred (fun d => Y (ix2 r d)) d := by
  rw [centred, ← means_at]
  pointwise [centre]

theorem pay4_eq (x y : Vec Ideal S512x1024 .f32) (g u : Vec Ideal S1024x256 .bf16) (w : Vec Ideal S256x1024 .bf16) :
    k0_pay4 x g u w y = centre (residual x y (down (hidden (product x g) (product x u)) w)) := rfl
theorem pay5_eq (x y : Vec Ideal S512x1024 .f32) (g u : Vec Ideal S1024x256 .bf16) (w : Vec Ideal S256x1024 .bf16) :
    k0_pay5 x g u w y = means (mulf (k0_pay4 x g u w y) (k0_pay4 x g u w y)) := rfl

/-- The rows' norm, from the centred rows. -/
theorem pay1_at (a b : Vec Ideal S1x1024 .f32) (C : FVec Ideal S512x1024 .f32) (r : Fin 512) (d : Fin 1024) :
    k0_pay1 (k0_pay2 a) (k0_pay3 b) C (means (mulf C C)) k0_pay6 (ix2 r d)
      = C (ix2 r d) * Ideal.rsqrt (means (mulf C C) (ix2 r 0) + eps) * a (ix2 0 d) + b (ix2 0 d) := by
  generalize means (mulf C C) = M
  pointwise [k0_pay1, k0_pay2, k0_pay3, k0_pay6]

/-- What the body stores, entry by entry. -/
theorem stored_at (x y : Vec Ideal S512x1024 .f32) (g u : Vec Ideal S1024x256 .bf16) (w : Vec Ideal S256x1024 .bf16) (a b : Vec Ideal S1x1024 .f32) (r : Fin 512) (d : Fin 1024) :
    k0_pay1 (k0_pay2 a) (k0_pay3 b) (k0_pay4 x g u w y) (k0_pay5 x g u w y) k0_pay6 (ix2 r d)
      = norm (pre (fun k => x (ix2 r k)) (fun k => y (ix2 r k)) (fun k f => g (ix2 k f)) (fun k f => u (ix2 k f)) (fun f d => w (ix2 f d)))
          (fun d => a (ix2 0 d)) (fun d => b (ix2 0 d)) d := by
  have hC : ∀ d, k0_pay4 x g u w y (ix2 r d) = centred (pre (fun k => x (ix2 r k)) (fun k => y (ix2 r k)) (fun k f => g (ix2 k f)) (fun k f => u (ix2 k f)) (fun f d => w (ix2 f d))) d := by
    intro d
    rw [pay4_eq, centre_at]
    simp only [residual_at, down_at, hidden_at, product_at]
    rfl
  rw [pay5_eq, pay1_at, means_at, hC]
  have hs : ∀ d, mulf (k0_pay4 x g u w y) (k0_pay4 x g u w y) (ix2 r d) = k0_pay4 x g u w y (ix2 r d) * k0_pay4 x g u w y (ix2 r d) := fun d => rfl
  simp only [hs, hC]
  rfl

/-- The same, for blocks whose entries are known. -/
theorem stored_of (x y : Vec Ideal S512x1024 .f32) (g u : Vec Ideal S1024x256 .bf16) (w : Vec Ideal S256x1024 .bf16) (a b : Vec Ideal S1x1024 .f32) (r : Fin 512) (d : Fin 1024)
    (X Y A B : Fin 1024 → EReal) (G U : Fin 1024 → Fin 256 → EReal) (W : Fin 256 → Fin 1024 → EReal)
    (hx : ∀ k, x (ix2 r k) = X k) (hy : ∀ k, y (ix2 r k) = Y k) (hg : ∀ k f, g (ix2 k f) = G k f) (hu : ∀ k f, u (ix2 k f) = U k f)
    (hw : ∀ f d, w (ix2 f d) = W f d) (ha : ∀ d, a (ix2 0 d) = A d) (hb : ∀ d, b (ix2 0 d) = B d) :
    k0_pay1 (k0_pay2 a) (k0_pay3 b) (k0_pay4 x g u w y) (k0_pay5 x g u w y) k0_pay6 (ix2 r d) = norm (pre X Y G U W) A B d := by
  rw [stored_at, funext hx, funext hy, funext fun k => funext (hg k), funext fun k => funext (hu k), funext fun f => funext (hw f), funext ha, funext hb]
end Cert.MoeOutBlock
end
-- ==== Proof.MoeOutArray.lean ====
module
public import proofs.«01_k».proof.Proof.MoeOutBlock
public import Idealize.ShloMosaic.Lib.Claim
@[expose] public section
/-! What each grid point of a layer's closing step stores, in entries of the argument arrays, and the array of
    all points' blocks. -/
set_option maxRecDepth 16384
noncomputable section
namespace Cert.MoeOutArray
open Cert.MoeOutIdeal Cert.MoeOutIdeal.Gen Idealize.ShloMosaic Idealize.ShloMosaic.TcCoe Idealize.SL.Sem
open Idealize.ShloMosaic.Pipeline (Dat)
open Cert.NormRow Cert.MoeOutBlock
variable (m : (ℓ : Loc nD τ sig) → Buf (Elt Ideal) ℓ) (c : Dev nD) (t : Fin cfg0.N)

/-- Where each window's block lies, at every grid point. -/
theorem place : ∀ t : Fin cfg0.N,
    win0_0.index t = ![(grid0.coords t 0).val, 0] ∧ win0_1.index t = ![(grid0.coords t 0).val, 0]
    ∧ win0_2.index t = ![0, 0] ∧ win0_3.index t = ![0, 0] ∧ win0_4.index t = ![0, 0] ∧ win0_5.index t = ![0, 0] ∧ win0_6.index t = ![0, 0]
    ∧ win0_7.index t = ![(grid0.coords t 0).val, 0] ∧ (grid0.coords t 0).val < 64 :=
  (by decide +kernel : ∀ t : Fin grid0.N, _)

/-- Row `r` of the point's tile, in the whole array. -/
def row (r : Fin 512) : Fin 32768 :=
  ⟨512 * (grid0.coords t 0).val + r.val, by have := (place t).2.2.2.2.2.2.2.2; omega⟩

/-- What the point stores: the norm of each of its rows. -/
theorem stored (r : Fin 512) (d : Fin 1024) : (dats m 0 c).after 7 t (ix2 r d)
    = norm (pre (fun k => m ((c : Thread nD τ).loc main_arg0) (ix2 (row t r) k)) (fun k => m ((c : Thread nD τ).loc main_arg1) (ix2 (row t r) k))
        (fun k f => m ((c : Thread nD τ).loc main_arg2) (ix2 k f)) (fun k f => m ((c : Thread nD τ).loc main_arg3) (ix2 k f)) (fun f d => m ((c : Thread nD τ).loc main_arg4) (ix2 f d)))
        (fun d => m ((c : Thread nD τ).loc main_arg5) (ix1 d)) (fun d => m ((c : Thread nD τ).loc main_arg6) (ix1 d)) d := by
  rw [after0_7]
  unfold out0_7
  frame_out
  refine stored_of _ _ _ _ _ _ _ _ _ _ _ _ _ _ _ _ (fun k => ?_) (fun k => ?_) (fun k f => ?_) (fun k f => ?_) (fun f d => ?_) (fun d => ?_) (fun d => ?_)
  · unfold row; blk_ext [iblk, V, place t]
  · unfold row; blk_ext [iblk, V, place t]
  · unfold iblk; entry_read; blk_simp; pointwise; change m ((c : Thread nD τ).loc main_arg2) _ = m ((c : Thread nD τ).loc main_arg2) _; blk_ext [place t]
  · unfold iblk; entry_read; blk_simp; pointwise; change m ((c : Thread nD τ).loc main_arg3) _ = m ((c : Thread nD τ).loc main_arg3) _; blk_ext [place t]
  · unfold iblk; entry_read; blk_simp; pointwise; change m ((c : Thread nD τ).loc main_arg4) _ = m ((c : Thread nD τ).loc main_arg4) _; blk_ext [place t]
  · unfold iblk; entry_read; blk_simp; pointwise; change m ((c : Thread nD τ).loc main_arg5) _ = m ((c : Thread nD τ).loc main_arg5) _; blk_ext [place t]
  · unfold iblk; entry_read; blk_simp; pointwise; change m ((c : Thread nD τ).loc main_arg6) _ = m ((c : Thread nD τ).loc main_arg6) _; blk_ext [place t]

/-- A function of the result array, from what each point stores. -/
theorem of_stored (G : FVec Ideal S32768x1024 .f32)
    (h : ∀ (t : Fin cfg0.N) (r : Fin 512) (d : Fin 1024), (dats m 0 c).after 7 t (ix2 r d) = G (ix2 (row t r) d)) :
    (dats m 0 c).arrAt 7 cfg0.N = G := by
  refine (dats m 0 c).arrAt_eq_of_covers 7 _ (by decide +kernel) fun t _ y => ?_
  blk_simp
  obtain ⟨r, d, rfl⟩ : ∃ (r : Fin 512) (d : Fin 1024), y = ix2 r d := ⟨y 0, y 1, by funext a; fin_cases a <;> rfl⟩
  rw [h]
  unfold row
  blk_ext [place t]
end Cert.MoeOutArray
end
-- ==== Proof.MoeOutRef.lean ====
module
public import proofs.«01_k».proof.Proof.Gen.MoeOutRefIdeal.Run
public import proofs.«01_k».proof.Proof.NormRow
public import Idealize.ShloMosaic.Lib.Pointwise
@[expose] public section
/-! A layer's closing step as the reference writes it, read at one result. -/
set_option maxRecDepth 16384
noncomputable section
namespace Cert.MoeOutRef
open Cert.MoeOutRefIdeal Cert.MoeOutRefIdeal.Gen Idealize.ShloMosaic Idealize.ShloMosaic.TcCoe Idealize.SL.Sem
open Cert.Ffn Cert.NormRow

/-- The rows against one of the two input weights. -/
def product (x : FVec Ideal S32768x1024 .f32) (w : FVec Ideal S1024x256 .f32) : FVec Ideal S32768x256 .f32 :=
  Host.dotGeneral dot_S32768x1024_S1024x256_S32768x256_1_0_0_1_n_n none x w

theorem product_at (x : FVec Ideal S32768x1024 .f32) (w : FVec Ideal S1024x256 .f32) (r : Fin 32768) (f : Fin 256) :
    product x w (ix2 r f) = ∑ k : Fin 1024, x (ix2 r k) * w (ix2 k f) := by
  pointwise [product]

/-- `silu`, entry by entry. -/
def silu (h : FVec Ideal S32768x256 .f32) : FVec Ideal S32768x256 .f32 :=
  mulf h (Host.divf (broadcastInDim S32768x256 ![] bcast_S_S32768x256 (constant S_ .f32 0x3F800000#32)) (addf (broadcastInDim S32768x256 ![] bcast_S_S32768x256 (constant S_ .f32 0x3F800000#32)) (Host.exp (Host.negf h))))

theorem silu_at (h : FVec Ideal S32768x256 .f32) (r : Fin 32768) (f : Fin 256) :
    silu h (ix2 r f) = h (ix2 r f) * Ideal.logistic (h (ix2 r f)) := by
  pointwise [silu, Ideal.logistic]

/-- The hidden entries against the down weights. -/
def down (H : FVec Ideal S32768x256 .f32) (w : FVec Ideal S256x1024 .f32) : FVec Ideal S32768x1024 .f32 :=
  Host.dotGeneral dot_S32768x256_S256x1024_S32768x1024_1_0_0_1_n_n none H w

theorem down_at (H : FVec Ideal S32768x256 .f32) (w : FVec Ideal S256x1024 .f32) (r : Fin 32768) (d : Fin 1024) :
    down H w (ix2 r d) = ∑ f : Fin 256, H (ix2 r f) * w (ix2 f d) := by
  pointwise [down]

/-- The residual of the rows with what the experts add. -/
def residual (x y D : FVec Ideal S32768x1024 .f32) : FVec Ideal S32768x1024 .f32 :=
  addf (mulf (broadcastInDim S32768x1024 ![] bcast_S_S32768x1024 (constant S_ .f32 0x3FB504F3#32)) x) (addf y D)

theorem residual_at (x y D : FVec Ideal S32768x1024 .f32) (r : Fin 32768) (d : Fin 1024) :
    residual x y D (ix2 r d) = alpha * x (ix2 r d) + (y (ix2 r d) + D (ix2 r d)) := by
  pointwise [residual]

/-- Each row's mean, in a column. -/
def means (Y : FVec Ideal S32768x1024 .f32) : FVec Ideal S32768x1 .f32 :=
  Host.divf (broadcastInDim S32768x1 ![0] bcast_S32768_S32768x1_0 (Host.reduceAdd Y (constant S_ .f32 0x00000000#32) reducesTo_S32768x1024_S32768_d1 h_S_)) (broadcastInDim S32768x1 ![] bcast_S_S32768x1 (constant S_ .f32 0x44800000#32))

theorem means_at (Y : FVec Ideal S32768x1024 .f32) (r : Fin 32768) : means Y (ix2 r 0) = mean fun d => Y (ix2 r d) := by
  pointwise [means, mean]

/-- The rows less their means. -/
def centre (Y : FVec Ideal S32768x1024 .f32) : FVec Ideal S32768x1024 .f32 :=
  subf Y (broadcastInDim S32768x1024 ![0, 1] bcast_S32768x1_S32768x1024_0_1 (means Y))

theorem centre_at (Y : FVec Ideal S32768x1024 .f32) (r : Fin 32768) (d : Fin 1024) : centre Y (ix2 r d) = centred (fun d => Y (ix2 r d)) d := by
  rw [centred, ← means_at]
  pointwise [centre]

/-- The centred rows scaled by their spread, with gain and shift. -/
def scaled (C : FVec Ideal S32768x1024 .f32) (M : FVec Ideal S32768x1 .f32) (a b : FVec Ideal S1024 .f32) : FVec Ideal S32768x1024 .f32 :=
  addf (mulf (mulf C (broadcastInDim S32768x1024 ![0, 1] bcast_S32768x1_S32768x1024_0_1 (Host.rsqrt (addf M (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 a)))
    (broadcastInDim S32768x1024 ![0, 1] bcast_S1x1024_S32768x1024_0_1 (broadcastInDim S1x1024 ![1] bcast_S1024_S1x1024_1 b))

theorem scaled_at (C : FVec Ideal S32768x1024 .f32) (M : FVec Ideal S32768x1 .f32) (a b : FVec Ideal S1024 .f32) (r : Fin 32768) (d : Fin 1024) :
    scaled C M a b (ix2 r d) = C (ix2 r d) * Ideal.rsqrt (M (ix2 r 0) + eps) * a (ix1 d) + b (ix1 d) := by
  pointwise [scaled]

/-- The rows' layer norm. -/
def normed (Y : FVec Ideal S32768x1024 .f32) (a b : FVec Ideal S1024 .f32) : FVec Ideal S32768x1024 .f32 :=
  scaled (centre Y) (means (mulf (centre Y) (centre Y))) a b

theorem normed_at (Y : FVec Ideal S32768x1024 .f32) (a b : FVec Ideal S1024 .f32) (r : Fin 32768) (d : Fin 1024) :
    normed Y a b (ix2 r d) = norm (fun d => Y (ix2 r d)) (fun d => a (ix1 d)) (fun d => b (ix1 d)) d := by
  rw [normed, scaled_at, means_at, centre_at]
  have hs : ∀ d, mulf (centre Y) (centre Y) (ix2 r d) = centre Y (ix2 r d) * centre Y (ix2 r d) := fun d => rfl
  simp only [hs, centre_at]
  rfl

/-- The reference's result array, as a function of its arguments. -/
def value (x y : FVec Ideal S32768x1024 .f32) (g u : FVec Ideal S1024x256 .f32) (w : FVec Ideal S256x1024 .f32) (a b : FVec Ideal S1024 .f32) : FVec Ideal S32768x1024 .f32 :=
  normed (residual x y (down (mulf (silu (product x g)) (product x u)) w)) a b

theorem value_at (x y : FVec Ideal S32768x1024 .f32) (g u : FVec Ideal S1024x256 .f32) (w : FVec Ideal S256x1024 .f32) (a b : FVec Ideal S1024 .f32) (r : Fin 32768) (d : Fin 1024) :
    value x y g u w a b (ix2 r d)
      = norm (pre (fun k => x (ix2 r k)) (fun k => y (ix2 r k)) (fun k f => g (ix2 k f)) (fun k f => u (ix2 k f)) (fun f d => w (ix2 f d)))
          (fun d => a (ix1 d)) (fun d => b (ix1 d)) d := by
  have hm : ∀ f, mulf (silu (product x g)) (product x u) (ix2 r f) = silu (product x g) (ix2 r f) * product x u (ix2 r f) := fun f => rfl
  rw [value, normed_at]
  simp only [residual_at, down_at, hm, silu_at, product_at]
  rfl

/-- The reference's result array. -/
theorem result (m : (ℓ : Loc nD τ sig) → Buf (Elt Ideal) ℓ) (c : Dev nD) :
    Value.res_main_v32 m c = value (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl
end Cert.MoeOutRef
end
-- ==== Proof.MoeOutClaim.lean ====
module
public import proofs.«01_k».proof.Defs
public import proofs.«01_k».proof.Proof.MoeOutArray
public import proofs.«01_k».proof.Proof.MoeOutRef
@[expose] public section
/-! The closing step's claim: the two runs put side by side. -/
set_option maxRecDepth 16384
noncomputable section
namespace Cert.MoeOutClaim
open Idealize.ShloMosaic Idealize.ShloMosaic.TcCoe Idealize.SL.Sem

section final
open Cert.MoeOutIdeal Cert.MoeOutIdeal.Gen Cert.MoeOutArray
variable (m : (ℓ : Loc nD τ sig) → Buf (Elt Ideal) ℓ) (c : Dev nD)

/-- The kernel's result array. -/
theorem final : (dats m 0 c).arrAt 7 cfg0.N
    = Cert.MoeOutRef.value (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) :=
  of_stored m c _ fun t r d => by rw [stored, Cert.MoeOutRef.value_at]
end final

/-- The reference runs, leaves its arguments unchanged and declares no semaphore. -/
theorem frame_reference : Cert.quiescent_MoeOutRefIdeal := fun m g _ =>
  (θ_run Cert.MoeOutRefIdeal.defs _ _).mono (fun r h => ⟨fun c => (h c).2, sem_eq_zero_of_no_sems (by decide) r.2⟩)
    (Cert.MoeOutRefIdeal.Value.run (F := Ideal) m g)

/-- The kernel's result array is the reference's. -/
theorem algebraic : Cert.algebraic_MoeOutIdeal_MoeOutRefIdeal := by
  pair_intro
  · run_from Cert.MoeOutIdeal.Gen.run_main m g
  · run_from Cert.MoeOutRefIdeal.Value.run m' g'
    rw [Cert.MoeOutRef.result, (hagree c).1, (hagree c).2.1, (hagree c).2.2.1, (hagree c).2.2.2.1, (hagree c).2.2.2.2.1, (hagree c).2.2.2.2.2.1, (hagree c).2.2.2.2.2.2]
    exact (final m c).symm
end Cert.MoeOutClaim
end
-- ==== Proof.Running.lean ====
module
public import Idealize.ShloMosaic.Lib.Pointwise
@[expose] public section
/-! Running sums, the logarithm of a sigmoid, and the two ways the programs write them. -/
noncomputable section
namespace Cert.Running
open Idealize.ShloMosaic

/-- The logarithm of a sigmoid, as both programs evaluate it. -/
def logSigmoid (z : EReal) : EReal := -(max (-z) 0 + Ideal.log1p (Ideal.exp (-(max (-z) (-(-z))))))

/-- A row of 4096 entries, continued by zeros. -/
def extend (f : Fin 4096 → EReal) (i : ℕ) : EReal := if h : i < 4096 then f ⟨i, h⟩ else 0

/-- The sum of its first entries. -/
def upto (f : Fin 4096 → EReal) (n : ℕ) : EReal := ∑ i ∈ Finset.range n, extend f i

theorem upto_zero (f : Fin 4096 → EReal) : upto f 0 = 0 := rfl

/-- The sum so far and a part of the next 512 entries, picked out by a condition. -/
theorem upto_add_part (f : Fin 4096 → EReal) (n : ℕ) (r : Fin 512) (hn : n + 512 ≤ 4096) :
    upto f (n + (r.val + 1)) = upto f n + ∑ s : Fin 512, if s.val ≤ r.val then f ⟨n + s.val, by omega⟩ else 0 := by
  have e : (∑ s : Fin 512, if s.val ≤ r.val then f ⟨n + s.val, by omega⟩ else 0)
      = ∑ s : Fin 512, (fun i => if i ≤ r.val then extend f (n + i) else 0) s.val :=
    Finset.sum_congr rfl fun s _ => by
      have : n + s.val < 4096 := by omega
      simp only [extend, dif_pos this]
  rw [upto, Finset.sum_range_add, e, Fin.sum_univ_eq_sum_range (fun i => if i ≤ r.val then extend f (n + i) else 0) 512, ← Finset.sum_filter]
  refine congrArg (_ + ·) (Finset.sum_congr (Finset.ext fun i => ?_) fun _ _ => rfl)
  have := r.isLt
  rw [Finset.mem_range, Finset.mem_filter, Finset.mem_range]
  omega

/-- The sum so far and all the next 512 entries. -/
theorem upto_add (f : Fin 4096 → EReal) (n : ℕ) (hn : n + 512 ≤ 4096) :
    upto f (n + 512) = upto f n + ∑ s : Fin 512, f ⟨n + s.val, by omega⟩ := by
  refine (upto_add_part f n ⟨511, by omega⟩ hn).trans (congrArg (_ + ·) (Finset.sum_congr rfl fun s _ => ?_))
  rw [if_pos (by show s.val ≤ 511; omega)]

/-- A fold of additions is the sum. -/
theorem foldl_add {α : Type} (g : α → EReal) (l : List α) : ∀ v : EReal, l.foldl (fun r n => r + g n) v = v + (l.map g).sum := by
  induction l with
  | nil => intro v; simp
  | cons a l ih => intro v; rw [List.foldl_cons, ih, List.map_cons, List.sum_cons, add_assoc]

/-- A window of 4096 places ending at a place adds the entries up to it. -/
theorem window_sum (f : Fin 4096 → EReal) (s : Fin 4096) :
    (∑ k : Fin 4096, if 4095 ≤ s.val + k.val then extend f (s.val + k.val - 4095) else 0) = upto f (s.val + 1) := by
  have hs := s.isLt
  have e : (4096 : ℕ) = (4095 - s.val) + (s.val + 1) := by omega
  rw [Fin.sum_univ_eq_sum_range (fun k => if 4095 ≤ s.val + k then extend f (s.val + k - 4095) else 0) 4096]
  refine (congrArg (fun M => ∑ k ∈ Finset.range M, if 4095 ≤ s.val + k then extend f (s.val + k - 4095) else 0) e).trans ?_
  rw [Finset.sum_range_add, Finset.sum_eq_zero fun i hi => if_neg (by rw [Finset.mem_range] at hi; omega), zero_add, upto]
  refine Finset.sum_congr rfl fun i hi => ?_
  rw [if_pos (by omega)]
  exact congrArg (extend f) (by omega)

/-- A sum over a window along the middle axis, which the array's start cuts off. -/
theorem window_fold {B N H M : ℕ} {u : Shape} (x : (⟨3, ![B, N, H]⟩ : Shape).Idx → EReal) (init : u.Idx → EReal) (hu : 0 < u.numel)
    (hi : init (Shape.Idx.first hu) = 0)
    (hw : (⟨3, ![B, N, H]⟩ : Shape).ReduceWindows (![1, N, 1] : Fin 3 → ℕ) ![1, 1, 1] ![0, M, 0] ![0, 0, 0] ⟨3, ![B, N, H]⟩)
    (hM : M + 1 = N) (n : Fin B) (s : Fin N) (e : Fin H) :
    Host.reduceWindow (· + ·) (![1, N, 1] : Fin 3 → ℕ) ![1, 1, 1] ![0, M, 0] ![0, 0, 0] x init hw hu (ix3 n s e)
      = ∑ k : Fin N, if h : M ≤ s.val + k.val then x (ix3 n ⟨s.val + k.val - M, by omega⟩ e) else 0 := by
  unfold Host.reduceWindow
  dsimp only
  rw [foldl_add, hi, zero_add, ← Fin.sum_univ_def]
  refine (Fintype.sum_equiv (Shape.rowMajor (⟨3, ![1, N, 1]⟩ : Shape)).symm _ (fun w => if h : M ≤ s.val + (w 1).val
    then x (ix3 n ⟨s.val + (w 1).val - M, by have h1 : (w 1).val < N := (w 1).isLt; omega⟩ e) else 0) fun i => ?_).trans ?_
  · have h0 : ((Shape.rowMajor (⟨3, ![1, N, 1]⟩ : Shape)).symm i 0).val < 1 := ((Shape.rowMajor (⟨3, ![1, N, 1]⟩ : Shape)).symm i 0).isLt
    have h1 : ((Shape.rowMajor (⟨3, ![1, N, 1]⟩ : Shape)).symm i 1).val < N := ((Shape.rowMajor (⟨3, ![1, N, 1]⟩ : Shape)).symm i 1).isLt
    have h2 : ((Shape.rowMajor (⟨3, ![1, N, 1]⟩ : Shape)).symm i 2).val < 1 := ((Shape.rowMajor (⟨3, ![1, N, 1]⟩ : Shape)).symm i 2).isLt
    have hs := s.isLt
    by_cases h : M ≤ s.val + ((Shape.rowMajor (⟨3, ![1, N, 1]⟩ : Shape)).symm i 1).val
    · rw [dif_pos h, dif_pos (fun a => by
        match a with
        | ⟨0, _⟩ => show 0 ≤ n.val * 1 + ((Shape.rowMajor (⟨3, ![1, N, 1]⟩ : Shape)).symm i 0).val ∧ n.val * 1 + ((Shape.rowMajor (⟨3, ![1, N, 1]⟩ : Shape)).symm i 0).val - 0 < B; have := n.isLt; omega
        | ⟨1, _⟩ => show M ≤ s.val * 1 + ((Shape.rowMajor (⟨3, ![1, N, 1]⟩ : Shape)).symm i 1).val ∧ s.val * 1 + ((Shape.rowMajor (⟨3, ![1, N, 1]⟩ : Shape)).symm i 1).val - M < N; omega
        | ⟨2, _⟩ => show 0 ≤ e.val * 1 + ((Shape.rowMajor (⟨3, ![1, N, 1]⟩ : Shape)).symm i 2).val ∧ e.val * 1 + ((Shape.rowMajor (⟨3, ![1, N, 1]⟩ : Shape)).symm i 2).val - 0 < H; have := e.isLt; omega)]
      refine congrArg x (funext fun a => Fin.ext ?_)
      match a with
      | ⟨0, _⟩ => show n.val * 1 + ((Shape.rowMajor (⟨3, ![1, N, 1]⟩ : Shape)).symm i 0).val - 0 = n.val; omega
      | ⟨1, _⟩ => show s.val * 1 + ((Shape.rowMajor (⟨3, ![1, N, 1]⟩ : Shape)).symm i 1).val - M = s.val + ((Shape.rowMajor (⟨3, ![1, N, 1]⟩ : Shape)).symm i 1).val - M; omega
      | ⟨2, _⟩ => show e.val * 1 + ((Shape.rowMajor (⟨3, ![1, N, 1]⟩ : Shape)).symm i 2).val - 0 = e.val; omega
    · rw [dif_neg h, dif_neg]
      intro q
      have q1 : M ≤ s.val * 1 + ((Shape.rowMajor (⟨3, ![1, N, 1]⟩ : Shape)).symm i 1).val := (q 1).1
      omega
  · rw [sum_idx3]
    simp only [Fin.sum_univ_one, ix3_1]
    rfl
end Cert.Running
end
-- ==== Proof.FrontBlock.lean ====
module
public import proofs.«01_k».proof.Proof.Gen.FrontIdeal.Value
public import proofs.«01_k».proof.Proof.Running
public import Idealize.ShloMosaic.Lib.WordCmp
public import Idealize.ShloMosaic.Lib.Pipeline.ValueKit
public import Idealize.ShloMosaic.Lib.Pointwise
@[expose] public section
/-! What one grid point of layer 1's input step computes: the projected queries, keys and values of its rows, the
    logarithms of the forget gates, and their running sum over the rows. -/
set_option maxRecDepth 16384
noncomputable section
namespace Cert.FrontBlock
open Cert.Running Cert.FrontIdeal Cert.FrontIdeal.Gen Idealize.ShloMosaic Idealize.ShloMosaic.TcCoe Idealize.SL.Sem

/-- A one where the row's place is not after the column's, a zero elsewhere, as a number. -/
theorem mark (a b : ℕ) (ha : a < 512) (hb : b < 512) :
    (FloatOps.sitofp (F := Ideal) .f32 (BitVec.setWidth 32 (IntOp.cmpi .sle (BitVec.ofNat 32 a) (BitVec.ofNat 32 b))) : EReal) = if a ≤ b then 1 else 0 := by
  rw [WordCmp.cmpi_sle_ofNat (by omega) (by omega)]
  by_cases h : a ≤ b
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    rw [show (BitVec.setWidth 32 (BitVec.ofBool false)).toInt = 0 by decide]
    norm_num

/-- The stored queries. -/
theorem pay5_at (x : Vec Ideal S1x512x1024 .f32) (w : Vec Ideal S1024x1024 .bf16) (b : Vec Ideal S1x1024 .f32) (r : Fin 512) (d : Fin 1024) :
    k0_pay5 x w b (ix3 0 r d) = (∑ k : Fin 1024, x (ix3 0 r k) * w (ix2 k d) + b (ix2 0 d)) * Ideal.ofBits .f32 0x3E000000#32 := by
  pointwise [k0_pay5, k0_pay4]

/-- The stored keys. -/
theorem pay6_at (x : Vec Ideal S1x512x1024 .f32) (w : Vec Ideal S1024x1024 .bf16) (b : Vec Ideal S1x1024 .f32) (r : Fin 512) (d : Fin 1024) :
    k0_pay6 x w b (ix3 0 r d) = ∑ k : Fin 1024, x (ix3 0 r k) * w (ix2 k d) + b (ix2 0 d) := by
  pointwise [k0_pay6, k0_pay4]

/-- The stored values. -/
theorem pay7_at (x : Vec Ideal S1x512x1024 .f32) (w : Vec Ideal S1024x1024 .bf16) (b : Vec Ideal S1x1024 .f32) (r : Fin 512) (d : Fin 1024) :
    k0_pay7 (k0_pay4 x) w b (ix3 0 r d) = ∑ k : Fin 1024, x (ix3 0 r k) * w (ix2 k d) + b (ix2 0 d) := by
  pointwise [k0_pay7, k0_pay4]

/-- The logarithms of the rows' forget gates. -/
theorem pay8_at (x : Vec Ideal S1x512x1024 .f32) (w : Vec Ideal S16x1024 .bf16) (b : Vec Ideal S16x1 .f32) (h : Fin 16) (r : Fin 512) :
    k0_pay8 (k0_pay4 x) w b (ix2 h r) = logSigmoid (∑ k : Fin 1024, w (ix2 h k) * x (ix3 0 r k) + b (ix2 h 0)) := by
  pointwise [k0_pay8, k0_pay4]
  rw [if_neg (by simp)]
  simp only [zero_sub]
  rfl

/-- Their sums up to each row, within the tile. -/
theorem pay9_at (x : Vec Ideal S1x512x1024 .f32) (w : Vec Ideal S16x1024 .bf16) (b : Vec Ideal S16x1 .f32) (h : Fin 16) (r : Fin 512) :
    k0_pay9 (k0_pay4 x) w b (ix2 h r) = ∑ s : Fin 512, if s.val ≤ r.val then k0_pay8 (k0_pay4 x) w b (ix2 h s) else 0 := by
  unfold k0_pay9
  generalize k0_pay8 (k0_pay4 x) w b = L
  pointwise
  refine Finset.sum_congr rfl fun s _ => ?_
  rw [mark s.val r.val s.isLt r.isLt]
  split <;> simp

/-- The stored decay: the sum so far with the carried one, negated. -/
theorem pay1_at (A : FVec Ideal S16x512 .f32) (p : Vec Ideal S16x1 .f32) (h : Fin 16) (r : Fin 512) :
    k0_pay1 A p (ix3 0 h r) = -(A (ix2 h r) + p (ix2 h 0)) := by
  pointwise [k0_pay1]
  rw [zero_sub]

/-- The carried sum after the tile. -/
theorem pay2_at (L : FVec Ideal S16x512 .f32) (p : Vec Ideal S16x1 .f32) (h : Fin 16) :
    k0_pay2 L p (ix2 h 0) = p (ix2 h 0) + ∑ r : Fin 512, L (ix2 h r) := by
  pointwise [k0_pay2]

/-- The carried sum at a sequence's start. -/
theorem pay3_at (h : Fin 16) : k0_pay3 (F := Ideal) (ix2 h 0) = 0 := by
  pointwise [k0_pay3]

/-- The stored queries, for blocks whose entries are known. -/
theorem pay5_of (x : Vec Ideal S1x512x1024 .f32) (w : Vec Ideal S1024x1024 .bf16) (b : Vec Ideal S1x1024 .f32) (r : Fin 512) (d : Fin 1024)
    (X W : Fin 1024 → EReal) (B : EReal) (hx : ∀ k, x (ix3 0 r k) = X k) (hw : ∀ k, w (ix2 k d) = W k) (hb : b (ix2 0 d) = B) :
    k0_pay5 x w b (ix3 0 r d) = (∑ k, X k * W k + B) * Ideal.ofBits .f32 0x3E000000#32 := by
  rw [pay5_at, hb]
  simp only [hx, hw]

/-- The stored keys, likewise. -/
theorem pay6_of (x : Vec Ideal S1x512x1024 .f32) (w : Vec Ideal S1024x1024 .bf16) (b : Vec Ideal S1x1024 .f32) (r : Fin 512) (d : Fin 1024)
    (X W : Fin 1024 → EReal) (B : EReal) (hx : ∀ k, x (ix3 0 r k) = X k) (hw : ∀ k, w (ix2 k d) = W k) (hb : b (ix2 0 d) = B) :
    k0_pay6 x w b (ix3 0 r d) = ∑ k, X k * W k + B := by
  rw [pay6_at, hb]
  simp only [hx, hw]

/-- The stored values, likewise. -/
theorem pay7_of (x : Vec Ideal S1x512x1024 .f32) (w : Vec Ideal S1024x1024 .bf16) (b : Vec Ideal S1x1024 .f32) (r : Fin 512) (d : Fin 1024)
    (X W : Fin 1024 → EReal) (B : EReal) (hx : ∀ k, x (ix3 0 r k) = X k) (hw : ∀ k, w (ix2 k d) = W k) (hb : b (ix2 0 d) = B) :
    k0_pay7 (k0_pay4 x) w b (ix3 0 r d) = ∑ k, X k * W k + B := by
  rw [pay7_at, hb]
  simp only [hx, hw]

/-- The logarithms of the gates, likewise. -/
theorem pay8_of (x : Vec Ideal S1x512x1024 .f32) (w : Vec Ideal S16x1024 .bf16) (b : Vec Ideal S16x1 .f32) (h : Fin 16) (r : Fin 512)
    (X W : Fin 1024 → EReal) (B : EReal) (hx : ∀ k, x (ix3 0 r k) = X k) (hw : ∀ k, w (ix2 h k) = W k) (hb : b (ix2 h 0) = B) :
    k0_pay8 (k0_pay4 x) w b (ix2 h r) = logSigmoid (∑ k, X k * W k + B) := by
  rw [pay8_at, hb]
  simp only [hx, hw, mul_comm]

/-- The carried sum after a tile, for known entries. -/
theorem pay2_of (L : FVec Ideal S16x512 .f32) (p : Vec Ideal S16x1 .f32) (h : Fin 16) (F : Fin 512 → EReal) (q : EReal)
    (hL : ∀ r, L (ix2 h r) = F r) (hp : p (ix2 h 0) = q) : k0_pay2 L p (ix2 h 0) = q + ∑ r, F r := by
  rw [pay2_at, hp]
  simp only [hL]

/-- The stored decay, for known entries. -/
theorem pay1_of (x : Vec Ideal S1x512x1024 .f32) (w : Vec Ideal S16x1024 .bf16) (b : Vec Ideal S16x1 .f32) (p : Vec Ideal S16x1 .f32) (h : Fin 16) (r : Fin 512)
    (F : Fin 512 → EReal) (q : EReal) (hL : ∀ s, k0_pay8 (k0_pay4 x) w b (ix2 h s) = F s) (hp : p (ix2 h 0) = q) :
    k0_pay1 (k0_pay9 (k0_pay4 x) w b) p (ix3 0 h r) = -(q + ∑ s : Fin 512, if s.val ≤ r.val then F s else 0) := by
  rw [pay1_at, pay9_at, hp, add_comm]
  simp only [hL]
end Cert.FrontBlock
end
-- ==== Proof.FrontRef.lean ====
module
public import proofs.«01_k».proof.Proof.Gen.FrontRefIdeal.Run
public import proofs.«01_k».proof.Proof.Running
public import Idealize.ShloMosaic.Lib.Pointwise
@[expose] public section
/-! Layer 1's input step as the reference writes it, read at one result. -/
set_option maxRecDepth 16384
noncomputable section
namespace Cert.FrontRef
open Cert.Running Cert.FrontRefIdeal Cert.FrontRefIdeal.Gen Idealize.ShloMosaic Idealize.ShloMosaic.TcCoe Idealize.SL.Sem

/-- One entry of the projection: a row against a column, and the column's shift. -/
def entry (x : FVec Ideal S8x4096x1024 .f32) (w : FVec Ideal S1024x3088 .f32) (b : FVec Ideal S3088 .f32) (n : Fin 8) (s : Fin 4096) (j : Fin 3088) : EReal :=
  ∑ k : Fin 1024, x (ix3 n s k) * w (ix2 k j) + b (ix1 j)

/-- The projection of every row. -/
def projected (x : FVec Ideal S8x4096x1024 .f32) (w : FVec Ideal S1024x3088 .f32) (b : FVec Ideal S3088 .f32) : FVec Ideal S8x4096x3088 .f32 :=
  addf (Host.dotGeneral dot_S8x4096x1024_S1024x3088_S8x4096x3088_2_0_01_1_n_n none x w)
    (broadcastInDim S8x4096x3088 ![0, 1, 2] bcast_S1x1x3088_S8x4096x3088_0_1_2 (broadcastInDim S1x1x3088 ![2] bcast_S3088_S1x1x3088_2 b))

theorem projected_at (x : FVec Ideal S8x4096x1024 .f32) (w : FVec Ideal S1024x3088 .f32) (b : FVec Ideal S3088 .f32) (n : Fin 8) (s : Fin 4096) (j : Fin 3088) :
    projected x w b (ix3 n s j) = entry x w b n s j := by
  pointwise [projected, entry]

/-- The queries: the first columns, scaled. -/
def queries (P : FVec Ideal S8x4096x3088 .f32) : FVec Ideal S8x4096x1024 .bf16 :=
  truncf .bf16 (mulf (extractStridedSlice S8x4096x1024 ![0, 0, 0] P slices_S8x4096x3088_S8x4096x1024_0_0_0) (broadcastInDim S8x4096x1024 ![] bcast_S_S8x4096x1024 (constant S_ .f32 0x3E000000#32))) bitsLt_bf16_f32

theorem queries_at (P : FVec Ideal S8x4096x3088 .f32) (n : Fin 8) (s : Fin 4096) (d : Fin 1024) :
    queries P (ix3 n s d) = P (ix3 n s ⟨d.val, by omega⟩) * Ideal.ofBits .f32 0x3E000000#32 := by
  pointwise [queries]

/-- The keys: the next columns. -/
def keys (P : FVec Ideal S8x4096x3088 .f32) : FVec Ideal S8x4096x1024 .bf16 :=
  truncf .bf16 (extractStridedSlice S8x4096x1024 ![0, 0, 1024] P slices_S8x4096x3088_S8x4096x1024_0_0_1024) bitsLt_bf16_f32

theorem keys_at (P : FVec Ideal S8x4096x3088 .f32) (n : Fin 8) (s : Fin 4096) (d : Fin 1024) :
    keys P (ix3 n s d) = P (ix3 n s ⟨1024 + d.val, by omega⟩) := by
  pointwise [keys]

/-- The values: the columns after them. -/
def values (P : FVec Ideal S8x4096x3088 .f32) : FVec Ideal S8x4096x1024 .bf16 :=
  truncf .bf16 (extractStridedSlice S8x4096x1024 ![0, 0, 2048] P slices_S8x4096x3088_S8x4096x1024_0_0_2048) bitsLt_bf16_f32

theorem values_at (P : FVec Ideal S8x4096x3088 .f32) (n : Fin 8) (s : Fin 4096) (d : Fin 1024) :
    values P (ix3 n s d) = P (ix3 n s ⟨2048 + d.val, by omega⟩) := by
  pointwise [values]

/-- The forget gates before their sigmoid: the last columns. -/
def gates (P : FVec Ideal S8x4096x3088 .f32) : FVec Ideal S8x4096x16 .f32 :=
  extractStridedSlice S8x4096x16 ![0, 0, 3072] P slices_S8x4096x3088_S8x4096x16_0_0_3072

theorem gates_at (P : FVec Ideal S8x4096x3088 .f32) (n : Fin 8) (s : Fin 4096) (h : Fin 16) :
    gates P (ix3 n s h) = P (ix3 n s ⟨3072 + h.val, by omega⟩) := by
  pointwise [gates]

/-- A zero at every entry. -/
def zeros : FVec Ideal S8x4096x16 .f32 := broadcastInDim S8x4096x16 ![] bcast_S_S8x4096x16 (constant S_ .f32 0x00000000#32)

/-- The logarithm of the sigmoid, entry by entry. -/
def logs (G : FVec Ideal S8x4096x16 .f32) : FVec Ideal S8x4096x16 .f32 :=
  Host.negf (select (cmpf .une (subf (Host.negf G) zeros) (subf (Host.negf G) zeros)) (addf (Host.negf G) zeros)
    (addf (maximumf (Host.negf G) zeros) (Host.log1p (Host.exp (Host.negf (Host.absf (subf (Host.negf G) zeros)))))))

theorem logs_at (G : FVec Ideal S8x4096x16 .f32) (n : Fin 8) (s : Fin 4096) (h : Fin 16) :
    logs G (ix3 n s h) = logSigmoid (G (ix3 n s h)) := by
  pointwise [logs, zeros, logSigmoid]
  rw [if_neg (by simp)]
  rfl

/-- The sums along each sequence. -/
def sums (L : FVec Ideal S8x4096x16 .f32) : FVec Ideal S8x4096x16 .f32 :=
  Host.reduceWindowAdd ![1, 4096, 1] ![1, 1, 1] ![0, 4095, 0] ![0, 0, 0] L (broadcastInDim S_ ![] bcast_S_S_ (constant S_ .f32 0x00000000#32)) reduceWindows_S8x4096x16_S8x4096x16_w1s1p0_0_w4096s1p4095_0_w1s1p0_0 h_S_

theorem sums_at (L : FVec Ideal S8x4096x16 .f32) (n : Fin 8) (s : Fin 4096) (h : Fin 16) :
    sums L (ix3 n s h) = upto (fun i => L (ix3 n i h)) (s.val + 1) := by
  have hv : (broadcastInDim S_ ![] bcast_S_S_ (constant (F := Ideal) S_ .f32 0x00000000#32)) (Shape.Idx.first h_S_) = (0 : EReal) := by
    pointwise
  rw [← window_sum]
  have key := fun v : EReal => fun hi : v = 0 => window_fold (B := 8) (N := 4096) (H := 16) (M := 4095) L (fun _ : (⟨0, ![]⟩ : Shape).Idx => v) (by decide) hi
    reduceWindows_S8x4096x16_S8x4096x16_w1s1p0_0_w4096s1p4095_0_w1s1p0_0 (by norm_num) n s h
  unfold sums Host.reduceWindowAdd
  rw [Ideal.hostReduceWindowAdd_def, Ideal.hostReduceWindowAdd]
  refine (key _ hv).trans (Finset.sum_congr rfl fun k _ => ?_)
  by_cases hk : 4095 ≤ s.val + k.val
  · rw [dif_pos hk, if_pos hk, extend, dif_pos]
  · rw [dif_neg hk, if_neg hk]

/-- The stored decay: the sums with heads before places, negated. -/
def decay (S : FVec Ideal S8x4096x16 .f32) : FVec Ideal S8x16x4096 .f32 :=
  Host.negf (transpose S8x16x4096 [0, 2, 1] S transposes_S8x4096x16_S8x16x4096_0_2_1)

theorem decay_at (S : FVec Ideal S8x4096x16 .f32) (n : Fin 8) (h : Fin 16) (s : Fin 4096) :
    decay S (ix3 n h s) = -(S (ix3 n s h)) := by
  pointwise [decay]

/-- The reference's four arrays. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      (fun P : FVec Ideal S8x4096x3088 .f32 =>
        r.2.mem ((c.tc : Thread nD τ).loc main_v13) = queries P ∧ r.2.mem ((c.tc : Thread nD τ).loc main_v14) = keys P
        ∧ r.2.mem ((c.tc : Thread nD τ).loc main_v15) = values P ∧ r.2.mem ((c.tc : Thread nD τ).loc main_v16) = decay (sums (logs (gates P))))
        (projected (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨⟨(h c).1, (h c).2.1, (h c).2.2.1, (h c).2.2.2.1⟩, (h c).2.2.2.2⟩) (Value.run (F := Ideal) m g)
end Cert.FrontRef
end
-- ==== Proof.FrontArray.lean ====
module
public import proofs.«01_k».proof.Proof.FrontBlock
public import proofs.«01_k».proof.Proof.FrontRef
public import Idealize.ShloMosaic.Lib.Claim
@[expose] public section
/-! What each grid point of layer 1's input step stores, in entries of the argument arrays, with the sum it carries
    from tile to tile of a sequence, and the four arrays of all points' blocks. -/
set_option maxRecDepth 16384
noncomputable section
namespace Cert.FrontArray
open Cert.FrontIdeal Cert.FrontIdeal.Gen Idealize.ShloMosaic Idealize.ShloMosaic.TcCoe Idealize.SL.Sem
open Idealize.ShloMosaic.Pipeline (Dat)
open Cert.Running Cert.FrontBlock Cert.FrontRef
variable (m : (ℓ : Loc nD τ sig) → Buf (Elt Ideal) ℓ) (c : Dev nD) (t : Fin cfg0.N)

/-- Where each window's block lies, at every grid point. -/
theorem place : ∀ t : Fin cfg0.N,
    win0_0.index t = ![t.val / 8, t.val % 8, 0] ∧ win0_1.index t = ![0, 0] ∧ win0_2.index t = ![0, 0] ∧ win0_3.index t = ![0, 0] ∧ win0_4.index t = ![0, 0]
    ∧ win0_5.index t = ![t.val / 8, t.val % 8, 0] ∧ win0_6.index t = ![t.val / 8, t.val % 8, 0] ∧ win0_7.index t = ![t.val / 8, t.val % 8, 0]
    ∧ win0_8.index t = ![t.val / 8, 0, t.val % 8] :=
  (by decide +kernel : ∀ t : Fin grid0.N, _)

/-- There are 64 points, eight to a sequence. -/
theorem points : t.val < 64 := lt_of_lt_of_eq t.isLt N_0

/-- The point's sequence. -/
def seq : Fin 8 := ⟨t.val / 8, by have := points t; omega⟩
/-- Row `r` of the point's tile, in its sequence. -/
def row (r : Fin 512) : Fin 4096 := ⟨512 * (t.val % 8) + r.val, by omega⟩

/-- An entry of the projection, of the kernel's arguments. -/
abbrev at_ (n : Fin 8) (s : Fin 4096) (j : Fin 3088) : EReal :=
  entry (m ((c : Thread nD τ).loc main_arg0)) (m ((c : Thread nD τ).loc main_arg1)) (m ((c : Thread nD τ).loc main_arg2)) n s j

/-- The point's rows. -/
theorem read_rows (r : Fin 512) (k : Fin 1024) :
    iblk m c 0 t (ix3 0 r k) = m ((c : Thread nD τ).loc main_arg0) (ix3 (seq t) (row t r) k) := by
  unfold row seq; blk_ext [iblk, V, place t]

/-- The columns of the queries, keys and values. -/
theorem read_block (k : Fin 1024) (j : Fin 3072) :
    iblk m c 1 t (ix2 k j) = m ((c : Thread nD τ).loc main_arg1) (ix2 k ⟨j.val, by omega⟩) := by
  unfold iblk; entry_read; blk_simp; pointwise
  change m ((c : Thread nD τ).loc main_arg1) _ = m ((c : Thread nD τ).loc main_arg1) _
  blk_ext [place t]
/-- Their shifts. -/
theorem read_shift (j : Fin 3072) :
    iblk m c 2 t (ix2 0 j) = m ((c : Thread nD τ).loc main_arg2) (ix1 ⟨j.val, by omega⟩) := by
  unfold iblk; entry_read; blk_simp; pointwise
  change m ((c : Thread nD τ).loc main_arg2) _ = m ((c : Thread nD τ).loc main_arg2) _
  blk_ext [place t]

/-- A part of the columns, read at an entry. -/
theorem part_cols {e : EltTy} (X : Vec Ideal S1024x3072 e) (o : ℕ) (k d : Fin 1024) (j : Fin 3072) (hj : j.val = o + d.val)
    (hb : ∀ a, (![0, o] : Fin 2 → ℕ) a + (![1024, 1024] : Fin 2 → ℕ) a ≤ S1024x3072.size a) :
    View.ld X (Rect.unit (s := S1024x3072) ![0, o] ![1024, 1024] hb) (ix2 k d) = X (ix2 k j) := by
  refine congrArg X (funext fun a => Fin.ext ?_)
  match a with
  | ⟨0, _⟩ => show 0 + 1 * k.val = k.val; omega
  | ⟨1, _⟩ => show o + 1 * d.val = j.val; omega

/-- The same of the shifts. -/
theorem part_shift {e : EltTy} (X : Vec Ideal S1x3072 e) (o : ℕ) (d : Fin 1024) (j : Fin 3072) (hj : j.val = o + d.val)
    (hb : ∀ a, (![0, o] : Fin 2 → ℕ) a + (![1, 1024] : Fin 2 → ℕ) a ≤ S1x3072.size a) :
    View.ld X (Rect.unit (s := S1x3072) ![0, o] ![1, 1024] hb) (ix2 0 d) = X (ix2 0 j) := by
  refine congrArg X (funext fun a => Fin.ext ?_)
  match a with
  | ⟨0, _⟩ => show 0 + 1 * 0 = 0; omega
  | ⟨1, _⟩ => show o + 1 * d.val = j.val; omega

/-- The gates' columns. -/
theorem read_gate_cols (h : Fin 16) (k : Fin 1024) :
    iblk m c 3 t (ix2 h k) = m ((c : Thread nD τ).loc main_arg1) (ix2 k ⟨3072 + h.val, by omega⟩) := by
  unfold iblk; entry_read; blk_simp; pointwise
  change m ((c : Thread nD τ).loc main_arg1) _ = m ((c : Thread nD τ).loc main_arg1) _
  blk_ext [place t]
/-- The gates' shifts. -/
theorem read_gate_shift (h : Fin 16) :
    iblk m c 4 t (ix2 h 0) = m ((c : Thread nD τ).loc main_arg2) (ix1 ⟨3072 + h.val, by omega⟩) := by
  unfold iblk; entry_read; blk_simp; pointwise
  change m ((c : Thread nD τ).loc main_arg2) _ = m ((c : Thread nD τ).loc main_arg2) _
  blk_ext [place t]

/-- The point's queries. -/
theorem stored_queries (r : Fin 512) (d : Fin 1024) :
    (dats m 0 c).after 5 t (ix3 0 r d) = at_ m c (seq t) (row t r) ⟨d.val, by omega⟩ * Ideal.ofBits .f32 0x3E000000#32 := by
  have key := fun b1 b2 => pay5_of (iblk m c 0 t) (View.ld (iblk m c 1 t) (Rect.unit ![0, 0] ![1024, 1024] b1)) (View.ld (iblk m c 2 t) (Rect.unit ![0, 0] ![1, 1024] b2)) r d _ _ _
    (read_rows m c t r) (fun k => (part_cols _ 0 k d ⟨d.val, by omega⟩ (by simp) _).trans (read_block m c t k _)) ((part_shift _ 0 d ⟨d.val, by omega⟩ (by simp) _).trans (read_shift m c t _))
  rw [after0_5]
  by_cases h : t.val % 8 = 0
  · rw [outsAt0_A m c t h]; frame_out; exact key _ _
  · rw [outsAt0_B m c t h]; frame_out; exact key _ _

/-- The point's keys. -/
theorem stored_keys (r : Fin 512) (d : Fin 1024) :
    (dats m 0 c).after 6 t (ix3 0 r d) = at_ m c (seq t) (row t r) ⟨1024 + d.val, by omega⟩ := by
  have key := fun b1 b2 => pay6_of (iblk m c 0 t) (View.ld (iblk m c 1 t) (Rect.unit ![0, 1024] ![1024, 1024] b1)) (View.ld (iblk m c 2 t) (Rect.unit ![0, 1024] ![1, 1024] b2)) r d _ _ _
    (read_rows m c t r) (fun k => (part_cols _ 1024 k d ⟨1024 + d.val, by omega⟩ rfl _).trans (read_block m c t k _)) ((part_shift _ 1024 d ⟨1024 + d.val, by omega⟩ rfl _).trans (read_shift m c t _))
  rw [after0_6]
  by_cases h : t.val % 8 = 0
  · rw [outsAt0_A m c t h]; frame_out; exact key _ _
  · rw [outsAt0_B m c t h]; frame_out; exact key _ _

/-- The point's values. -/
theorem stored_values (r : Fin 512) (d : Fin 1024) :
    (dats m 0 c).after 7 t (ix3 0 r d) = at_ m c (seq t) (row t r) ⟨2048 + d.val, by omega⟩ := by
  have key := fun b1 b2 => pay7_of (iblk m c 0 t) (View.ld (iblk m c 1 t) (Rect.unit ![0, 2048] ![1024, 1024] b1)) (View.ld (iblk m c 2 t) (Rect.unit ![0, 2048] ![1, 1024] b2)) r d _ _ _
    (read_rows m c t r) (fun k => (part_cols _ 2048 k d ⟨2048 + d.val, by omega⟩ rfl _).trans (read_block m c t k _)) ((part_shift _ 2048 d ⟨2048 + d.val, by omega⟩ rfl _).trans (read_shift m c t _))
  rw [after0_7]
  by_cases h : t.val % 8 = 0
  · rw [outsAt0_A m c t h]; frame_out; exact key _ _
  · rw [outsAt0_B m c t h]; frame_out; exact key _ _

/-- The logarithms of one head's forget gates along a sequence. -/
def forget (n : Fin 8) (h : Fin 16) (s : Fin 4096) : EReal := logSigmoid (at_ m c n s ⟨3072 + h.val, by omega⟩)

/-- The point's logarithms. -/
theorem forgets (h : Fin 16) (r : Fin 512) :
    k0_pay8 (k0_pay4 (iblk m c 0 t)) (iblk m c 3 t) (iblk m c 4 t) (ix2 h r) = forget m c (seq t) h (row t r) :=
  pay8_of _ _ _ h r _ _ _ (read_rows m c t r) (read_gate_cols m c t h) (read_gate_shift m c t h)

/-- The sum before a tile, and the tile's own. -/
theorem upto_tile (f : Fin 4096 → EReal) : upto f (512 * (t.val % 8)) + ∑ r : Fin 512, f (row t r) = upto f (512 * (t.val % 8) + 512) :=
  (upto_add f _ (by omega)).symm

/-- At a later tile of a sequence the sum after the point before is the sum before the tile. -/
theorem upto_step (n : ℕ) (hn : n + 1 < cfg0.N) (h0 : ¬(n + 1) % 8 = 0) (h : Fin 16) :
    upto (forget m c (seq ⟨n, by omega⟩) h) (512 * (n % 8) + 512) = upto (forget m c (seq ⟨n + 1, hn⟩) h) (512 * ((n + 1) % 8)) := by
  have e : seq ⟨n, by omega⟩ = seq ⟨n + 1, hn⟩ := Fin.ext (by show n / 8 = (n + 1) / 8; omega)
  rw [e]
  exact congrArg (upto _) (by omega)

/-- The carried sum at the start of a sequence is nothing. -/
theorem upto_start (f : Fin 4096 → EReal) (n : ℕ) (h0 : n % 8 = 0) : 0 = upto f (512 * (n % 8)) := by
  rw [h0, Nat.mul_zero, upto_zero]

/-- The carried sum after a point is the sum of its sequence so far. -/
theorem carried (h : Fin 16) : ∀ (n : ℕ) (hn : n < cfg0.N),
    (outsAt0 m c n hn).2.2.2.2 (ix2 h 0) = upto (forget m c (seq ⟨n, hn⟩) h) (512 * (n % 8) + 512) := by
  intro n
  induction n with
  | zero =>
    intro hn
    refine (congrFun (congrArg (fun o => o.2.2.2.2) (outsAt0_A m c ⟨0, hn⟩ rfl)) _).trans ?_
    frame_out
    exact (pay2_of _ _ h _ _ (forgets m c ⟨0, hn⟩ h) ((pay3_at h).trans (upto_start _ 0 rfl))).trans (upto_tile ⟨0, hn⟩ _)
  | succ n ih =>
    intro hn
    by_cases h0 : (n + 1) % 8 = 0
    · refine (congrFun (congrArg (fun o => o.2.2.2.2) (outsAt0_A m c ⟨n + 1, hn⟩ h0)) _).trans ?_
      frame_out
      exact (pay2_of _ _ h _ _ (forgets m c ⟨n + 1, hn⟩ h) ((pay3_at h).trans (upto_start _ (n + 1) h0))).trans (upto_tile ⟨n + 1, hn⟩ _)
    · refine (congrFun (congrArg (fun o => o.2.2.2.2) (outsAt0_B m c ⟨n + 1, hn⟩ h0)) _).trans ?_
      frame_out
      exact (pay2_of _ _ h _ _ (forgets m c ⟨n + 1, hn⟩ h) ((congrFun (Memref.IsWhole.read_unread _ _) _).trans
        ((ih (by omega)).trans (upto_step m c n hn h0 h)))).trans (upto_tile ⟨n + 1, hn⟩ _)

/-- The point's decay: the sum of its sequence up to each of its rows, negated. -/
theorem stored_decay (h : Fin 16) (r : Fin 512) :
    (dats m 0 c).after 8 t (ix3 0 h r) = -(upto (forget m c (seq t) h) ((row t r).val + 1)) := by
  have e : upto (forget m c (seq t) h) ((row t r).val + 1) = upto (forget m c (seq t) h) (512 * (t.val % 8))
      + ∑ s : Fin 512, if s.val ≤ r.val then forget m c (seq t) h (row t s) else 0 :=
    (congrArg (upto _) (by show 512 * (t.val % 8) + r.val + 1 = _; omega)).trans (upto_add_part _ (512 * (t.val % 8)) r (by omega))
  rw [after0_8, e]
  obtain ⟨n, hn⟩ := t
  by_cases h0 : n % 8 = 0
  · rw [outsAt0_A m c ⟨n, hn⟩ h0]
    frame_out
    exact pay1_of _ _ _ _ h r _ _ (forgets m c ⟨n, hn⟩ h) ((pay3_at h).trans (upto_start _ n h0))
  · obtain ⟨n, rfl⟩ : ∃ k, n = k + 1 := ⟨n - 1, by omega⟩
    rw [outsAt0_B m c ⟨n + 1, hn⟩ h0]
    frame_out
    exact pay1_of _ _ _ _ h r _ _ (forgets m c ⟨n + 1, hn⟩ h) ((congrFun (Memref.IsWhole.read_unread _ _) _).trans
        ((carried m c h n (by omega)).trans (upto_step m c n hn h0 h)))

/-- The queries' array, from what each point stores. -/
theorem queries_of (G : FVec Ideal S8x4096x1024 .bf16)
    (h : ∀ (t : Fin cfg0.N) (r : Fin 512) (d : Fin 1024), (dats m 0 c).after 5 t (ix3 0 r d) = G (ix3 (seq t) (row t r) d)) :
    (dats m 0 c).arrAt 5 cfg0.N = G := by
  refine (dats m 0 c).arrAt_eq_of_covers 5 _ (by decide +kernel) fun t _ y => ?_
  blk_simp
  obtain ⟨r, d, rfl⟩ : ∃ (r : Fin 512) (d : Fin 1024), y = ix3 0 r d := ⟨y 1, y 2, by funext a; fin_cases a; exacts [Subsingleton.elim (α := Fin 1) _ _, rfl, rfl]⟩
  rw [h]
  unfold row seq
  blk_ext [place t]

/-- The keys' array, likewise. -/
theorem keys_of (G : FVec Ideal S8x4096x1024 .bf16)
    (h : ∀ (t : Fin cfg0.N) (r : Fin 512) (d : Fin 1024), (dats m 0 c).after 6 t (ix3 0 r d) = G (ix3 (seq t) (row t r) d)) :
    (dats m 0 c).arrAt 6 cfg0.N = G := by
  refine (dats m 0 c).arrAt_eq_of_covers 6 _ (by decide +kernel) fun t _ y => ?_
  blk_simp
  obtain ⟨r, d, rfl⟩ : ∃ (r : Fin 512) (d : Fin 1024), y = ix3 0 r d := ⟨y 1, y 2, by funext a; fin_cases a; exacts [Subsingleton.elim (α := Fin 1) _ _, rfl, rfl]⟩
  rw [h]
  unfold row seq
  blk_ext [place t]

/-- The values' array, likewise. -/
theorem values_of (G : FVec Ideal S8x4096x1024 .bf16)
    (h : ∀ (t : Fin cfg0.N) (r : Fin 512) (d : Fin 1024), (dats m 0 c).after 7 t (ix3 0 r d) = G (ix3 (seq t) (row t r) d)) :
    (dats m 0 c).arrAt 7 cfg0.N = G := by
  refine (dats m 0 c).arrAt_eq_of_covers 7 _ (by decide +kernel) fun t _ y => ?_
  blk_simp
  obtain ⟨r, d, rfl⟩ : ∃ (r : Fin 512) (d : Fin 1024), y = ix3 0 r d := ⟨y 1, y 2, by funext a; fin_cases a; exacts [Subsingleton.elim (α := Fin 1) _ _, rfl, rfl]⟩
  rw [h]
  unfold row seq
  blk_ext [place t]

/-- The decay's array, likewise. -/
theorem decay_of (G : FVec Ideal S8x16x4096 .f32)
    (h : ∀ (t : Fin cfg0.N) (e : Fin 16) (r : Fin 512), (dats m 0 c).after 8 t (ix3 0 e r) = G (ix3 (seq t) e (row t r))) :
    (dats m 0 c).arrAt 8 cfg0.N = G := by
  refine (dats m 0 c).arrAt_eq_of_covers 8 _ (by decide +kernel) fun t _ y => ?_
  blk_simp
  obtain ⟨e, r, rfl⟩ : ∃ (e : Fin 16) (r : Fin 512), y = ix3 0 e r := ⟨y 1, y 2, by funext a; fin_cases a; exacts [Subsingleton.elim (α := Fin 1) _ _, rfl, rfl]⟩
  rw [h]
  unfold row seq
  blk_ext [place t]
end Cert.FrontArray
end
-- ==== Proof.FrontClaim.lean ====
module
public import proofs.«01_k».proof.Defs
public import proofs.«01_k».proof.Proof.FrontArray
@[expose] public section
/-! The input step's claim: the two runs put side by side. -/
set_option maxRecDepth 16384
noncomputable section
namespace Cert.FrontClaim
open Idealize.ShloMosaic Idealize.ShloMosaic.TcCoe Idealize.SL.Sem

section final
open Cert.FrontIdeal Cert.FrontIdeal.Gen Cert.FrontArray
variable (m : (ℓ : Loc nD τ sig) → Buf (Elt Ideal) ℓ) (c : Dev nD)

/-- The projection of the kernel's arguments. -/
abbrev proj := Cert.FrontRef.projected (m ((c : Thread nD τ).loc main_arg0)) (m ((c : Thread nD τ).loc main_arg1)) (m ((c : Thread nD τ).loc main_arg2))

/-- The kernel's queries. -/
theorem final_queries : (dats m 0 c).arrAt 5 cfg0.N = Cert.FrontRef.queries (proj m c) :=
  queries_of m c _ fun t r d => by
    rw [stored_queries, Cert.FrontRef.queries_at]
    unfold proj
    rw [Cert.FrontRef.projected_at]
/-- The kernel's keys. -/
theorem final_keys : (dats m 0 c).arrAt 6 cfg0.N = Cert.FrontRef.keys (proj m c) :=
  keys_of m c _ fun t r d => by
    rw [stored_keys, Cert.FrontRef.keys_at]
    unfold proj
    rw [Cert.FrontRef.projected_at]
/-- The kernel's values. -/
theorem final_values : (dats m 0 c).arrAt 7 cfg0.N = Cert.FrontRef.values (proj m c) :=
  values_of m c _ fun t r d => by
    rw [stored_values, Cert.FrontRef.values_at]
    unfold proj
    rw [Cert.FrontRef.projected_at]
/-- The kernel's decay. -/
theorem final_decay : (dats m 0 c).arrAt 8 cfg0.N = Cert.FrontRef.decay (Cert.FrontRef.sums (Cert.FrontRef.logs (Cert.FrontRef.gates (proj m c)))) :=
  decay_of m c _ fun t h r => by
    rw [stored_decay, Cert.FrontRef.decay_at, Cert.FrontRef.sums_at]
    simp only [Cert.FrontRef.logs_at, Cert.FrontRef.gates_at, Cert.FrontRef.projected_at]
    rfl
end final

/-- The reference runs, leaves its arguments unchanged and declares no semaphore. -/
theorem frame_reference : Cert.quiescent_FrontRefIdeal := fun m g _ =>
  (θ_run Cert.FrontRefIdeal.defs _ _).mono (fun r h => ⟨fun c => (h c).2.2.2.2, sem_eq_zero_of_no_sems (by decide) r.2⟩)
    (Cert.FrontRefIdeal.Value.run (F := Ideal) m g)

/-- The kernel's four arrays are the reference's. -/
theorem algebraic : Cert.algebraic_FrontIdeal_FrontRefIdeal := by
  intro m g m' g' _ hagree
  refine ⟨fun c => Cert.FrontRef.queries (proj m c), fun c => Cert.FrontRef.keys (proj m c), fun c => Cert.FrontRef.values (proj m c),
    fun c => Cert.FrontRef.decay (Cert.FrontRef.sums (Cert.FrontRef.logs (Cert.FrontRef.gates (proj m c)))), ?_, ?_⟩
  · exact (θ_run _ _ _).mono (fun r h c =>
      ⟨(Cert.FrontIdeal.Value.post5 m r h c).trans (final_queries m c), (Cert.FrontIdeal.Value.post6 m r h c).trans (final_keys m c),
       (Cert.FrontIdeal.Value.post7 m r h c).trans (final_values m c), (Cert.FrontIdeal.Value.post8 m r h c).trans (final_decay m c),
       Cert.FrontIdeal.Value.kept_main_arg0 m r h c, Cert.FrontIdeal.Value.kept_main_arg1 m r h c, Cert.FrontIdeal.Value.kept_main_arg2 m r h c⟩)
      (Cert.FrontIdeal.Gen.run_main m g)
  · refine (θ_run _ _ _).mono (fun r h c => ?_) (Cert.FrontRef.run m' g')
    have e := (h c).1
    rw [(hagree c).1, (hagree c).2.1, (hagree c).2.2] at e
    exact ⟨e.1, e.2.1, e.2.2.1, e.2.2.2, (h c).2⟩
end Cert.FrontClaim
end
-- ==== Proof.MixBlock.lean ====
module
public import proofs.«01_k».proof.Proof.Gen.MixIdeal.Value
public import proofs.«01_k».proof.Proof.MoeOutBlock
public import Idealize.ShloMosaic.Lib.Pipeline.ValueKit
public import Idealize.ShloMosaic.Lib.Pointwise
@[expose] public section
/-! What one grid point of a layer's output projection computes: the norm of its rows' residuals with the projected
    outcome of the mixers, whose two halves it multiplies apart. -/
set_option maxRecDepth 16384
noncomputable section
namespace Cert.MixBlock
open Cert.MixIdeal Cert.MixIdeal.Gen Idealize.ShloMosaic Idealize.ShloMosaic.TcCoe Idealize.SL.Sem
open Cert.NormRow

/-- A row before its norm: its weighted residual with the projected row and the shift. -/
def mixed (x o : Fin 1024 → EReal) (w : Fin 1024 → Fin 1024 → EReal) (b : Fin 1024 → EReal) (d : Fin 1024) : EReal :=
  alpha * x d + (∑ k, o k * w k d + b d)

/-- The place of an entry of the first and of the second half. -/
def low (k : Fin 512) : Fin 1024 := ⟨k.val, by omega⟩
def high (k : Fin 512) : Fin 1024 := ⟨512 + k.val, by omega⟩

/-- A sum over the row is the sum over its two halves. -/
theorem sum_halves (f : Fin 1024 → EReal) : ∑ k, f k = ∑ k, f (low k) + ∑ k, f (high k) := Fin.sum_univ_add (a := 512) (b := 512) f

/-- The residual of the rows with the two halves' products and the shift. -/
def residual (a : Vec Ideal S512x512 .bf16) (u : Vec Ideal S512x1024 .bf16) (b : Vec Ideal S512x512 .bf16) (v : Vec Ideal S512x1024 .bf16)
    (s : Vec Ideal S1x1024 .f32) (x : Vec Ideal S512x1024 .f32) : FVec Ideal S512x1024 .f32 :=
  addf (φ := .f32) (mulf (φ := .f32) (broadcast S512x1024 (Scalar.ofBits (F := Ideal) .f32 0x3FB504F3#32)) x)
    (addf (φ := .f32) (addf (φ := .f32)
      (matmul (φ₁ := .bf16) (φ₂ := .bf16) dot_S512x512_S512x1024_S512x1024_1_0_0_1_n_n none a (shapeCast (α := Ideal .bf16) S512x1024 u shapeCasts_S512x1024_S512x1024) (constant S512x1024 .f32 0x00000000#32))
      (matmul (φ₁ := .bf16) (φ₂ := .bf16) dot_S512x512_S512x1024_S512x1024_1_0_0_1_n_n none b (shapeCast (α := Ideal .bf16) S512x1024 v shapeCasts_S512x1024_S512x1024) (constant S512x1024 .f32 0x00000000#32)))
      (broadcastTo S512x1024 (shapeCast (α := Ideal .f32) S1x1024 s shapeCasts_S1x1024_S1x1024) broadcasts_S1x1024_S512x1024))

theorem residual_at (a : Vec Ideal S512x512 .bf16) (u : Vec Ideal S512x1024 .bf16) (b : Vec Ideal S512x512 .bf16) (v : Vec Ideal S512x1024 .bf16)
    (s : Vec Ideal S1x1024 .f32) (x : Vec Ideal S512x1024 .f32) (r : Fin 512) (d : Fin 1024) :
    residual a u b v s x (ix2 r d) = alpha * x (ix2 r d)
      + (∑ k : Fin 512, a (ix2 r k) * u (ix2 k d) + ∑ k : Fin 512, b (ix2 r k) * v (ix2 k d) + s (ix2 0 d)) := by
  pointwise [residual]

theorem pay6_eq (a : Vec Ideal S512x512 .bf16) (u : Vec Ideal S512x1024 .bf16) (b : Vec Ideal S512x512 .bf16) (v : Vec Ideal S512x1024 .bf16)
    (s : Vec Ideal S1x1024 .f32) (x : Vec Ideal S512x1024 .f32) :
    k0_pay6 a u b v s x = Cert.MoeOutBlock.centre (residual a u b v s x) := rfl

/-- The sums of the rows' squares, in a column. -/
theorem pay7_at (a : Vec Ideal S512x512 .bf16) (u : Vec Ideal S512x1024 .bf16) (b : Vec Ideal S512x512 .bf16) (v : Vec Ideal S512x1024 .bf16)
    (s : Vec Ideal S1x1024 .f32) (x : Vec Ideal S512x1024 .f32) (r : Fin 512) :
    k0_pay7 a u b v s x (ix2 r 0) = ∑ d : Fin 1024, k0_pay6 a u b v s x (ix2 r d) * k0_pay6 a u b v s x (ix2 r d) := by
  unfold k0_pay7
  generalize k0_pay6 a u b v s x = C
  pointwise

/-- The rows' norm, from the centred rows and the sums of their squares. -/
theorem pay8_at (g h : Vec Ideal S1x1024 .f32) (C : FVec Ideal S512x1024 .f32) (Q : FVec Ideal S512x1 .f32) (r : Fin 512) (d : Fin 1024) :
    k0_pay8 (k0_pay4 g) (k0_pay5 h) C Q (Scalar.ofBits (F := Ideal) .f32 0x44800000#32) (ix2 r d)
      = C (ix2 r d) * Ideal.rsqrt (Ideal.div (Q (ix2 r 0)) width + eps) * g (ix2 0 d) + h (ix2 0 d) := by
  pointwise [k0_pay8, k0_pay4, k0_pay5]

/-- What the body stores, for blocks whose entries are known. -/
theorem stored_of (a : Vec Ideal S512x512 .bf16) (u : Vec Ideal S512x1024 .bf16) (b : Vec Ideal S512x512 .bf16) (v : Vec Ideal S512x1024 .bf16)
    (s : Vec Ideal S1x1024 .f32) (x : Vec Ideal S512x1024 .f32) (g h : Vec Ideal S1x1024 .f32) (r : Fin 512) (d : Fin 1024)
    (X O : Fin 1024 → EReal) (W : Fin 1024 → Fin 1024 → EReal) (S G H : Fin 1024 → EReal)
    (ha : ∀ k, a (ix2 r k) = O (low k)) (hu : ∀ k d, u (ix2 k d) = W (low k) d) (hb : ∀ k, b (ix2 r k) = O (high k))
    (hv : ∀ k d, v (ix2 k d) = W (high k) d) (hs : ∀ d, s (ix2 0 d) = S d) (hx : ∀ d, x (ix2 r d) = X d)
    (hg : ∀ d, g (ix2 0 d) = G d) (hh : ∀ d, h (ix2 0 d) = H d) :
    k0_pay8 (k0_pay4 g) (k0_pay5 h) (k0_pay6 a u b v s x) (k0_pay7 a u b v s x) (Scalar.ofBits (F := Ideal) .f32 0x44800000#32) (ix2 r d)
      = norm (mixed X O W S) G H d := by
  have hR : (fun d => residual a u b v s x (ix2 r d)) = mixed X O W S := by
    funext d
    rw [residual_at, mixed, sum_halves]
    simp only [ha, hu, hb, hv, hs, hx]
  have hC : ∀ d, k0_pay6 a u b v s x (ix2 r d) = centred (mixed X O W S) d := fun d => by
    rw [pay6_eq, ← hR]
    exact Cert.MoeOutBlock.centre_at _ r d
  rw [pay8_at, pay7_at, hg, hh]
  simp only [hC]
  rfl

/-- The same as it is stored once more. -/
theorem stored_again (g h : FVec Ideal S1x1024 .f32) (C : FVec Ideal S512x1024 .f32) (Q : FVec Ideal S512x1 .f32) (n : Ideal .f32) (r : Fin 512) (d : Fin 1024) :
    (k0_pay9 g h C Q n (ix2 r d) : EReal) = k0_pay8 g h C Q n (ix2 r d) := rfl
end Cert.MixBlock
end
-- ==== Proof.MixArray.lean ====
module
public import proofs.«01_k».proof.Proof.Gen.MixIdeal.Value
public import proofs.«01_k».proof.Proof.MixBlock
public import Idealize.ShloMosaic.Lib.Claim
@[expose] public section
/-! What each grid point of layer 1's output projection stores, in entries of the argument arrays, and the arrays of
    all points' blocks. Both halves of a row come from one array. -/
set_option maxRecDepth 16384
noncomputable section
namespace Cert.MixArray
open Cert.MixIdeal Cert.MixIdeal.Gen Idealize.ShloMosaic Idealize.ShloMosaic.TcCoe Idealize.SL.Sem
open Idealize.ShloMosaic.Pipeline (Dat)
open Cert.NormRow Cert.MixBlock
variable (m : (ℓ : Loc nD τ sig) → Buf (Elt Ideal) ℓ) (c : Dev nD) (t : Fin cfg0.N)

/-- Where each window's block lies, at every grid point. -/
theorem place : ∀ t : Fin cfg0.N,
    win0_0.index t = ![t.val, 0] ∧ win0_1.index t = ![t.val, 1] ∧ win0_2.index t = ![t.val, 0]
    ∧ win0_3.index t = ![0, 0] ∧ win0_4.index t = ![1, 0] ∧ win0_5.index t = ![0, 0] ∧ win0_6.index t = ![0, 0] ∧ win0_7.index t = ![0, 0]
    ∧ win0_10.index t = ![t.val, 0] ∧ win0_11.index t = ![t.val, 0] :=
  (by decide +kernel : ∀ t : Fin grid0.N, _)

/-- There are 64 points. -/
theorem points : t.val < 64 := lt_of_lt_of_eq t.isLt N_0

/-- Row `r` of the point's tile, in the whole array. -/
def row (r : Fin 512) : Fin 32768 := ⟨512 * t.val + r.val, by have := points t; omega⟩

/-- The mixers' outcome in one row. -/
def outcome (r : Fin 32768) (k : Fin 1024) : EReal := m ((c : Thread nD τ).loc main_arg0) (ix2 r k)

/-- The norm of one row, of the kernel's arguments. -/
abbrev at_ (r : Fin 32768) (d : Fin 1024) : EReal :=
  norm (mixed (fun k => m ((c : Thread nD τ).loc main_arg1) (ix2 r k)) (outcome m c r) (fun k d => m ((c : Thread nD τ).loc main_arg2) (ix2 k d)) (fun d => m ((c : Thread nD τ).loc main_arg3) (ix1 d)))
    (fun d => m ((c : Thread nD τ).loc main_arg4) (ix1 d)) (fun d => m ((c : Thread nD τ).loc main_arg5) (ix1 d)) d

/-- The point's rows of the first half. -/
theorem read_low (r k : Fin 512) : iblk m c 0 t (ix2 r k) = outcome m c (row t r) (low k) := by
  unfold outcome row low; blk_ext [iblk, V, place t]
/-- The point's rows of the second half. -/
theorem read_high (r k : Fin 512) : iblk m c 1 t (ix2 r k) = outcome m c (row t r) (high k) := by
  unfold outcome row high; blk_ext [iblk, V, place t]
/-- The point's rows before the mixers. -/
theorem read_rows (r : Fin 512) (d : Fin 1024) : iblk m c 2 t (ix2 r d) = m ((c : Thread nD τ).loc main_arg1) (ix2 (row t r) d) := by
  unfold row; blk_ext [iblk, V, place t]
/-- The weight's first half. -/
theorem read_weight_low (k : Fin 512) (d : Fin 1024) : iblk m c 3 t (ix2 k d) = m ((c : Thread nD τ).loc main_arg2) (ix2 (low k) d) := by
  unfold iblk low; entry_read; blk_simp; pointwise
  change m ((c : Thread nD τ).loc main_arg2) _ = m ((c : Thread nD τ).loc main_arg2) _
  blk_ext [place t]
/-- The weight's second half. -/
theorem read_weight_high (k : Fin 512) (d : Fin 1024) : iblk m c 4 t (ix2 k d) = m ((c : Thread nD τ).loc main_arg2) (ix2 (high k) d) := by
  unfold iblk high; entry_read; blk_simp; pointwise
  change m ((c : Thread nD τ).loc main_arg2) _ = m ((c : Thread nD τ).loc main_arg2) _
  blk_ext [place t]
/-- The shift. -/
theorem read_shift (d : Fin 1024) : iblk m c 5 t (ix2 0 d) = m ((c : Thread nD τ).loc main_arg3) (ix1 d) := by
  unfold iblk; entry_read; blk_simp; pointwise
  change m ((c : Thread nD τ).loc main_arg3) _ = m ((c : Thread nD τ).loc main_arg3) _
  blk_ext [place t]
/-- The norm's gain. -/
theorem read_gain (d : Fin 1024) : iblk m c 6 t (ix2 0 d) = m ((c : Thread nD τ).loc main_arg4) (ix1 d) := by
  unfold iblk; entry_read; blk_simp; pointwise
  change m ((c : Thread nD τ).loc main_arg4) _ = m ((c : Thread nD τ).loc main_arg4) _
  blk_ext [place t]
/-- The norm's shift. -/
theorem read_norm_shift (d : Fin 1024) : iblk m c 7 t (ix2 0 d) = m ((c : Thread nD τ).loc main_arg5) (ix1 d) := by
  unfold iblk; entry_read; blk_simp; pointwise
  change m ((c : Thread nD τ).loc main_arg5) _ = m ((c : Thread nD τ).loc main_arg5) _
  blk_ext [place t]

/-- What the body computes of the point's blocks. -/
theorem computed (r : Fin 512) (d : Fin 1024) :
    k0_pay8 (k0_pay4 (iblk m c 6 t)) (k0_pay5 (iblk m c 7 t)) (k0_pay6 (iblk m c 0 t) (iblk m c 3 t) (iblk m c 1 t) (iblk m c 4 t) (iblk m c 5 t) (iblk m c 2 t))
      (k0_pay7 (iblk m c 0 t) (iblk m c 3 t) (iblk m c 1 t) (iblk m c 4 t) (iblk m c 5 t) (iblk m c 2 t)) (Scalar.ofBits (F := Ideal) .f32 0x44800000#32) (ix2 r d)
      = at_ m c (row t r) d :=
  stored_of _ _ _ _ _ _ _ _ r d _ _ _ _ _ _ (read_low m c t r) (read_weight_low m c t) (read_high m c t r) (read_weight_high m c t)
    (read_shift m c t) (read_rows m c t r) (read_gain m c t) (read_norm_shift m c t)

/-- The point's normed rows. -/
theorem stored (r : Fin 512) (d : Fin 1024) : (dats m 0 c).after 10 t (ix2 r d) = at_ m c (row t r) d := by
  rw [after0_10]
  by_cases h : t.val % 64 = 0
  · rw [outsAt0_A m c t h]; frame_out; exact computed m c t r d
  · rw [outsAt0_B m c t h]; frame_out; exact computed m c t r d

/-- The same in the narrow format. -/
theorem stored_narrow (r : Fin 512) (d : Fin 1024) : (dats m 0 c).after 11 t (ix2 r d) = at_ m c (row t r) d := by
  rw [after0_11]
  by_cases h : t.val % 64 = 0
  · rw [outsAt0_A m c t h]; frame_out; exact computed m c t r d
  · rw [outsAt0_B m c t h]; frame_out; exact computed m c t r d

/-- A function of the normed rows' array, from what each point stores. -/
theorem rows_of (G : FVec Ideal S32768x1024 .f32)
    (h : ∀ (t : Fin cfg0.N) (r : Fin 512) (d : Fin 1024), (dats m 0 c).after 10 t (ix2 r d) = G (ix2 (row t r) d)) :
    (dats m 0 c).arrAt 10 cfg0.N = G := by
  refine (dats m 0 c).arrAt_eq_of_covers 10 _ (by decide +kernel) fun t _ y => ?_
  blk_simp
  obtain ⟨r, d, rfl⟩ : ∃ (r : Fin 512) (d : Fin 1024), y = ix2 r d := ⟨y 0, y 1, by funext a; fin_cases a <;> rfl⟩
  rw [h]
  unfold row
  blk_ext [place t]

/-- The narrow array, likewise. -/
theorem narrow_of (G : FVec Ideal S32768x1024 .bf16)
    (h : ∀ (t : Fin cfg0.N) (r : Fin 512) (d : Fin 1024), (dats m 0 c).after 11 t (ix2 r d) = G (ix2 (row t r) d)) :
    (dats m 0 c).arrAt 11 cfg0.N = G := by
  refine (dats m 0 c).arrAt_eq_of_covers 11 _ (by decide +kernel) fun t _ y => ?_
  blk_simp
  obtain ⟨r, d, rfl⟩ : ∃ (r : Fin 512) (d : Fin 1024), y = ix2 r d := ⟨y 0, y 1, by funext a; fin_cases a <;> rfl⟩
  rw [h]
  unfold row
  blk_ext [place t]
end Cert.MixArray
end
-- ==== Proof.MixRef.lean ====
module
public import proofs.«01_k».proof.Proof.Gen.MixRefIdeal.Run
public import proofs.«01_k».proof.Proof.Gen.MixTwoRefIdeal.Run
public import proofs.«01_k».proof.Proof.MixBlock
public import proofs.«01_k».proof.Proof.MoeOutRef
@[expose] public section
/-! A layer's output projection with its norm, as the reference writes it, read at one result. -/
set_option maxRecDepth 16384
noncomputable section
namespace Cert.MixRef
open Idealize.ShloMosaic Idealize.ShloMosaic.TcCoe Idealize.SL.Sem
open Cert.NormRow Cert.MixBlock

section one
open Cert.MixRefIdeal Cert.MixRefIdeal.Gen

/-- The rows before their norm. -/
def residual (o : FVec Ideal S32768x1024 .bf16) (x : FVec Ideal S32768x1024 .f32) (w : FVec Ideal S1024x1024 .f32) (b : FVec Ideal S1024 .f32) : FVec Ideal S32768x1024 .f32 :=
  addf (mulf (broadcastInDim S32768x1024 ![] bcast_S_S32768x1024 (constant S_ .f32 0x3FB504F3#32)) x)
    (addf (Host.dotGeneral dot_S32768x1024_S1024x1024_S32768x1024_1_0_0_1_n_n none (extf .f32 o bitsLt_bf16_f32) w)
      (broadcastInDim S32768x1024 ![0, 1] bcast_S1x1024_S32768x1024_0_1 (broadcastInDim S1x1024 ![1] bcast_S1024_S1x1024_1 b)))

theorem residual_at (o : FVec Ideal S32768x1024 .bf16) (x : FVec Ideal S32768x1024 .f32) (w : FVec Ideal S1024x1024 .f32) (b : FVec Ideal S1024 .f32) (r : Fin 32768) (d : Fin 1024) :
    residual o x w b (ix2 r d) = mixed (fun k => x (ix2 r k)) (fun k => o (ix2 r k)) (fun k d => w (ix2 k d)) (fun d => b (ix1 d)) d := by
  pointwise [residual, mixed]

/-- The reference's array, as a function of its arguments. -/
def value (o : FVec Ideal S32768x1024 .bf16) (x : FVec Ideal S32768x1024 .f32) (w : FVec Ideal S1024x1024 .f32) (b g h : FVec Ideal S1024 .f32) : FVec Ideal S32768x1024 .f32 :=
  Cert.MoeOutRef.normed (residual o x w b) g h

theorem value_at (o : FVec Ideal S32768x1024 .bf16) (x : FVec Ideal S32768x1024 .f32) (w : FVec Ideal S1024x1024 .f32) (b g h : FVec Ideal S1024 .f32) (r : Fin 32768) (d : Fin 1024) :
    value o x w b g h (ix2 r d)
      = norm (mixed (fun k => x (ix2 r k)) (fun k => o (ix2 r k)) (fun k d => w (ix2 k d)) (fun d => b (ix1 d))) (fun d => g (ix1 d)) (fun d => h (ix1 d)) d := by
  unfold value
  refine (Cert.MoeOutRef.normed_at _ _ _ r d).trans ?_
  exact congrArg (fun y => norm y _ _ d) (funext fun d => residual_at o x w b r d)

/-- The array in the narrow format. -/
def narrow (y : FVec Ideal S32768x1024 .f32) : FVec Ideal S32768x1024 .bf16 := truncf .bf16 y bitsLt_bf16_f32

theorem narrow_at (y : FVec Ideal S32768x1024 .f32) (i : S32768x1024.Idx) : (narrow y i : EReal) = y i := rfl

/-- The reference's arrays for layer 1. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      (fun y : FVec Ideal S32768x1024 .f32 =>
        r.2.mem ((c.tc : Thread nD τ).loc main_v31) = y ∧ r.2.mem ((c.tc : Thread nD τ).loc main_v32) = narrow y)
        (value (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨⟨(h c).1, (h c).2.1⟩, (h c).2.2⟩) (Value.run (F := Ideal) m g)
end one

section two
open Cert.MixTwoRefIdeal Cert.MixTwoRefIdeal.Gen

/-- The two mixers' outcomes side by side. -/
def joined (u o : FVec Ideal S32768x512 .bf16) : FVec Ideal S32768x1024 .bf16 :=
  concatenate S32768x1024 1 [⟨S32768x512, u⟩, ⟨S32768x512, o⟩] concatenates_S32768x512_S32768x512_S32768x1024_d1

theorem joined_low (u o : FVec Ideal S32768x512 .bf16) (r : Fin 32768) (k : Fin 512) : joined u o (ix2 r (low k)) = u (ix2 r k) := by
  pointwise [joined, low]

theorem joined_high (u o : FVec Ideal S32768x512 .bf16) (r : Fin 32768) (k : Fin 512) : joined u o (ix2 r (high k)) = o (ix2 r k) := by
  pointwise [joined, high]

/-- The reference's arrays for layer 0. -/
theorem run_two (m : (ℓ : Loc nD τ sig) → Buf (Elt Ideal) ℓ) (g : Dev nD → PrngReg) :
    θ_run defs (onTc (τ := τ) (main (F := Ideal))) ⟨m, fun _ => 0, g⟩ fun r => ∀ c : Dev nD,
      (fun y : FVec Ideal S32768x1024 .f32 =>
        r.2.mem ((c.tc : Thread nD τ).loc main_v32) = y ∧ r.2.mem ((c.tc : Thread nD τ).loc main_v33) = narrow y)
        (value (joined (m ((c.tc : Thread nD τ).loc main_arg0)) (m ((c.tc : Thread nD τ).loc main_arg1))) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨⟨(h c).1, (h c).2.1⟩, (h c).2.2⟩) (Value.run (F := Ideal) m g)
end two
end Cert.MixRef
end
-- ==== Proof.MixTwoArray.lean ====
module
public import proofs.«01_k».proof.Proof.Gen.MixTwoIdeal.Value
public import proofs.«01_k».proof.Proof.MixRef
public import Idealize.ShloMosaic.Lib.Claim
@[expose] public section
/-! What each grid point of layer 0's output projection stores, in entries of the argument arrays, and the arrays of
    all points' blocks. The two halves of a row come from the two mixers. -/
set_option maxRecDepth 16384
noncomputable section
namespace Cert.MixTwoArray
open Cert.MixTwoIdeal Cert.MixTwoIdeal.Gen Idealize.ShloMosaic Idealize.ShloMosaic.TcCoe Idealize.SL.Sem
open Idealize.ShloMosaic.Pipeline (Dat)
open Cert.NormRow Cert.MixBlock
variable (m : (ℓ : Loc nD τ sig) → Buf (Elt Ideal) ℓ) (c : Dev nD) (t : Fin cfg0.N)

/-- Where each window's block lies, at every grid point. -/
theorem place : ∀ t : Fin cfg0.N,
    win0_0.index t = ![t.val, 0] ∧ win0_1.index t = ![t.val, 0] ∧ win0_2.index t = ![t.val, 0]
    ∧ win0_3.index t = ![0, 0] ∧ win0_4.index t = ![1, 0] ∧ win0_5.index t = ![0, 0] ∧ win0_6.index t = ![0, 0] ∧ win0_7.index t = ![0, 0]
    ∧ win0_10.index t = ![t.val, 0] ∧ win0_11.index t = ![t.val, 0] :=
  (by decide +kernel : ∀ t : Fin grid0.N, _)

/-- There are 64 points. -/
theorem points : t.val < 64 := lt_of_lt_of_eq t.isLt N_0

/-- Row `r` of the point's tile, in the whole array. -/
def row (r : Fin 512) : Fin 32768 := ⟨512 * t.val + r.val, by have := points t; omega⟩

/-- The mixers' outcome in one row. -/
def outcome (r : Fin 32768) (k : Fin 1024) : EReal := Cert.MixRef.joined (m ((c : Thread nD τ).loc main_arg0)) (m ((c : Thread nD τ).loc main_arg1)) (ix2 r k)

/-- The norm of one row, of the kernel's arguments. -/
abbrev at_ (r : Fin 32768) (d : Fin 1024) : EReal :=
  norm (mixed (fun k => m ((c : Thread nD τ).loc main_arg2) (ix2 r k)) (outcome m c r) (fun k d => m ((c : Thread nD τ).loc main_arg3) (ix2 k d)) (fun d => m ((c : Thread nD τ).loc main_arg4) (ix1 d)))
    (fun d => m ((c : Thread nD τ).loc main_arg5) (ix1 d)) (fun d => m ((c : Thread nD τ).loc main_arg6) (ix1 d)) d

/-- The point's rows of the first half. -/
theorem read_low (r k : Fin 512) : iblk m c 0 t (ix2 r k) = outcome m c (row t r) (low k) := by
  refine Eq.trans ?_ (Cert.MixRef.joined_low _ _ (row t r) k).symm
  unfold row; blk_ext [iblk, V, place t]
/-- The point's rows of the second half. -/
theorem read_high (r k : Fin 512) : iblk m c 1 t (ix2 r k) = outcome m c (row t r) (high k) := by
  refine Eq.trans ?_ (Cert.MixRef.joined_high _ _ (row t r) k).symm
  unfold row; blk_ext [iblk, V, place t]
/-- The point's rows before the mixers. -/
theorem read_rows (r : Fin 512) (d : Fin 1024) : iblk m c 2 t (ix2 r d) = m ((c : Thread nD τ).loc main_arg2) (ix2 (row t r) d) := by
  unfold row; blk_ext [iblk, V, place t]
/-- The weight's first half. -/
theorem read_weight_low (k : Fin 512) (d : Fin 1024) : iblk m c 3 t (ix2 k d) = m ((c : Thread nD τ).loc main_arg3) (ix2 (low k) d) := by
  unfold iblk low; entry_read; blk_simp; pointwise
  change m ((c : Thread nD τ).loc main_arg3) _ = m ((c : Thread nD τ).loc main_arg3) _
  blk_ext [place t]
/-- The weight's second half. -/
theorem read_weight_high (k : Fin 512) (d : Fin 1024) : iblk m c 4 t (ix2 k d) = m ((c : Thread nD τ).loc main_arg3) (ix2 (high k) d) := by
  unfold iblk high; entry_read; blk_simp; pointwise
  change m ((c : Thread nD τ).loc main_arg3) _ = m ((c : Thread nD τ).loc main_arg3) _
  blk_ext [place t]
/-- The shift. -/
theorem read_shift (d : Fin 1024) : iblk m c 5 t (ix2 0 d) = m ((c : Thread nD τ).loc main_arg4) (ix1 d) := by
  unfold iblk; entry_read; blk_simp; pointwise
  change m ((c : Thread nD τ).loc main_arg4) _ = m ((c : Thread nD τ).loc main_arg4) _
  blk_ext [place t]
/-- The norm's gain. -/
theorem read_gain (d : Fin 1024) : iblk m c 6 t (ix2 0 d) = m ((c : Thread nD τ).loc main_arg5) (ix1 d) := by
  unfold iblk; entry_read; blk_simp; pointwise
  change m ((c : Thread nD τ).loc main_arg5) _ = m ((c : Thread nD τ).loc main_arg5) _
  blk_ext [place t]
/-- The norm's shift. -/
theorem read_norm_shift (d : Fin 1024) : iblk m c 7 t (ix2 0 d) = m ((c : Thread nD τ).loc main_arg6) (ix1 d) := by
  unfold iblk; entry_read; blk_simp; pointwise
  change m ((c : Thread nD τ).loc main_arg6) _ = m ((c : Thread nD τ).loc main_arg6) _
  blk_ext [place t]

/-- What the body computes of the point's blocks. -/
theorem computed (r : Fin 512) (d : Fin 1024) :
    k0_pay8 (k0_pay4 (iblk m c 6 t)) (k0_pay5 (iblk m c 7 t)) (k0_pay6 (iblk m c 0 t) (iblk m c 3 t) (iblk m c 1 t) (iblk m c 4 t) (iblk m c 5 t) (iblk m c 2 t))
      (k0_pay7 (iblk m c 0 t) (iblk m c 3 t) (iblk m c 1 t) (iblk m c 4 t) (iblk m c 5 t) (iblk m c 2 t)) (Scalar.ofBits (F := Ideal) .f32 0x44800000#32) (ix2 r d)
      = at_ m c (row t r) d :=
  stored_of _ _ _ _ _ _ _ _ r d _ _ _ _ _ _ (read_low m c t r) (read_weight_low m c t) (read_high m c t r) (read_weight_high m c t)
    (read_shift m c t) (read_rows m c t r) (read_gain m c t) (read_norm_shift m c t)

/-- The point's normed rows. -/
theorem stored (r : Fin 512) (d : Fin 1024) : (dats m 0 c).after 10 t (ix2 r d) = at_ m c (row t r) d := by
  rw [after0_10]
  by_cases h : t.val % 64 = 0
  · rw [outsAt0_A m c t h]; frame_out; exact computed m c t r d
  · rw [outsAt0_B m c t h]; frame_out; exact computed m c t r d

/-- The same in the narrow format. -/
theorem stored_narrow (r : Fin 512) (d : Fin 1024) : (dats m 0 c).after 11 t (ix2 r d) = at_ m c (row t r) d := by
  rw [after0_11]
  by_cases h : t.val % 64 = 0
  · rw [outsAt0_A m c t h]; frame_out; exact computed m c t r d
  · rw [outsAt0_B m c t h]; frame_out; exact computed m c t r d

/-- A function of the normed rows' array, from what each point stores. -/
theorem rows_of (G : FVec Ideal S32768x1024 .f32)
    (h : ∀ (t : Fin cfg0.N) (r : Fin 512) (d : Fin 1024), (dats m 0 c).after 10 t (ix2 r d) = G (ix2 (row t r) d)) :
    (dats m 0 c).arrAt 10 cfg0.N = G := by
  refine (dats m 0 c).arrAt_eq_of_covers 10 _ (by decide +kernel) fun t _ y => ?_
  blk_simp
  obtain ⟨r, d, rfl⟩ : ∃ (r : Fin 512) (d : Fin 1024), y = ix2 r d := ⟨y 0, y 1, by funext a; fin_cases a <;> rfl⟩
  rw [h]
  unfold row
  blk_ext [place t]

/-- The narrow array, likewise. -/
theorem narrow_of (G : FVec Ideal S32768x1024 .bf16)
    (h : ∀ (t : Fin cfg0.N) (r : Fin 512) (d : Fin 1024), (dats m 0 c).after 11 t (ix2 r d) = G (ix2 (row t r) d)) :
    (dats m 0 c).arrAt 11 cfg0.N = G := by
  refine (dats m 0 c).arrAt_eq_of_covers 11 _ (by decide +kernel) fun t _ y => ?_
  blk_simp
  obtain ⟨r, d, rfl⟩ : ∃ (r : Fin 512) (d : Fin 1024), y = ix2 r d := ⟨y 0, y 1, by funext a; fin_cases a <;> rfl⟩
  rw [h]
  unfold row
  blk_ext [place t]
end Cert.MixTwoArray
end
-- ==== Proof.MixClaim.lean ====
module
public import proofs.«01_k».proof.Defs
public import proofs.«01_k».proof.Proof.MixArray
public import proofs.«01_k».proof.Proof.MixTwoArray
@[expose] public section
/-! The output projections' claims, of both layers: the runs put side by side. -/
set_option maxRecDepth 16384
noncomputable section
namespace Cert.MixClaim
open Idealize.ShloMosaic Idealize.ShloMosaic.TcCoe Idealize.SL.Sem

section mix
open Cert.MixIdeal Cert.MixIdeal.Gen Cert.MixArray
variable (m : (ℓ : Loc nD τ sig) → Buf (Elt Ideal) ℓ) (c : Dev nD)

/-- The reference's array of the kernel's arguments. -/
abbrev mix_value := Cert.MixRef.value (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- The kernel's normed rows. -/
theorem mix_rows : (dats m 0 c).arrAt 10 cfg0.N = mix_value m c :=
  rows_of m c _ fun t r d => (stored m c t r d).trans (Cert.MixRef.value_at _ _ _ _ _ _ (row t r) d).symm
/-- The same in the narrow format. -/
theorem mix_narrow : (dats m 0 c).arrAt 11 cfg0.N = Cert.MixRef.narrow (mix_value m c) :=
  narrow_of m c _ fun t r d => (stored_narrow m c t r d).trans (Cert.MixRef.value_at _ _ _ _ _ _ (row t r) d).symm
end mix

section mixtwo
open Cert.MixTwoIdeal Cert.MixTwoIdeal.Gen Cert.MixTwoArray
variable (m : (ℓ : Loc nD τ sig) → Buf (Elt Ideal) ℓ) (c : Dev nD)

/-- The reference's array of the kernel's arguments. -/
abbrev mixtwo_value := Cert.MixRef.value (Cert.MixRef.joined (m ((c : Thread nD τ).loc main_arg0)) (m ((c : Thread nD τ).loc main_arg1))) (m ((c : Thread nD τ).loc main_arg2)) (m ((c : Thread nD τ).loc main_arg3))
  (m ((c : Thread nD τ).loc main_arg4)) (m ((c : Thread nD τ).loc main_arg5)) (m ((c : Thread nD τ).loc main_arg6))

/-- The kernel's normed rows. -/
theorem mixtwo_rows : (dats m 0 c).arrAt 10 cfg0.N = mixtwo_value m c :=
  rows_of m c _ fun t r d => (stored m c t r d).trans (Cert.MixRef.value_at _ _ _ _ _ _ (row t r) d).symm
/-- The same in the narrow format. -/
theorem mixtwo_narrow : (dats m 0 c).arrAt 11 cfg0.N = Cert.MixRef.narrow (mixtwo_value m c) :=
  narrow_of m c _ fun t r d => (stored_narrow m c t r d).trans (Cert.MixRef.value_at _ _ _ _ _ _ (row t r) d).symm
end mixtwo

/-- Layer 1's reference runs, leaves its arguments unchanged and declares no semaphore. -/
theorem mix_frame_reference : Cert.quiescent_MixRefIdeal := fun m g _ =>
  (θ_run Cert.MixRefIdeal.defs _ _).mono (fun r h => ⟨fun c => (h c).2.2, sem_eq_zero_of_no_sems (by decide) r.2⟩)
    (Cert.MixRefIdeal.Value.run (F := Ideal) m g)

/-- Layer 1's two arrays are the reference's. -/
theorem mix_algebraic : Cert.algebraic_MixIdeal_MixRefIdeal := by
  intro m g m' g' _ hagree
  refine ⟨fun c => mix_value m c, fun c => Cert.MixRef.narrow (mix_value m c), ?_, ?_⟩
  · exact (θ_run _ _ _).mono (fun r h c =>
      ⟨(Cert.MixIdeal.Value.post10 m r h c).trans (mix_rows m c), (Cert.MixIdeal.Value.post11 m r h c).trans (mix_narrow m c),
       Cert.MixIdeal.Value.kept_main_arg0 m r h c, Cert.MixIdeal.Value.kept_main_arg1 m r h c, Cert.MixIdeal.Value.kept_main_arg2 m r h c, Cert.MixIdeal.Value.kept_main_arg3 m r h c, Cert.MixIdeal.Value.kept_main_arg4 m r h c, Cert.MixIdeal.Value.kept_main_arg5 m r h c, Cert.MixIdeal.Value.kept_main_arg6 m r h c, Cert.MixIdeal.Value.kept_main_arg7 m r h c⟩)
      (Cert.MixIdeal.Gen.run_main m g)
  · refine (θ_run _ _ _).mono (fun r h c => ?_) (Cert.MixRef.run m' g')
    have e := (h c).1
    rw [(hagree c).1, (hagree c).2.1, (hagree c).2.2.1, (hagree c).2.2.2.1, (hagree c).2.2.2.2.1, (hagree c).2.2.2.2.2.1] at e
    exact ⟨e.1, e.2, (h c).2⟩

/-- Layer 0's reference runs, leaves its arguments unchanged and declares no semaphore. -/
theorem mixtwo_frame_reference : Cert.quiescent_MixTwoRefIdeal := fun m g _ =>
  (θ_run Cert.MixTwoRefIdeal.defs _ _).mono (fun r h => ⟨fun c => (h c).2.2, sem_eq_zero_of_no_sems (by decide) r.2⟩)
    (Cert.MixTwoRefIdeal.Value.run (F := Ideal) m g)

/-- Layer 0's two arrays are the reference's. -/
theorem mixtwo_algebraic : Cert.algebraic_MixTwoIdeal_MixTwoRefIdeal := by
  intro m g m' g' _ hagree
  refine ⟨fun c => mixtwo_value m c, fun c => Cert.MixRef.narrow (mixtwo_value m c), ?_, ?_⟩
  · exact (θ_run _ _ _).mono (fun r h c =>
      ⟨(Cert.MixTwoIdeal.Value.post10 m r h c).trans (mixtwo_rows m c), (Cert.MixTwoIdeal.Value.post11 m r h c).trans (mixtwo_narrow m c),
       Cert.MixTwoIdeal.Value.kept_main_arg0 m r h c, Cert.MixTwoIdeal.Value.kept_main_arg1 m r h c, Cert.MixTwoIdeal.Value.kept_main_arg2 m r h c, Cert.MixTwoIdeal.Value.kept_main_arg3 m r h c, Cert.MixTwoIdeal.Value.kept_main_arg4 m r h c, Cert.MixTwoIdeal.Value.kept_main_arg5 m r h c, Cert.MixTwoIdeal.Value.kept_main_arg6 m r h c, Cert.MixTwoIdeal.Value.kept_main_arg7 m r h c, Cert.MixTwoIdeal.Value.kept_main_arg8 m r h c⟩)
      (Cert.MixTwoIdeal.Gen.run_main m g)
  · refine (θ_run _ _ _).mono (fun r h c => ?_) (Cert.MixRef.run_two m' g')
    have e := (h c).1
    rw [(hagree c).1, (hagree c).2.1, (hagree c).2.2.1, (hagree c).2.2.2.1, (hagree c).2.2.2.2.1, (hagree c).2.2.2.2.2.1, (hagree c).2.2.2.2.2.2.1] at e
    exact ⟨e.1, e.2, (h c).2⟩
end Cert.MixClaim
end
-- ==== Proof.InputRow.lean ====
module
public import Idealize.ShloMosaic.Lib.Pointwise
@[expose] public section
/-! Layer 0's input step on one row, in numbers: the normalised latent rows, the rotation's angles, the window of the
    convolution and the rows' layer norm. -/
noncomputable section
namespace Cert.InputRow
open Idealize.ShloMosaic

/-- A row over its root mean square, times its gains. -/
def rms {N : ℕ} (width : EReal) (z g : Fin N → EReal) (i : Fin N) : EReal :=
  z i * Ideal.rsqrt (Ideal.div (∑ k, z k * z k) width + Ideal.ofBits .f32 0x358637BD#32) * g i

/-- A row of 512 less its mean. -/
def centred (y : Fin 512 → EReal) (d : Fin 512) : EReal := y d - Ideal.div (∑ k, y k) (Ideal.ofBits .f32 0x44000000#32)

/-- Its layer norm. -/
def normed (y a b : Fin 512 → EReal) (d : Fin 512) : EReal :=
  centred y d * Ideal.rsqrt (Ideal.div (∑ k, centred y k * centred y k) (Ideal.ofBits .f32 0x44000000#32) + Ideal.ofBits .f32 0x3727C5AC#32) * a d + b d

/-- A number times its sigmoid. -/
def silu (y : EReal) : EReal := y * Ideal.logistic y

/-- A sequence with thirty zeros before it. -/
def late (U : Fin 4096 → EReal) (p : ℕ) : EReal := if h : 30 ≤ p ∧ p < 4126 then U ⟨p - 30, by omega⟩ else 0

/-- A number and the first so many terms, added one after the other. -/
def chain (a : EReal) (f : ℕ → EReal) : ℕ → EReal
  | 0 => a
  | k + 1 => chain a f k + f k

/-- A first term may be taken out. -/
theorem chain_from (a b : EReal) (f : ℕ → EReal) (k : ℕ) : chain (a + b) f k = a + chain b f k := by
  induction k with
  | zero => rfl
  | succ k ih => rw [chain, chain, ih, add_assoc]

/-- The bias may be added last. -/
theorem chain_bias (b : EReal) (f : ℕ → EReal) (k : ℕ) : chain 0 f k + b = chain b f k := by
  rw [add_comm, ← chain_from, add_zero]

/-- The terms enter only by their values. -/
theorem chain_congr (a : EReal) (f g : ℕ → EReal) (k : ℕ) (h : ∀ j < k, f j = g j) : chain a f k = chain a g k := by
  induction k with
  | zero => rfl
  | succ k ih => rw [chain, chain, ih fun j hj => h j (by omega), h k (by omega)]

/-- The convolution's sum at one place: thirty-one taps, the last at the place itself. -/
def conv (U : Fin 4096 → EReal) (w : Fin 31 → EReal) (b : EReal) (s : Fin 4096) : EReal :=
  chain b (fun j => late U (s.val + j) * w (Fin.ofNat 31 j)) 31

/-- The rotation's rates: one over ten thousand to the power of twice the place over thirty-two. -/
def rate (i : ℕ) : EReal :=
  Ideal.div 1 (Ideal.pow (Ideal.ofBits .f32 0x461C4000#32)
    (Ideal.div (Ideal.ofBits .f32 0x40000000#32 * FloatOps.sitofp (F := Ideal) .f32 (BitVec.ofNat 32 i)) (Ideal.ofBits .f32 0x42000000#32)))

/-- One head's 96 numbers, the last 32 of them turned in pairs by the angles `g`, and 32 zeros after. -/
def turned (a : Fin 96 → EReal) (g : ℕ → EReal) (d : Fin 128) : EReal :=
  if h : d.val < 96 then
    if h2 : d.val < 64 then a ⟨d.val, h⟩
    else if h3 : d.val - 64 < 16 then
      a ⟨64 + (d.val - 64), by omega⟩ * Ideal.cos (g (d.val - 64)) - a ⟨80 + (d.val - 64), by omega⟩ * Ideal.sin (g (d.val - 64))
    else
      a ⟨80 + (d.val - 64 - 16), by omega⟩ * Ideal.cos (g (d.val - 64 - 16)) + a ⟨64 + (d.val - 64 - 16), by omega⟩ * Ideal.sin (g (d.val - 64 - 16))
  else 0
end Cert.InputRow
end
-- ==== Proof.InputBlock.lean ====
module
public import proofs.«01_k».proof.Proof.Gen.InputIdeal.Value
public import proofs.«01_k».proof.Proof.InputRow
public import Idealize.ShloMosaic.Lib.Pipeline.ValueKit
public import Idealize.ShloMosaic.Lib.Pointwise
@[expose] public section
/-! What one grid point of layer 0's input step computes: the projected and gated rows, the latent rows, the queries,
    keys and values, and thirty-two rows of the convolution. -/
set_option maxRecDepth 16384
noncomputable section
namespace Cert.InputBlock
open Cert.InputRow Cert.InputIdeal Cert.InputIdeal.Gen Idealize.ShloMosaic Idealize.ShloMosaic.TcCoe Idealize.SL.Sem

/-- The projection. -/
theorem pay16_at (x : Vec Ideal S1x512x1024 .f32) (w : Vec Ideal S1024x1664 .bf16) (b : Vec Ideal S1x1664 .f32) (r : Fin 512) (j : Fin 1664) :
    k0_pay16 x w b (ix2 r j) = ∑ k : Fin 1024, x (ix3 0 r k) * w (ix2 k j) + b (ix2 0 j) := by
  pointwise [k0_pay16]

/-- The gated rows. -/
theorem pay17_at (x : Vec Ideal S1x512x1024 .f32) (w : Vec Ideal S1024x1664 .bf16) (b : Vec Ideal S1x1664 .f32) (r : Fin 512) (j : Fin 512) :
    k0_pay17 x w b (ix2 r j) = k0_pay16 x w b (ix2 r ⟨j.val, by omega⟩) * Ideal.logistic (k0_pay16 x w b (ix2 r ⟨512 + j.val, by omega⟩)) := by
  unfold k0_pay17
  generalize k0_pay16 x w b = H
  pointwise [Ideal.logistic]

/-- The latent query rows, normalised. -/
theorem pay24_at (H : FVec Ideal S512x1664 .f32) (g : Vec Ideal S1x256 .f32) (r : Fin 512) (i : Fin 256) :
    k0_pay24 H g (ix2 r i) = rms (Ideal.ofBits .f32 0x43800000#32) (fun i => H (ix2 r ⟨1024 + i.val, by omega⟩)) (fun i => g (ix2 0 i)) i := by
  pointwise [k0_pay24, rms]

/-- The latent key rows, normalised. -/
theorem pay39_at (H : FVec Ideal S512x1664 .f32) (g : Vec Ideal S1x128 .f32) (r : Fin 512) (i : Fin 128) :
    k0_pay39 H g (ix2 r i) = rms (Ideal.ofBits .f32 0x43000000#32) (fun i => H (ix2 r ⟨1280 + i.val, by omega⟩)) (fun i => g (ix2 0 i)) i := by
  pointwise [k0_pay39, rms]

/-- The queries before the rotation. -/
theorem pay25_at (H : FVec Ideal S512x1664 .f32) (g : Vec Ideal S1x256 .f32) (w : Vec Ideal S256x1024 .bf16) (r : Fin 512) (j : Fin 1024) :
    k0_pay25 H g w (ix2 r j) = ∑ i : Fin 256, k0_pay24 H g (ix2 r i) * w (ix2 i j) := by
  unfold k0_pay25
  generalize k0_pay24 H g = z
  pointwise
/-- The queries' other half of the rotation. -/
theorem pay26_at (H : FVec Ideal S512x1664 .f32) (g : Vec Ideal S1x256 .f32) (w : Vec Ideal S256x1024 .bf16) (r : Fin 512) (j : Fin 1024) :
    k0_pay26 H g w (ix2 r j) = ∑ i : Fin 256, k0_pay24 H g (ix2 r i) * w (ix2 i j) := by
  unfold k0_pay26
  generalize k0_pay24 H g = z
  pointwise
/-- The keys before the rotated part is added. -/
theorem pay40_at (H : FVec Ideal S512x1664 .f32) (g : Vec Ideal S1x128 .f32) (w : Vec Ideal S128x1024 .bf16) (r : Fin 512) (j : Fin 1024) :
    k0_pay40 H g w (ix2 r j) = ∑ i : Fin 128, k0_pay39 H g (ix2 r i) * w (ix2 i j) := by
  unfold k0_pay40
  generalize k0_pay39 H g = z
  pointwise
/-- The values. -/
theorem pay3_at (z : FVec Ideal S512x128 .bf16) (w : Vec Ideal S128x512 .bf16) (r : Fin 512) (j : Fin 512) :
    k0_pay3 z w (ix3 0 r j) = ∑ i : Fin 128, z (ix2 r i) * w (ix2 i j) := by
  pointwise [k0_pay3]

/-- The angles' cosines and sines. -/
theorem pay22_at (p : Vec Ideal S1x512x1 .i32) (f : Vec Ideal S1x128 .f32) (r : Fin 512) (d : Fin 128) :
    k0_pay22 (k0_pay20 p) f (ix2 r d) = Ideal.cos (FloatOps.sitofp (F := Ideal) .f32 (p (ix3 0 r 0)) * f (ix2 0 d)) := by
  pointwise [k0_pay22, k0_pay21, k0_pay20]
/-- The sines at a row, for the keys. -/
theorem pay23_at (p : Vec Ideal S1x512x1 .i32) (f : Vec Ideal S1x128 .f32) (r : Fin 512) (d : Fin 128) :
    k0_pay23 (k0_pay20 p) f (ix2 r d) = Ideal.sin (FloatOps.sitofp (F := Ideal) .f32 (p (ix3 0 r 0)) * f (ix2 0 d)) := by
  pointwise [k0_pay23, k0_pay21, k0_pay20]
/-- The scaled cosines at a row, for the queries. -/
theorem pay27_at (p : FVec Ideal S512x1 .f32) (f : Vec Ideal S1x128 .f32) (r : Fin 512) (d : Fin 128) :
    k0_pay27 p f (ix2 r d) = k0_pay22 p f (ix2 r d) * Ideal.ofBits .f32 0x3DD105EC#32 := by
  pointwise [k0_pay27]
/-- The scaled sines at a row, for the queries. -/
theorem pay28_at (p : FVec Ideal S512x1 .f32) (f : Vec Ideal S1x128 .f32) (r : Fin 512) (d : Fin 128) :
    k0_pay28 p f (ix2 r d) = k0_pay23 p f (ix2 r d) * Ideal.ofBits .f32 0x3DD105EC#32 := by
  pointwise [k0_pay28]

/-- Thirty-two convolved rows: from their windows and the taps, with the bias first. -/
theorem conv_at (u : Vec Ideal S64x512 .f32) (b : Vec Ideal S1x512 .f32) (w : ℕ → Vec Ideal S1x512 .f32) (i : Fin 32) (d : Fin 512)
    (f : ℕ → EReal) (hu : ∀ p (hp : p < 64), u (ix2 ⟨p, hp⟩ d) = f p) :
    k0_pay11 u
      (k0_pay9 u (k0_pay7 u (k0_pay4 u b (w 0) (w 1) (w 2) (w 3) (w 4) (w 5)) (k0_pay5 u) (k0_pay6 (w 6)) (w 7) (w 8) (w 9) (w 10) (w 11) (w 12) (w 13) (w 14))
        (k0_pay8 u) (w 15) (w 16) (w 17) (w 18) (w 19) (w 20) (w 21) (w 22))
      (k0_pay10 u (w 23)) (w 24) (w 25) (w 26) (w 27) (w 28) (w 29) (w 30) (ix2 i d)
      = chain (b (ix2 0 d)) (fun j => f (2 + j + i.val) * w j (ix2 0 d)) 31 := by
  pointwise [k0_pay4, k0_pay5, k0_pay6, k0_pay7, k0_pay8, k0_pay9, k0_pay10, k0_pay11]
  simp only [hu, chain, Nat.reduceAdd]

/-- The stored rows: the convolved ones, normalised and gated by themselves. -/
theorem pay18_at (y : FVec Ideal S32x512 .f32) (a b : FVec Ideal S1x512 .f32) (z : FVec Ideal S32 .f32) (hz : ∀ i, z (ix1 i) = ∑ k, y (ix2 i k)) (i : Fin 32) (d : Fin 512) :
    k0_pay18 y a b z (ix3 0 i d) = silu (normed (fun k => y (ix2 i k)) (fun k => a (ix2 0 k)) (fun k => b (ix2 0 k)) d) := by
  pointwise [k0_pay18, silu, normed, centred, Ideal.logistic, hz]
end Cert.InputBlock
end
-- ==== Proof.InputRef.lean ====
module
public import proofs.«01_k».proof.Proof.Gen.InputRefIdeal.Run
public import proofs.«01_k».proof.Proof.InputRow
@[expose] public section
/-! Layer 0's input step as the reference writes it, read at one result. -/
set_option maxRecDepth 16384
noncomputable section
namespace Cert.InputRef
open Cert.InputRow Cert.InputRefIdeal Cert.InputRefIdeal.Gen Cert.InputRefIdeal.Value Idealize.ShloMosaic Idealize.ShloMosaic.TcCoe Idealize.SL.Sem Idealize.ShloMosaic.StableHlo

/-- One entry of the projection: a row against a column, and the column's shift. -/
def entry (x : FVec Ideal S8x4096x1024 .f32) (w : FVec Ideal S1024x1440 .f32) (b : FVec Ideal S1440 .f32) (n : Fin 8) (s : Fin 4096) (j : Fin 1440) : EReal :=
  ∑ k : Fin 1024, x (ix3 n s k) * w (ix2 k j) + b (ix1 j)

variable (V : Valuation τ sig (Elt Ideal))

/-- The arguments. -/
abbrev X : FVec Ideal S8x4096x1024 .f32 := V (Proc.devRef .tc main_arg0)
/-- The positions. -/
abbrev Pos : IVec S8x4096 32 := V (Proc.devRef .tc main_arg1)
/-- The input projection. -/
abbrev W : FVec Ideal S1024x1440 .f32 := V (Proc.devRef .tc main_arg2)
/-- Its shift. -/
abbrev B : FVec Ideal S1440 .f32 := V (Proc.devRef .tc main_arg3)
/-- The convolution's taps. -/
abbrev Cw : FVec Ideal S31x512 .f32 := V (Proc.devRef .tc main_arg4)
/-- The convolution's shift. -/
abbrev Cb : FVec Ideal S512 .f32 := V (Proc.devRef .tc main_arg5)
/-- The convolved rows' gain. -/
abbrev Lg : FVec Ideal S512 .f32 := V (Proc.devRef .tc main_arg6)
/-- The convolved rows' shift. -/
abbrev Lb : FVec Ideal S512 .f32 := V (Proc.devRef .tc main_arg7)
/-- The queries' gain. -/
abbrev Qg : FVec Ideal S256 .f32 := V (Proc.devRef .tc main_arg8)
/-- The queries' weights. -/
abbrev Uq : FVec Ideal S256x768 .f32 := V (Proc.devRef .tc main_arg9)
/-- The keys' gain. -/
abbrev Kg : FVec Ideal S128 .f32 := V (Proc.devRef .tc main_arg10)
/-- The keys' and values' weights. -/
abbrev Ukv : FVec Ideal S128x1024 .f32 := V (Proc.devRef .tc main_arg11)

/-- The projected rows. -/
theorem h_at (n : Fin 8) (s : Fin 4096) (j : Fin 1440) : res_main_v24 V (ix3 n s j) = entry (X V) (W V) (B V) n s j := by
  pointwise [res_main_v24, entry]

/-- The angle at a row and a place of the rotation. -/
def ang (n : Fin 8) (s : Fin 4096) (i : ℕ) : EReal := FloatOps.sitofp (F := Ideal) .f32 (Pos V (ix2 n s)) * rate i

/-- The angles: a position times a rate. -/
theorem angle_at (n : Fin 8) (s : Fin 4096) (i : Fin 16) : res_main_v16 V (ix3 n s i) = ang V n s i.val := by
  pointwise [res_main_v16, ang, rate]
/-- Their cosines. -/
theorem cos_at (n : Fin 8) (s : Fin 4096) (i : Fin 16) : res_main_v18 V (ix4 n s 0 i) = Ideal.cos (res_main_v16 V (ix3 n s i)) := by
  pointwise [res_main_v18]
/-- Their sines. -/
theorem sin_at (n : Fin 8) (s : Fin 4096) (i : Fin 16) : res_main_v20 V (ix4 n s 0 i) = Ideal.sin (res_main_v16 V (ix3 n s i)) := by
  pointwise [res_main_v20]

/-- The latent query row, normalised. -/
def lat (n : Fin 8) (s : Fin 4096) : Fin 256 → EReal :=
  rms (Ideal.ofBits .f32 0x43800000#32) (fun i => entry (X V) (W V) (B V) n s ⟨1024 + i.val, by omega⟩) fun i => Qg V (ix1 i)
/-- The latent key row, normalised. -/
def latk (n : Fin 8) (s : Fin 4096) : Fin 128 → EReal :=
  rms (Ideal.ofBits .f32 0x43000000#32) (fun i => entry (X V) (W V) (B V) n s ⟨1280 + i.val, by omega⟩) fun i => Kg V (ix1 i)

/-- The columns the queries come from. -/
theorem v281_at (n : Fin 8) (s : Fin 4096) (i : Fin 256) : res_main_v281 V (ix3 n s i) = entry (X V) (W V) (B V) n s ⟨1024 + i.val, by omega⟩ := by
  rw [← h_at]; pointwise [res_main_v281]
/-- The columns the keys and values come from. -/
theorem v313_at (n : Fin 8) (s : Fin 4096) (i : Fin 128) : res_main_v313 V (ix3 n s i) = entry (X V) (W V) (B V) n s ⟨1280 + i.val, by omega⟩ := by
  rw [← h_at]; pointwise [res_main_v313]
/-- The queries before the rotation. -/
theorem q_at (n : Fin 8) (s : Fin 4096) (h : Fin 8) (d : Fin 96) :
    res_main_v296 V (ix4 n s h d) = ∑ i, lat V n s i * Uq V (ix2 i ⟨h.val * 96 + d.val, by omega⟩) := by
  simp only [lat, rms, ← v281_at]
  pointwise [res_main_v296]
/-- The keys and values, joined. -/
theorem kv_at (n : Fin 8) (s : Fin 4096) (h : Fin 8) (d : Fin 128) :
    res_main_v328 V (ix4 n s h d) = ∑ i, latk V n s i * Ukv V (ix2 i ⟨h.val * 128 + d.val, by omega⟩) := by
  simp only [latk, rms, ← v313_at]
  pointwise [res_main_v328]
/-- The first half of a query's rotated numbers. -/
theorem q1_at (n : Fin 8) (s : Fin 4096) (h : Fin 8) (i : Fin 16) : res_main_v299 V (ix4 n s h i) = res_main_v296 V (ix4 n s h ⟨64 + i.val, by omega⟩) := by
  pointwise [res_main_v299, res_main_v298]
/-- The second half of a query's rotated numbers. -/
theorem q2_at (n : Fin 8) (s : Fin 4096) (h : Fin 8) (i : Fin 16) : res_main_v300 V (ix4 n s h i) = res_main_v296 V (ix4 n s h ⟨80 + i.val, by omega⟩) := by
  pointwise [res_main_v300, res_main_v298]
  simp only [← Nat.add_assoc]
/-- The first half of the shared key. -/
theorem k1_at (n : Fin 8) (s : Fin 4096) (i : Fin 16) : res_main_v331 V (ix4 n s 0 i) = entry (X V) (W V) (B V) n s ⟨1408 + i.val, by omega⟩ := by
  rw [← h_at]; pointwise [res_main_v331, res_main_v330]
/-- The second half of the shared key. -/
theorem k2_at (n : Fin 8) (s : Fin 4096) (i : Fin 16) : res_main_v332 V (ix4 n s 0 i) = entry (X V) (W V) (B V) n s ⟨1424 + i.val, by omega⟩ := by
  rw [← h_at]; pointwise [res_main_v332, res_main_v330]
  simp only [← Nat.add_assoc]

/-- The gated rows. -/
def glu (n : Fin 8) (c : Fin 512) (s : Fin 4096) : EReal :=
  entry (X V) (W V) (B V) n s ⟨c.val, by omega⟩ * Ideal.logistic (entry (X V) (W V) (B V) n s ⟨512 + c.val, by omega⟩)

/-- The padding is zero. -/
theorem zero_word : FloatOps.sitofp (F := Ideal) .f32 0#32 = (0 : EReal) := by simp [FloatOps.sitofp]

/-- The gated rows, with thirty rows of zeros before them. -/
theorem late_at (n : Fin 8) (p : Fin 4126) (c : Fin 512) : res_main_v34 V (ix3 n p c) = late (glu V n c) p.val := by
  simp only [glu, late, ← h_at]
  pointwise [res_main_v34, Ideal.logistic]
  rw [zero_word]
  have e : (30 ≤ p.val ∧ p.val - 30 < 4096) ↔ 30 ≤ p.val := ⟨fun h => h.1, fun h => ⟨h, by omega⟩⟩
  by_cases h : 30 ≤ p.val
  · rw [dif_pos (e.2 h), dif_pos h]
  · rw [dif_neg (fun h' => h (e.1 h')), dif_neg h]

/-- One tap of the convolution. -/
def tap (n : Fin 8) (s : Fin 4096) (c : Fin 512) (j : ℕ) : EReal := late (glu V n c) (s.val + j) * Cw V (ix2 (Fin.ofNat 31 j) c)

/-- The first eleven taps. -/
theorem sum_a (n : Fin 8) (s : Fin 4096) (c : Fin 512) : res_main_v112 V (ix3 n s c) = chain 0 (tap V n s c) 11 := by
  have e (p : ℕ) (hp : p < 4126) : res_main_v34 V (ix3 n ⟨p, hp⟩ c) = late (glu V n c) p := late_at V n ⟨p, hp⟩ c
  pointwise [res_main_v112]
  simp only [e, chain, tap, Nat.add_comm s.val, zero_add]
  rfl
/-- The first twenty-two taps. -/
theorem sum_b (n : Fin 8) (s : Fin 4096) (c : Fin 512) : res_main_v189 V (ix3 n s c) = chain 0 (tap V n s c) 22 := by
  have e (p : ℕ) (hp : p < 4126) : res_main_v34 V (ix3 n ⟨p, hp⟩ c) = late (glu V n c) p := late_at V n ⟨p, hp⟩ c
  have h := sum_a V n s c
  pointwise [res_main_v189]
  simp only [h, e, chain, tap, Nat.add_comm s.val, zero_add]
  rfl
/-- The convolution, as one sum over its taps. -/
theorem conv_at (n : Fin 8) (s : Fin 4096) (c : Fin 512) :
    res_main_v255 V (ix3 n s c) = conv (glu V n c) (fun j => Cw V (ix2 j c)) (Cb V (ix1 c)) s := by
  have e (p : ℕ) (hp : p < 4126) : res_main_v34 V (ix3 n ⟨p, hp⟩ c) = late (glu V n c) p := late_at V n ⟨p, hp⟩ c
  have h := sum_b V n s c
  rw [conv, ← chain_bias]
  pointwise [res_main_v255]
  simp only [h, e, chain, tap, Nat.add_comm s.val, zero_add]
  rfl

/-- The convolved rows' mean. -/
theorem mean_at (n : Fin 8) (s : Fin 4096) : res_main_v259 V (ix3 n s 0) = Ideal.div (∑ k, res_main_v255 V (ix3 n s k)) (Ideal.ofBits .f32 0x44000000#32) := by
  pointwise [res_main_v259]
/-- The convolved rows less their mean. -/
theorem centre_at (n : Fin 8) (s : Fin 4096) (c : Fin 512) : res_main_v261 V (ix3 n s c) = centred (fun k => res_main_v255 V (ix3 n s k)) c := by
  simp only [centred, ← mean_at]
  pointwise [res_main_v261]
/-- The convolved rows, normalised. -/
theorem norm_at (n : Fin 8) (s : Fin 4096) (c : Fin 512) :
    res_main_v279 V (ix3 n s c) = normed (fun k => res_main_v255 V (ix3 n s k)) (fun k => Lg V (ix1 k)) (fun k => Lb V (ix1 k)) c := by
  simp only [normed, ← centre_at]
  pointwise [res_main_v279, res_main_v261]

/-- The reference's first result: the convolved rows. -/
def conved : FVec Ideal S8x4096x512 .bf16 := truncf .bf16 (mulf (res_main_v279 V) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (res_main_v279 V)))))) bitsLt_bf16_f32

/-- The convolved branch, entry by entry. -/
theorem conved_at (n : Fin 8) (s : Fin 4096) (c : Fin 512) :
    conved V (ix3 n s c) = silu (normed (fun k => conv (glu V n k) (fun j => Cw V (ix2 j k)) (Cb V (ix1 k)) s) (fun k => Lg V (ix1 k)) (fun k => Lb V (ix1 k)) c) := by
  simp only [← conv_at]
  rw [← norm_at]
  pointwise [conved, silu, Ideal.logistic]

/-- Its second: the queries. -/
def queries : FVec Ideal S8x4096x1024 .bf16 :=
  truncf .bf16 (shapeCast _ (pad S8x4096x8x128 ![0, 0, 0, 0] ![0, 0, 0, 32] ![0, 0, 0, 0] (mulf (concatenate S8x4096x8x96 3 [⟨S8x4096x8x64, (extractStridedSlice S8x4096x8x64 ![0, 0, 0, 0] (res_main_v296 V) slices_S8x4096x8x96_S8x4096x8x64_0_0_0_0)⟩, ⟨S8x4096x8x32, (concatenate S8x4096x8x32 3 [⟨S8x4096x8x16, (subf (mulf (res_main_v299 V) (broadcastInDim S8x4096x8x16 ![0, 1, 2, 3] bcast_S8x4096x1x16_S8x4096x8x16_0_1_2_3 (res_main_v18 V))) (mulf (res_main_v300 V) (broadcastInDim S8x4096x8x16 ![0, 1, 2, 3] bcast_S8x4096x1x16_S8x4096x8x16_0_1_2_3 (res_main_v20 V))))⟩, ⟨S8x4096x8x16, (addf (mulf (res_main_v300 V) (broadcastInDim S8x4096x8x16 ![0, 1, 2, 3] bcast_S8x4096x1x16_S8x4096x8x16_0_1_2_3 (res_main_v18 V))) (mulf (res_main_v299 V) (broadcastInDim S8x4096x8x16 ![0, 1, 2, 3] bcast_S8x4096x1x16_S8x4096x8x16_0_1_2_3 (res_main_v20 V))))⟩] concatenates_S8x4096x8x16_S8x4096x8x16_S8x4096x8x32_d3)⟩] concatenates_S8x4096x8x64_S8x4096x8x32_S8x4096x8x96_d3) (broadcastInDim S8x4096x8x96 ![] bcast_S_S8x4096x8x96 (constant S_ .f32 0x3DD105EC#32))) (sitofp .f32 (constantI S_ 32 0#32)) pads_S8x4096x8x96_S8x4096x8x128_000_000_000_0320 h_S_) shapeCasts_S8x4096x8x128_S8x4096x1024) bitsLt_bf16_f32

/-- Its third: the keys. -/
def keys : FVec Ideal S8x4096x1024 .bf16 :=
  truncf .bf16 (shapeCast _ (pad S8x4096x8x128 ![0, 0, 0, 0] ![0, 0, 0, 32] ![0, 0, 0, 0] (concatenate S8x4096x8x96 3 [⟨S8x4096x8x64, (extractStridedSlice S8x4096x8x64 ![0, 0, 0, 0] (res_main_v328 V) slices_S8x4096x8x128_S8x4096x8x64_0_0_0_0)⟩, ⟨S8x4096x8x32, (broadcastInDim S8x4096x8x32 ![0, 1, 2, 3] bcast_S8x4096x1x32_S8x4096x8x32_0_1_2_3 (concatenate S8x4096x1x32 3 [⟨S8x4096x1x16, (subf (mulf (res_main_v331 V) (res_main_v18 V)) (mulf (res_main_v332 V) (res_main_v20 V)))⟩, ⟨S8x4096x1x16, (addf (mulf (res_main_v332 V) (res_main_v18 V)) (mulf (res_main_v331 V) (res_main_v20 V)))⟩] concatenates_S8x4096x1x16_S8x4096x1x16_S8x4096x1x32_d3))⟩] concatenates_S8x4096x8x64_S8x4096x8x32_S8x4096x8x96_d3) (sitofp .f32 (constantI S_ 32 0#32)) pads_S8x4096x8x96_S8x4096x8x128_000_000_000_0320 h_S_) shapeCasts_S8x4096x8x128_S8x4096x1024) bitsLt_bf16_f32

/-- Its fourth: the values. -/
def values : FVec Ideal S8x4096x512 .bf16 :=
  truncf .bf16 (shapeCast _ (extractStridedSlice S8x4096x8x64 ![0, 0, 0, 64] (res_main_v328 V) slices_S8x4096x8x128_S8x4096x8x64_0_0_0_64) shapeCasts_S8x4096x8x64_S8x4096x512) bitsLt_bf16_f32

/-- The values, entry by entry. -/
theorem values_at (n : Fin 8) (s : Fin 4096) (h : Fin 8) (d : Fin 64) :
    values V (ix3 n s ⟨h.val * 64 + d.val, by omega⟩) = ∑ i, latk V n s i * Ukv V (ix2 i ⟨h.val * 128 + (64 + d.val), by omega⟩) := by
  refine Eq.trans ?_ (kv_at V n s h ⟨64 + d.val, by omega⟩)
  pointwise [values]

/-- One head's query. -/
def query (n : Fin 8) (s : Fin 4096) (h : Fin 8) (d : Fin 96) : EReal := ∑ i, lat V n s i * Uq V (ix2 i ⟨h.val * 96 + d.val, by omega⟩)

/-- The queries, entry by entry. -/
theorem queries_at (n : Fin 8) (s : Fin 4096) (h : Fin 8) (d : Fin 128) :
    queries V (ix3 n s ⟨h.val * 128 + d.val, by omega⟩) = turned (query V n s h) (ang V n s) d * Ideal.ofBits .f32 0x3DD105EC#32 := by
  have e (d : Fin 96) : res_main_v296 V (ix4 n s h d) = query V n s h d := q_at V n s h d
  pointwise [queries]
  simp only [q1_at, q2_at, cos_at, sin_at, angle_at, e, zero_word]
  unfold turned
  split
  · rfl
  · exact (zero_mul _).symm

/-- One head's key: its own 64 numbers, then the 32 shared by all heads. -/
def key (n : Fin 8) (s : Fin 4096) (h : Fin 8) (d : Fin 96) : EReal :=
  if d.val < 64 then ∑ i, latk V n s i * Ukv V (ix2 i ⟨h.val * 128 + d.val, by omega⟩)
  else entry (X V) (W V) (B V) n s ⟨1344 + d.val, by omega⟩

/-- The keys, entry by entry. -/
theorem keys_at (n : Fin 8) (s : Fin 4096) (h : Fin 8) (d : Fin 128) :
    keys V (ix3 n s ⟨h.val * 128 + d.val, by omega⟩) = turned (key V n s h) (ang V n s) d := by
  pointwise [keys]
  have n64 (x : ℕ) : ¬64 + x < 64 := by omega
  have n80 (x : ℕ) : ¬80 + x < 64 := by omega
  simp only [k1_at, k2_at, cos_at, sin_at, angle_at, kv_at, zero_word, turned, key, n64, n80, if_false, ← Nat.add_assoc, Nat.reduceAdd]
  split
  · split
    · rfl
    · rfl
  · rfl
end Cert.InputRef
end
-- ==== Proof.InputArray.lean ====
module
public import proofs.«01_k».proof.Proof.InputBlock
public import proofs.«01_k».proof.Proof.InputRef
public import Idealize.ShloMosaic.Lib.Claim
@[expose] public section
/-! What each grid point of layer 0's input step reads, in entries of the argument arrays, and its four result arrays from
    the blocks the points store. -/
set_option maxRecDepth 16384
noncomputable section
namespace Cert.InputArray
open Cert.InputIdeal Cert.InputIdeal.Gen Idealize.ShloMosaic Idealize.ShloMosaic.TcCoe Idealize.SL.Sem
open Idealize.ShloMosaic.Pipeline (Dat)
open Cert.InputRow Cert.InputBlock
variable (m : (ℓ : Loc nD τ sig) → Buf (Elt Ideal) ℓ) (c : Dev nD) (t : Fin cfg0.N)

/-- Where each window's block lies, at every grid point. -/
theorem place : ∀ t : Fin cfg0.N,
    win0_0.index t = ![t.val / 8, t.val % 8, 0] ∧ win0_1.index t = ![t.val / 8, t.val % 8, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ win0_14.index t = ![0, 0]
    ∧ win0_15.index t = ![t.val / 8, t.val % 8, 0] ∧ win0_16.index t = ![t.val / 8, t.val % 8, 0] ∧ win0_17.index t = ![t.val / 8, t.val % 8, 0]
    ∧ win0_18.index t = ![t.val / 8, t.val % 8, 0] :=
  (by decide +kernel : ∀ t : Fin grid0.N, _)

/-- There are 64 points, eight to a sequence. -/
theorem points : t.val < 64 := lt_of_lt_of_eq t.isLt N_0

/-- The point's sequence. -/
def seq : Fin 8 := ⟨t.val / 8, by have := points t; omega⟩
/-- Row `r` of the point's tile, in its sequence. -/
def row (r : Fin 512) : Fin 4096 := ⟨512 * (t.val % 8) + r.val, by omega⟩

/-- The arguments. -/
abbrev X : FVec Ideal S8x4096x1024 .f32 := m ((c : Thread nD τ).loc main_arg0)
/-- The positions. -/
abbrev Pos : IVec S8x4096 32 := m ((c : Thread nD τ).loc main_arg1)
/-- The input projection. -/
abbrev W : FVec Ideal S1024x1440 .f32 := m ((c : Thread nD τ).loc main_arg2)
/-- Its shift. -/
abbrev B : FVec Ideal S1440 .f32 := m ((c : Thread nD τ).loc main_arg3)
/-- The convolution's taps. -/
abbrev Cw : FVec Ideal S31x512 .f32 := m ((c : Thread nD τ).loc main_arg4)
/-- The convolution's shift. -/
abbrev Cb : FVec Ideal S512 .f32 := m ((c : Thread nD τ).loc main_arg5)
/-- The convolved rows' gain. -/
abbrev Lg : FVec Ideal S512 .f32 := m ((c : Thread nD τ).loc main_arg6)
/-- The convolved rows' shift. -/
abbrev Lb : FVec Ideal S512 .f32 := m ((c : Thread nD τ).loc main_arg7)
/-- The queries' gain. -/
abbrev Qg : FVec Ideal S256 .f32 := m ((c : Thread nD τ).loc main_arg8)
/-- The queries' weights. -/
abbrev Uq : FVec Ideal S256x768 .f32 := m ((c : Thread nD τ).loc main_arg9)
/-- The keys' gain. -/
abbrev Kg : FVec Ideal S128 .f32 := m ((c : Thread nD τ).loc main_arg10)
/-- The keys' and values' weights. -/
abbrev Ukv : FVec Ideal S128x1024 .f32 := m ((c : Thread nD τ).loc main_arg11)

/-- The point's rows. -/
theorem read_rows (r : Fin 512) (k : Fin 1024) : iblk m c 0 t (ix3 0 r k) = X m c (ix3 (seq t) (row t r) k) := by
  unfold row seq; blk_ext [iblk, V, place t]
/-- Their positions. -/
theorem read_positions (r : Fin 512) : iblk m c 1 t (ix3 0 r 0) = Pos m c (ix2 (seq t) (row t r)) := by
  unfold iblk row seq; entry_read; blk_simp; pointwise
  blk_ext [place t]
/-- The taps. -/
theorem read_taps (j : Fin 31) (d : Fin 512) : iblk m c 4 t (ix2 j d) = Cw m c (ix2 j d) := by
  blk_ext [iblk, V, place t]
/-- The convolution's shift, as a point reads it. -/
theorem read_bias (d : Fin 512) : iblk m c 5 t (ix2 0 d) = Cb m c (ix1 d) := by
  unfold iblk; entry_read; blk_simp; pointwise
  blk_ext [place t]
/-- The convolved rows' gain, as a point reads it. -/
theorem read_gain (d : Fin 512) : iblk m c 6 t (ix2 0 d) = Lg m c (ix1 d) := by
  unfold iblk; entry_read; blk_simp; pointwise
  blk_ext [place t]
/-- The convolved rows' shift, as a point reads it. -/
theorem read_shift (d : Fin 512) : iblk m c 7 t (ix2 0 d) = Lb m c (ix1 d) := by
  unfold iblk; entry_read; blk_simp; pointwise
  blk_ext [place t]
/-- The queries' gain, as a point reads it. -/
theorem read_qgain (d : Fin 256) : iblk m c 8 t (ix2 0 d) = Qg m c (ix1 d) := by
  unfold iblk; entry_read; blk_simp; pointwise
  blk_ext [place t]
/-- The keys' gain, as a point reads it. -/
theorem read_kgain (d : Fin 128) : iblk m c 11 t (ix2 0 d) = Kg m c (ix1 d) := by
  unfold iblk; entry_read; blk_simp; pointwise
  blk_ext [place t]

/-- The laid-out projection, as a point reads it. -/
theorem read_w (k : Fin 1024) (j : Fin 1664) : iblk m c 2 t (ix2 k j) = V m c main_v9 (ix2 k j) := by blk_ext [iblk, place t]
/-- Its laid-out shift, as a point reads it. -/
theorem read_b (j : Fin 1664) : iblk m c 3 t (ix2 0 j) = V m c main_v19 (ix2 0 j) := by blk_ext [iblk, place t]
/-- The queries' laid-out weights, as a point reads them. -/
theorem read_wq (k : Fin 256) (j : Fin 1024) : iblk m c 9 t (ix2 k j) = V m c main_v59 (ix2 k j) := by blk_ext [iblk, place t]
/-- The queries' turned weights, as a point reads them. -/
theorem read_wqr (k : Fin 256) (j : Fin 1024) : iblk m c 10 t (ix2 k j) = V m c main_v60 (ix2 k j) := by blk_ext [iblk, place t]
/-- The keys' laid-out weights, as a point reads them. -/
theorem read_wk (k : Fin 128) (j : Fin 1024) : iblk m c 12 t (ix2 k j) = V m c main_v62 (ix2 k j) := by blk_ext [iblk, place t]
/-- The values' weights, as a point reads them. -/
theorem read_wv (k : Fin 128) (j : Fin 512) : iblk m c 13 t (ix2 k j) = V m c main_v63 (ix2 k j) := by blk_ext [iblk, place t]
/-- The laid-out rates, as a point reads them. -/
theorem read_rates (j : Fin 128) : iblk m c 14 t (ix2 0 j) = V m c main_v53 (ix2 0 j) := by blk_ext [iblk, place t]

end Cert.InputArray
end
-- ==== Proof.InputOperand.lean ====
module
public import proofs.«01_k».proof.Proof.InputRow
public import proofs.«01_k».proof.Proof.Gen.InputIdeal.Value
public import Idealize.ShloMosaic.Lib.Pipeline.ValueKit
public import Idealize.ShloMosaic.Lib.Pointwise
@[expose] public section
/-! The weights as layer 0's input step is given them: the columns of the rotation laid out a second time, turned, and
    zeros between, so that every head fills 128 columns. -/
set_option maxRecDepth 16384
noncomputable section
namespace Cert.InputOperand
open Cert.InputRow Cert.InputIdeal Cert.InputIdeal.Gen Idealize.ShloMosaic Idealize.ShloMosaic.TcCoe Idealize.ShloMosaic.StableHlo

/-- The projection's columns: 1408 as they are, then the last 32 as they are and, 128 columns on, turned. -/
def wide (w : FVec Ideal S1024x1440 .f32) : FVec Ideal S1024x1664 .bf16 :=
  truncf .bf16 (concatenate S1024x1664 1 [⟨S1024x1408, extractStridedSlice S1024x1408 ![0, 0] w slices_S1024x1440_S1024x1408_0_0⟩,
    ⟨S1024x64, broadcastInDim S1024x64 ![] bcast_S_S1024x64 (constant S_ .f32 0x00000000#32)⟩,
    ⟨S1024x32, extractStridedSlice S1024x32 ![0, 1408] w slices_S1024x1440_S1024x32_0_1408⟩,
    ⟨S1024x32, broadcastInDim S1024x32 ![] bcast_S_S1024x32 (constant S_ .f32 0x00000000#32)⟩,
    ⟨S1024x64, broadcastInDim S1024x64 ![] bcast_S_S1024x64 (constant S_ .f32 0x00000000#32)⟩,
    ⟨S1024x32, concatenate S1024x32 1 [⟨S1024x16, Host.negf (extractStridedSlice S1024x16 ![0, 16] (extractStridedSlice S1024x32 ![0, 1408] w slices_S1024x1440_S1024x32_0_1408) slices_S1024x32_S1024x16_0_16)⟩,
    ⟨S1024x16, extractStridedSlice S1024x16 ![0, 0] (extractStridedSlice S1024x32 ![0, 1408] w slices_S1024x1440_S1024x32_0_1408) slices_S1024x32_S1024x16_0_0⟩] concatenates_S1024x16_S1024x16_S1024x32_d1⟩,
    ⟨S1024x32, broadcastInDim S1024x32 ![] bcast_S_S1024x32 (constant S_ .f32 0x00000000#32)⟩] concatenates_S1024x1408_S1024x64_S1024x32_S1024x32_S1024x64_S1024x32_S1024x32_S1024x1664_d1) bitsLt_bf16_f32

/-- The projection's shift, laid out in the same way. -/
def shifts (b : FVec Ideal S1440 .f32) : FVec Ideal S1x1664 .f32 :=
  broadcastInDim S1x1664 ![1] bcast_S1664_S1x1664_1 (concatenate S1664 0 [⟨S1408, extractStridedSlice S1408 ![0] b slices_S1440_S1408_0⟩,
    ⟨S64, broadcastInDim S64 ![] bcast_S_S64 (constant S_ .f32 0x00000000#32)⟩,
    ⟨S32, extractStridedSlice S32 ![1408] b slices_S1440_S32_1408⟩,
    ⟨S32, broadcastInDim S32 ![] bcast_S_S32 (constant S_ .f32 0x00000000#32)⟩,
    ⟨S64, broadcastInDim S64 ![] bcast_S_S64 (constant S_ .f32 0x00000000#32)⟩,
    ⟨S32, concatenate S32 0 [⟨S16, Host.negf (extractStridedSlice S16 ![16] (extractStridedSlice S32 ![1408] b slices_S1440_S32_1408) slices_S32_S16_16)⟩,
    ⟨S16, extractStridedSlice S16 ![0] (extractStridedSlice S32 ![1408] b slices_S1440_S32_1408) slices_S32_S16_0⟩] concatenates_S16_S16_S32_d0⟩,
    ⟨S32, broadcastInDim S32 ![] bcast_S_S32 (constant S_ .f32 0x00000000#32)⟩] concatenates_S1408_S64_S32_S32_S64_S32_S32_S1664_d0)

/-- The query weights' columns of the rotation, turned, head by head. -/
def crossed (w : FVec Ideal S256x768 .f32) : FVec Ideal S256x1024 .bf16 :=
  truncf .bf16 (shapeCast S256x1024 (concatenate S256x8x128 2 [⟨S256x8x64, broadcastInDim S256x8x64 ![] bcast_S_S256x8x64 (constant S_ .f32 0x00000000#32)⟩,
    ⟨S256x8x32, concatenate S256x8x32 2 [⟨S256x8x16, Host.negf (extractStridedSlice S256x8x16 ![0, 0, 16] (extractStridedSlice S256x8x32 ![0, 0, 64] (shapeCast S256x8x96 w shapeCasts_S256x768_S256x8x96) slices_S256x8x96_S256x8x32_0_0_64) slices_S256x8x32_S256x8x16_0_0_16)⟩,
    ⟨S256x8x16, extractStridedSlice S256x8x16 ![0, 0, 0] (extractStridedSlice S256x8x32 ![0, 0, 64] (shapeCast S256x8x96 w shapeCasts_S256x768_S256x8x96) slices_S256x8x96_S256x8x32_0_0_64) slices_S256x8x32_S256x8x16_0_0_0⟩] concatenates_S256x8x16_S256x8x16_S256x8x32_d2⟩,
    ⟨S256x8x32, broadcastInDim S256x8x32 ![] bcast_S_S256x8x32 (constant S_ .f32 0x00000000#32)⟩] concatenates_S256x8x64_S256x8x32_S256x8x32_S256x8x128_d2) shapeCasts_S256x8x128_S256x1024) bitsLt_bf16_f32

/-- The rates, twice over, with zeros for the dimensions that do not turn. -/
def rates : FVec Ideal S1x128 .f32 :=
  broadcastInDim S1x128 ![1] bcast_S128_S1x128_1 (concatenate S128 0 [⟨S64, broadcastInDim S64 ![] bcast_S_S64 (constant S_ .f32 0x00000000#32)⟩,
    ⟨S16, Host.divf (broadcastInDim S16 ![] bcast_S_S16 (constant S_ .f32 0x3F800000#32)) (Host.powf (broadcastInDim S16 ![] bcast_S_S16 (constant S_ .f32 0x461C4000#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32))))⟩,
    ⟨S16, Host.divf (broadcastInDim S16 ![] bcast_S_S16 (constant S_ .f32 0x3F800000#32)) (Host.powf (broadcastInDim S16 ![] bcast_S_S16 (constant S_ .f32 0x461C4000#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32))))⟩,
    ⟨S32, broadcastInDim S32 ![] bcast_S_S32 (constant S_ .f32 0x00000000#32)⟩] concatenates_S64_S16_S16_S32_S128_d0)

/-- The columns kept as they are. -/
theorem wide_low (w : FVec Ideal S1024x1440 .f32) (k : Fin 1024) (j : Fin 1408) : wide w (ix2 k ⟨j.val, by omega⟩) = w (ix2 k ⟨j.val, by omega⟩) := by
  pointwise [wide]
/-- The columns of the rotation, zeros around them. -/
theorem wide_mid (w : FVec Ideal S1024x1440 .f32) (k : Fin 1024) (d : Fin 128) : wide w (ix2 k ⟨1408 + d.val, by omega⟩)
    = if h : 64 ≤ d.val ∧ d.val < 96 then w (ix2 k ⟨1344 + d.val, by omega⟩) else (0 : EReal) := by
  pointwise [wide]
  (repeat' split) <;> first | omega | rfl | (refine congrArg w (congrArg (ix2 k) (Fin.ext ?_)); dsimp only; omega)
/-- The same columns exchanged, zeros around them. -/
theorem wide_high (w : FVec Ideal S1024x1440 .f32) (k : Fin 1024) (d : Fin 128) : wide w (ix2 k ⟨1536 + d.val, by omega⟩)
    = if h : 64 ≤ d.val ∧ d.val < 80 then -w (ix2 k ⟨1360 + d.val, by omega⟩)
      else if h : 80 ≤ d.val ∧ d.val < 96 then w (ix2 k ⟨1328 + d.val, by omega⟩) else (0 : EReal) := by
  pointwise [wide]
  (repeat' split) <;> first | omega | rfl | (refine congrArg w (congrArg (ix2 k) (Fin.ext ?_)); dsimp only; omega) | (refine congrArg Neg.neg (congrArg w (congrArg (ix2 k) (Fin.ext ?_))); dsimp only; omega)

/-- The shift's entries kept as they are. -/
theorem shifts_low (b : FVec Ideal S1440 .f32) (j : Fin 1408) : shifts b (ix2 0 ⟨j.val, by omega⟩) = b (ix1 ⟨j.val, by omega⟩) := by
  pointwise [shifts]
/-- The shift's entries of the rotation, zeros around them. -/
theorem shifts_mid (b : FVec Ideal S1440 .f32) (d : Fin 128) : shifts b (ix2 0 ⟨1408 + d.val, by omega⟩)
    = if h : 64 ≤ d.val ∧ d.val < 96 then b (ix1 ⟨1344 + d.val, by omega⟩) else (0 : EReal) := by
  pointwise [shifts]
  (repeat' split) <;> first | omega | rfl | (refine congrArg b (congrArg ix1 (Fin.ext ?_)); dsimp only; omega)
/-- The same entries exchanged, zeros around them. -/
theorem shifts_high (b : FVec Ideal S1440 .f32) (d : Fin 128) : shifts b (ix2 0 ⟨1536 + d.val, by omega⟩)
    = if h : 64 ≤ d.val ∧ d.val < 80 then -b (ix1 ⟨1360 + d.val, by omega⟩)
      else if h : 80 ≤ d.val ∧ d.val < 96 then b (ix1 ⟨1328 + d.val, by omega⟩) else (0 : EReal) := by
  pointwise [shifts]
  (repeat' split) <;> first | omega | rfl | (refine congrArg b (congrArg ix1 (Fin.ext ?_)); dsimp only; omega) | (refine congrArg Neg.neg (congrArg b (congrArg ix1 (Fin.ext ?_))); dsimp only; omega)

/-- The entries of the queries' exchanged weights. -/
theorem crossed_at (w : FVec Ideal S256x768 .f32) (i : Fin 256) (h : Fin 8) (d : Fin 128) : crossed w (ix2 i ⟨h.val * 128 + d.val, by omega⟩)
    = if hd : 64 ≤ d.val ∧ d.val < 80 then -w (ix2 i ⟨h.val * 96 + (16 + d.val), by omega⟩)
      else if hd : 80 ≤ d.val ∧ d.val < 96 then w (ix2 i ⟨h.val * 96 + (d.val - 16), by omega⟩) else (0 : EReal) := by
  pointwise [crossed]
  (repeat' split) <;> first | omega | rfl | (refine congrArg w (congrArg (ix2 i) (Fin.ext ?_)); dsimp only; omega) | (refine congrArg Neg.neg (congrArg w (congrArg (ix2 i) (Fin.ext ?_))); dsimp only; omega)
/-- The entries of the laid-out rates. -/
theorem rates_at (d : Fin 128) : rates (ix2 0 d)
    = if hd : 64 ≤ d.val ∧ d.val < 80 then InputRow.rate (d.val - 64)
      else if hd : 80 ≤ d.val ∧ d.val < 96 then InputRow.rate (d.val - 80) else (0 : EReal) := by
  pointwise [rates, InputRow.rate]
  rw [Nat.sub_sub]
  (repeat' split) <;> first | omega | rfl

variable (m : (ℓ : Loc nD τ sig) → Buf (Elt Ideal) ℓ) (c : Dev nD)
set_option maxHeartbeats 4000000
/-- What the projection is before the call. -/
theorem entry_wide : V m c main_v9 = wide (m ((c : Thread nD τ).loc main_arg2)) := rfl
/-- What its shift is before the call. -/
theorem entry_shifts : V m c main_v19 = shifts (m ((c : Thread nD τ).loc main_arg3)) := rfl
/-- What the queries' exchanged weights are before the call. -/
theorem entry_crossed : V m c main_v60 = crossed (m ((c : Thread nD τ).loc main_arg9)) := rfl
/-- What the rates are before the call. -/
theorem entry_rates : V m c main_v53 = rates := rfl

/-- What the queries' weights are before the call. -/
theorem entry_query (i : Fin 256) (h : Fin 8) (d : Fin 128) : V m c main_v59 (ix2 i ⟨h.val * 128 + d.val, by omega⟩)
    = if hd : d.val < 96 then m ((c : Thread nD τ).loc main_arg9) (ix2 i ⟨h.val * 96 + d.val, by omega⟩) else (0 : EReal) := by
  entry_read
  pointwise
  (repeat' split) <;> first | omega | rfl | (refine congrArg (m ((c : Thread nD τ).loc main_arg9)) (congrArg (ix2 i) (Fin.ext ?_)); dsimp only; omega)
/-- What the keys' weights are before the call. -/
theorem entry_key (i : Fin 128) (h : Fin 8) (d : Fin 128) : V m c main_v62 (ix2 i ⟨h.val * 128 + d.val, by omega⟩)
    = if hd : d.val < 64 then m ((c : Thread nD τ).loc main_arg11) (ix2 i ⟨h.val * 128 + d.val, by omega⟩) else (0 : EReal) := by
  entry_read
  pointwise
  (repeat' split) <;> first | omega | rfl | (refine congrArg (m ((c : Thread nD τ).loc main_arg11)) (congrArg (ix2 i) (Fin.ext ?_)); dsimp only; omega)
/-- What the values' weights are before the call. -/
theorem entry_value (i : Fin 128) (h : Fin 8) (d : Fin 64) : V m c main_v63 (ix2 i ⟨h.val * 64 + d.val, by omega⟩)
    = m ((c : Thread nD τ).loc main_arg11) (ix2 i ⟨h.val * 128 + (64 + d.val), by omega⟩) := by
  entry_read
  pointwise
  refine congrArg (m ((c : Thread nD τ).loc main_arg11)) (congrArg (ix2 i) (Fin.ext ?_))
  dsimp only
  omega
end Cert.InputOperand
end
-- ==== Proof.InputMath.lean ====
module
public import proofs.«01_k».proof.Proof.InputRow
@[expose] public section
/-! The arithmetic behind layer 0's rotation: finite sums change sign term by term, a finite row's root mean square is
    finite, and the rotation may be taken from a second, already turned product. -/
noncomputable section
namespace Cert.InputMath
open Idealize.ShloMosaic Cert.InputRow

/-- An extended real that is a real number. -/
def Real_ (x : EReal) : Prop := ∃ a : ℝ, x = a

/-- Sums of real numbers are real. -/
theorem real_add {x y : EReal} (hx : Real_ x) (hy : Real_ y) : Real_ (x + y) := by
  obtain ⟨a, rfl⟩ := hx
  obtain ⟨b, rfl⟩ := hy
  exact ⟨a + b, (EReal.coe_add a b).symm⟩
/-- Products of real numbers are real. -/
theorem real_mul {x y : EReal} (hx : Real_ x) (hy : Real_ y) : Real_ (x * y) := by
  obtain ⟨a, rfl⟩ := hx
  obtain ⟨b, rfl⟩ := hy
  exact ⟨a * b, (EReal.coe_mul a b).symm⟩
/-- A sign passes through a sum of real numbers. -/
theorem neg_add_real {x y : EReal} (hx : Real_ x) (hy : Real_ y) : -(x + y) = -x + -y := by
  obtain ⟨a, rfl⟩ := hx
  obtain ⟨b, rfl⟩ := hy
  exact_mod_cast congrArg (fun r : ℝ => (r : EReal)) (neg_add a b)

/-- Finite sums of real numbers are real. -/
theorem real_sum {N : ℕ} (f : Fin N → EReal) (hf : ∀ k, Real_ (f k)) : Real_ (∑ k, f k) := by
  induction N with
  | zero => exact ⟨0, by simp⟩
  | succ N ih => rw [Fin.sum_univ_castSucc]; exact real_add (ih _ fun k => hf _) (hf _)

/-- A finite sum's negative is the sum of the negatives. -/
theorem sum_neg {N : ℕ} (f : Fin N → EReal) (hf : ∀ k, Real_ (f k)) : ∑ k, -f k = -∑ k, f k := by
  induction N with
  | zero => simp
  | succ N ih =>
    rw [Fin.sum_univ_castSucc, Fin.sum_univ_castSucc, ih (fun k => f k.castSucc) (fun k => hf _),
      neg_add_real (real_sum _ fun k => hf _) (hf _)]

/-- A product with negated weights is the product's negative. -/
theorem dot_neg {N : ℕ} (x w : Fin N → EReal) (hx : ∀ k, Real_ (x k)) (hw : ∀ k, Real_ (w k)) :
    ∑ k, x k * -w k = -∑ k, x k * w k := by
  rw [← sum_neg _ fun k => real_mul (hx k) (hw k)]
  exact Finset.sum_congr rfl fun k _ => mul_neg _ _

/-- The row's length, as a word. -/
theorem width_word : Ideal.ofBits .f32 0x43800000#32 = ((256 : ℝ) : EReal) := by
  simp [Ideal.ofBits, Ideal.ieee, -EReal.coe_mul]; norm_num
/-- The small number under the root is positive. -/
theorem small_word : ∃ a : ℝ, 0 < a ∧ Ideal.ofBits .f32 0x358637BD#32 = a := by
  exact ⟨8796093 * 2 ^ (-43 : ℤ), by positivity, by simp [Ideal.ofBits, Ideal.ieee, -EReal.coe_mul]⟩
/-- The queries' factor is positive. -/
theorem factor_word : ∃ a : ℝ, 0 < a ∧ Ideal.ofBits .f32 0x3DD105EC#32 = a := by
  exact ⟨13698540 * 2 ^ (-27 : ℤ), by positivity, by simp [Ideal.ofBits, Ideal.ieee, -EReal.coe_mul]⟩

/-- Rows of real numbers, normalised by their root mean square under a real gain, are real. -/
theorem real_rms (z g : Fin 256 → EReal) (hz : ∀ k, Real_ (z k)) (hg : ∀ k, Real_ (g k)) (i : Fin 256) :
    Real_ (rms (Ideal.ofBits .f32 0x43800000#32) z g i) := by
  unfold rms
  refine real_mul (real_mul (hz i) ?_) (hg i)
  have hs : ∃ a : ℝ, 0 ≤ a ∧ ∑ k, z k * z k = a := by
    choose f hf using hz
    obtain ⟨a, ha⟩ := real_sum (fun k => z k * z k) fun k => real_mul ⟨f k, hf k⟩ ⟨f k, hf k⟩
    refine ⟨a, ?_, ha⟩
    have : (0 : EReal) ≤ ∑ k, z k * z k := Finset.sum_nonneg fun k _ => by
      rw [hf, ← EReal.coe_mul]
      exact_mod_cast mul_self_nonneg (f k)
    rw [ha] at this
    exact_mod_cast this
  obtain ⟨a, ha, e⟩ := hs
  obtain ⟨b, hb, eb⟩ := small_word
  have hd : Ideal.div (a : EReal) ((256 : ℝ) : EReal) + (b : EReal) = ((a * 256⁻¹ + b : ℝ) : EReal) := by
    rw [Ideal.div, if_neg (by norm_num), EReal.coe_add, EReal.coe_mul, EReal.coe_inv]
  rw [e, width_word, eb, hd]
  have hp : 0 < a * 256⁻¹ + b := by positivity
  exact ⟨(Real.sqrt (a * 256⁻¹ + b))⁻¹, by
    change (if _ < (0 : ℝ) then _ else if _ = (0 : ℝ) then _ else _) = _
    rw [if_neg hp.not_gt, if_neg hp.ne']⟩

/-- The rate of each of a head's 128 dimensions: the rotation's, twice over, and zero where nothing turns. -/
def rateOf (d : Fin 128) : EReal :=
  if 64 ≤ d.val ∧ d.val < 80 then rate (d.val - 64) else if 80 ≤ d.val ∧ d.val < 96 then rate (d.val - 80) else 0

/-- A head's numbers as they are, and its turned ones. -/
def plain (a : Fin 96 → EReal) (d : Fin 128) : EReal := if h : d.val < 96 then a ⟨d.val, h⟩ else 0
/-- A head's numbers with the two halves of the rotation exchanged, the first of them negated. -/
def swapped (a : Fin 96 → EReal) (d : Fin 128) : EReal :=
  if h : 64 ≤ d.val ∧ d.val < 80 then -a ⟨16 + d.val, by omega⟩ else if h : 80 ≤ d.val ∧ d.val < 96 then a ⟨d.val - 16, by omega⟩ else 0

/-- The cosine of zero. -/
theorem cos_zero : Ideal.cos 0 = 1 := by
  change ((Real.cos 0 : ℝ) : EReal) = 1
  simp
/-- The sine of zero. -/
theorem sin_zero : Ideal.sin 0 = 0 := by
  change ((Real.sin 0 : ℝ) : EReal) = 0
  simp

/-- The rotation from the two products. -/
theorem turned_eq (a : Fin 96 → EReal) (p : EReal) (d : Fin 128) :
    plain a d * Ideal.cos (p * rateOf d) + swapped a d * Ideal.sin (p * rateOf d) = turned a (fun i => p * rate i) d := by
  have hd := d.isLt
  unfold plain swapped rateOf turned
  by_cases h1 : d.val < 64
  · rw [dif_pos (by omega : d.val < 96), dif_neg (by omega : ¬(64 ≤ d.val ∧ d.val < 80)), dif_neg (by omega : ¬(80 ≤ d.val ∧ d.val < 96)),
      if_neg (by omega : ¬(64 ≤ d.val ∧ d.val < 80)), if_neg (by omega : ¬(80 ≤ d.val ∧ d.val < 96)), dif_pos (by omega : d.val < 96), dif_pos h1,
      mul_zero, cos_zero, mul_one, zero_mul, add_zero]
  · by_cases h2 : d.val < 80
    · rw [dif_pos (by omega : d.val < 96), dif_pos (by omega : 64 ≤ d.val ∧ d.val < 80), if_pos (by omega : 64 ≤ d.val ∧ d.val < 80),
        dif_pos (by omega : d.val < 96), dif_neg h1, dif_pos (by omega : d.val - 64 < 16), neg_mul, sub_eq_add_neg]
      congr 3 <;> first | (refine congrArg a (Fin.ext ?_); dsimp only; omega) | (refine Fin.ext ?_; dsimp only; omega)
    · by_cases h3 : d.val < 96
      · rw [dif_pos h3, dif_neg (by omega : ¬(64 ≤ d.val ∧ d.val < 80)), dif_pos (by omega : 80 ≤ d.val ∧ d.val < 96),
          if_neg (by omega : ¬(64 ≤ d.val ∧ d.val < 80)), if_pos (by omega : 80 ≤ d.val ∧ d.val < 96), dif_pos h3, dif_neg h1,
          dif_neg (by omega : ¬(d.val - 64 < 16))]
        have e : d.val - 64 - 16 = d.val - 80 := by omega
        simp only [e]
        congr 3 <;> first | (refine congrArg a (Fin.ext ?_); dsimp only; omega) | (refine Fin.ext ?_; dsimp only; omega)
      · rw [dif_neg h3, dif_neg (by omega : ¬(64 ≤ d.val ∧ d.val < 80)), dif_neg (by omega : ¬(80 ≤ d.val ∧ d.val < 96)), dif_neg h3, zero_mul, zero_mul, add_zero]

/-- The queries' factor taken into the cosines and sines. -/
theorem scaled (A B C S : EReal) :
    A * (C * Ideal.ofBits .f32 0x3DD105EC#32) + B * (S * Ideal.ofBits .f32 0x3DD105EC#32) = (A * C + B * S) * Ideal.ofBits .f32 0x3DD105EC#32 := by
  obtain ⟨a, ha, e⟩ := factor_word
  rw [e, EReal.right_distrib_of_nonneg_of_ne_top (by exact_mod_cast ha.le) (EReal.coe_ne_top a), mul_assoc, mul_assoc]
end Cert.InputMath
end
-- ==== Proof.InputPoint.lean ====
module
public import proofs.«01_k».proof.Proof.InputArray
public import proofs.«01_k».proof.Proof.InputOperand
public import proofs.«01_k».proof.Proof.InputBlock
public import proofs.«01_k».proof.Proof.InputMath
public import proofs.«01_k».proof.Proof.InputRef
@[expose] public section
/-! What one grid point of layer 0's input step computes, in the reference's terms. -/
set_option maxRecDepth 16384
noncomputable section
namespace Cert.InputPoint
open Cert.InputRow Cert.InputIdeal Cert.InputIdeal.Gen Cert.InputArray Cert.InputMath Idealize.ShloMosaic Idealize.ShloMosaic.TcCoe Idealize.SL.Sem
variable (m : (ℓ : Loc nD τ sig) → Buf (Elt Ideal) ℓ) (c : Dev nD) (t : Fin cfg0.N)

/-- The reference's launch contents hold the same arguments. -/
structure Agrees (U : Valuation Cert.InputRefIdeal.τ Cert.InputRefIdeal.sig (Elt Ideal)) : Prop where
  x : InputRef.X U = X m c
  pos : InputRef.Pos U = Pos m c
  w : InputRef.W U = W m c
  b : InputRef.B U = B m c
  cw : InputRef.Cw U = Cw m c
  cb : InputRef.Cb U = Cb m c
  lg : InputRef.Lg U = Lg m c
  lb : InputRef.Lb U = Lb m c
  qg : InputRef.Qg U = Qg m c
  uq : InputRef.Uq U = Uq m c
  kg : InputRef.Kg U = Kg m c
  ukv : InputRef.Ukv U = Ukv m c

/-- What the rotation asks: the rows, the projection, its shift, the queries' gain and weights are real numbers. -/
structure Tame : Prop where
  x : ∀ i, Real_ (X m c i)
  w : ∀ i, Real_ (W m c i)
  b : ∀ i, Real_ (B m c i)
  qg : ∀ i, Real_ (Qg m c i)
  uq : ∀ i, Real_ (Uq m c i)

/-- The blocks of the laid-out weights, in entries of the arguments. -/
theorem w_low (k : Fin 1024) (j : Fin 1408) : iblk m c 2 t (ix2 k ⟨j.val, by omega⟩) = W m c (ix2 k ⟨j.val, by omega⟩) :=
  (read_w m c t k _).trans ((congrFun (InputOperand.entry_wide m c) _).trans (InputOperand.wide_low _ k j))
/-- The columns of the rotation. -/
theorem w_mid (k : Fin 1024) (d : Fin 128) : iblk m c 2 t (ix2 k ⟨1408 + d.val, by omega⟩)
    = if h : 64 ≤ d.val ∧ d.val < 96 then W m c (ix2 k ⟨1344 + d.val, by omega⟩) else (0 : EReal) :=
  (read_w m c t k _).trans ((congrFun (InputOperand.entry_wide m c) _).trans (InputOperand.wide_mid _ k d))
/-- The exchanged columns of the rotation. -/
theorem w_high (k : Fin 1024) (d : Fin 128) : iblk m c 2 t (ix2 k ⟨1536 + d.val, by omega⟩)
    = if h : 64 ≤ d.val ∧ d.val < 80 then -W m c (ix2 k ⟨1360 + d.val, by omega⟩)
      else if h : 80 ≤ d.val ∧ d.val < 96 then W m c (ix2 k ⟨1328 + d.val, by omega⟩) else (0 : EReal) :=
  (read_w m c t k _).trans ((congrFun (InputOperand.entry_wide m c) _).trans (InputOperand.wide_high _ k d))
/-- The shift's entries. -/
theorem b_low (j : Fin 1408) : iblk m c 3 t (ix2 0 ⟨j.val, by omega⟩) = B m c (ix1 ⟨j.val, by omega⟩) :=
  (read_b m c t _).trans ((congrFun (InputOperand.entry_shifts m c) _).trans (InputOperand.shifts_low _ j))
/-- The shift's entries of the rotation. -/
theorem b_mid (d : Fin 128) : iblk m c 3 t (ix2 0 ⟨1408 + d.val, by omega⟩)
    = if h : 64 ≤ d.val ∧ d.val < 96 then B m c (ix1 ⟨1344 + d.val, by omega⟩) else (0 : EReal) :=
  (read_b m c t _).trans ((congrFun (InputOperand.entry_shifts m c) _).trans (InputOperand.shifts_mid _ d))
/-- The shift's exchanged entries. -/
theorem b_high (d : Fin 128) : iblk m c 3 t (ix2 0 ⟨1536 + d.val, by omega⟩)
    = if h : 64 ≤ d.val ∧ d.val < 80 then -B m c (ix1 ⟨1360 + d.val, by omega⟩)
      else if h : 80 ≤ d.val ∧ d.val < 96 then B m c (ix1 ⟨1328 + d.val, by omega⟩) else (0 : EReal) :=
  (read_b m c t _).trans ((congrFun (InputOperand.entry_shifts m c) _).trans (InputOperand.shifts_high _ d))
/-- The queries' weights. -/
theorem wq_at (i : Fin 256) (h : Fin 8) (d : Fin 128) : iblk m c 9 t (ix2 i ⟨h.val * 128 + d.val, by omega⟩)
    = if hd : d.val < 96 then Uq m c (ix2 i ⟨h.val * 96 + d.val, by omega⟩) else (0 : EReal) :=
  (read_wq m c t i _).trans (InputOperand.entry_query m c i h d)
/-- The queries' exchanged weights. -/
theorem wqr_at (i : Fin 256) (h : Fin 8) (d : Fin 128) : iblk m c 10 t (ix2 i ⟨h.val * 128 + d.val, by omega⟩)
    = if hd : 64 ≤ d.val ∧ d.val < 80 then -Uq m c (ix2 i ⟨h.val * 96 + (16 + d.val), by omega⟩)
      else if hd : 80 ≤ d.val ∧ d.val < 96 then Uq m c (ix2 i ⟨h.val * 96 + (d.val - 16), by omega⟩) else (0 : EReal) :=
  (read_wqr m c t i _).trans ((congrFun (InputOperand.entry_crossed m c) _).trans (InputOperand.crossed_at _ i h d))
/-- The keys' weights. -/
theorem wk_at (i : Fin 128) (h : Fin 8) (d : Fin 128) : iblk m c 12 t (ix2 i ⟨h.val * 128 + d.val, by omega⟩)
    = if hd : d.val < 64 then Ukv m c (ix2 i ⟨h.val * 128 + d.val, by omega⟩) else (0 : EReal) :=
  (read_wk m c t i _).trans (InputOperand.entry_key m c i h d)
/-- The values' weights. -/
theorem wv_at (i : Fin 128) (h : Fin 8) (d : Fin 64) : iblk m c 13 t (ix2 i ⟨h.val * 64 + d.val, by omega⟩)
    = Ukv m c (ix2 i ⟨h.val * 128 + (64 + d.val), by omega⟩) :=
  (read_wv m c t i _).trans (InputOperand.entry_value m c i h d)
/-- The angles' rates. -/
theorem rate_at (d : Fin 128) : iblk m c 14 t (ix2 0 d) = rateOf d :=
  (read_rates m c t d).trans ((congrFun (InputOperand.entry_rates m c) _).trans (InputOperand.rates_at d))

/-- The point's projected rows. -/
abbrev H : FVec Ideal S512x1664 .f32 := k0_pay16 (iblk m c 0 t) (iblk m c 2 t) (iblk m c 3 t)
/-- An entry of the reference's projection. -/
abbrev E (n : Fin 8) (s : Fin 4096) (j : Fin 1440) : EReal := InputRef.entry (X m c) (W m c) (B m c) n s j

/-- The point's projected row, in the columns kept as they are. -/
theorem low (r : Fin 512) (j : Fin 1408) : H m c t (ix2 r ⟨j.val, by omega⟩) = E m c (seq t) (row t r) ⟨j.val, by omega⟩ := by
  rw [H, InputBlock.pay16_at, b_low]
  simp only [w_low, read_rows]
  rfl

/-- The point's projected row, in the columns of the rotation. -/
theorem mid (r : Fin 512) (d : Fin 128) : H m c t (ix2 r ⟨1408 + d.val, by omega⟩)
    = if h : 64 ≤ d.val ∧ d.val < 96 then E m c (seq t) (row t r) ⟨1344 + d.val, by omega⟩ else 0 := by
  rw [H, InputBlock.pay16_at, b_mid]
  simp only [w_mid, read_rows]
  split
  · rfl
  · simp only [mul_zero, Finset.sum_const_zero, add_zero]

/-- The projected entries are real numbers. -/
theorem real_entry (hT : Tame m c) (n : Fin 8) (s : Fin 4096) (j : Fin 1440) : Real_ (E m c n s j) :=
  real_add (real_sum _ fun k => real_mul (hT.x _) (hT.w _)) (hT.b _)

/-- The point's projected row, in the exchanged columns: a sign passes through the sum. -/
theorem high (hT : Tame m c) (r : Fin 512) (d : Fin 128) : H m c t (ix2 r ⟨1536 + d.val, by omega⟩)
    = if h : 64 ≤ d.val ∧ d.val < 80 then -E m c (seq t) (row t r) ⟨1360 + d.val, by omega⟩
      else if h : 80 ≤ d.val ∧ d.val < 96 then E m c (seq t) (row t r) ⟨1328 + d.val, by omega⟩ else 0 := by
  rw [H, InputBlock.pay16_at, b_high]
  simp only [w_high, read_rows]
  split
  · rw [dot_neg _ _ (fun k => hT.x _) (fun k => hT.w _)]
    exact (neg_add_real (real_sum _ fun k => real_mul (hT.x _) (hT.w _)) (hT.b _)).symm
  · split
    · rfl
    · simp only [mul_zero, Finset.sum_const_zero, add_zero]

variable (U : Valuation Cert.InputRefIdeal.τ Cert.InputRefIdeal.sig (Elt Ideal)) (hU : Agrees m c U)
include hU

/-- The reference's projected entry is the arguments'. -/
theorem entry_eq (n : Fin 8) (s : Fin 4096) (j : Fin 1440) : InputRef.entry (InputRef.X U) (InputRef.W U) (InputRef.B U) n s j = E m c n s j := by
  rw [hU.x, hU.w, hU.b]

/-- The latent query rows. -/
theorem lat_at (r : Fin 512) (i : Fin 256) : k0_pay24 (H m c t) (iblk m c 8 t) (ix2 r i) = InputRef.lat U (seq t) (row t r) i := by
  rw [InputBlock.pay24_at, InputRef.lat, hU.qg]
  simp only [entry_eq m c U hU, read_qgain]
  congr 1
  funext i
  exact low m c t r ⟨1024 + i.val, by omega⟩
/-- The latent key rows. -/
theorem latk_at (r : Fin 512) (i : Fin 128) : k0_pay39 (H m c t) (iblk m c 11 t) (ix2 r i) = InputRef.latk U (seq t) (row t r) i := by
  rw [InputBlock.pay39_at, InputRef.latk, hU.kg]
  simp only [entry_eq m c U hU, read_kgain]
  congr 1
  funext i
  exact low m c t r ⟨1280 + i.val, by omega⟩

/-- The queries' normalised row is real. -/
theorem real_lat (hT : Tame m c) (n : Fin 8) (s : Fin 4096) (i : Fin 256) : Real_ (InputRef.lat U n s i) := by
  rw [InputRef.lat]
  refine real_rms _ _ (fun k => ?_) (fun k => ?_) i
  · rw [entry_eq m c U hU]
    exact real_entry m c hT _ _ _
  · rw [hU.qg]
    exact hT.qg _

/-- The two products the queries are made of. -/
theorem plain_at (r : Fin 512) (h : Fin 8) (d : Fin 128) :
    k0_pay25 (H m c t) (iblk m c 8 t) (iblk m c 9 t) (ix2 r ⟨h.val * 128 + d.val, by omega⟩) = plain (InputRef.query U (seq t) (row t r) h) d := by
  rw [InputBlock.pay25_at]
  simp only [lat_at m c t U hU, wq_at]
  unfold plain InputRef.query
  rw [hU.uq]
  split
  · rfl
  · simp only [mul_zero, Finset.sum_const_zero]
/-- A head's exchanged query. -/
theorem swapped_at (hT : Tame m c) (r : Fin 512) (h : Fin 8) (d : Fin 128) :
    k0_pay26 (H m c t) (iblk m c 8 t) (iblk m c 10 t) (ix2 r ⟨h.val * 128 + d.val, by omega⟩) = swapped (InputRef.query U (seq t) (row t r) h) d := by
  rw [InputBlock.pay26_at]
  simp only [lat_at m c t U hU, wqr_at]
  unfold swapped InputRef.query
  rw [hU.uq]
  split
  · exact dot_neg _ _ (fun k => real_lat m c U hU hT _ _ _) (fun k => hT.uq _)
  · split
    · rfl
    · simp only [mul_zero, Finset.sum_const_zero]

/-- The angles' cosines and sines. -/
theorem cos_at (r : Fin 512) (d : Fin 128) : k0_pay22 (k0_pay20 (iblk m c 1 t)) (iblk m c 14 t) (ix2 r d)
    = Ideal.cos (FloatOps.sitofp (F := Ideal) .f32 (InputRef.Pos U (ix2 (seq t) (row t r))) * rateOf d) := by
  rw [InputBlock.pay22_at, read_positions, rate_at, hU.pos]
/-- The sines of a row, over the columns of a head. -/
theorem sin_at (r : Fin 512) (d : Fin 128) : k0_pay23 (k0_pay20 (iblk m c 1 t)) (iblk m c 14 t) (ix2 r d)
    = Ideal.sin (FloatOps.sitofp (F := Ideal) .f32 (InputRef.Pos U (ix2 (seq t) (row t r))) * rateOf d) := by
  rw [InputBlock.pay23_at, read_positions, rate_at, hU.pos]

/-- The queries. -/
theorem query_at (hT : Tame m c) (r : Fin 512) (h : Fin 8) (d : Fin 128) :
    k0_pay25 (H m c t) (iblk m c 8 t) (iblk m c 9 t) (ix2 r ⟨h.val * 128 + d.val, by omega⟩) * k0_pay27 (k0_pay20 (iblk m c 1 t)) (iblk m c 14 t) (ix2 r d)
      + k0_pay26 (H m c t) (iblk m c 8 t) (iblk m c 10 t) (ix2 r ⟨h.val * 128 + d.val, by omega⟩) * k0_pay28 (k0_pay20 (iblk m c 1 t)) (iblk m c 14 t) (ix2 r d)
      = InputRef.queries U (ix3 (seq t) (row t r) ⟨h.val * 128 + d.val, by omega⟩) := by
  rw [plain_at m c t U hU, swapped_at m c t U hU hT, InputBlock.pay27_at, InputBlock.pay28_at, cos_at m c t U hU, sin_at m c t U hU, scaled,
    turned_eq, InputRef.queries_at]
  rfl

/-- The keys. -/
theorem key_at (hT : Tame m c) (r : Fin 512) (h : Fin 8) (d : Fin 128) :
    k0_pay40 (H m c t) (iblk m c 11 t) (iblk m c 12 t) (ix2 r ⟨h.val * 128 + d.val, by omega⟩)
      + (H m c t (ix2 r ⟨1408 + d.val, by omega⟩) * k0_pay22 (k0_pay20 (iblk m c 1 t)) (iblk m c 14 t) (ix2 r d)
        + H m c t (ix2 r ⟨1536 + d.val, by omega⟩) * k0_pay23 (k0_pay20 (iblk m c 1 t)) (iblk m c 14 t) (ix2 r d))
      = InputRef.keys U (ix3 (seq t) (row t r) ⟨h.val * 128 + d.val, by omega⟩) := by
  rw [cos_at m c t U hU, sin_at m c t U hU, InputRef.keys_at, mid, high m c t hT]
  change _ = turned _ (fun i => _ * rate i) d
  rw [← turned_eq, InputBlock.pay40_at]
  simp only [latk_at m c t U hU, wk_at]
  unfold plain swapped InputRef.key
  by_cases hd : d.val < 64
  · simp only [dif_pos hd, if_pos hd, dif_neg (by omega : ¬(64 ≤ d.val ∧ d.val < 96)), dif_neg (by omega : ¬(64 ≤ d.val ∧ d.val < 80)),
      dif_neg (by omega : ¬(80 ≤ d.val ∧ d.val < 96)), dif_pos (by omega : d.val < 96), zero_mul, add_zero]
    rw [rateOf, if_neg (by omega : ¬(64 ≤ d.val ∧ d.val < 80)), if_neg (by omega : ¬(80 ≤ d.val ∧ d.val < 96)), mul_zero, cos_zero, mul_one, hU.ukv]
  · simp only [dif_neg hd, mul_zero, Finset.sum_const_zero, zero_add]
    by_cases h2 : d.val < 80
    · simp only [dif_pos (by omega : (64 ≤ d.val ∧ d.val < 96)), dif_pos (by omega : (64 ≤ d.val ∧ d.val < 80)), dif_pos (by omega : d.val < 96), if_neg hd,
        if_neg (by omega : ¬16 + d.val < 64), entry_eq m c U hU]
      congr 4
      exact Fin.ext (by dsimp only; omega)
    · by_cases h3 : d.val < 96
      · simp only [dif_pos (by omega : (64 ≤ d.val ∧ d.val < 96)), dif_neg (by omega : ¬(64 ≤ d.val ∧ d.val < 80)), dif_pos (by omega : (80 ≤ d.val ∧ d.val < 96)),
          dif_pos h3, if_neg hd, if_neg (by omega : ¬d.val - 16 < 64), entry_eq m c U hU]
        congr 4
        omega
      · simp only [dif_neg (by omega : ¬(64 ≤ d.val ∧ d.val < 96)), dif_neg (by omega : ¬(64 ≤ d.val ∧ d.val < 80)), dif_neg (by omega : ¬(80 ≤ d.val ∧ d.val < 96)),
          dif_neg h3]

/-- The values. -/
theorem value_at (r : Fin 512) (h : Fin 8) (d : Fin 64) :
    k0_pay3 (k0_pay39 (H m c t) (iblk m c 11 t)) (iblk m c 13 t) (ix3 0 r ⟨h.val * 64 + d.val, by omega⟩)
      = InputRef.values U (ix3 (seq t) (row t r) ⟨h.val * 64 + d.val, by omega⟩) := by
  rw [InputBlock.pay3_at, InputRef.values_at, hU.ukv]
  simp only [latk_at m c t U hU, wv_at]

/-- The gated rows. -/
theorem glu_at (r : Fin 512) (j : Fin 512) :
    k0_pay17 (iblk m c 0 t) (iblk m c 2 t) (iblk m c 3 t) (ix2 r j) = InputRef.glu U (seq t) j (row t r) := by
  rw [InputBlock.pay17_at, InputRef.glu, entry_eq m c U hU, entry_eq m c U hU]
  rw [← low m c t r ⟨j.val, by omega⟩, ← low m c t r ⟨512 + j.val, by omega⟩]
end Cert.InputPoint
end
-- ==== Proof.InputStore.lean ====
module
public import proofs.«01_k».proof.Proof.InputPoint
@[expose] public section
/-! What each grid point of layer 0's input step stores of its queries, keys and values: eight tiles of a head's 128
    columns each, and the values in one. -/
set_option maxRecDepth 16384
noncomputable section
namespace Cert.InputStore
open Cert.InputRow Cert.InputIdeal Cert.InputIdeal.Gen Cert.InputArray Cert.InputMath Cert.InputPoint Idealize.ShloMosaic Idealize.ShloMosaic.TcCoe Idealize.SL.Sem

/-- A head's queries as they are stored: its columns of the two products, by the cosines and sines. -/
def turn (A B : FVec Ideal S512x1024 .f32) (C S : FVec Ideal S512x128 .f32) (h : Fin 8) (r : Fin 512) (d : Fin 128) : EReal :=
  A (ix2 r ⟨h.val * 128 + d.val, by omega⟩) * C (ix2 r d) + B (ix2 r ⟨h.val * 128 + d.val, by omega⟩) * S (ix2 r d)
/-- A head's keys as they are stored: its columns of the product and the turned part all heads share. -/
def shared (A : FVec Ideal S512x1024 .f32) (P Q : FVec Ideal S512x128 .f32) (h : Fin 8) (r : Fin 512) (d : Fin 128) : EReal :=
  A (ix2 r ⟨h.val * 128 + d.val, by omega⟩) + (P (ix2 r d) + Q (ix2 r d))

/-- Head 0's stored queries. -/
theorem pay29_at (H : FVec Ideal S512x1664 .f32) (p : FVec Ideal S512x1 .f32) (f : Vec Ideal S1x128 .f32) (g : Vec Ideal S1x256 .f32) (w w' : Vec Ideal S256x1024 .bf16)
    (r : Fin 512) (d : Fin 128) : k0_pay29 H p f g w w' (ix3 0 r d) = turn (k0_pay25 H g w) (k0_pay26 H g w') (k0_pay27 p f) (k0_pay28 p f) 0 r d := by
  unfold k0_pay29
  generalize k0_pay25 H g w = A
  generalize k0_pay26 H g w' = B
  generalize k0_pay27 p f = C
  generalize k0_pay28 p f = S
  pointwise [turn]
/-- Head 1's stored queries. -/
theorem pay31_at (H : FVec Ideal S512x1664 .f32) (p : FVec Ideal S512x1 .f32) (f : Vec Ideal S1x128 .f32) (g : Vec Ideal S1x256 .f32) (w : Vec Ideal S256x1024 .bf16)
    (B : FVec Ideal S512x1024 .f32) (S : FVec Ideal S512x128 .f32)
    (r : Fin 512) (d : Fin 128) : k0_pay31 B S (k0_pay30 H p f g w) (ix3 0 r d) = turn (k0_pay25 H g w) B (k0_pay27 p f) S 1 r d := by
  unfold k0_pay31 k0_pay30
  generalize k0_pay25 H g w = A
  generalize k0_pay27 p f = C
  pointwise [turn]
/-- Head 2's stored queries. -/
theorem pay32_at (A B : FVec Ideal S512x1024 .f32) (C S : FVec Ideal S512x128 .f32) (r : Fin 512) (d : Fin 128) : k0_pay32 A B C S (ix3 0 r d) = turn A B C S 2 r d := by
  pointwise [k0_pay32, turn]
/-- Head 3's stored queries. -/
theorem pay33_at (A B : FVec Ideal S512x1024 .f32) (C S : FVec Ideal S512x128 .f32) (r : Fin 512) (d : Fin 128) : k0_pay33 A B C S (ix3 0 r d) = turn A B C S 3 r d := by
  pointwise [k0_pay33, turn]
/-- Head 4's stored queries. -/
theorem pay34_at (A B : FVec Ideal S512x1024 .f32) (C S : FVec Ideal S512x128 .f32) (r : Fin 512) (d : Fin 128) : k0_pay34 A B C S (ix3 0 r d) = turn A B C S 4 r d := by
  pointwise [k0_pay34, turn]
/-- Head 6's stored queries. -/
theorem pay37_at (A B : FVec Ideal S512x1024 .f32) (C S : FVec Ideal S512x128 .f32) (r : Fin 512) (d : Fin 128) : k0_pay37 A B C S (ix3 0 r d) = turn A B C S 6 r d := by
  pointwise [k0_pay37, turn]
/-- Head 7's stored queries. -/
theorem pay38_at (A B : FVec Ideal S512x1024 .f32) (C S : FVec Ideal S512x128 .f32) (r : Fin 512) (d : Fin 128) : k0_pay38 A B C S (ix3 0 r d) = turn A B C S 7 r d := by
  pointwise [k0_pay38, turn]
/-- Head 5's stored queries. -/
theorem pay36_at (A B : FVec Ideal S512x1024 .f32) (C S : FVec Ideal S512x128 .f32) (r : Fin 512) (d : Fin 128) : k0_pay36 (k0_pay35 A B C S) (ix3 0 r d) = turn A B C S 5 r d := by
  pointwise [k0_pay36, k0_pay35, turn]
/-- Head 0's stored keys. -/
theorem pay44_at (A : FVec Ideal S512x1024 .f32) (P Q : FVec Ideal S512x128 .f32) (r : Fin 512) (d : Fin 128) : k0_pay44 A P Q (ix3 0 r d) = shared A P Q 0 r d := by
  pointwise [k0_pay44, k0_pay43, shared]
/-- Head 1's stored keys. -/
theorem pay45_at (A : FVec Ideal S512x1024 .f32) (P Q : FVec Ideal S512x128 .f32) (r : Fin 512) (d : Fin 128) : k0_pay45 A P Q (ix3 0 r d) = shared A P Q 1 r d := by
  pointwise [k0_pay45, k0_pay43, shared]
/-- Head 2's stored keys. -/
theorem pay46_at (A : FVec Ideal S512x1024 .f32) (P Q : FVec Ideal S512x128 .f32) (r : Fin 512) (d : Fin 128) : k0_pay46 A P Q (ix3 0 r d) = shared A P Q 2 r d := by
  pointwise [k0_pay46, k0_pay43, shared]
/-- Head 3's stored keys. -/
theorem pay47_at (A : FVec Ideal S512x1024 .f32) (P Q : FVec Ideal S512x128 .f32) (r : Fin 512) (d : Fin 128) : k0_pay47 A P Q (ix3 0 r d) = shared A P Q 3 r d := by
  pointwise [k0_pay47, k0_pay43, shared]
/-- Head 4's stored keys. -/
theorem pay48_at (A : FVec Ideal S512x1024 .f32) (P Q : FVec Ideal S512x128 .f32) (r : Fin 512) (d : Fin 128) : k0_pay48 A P Q (ix3 0 r d) = shared A P Q 4 r d := by
  pointwise [k0_pay48, k0_pay43, shared]
/-- Head 5's stored keys. -/
theorem pay49_at (A : FVec Ideal S512x1024 .f32) (P Q : FVec Ideal S512x128 .f32) (r : Fin 512) (d : Fin 128) : k0_pay49 A P Q (ix3 0 r d) = shared A P Q 5 r d := by
  pointwise [k0_pay49, k0_pay43, shared]
/-- Head 6's stored keys. -/
theorem pay1_at (A : FVec Ideal S512x1024 .f32) (P Q : FVec Ideal S512x128 .f32) (r : Fin 512) (d : Fin 128) : k0_pay1 A (k0_pay43 P Q) (ix3 0 r d) = shared A P Q 6 r d := by
  pointwise [k0_pay1, k0_pay43, shared]
/-- Head 7's stored keys. -/
theorem pay2_at (A : FVec Ideal S512x1024 .f32) (P Q : FVec Ideal S512x128 .f32) (r : Fin 512) (d : Fin 128) : k0_pay2 A (k0_pay43 P Q) (ix3 0 r d) = shared A P Q 7 r d := by
  pointwise [k0_pay2, k0_pay43, shared]
/-- The shared key by the cosines. -/
theorem pay41_at (H : FVec Ideal S512x1664 .f32) (C : FVec Ideal S512x128 .f32) (r : Fin 512) (d : Fin 128) :
    k0_pay41 H C (ix2 r d) = H (ix2 r ⟨1408 + d.val, by omega⟩) * C (ix2 r d) := by
  pointwise [k0_pay41]
/-- The exchanged shared key by the sines. -/
theorem pay42_at (H : FVec Ideal S512x1664 .f32) (C : FVec Ideal S512x128 .f32) (r : Fin 512) (d : Fin 128) :
    k0_pay42 H C (ix2 r d) = H (ix2 r ⟨1536 + d.val, by omega⟩) * C (ix2 r d) := by
  pointwise [k0_pay42]

variable (m : (ℓ : Loc nD τ sig) → Buf (Elt Ideal) ℓ) (c : Dev nD) (t : Fin cfg0.N)
variable (U : Valuation Cert.InputRefIdeal.τ Cert.InputRefIdeal.sig (Elt Ideal)) (hU : Agrees m c U) (hT : Tame m c)

/-- One head's tile holds the reference's entries, whatever the entries are. -/
theorem tile (G : FVec Ideal S8x4096x1024 .bf16) (P : FVec Ideal S1x512x128 .bf16) (h : Fin 8) (y : S1x512x1024.Idx) (x : S1x512x128.Idx)
    (h1 : (y 1).val = (x 1).val) (h2 : (y 2).val = h.val * 128 + (x 2).val)
    (hP : ∀ (r : Fin 512) (d : Fin 128), P (ix3 0 r d) = G (ix3 (seq t) (row t r) ⟨h.val * 128 + d.val, by omega⟩)) :
    P x = G (ix3 (seq t) (row t (y 1)) (y 2)) := by
  have ex : x = ix3 0 (x 1) (x 2) := by
    funext a; fin_cases a
    exacts [Subsingleton.elim (α := Fin 1) _ _, rfl, rfl]
  have e1 : (y 1 : Fin 512) = x 1 := Fin.ext h1
  have e2 : (y 2 : Fin 1024) = ⟨h.val * 128 + (x 2).val, by have := (x 2).isLt; have : (x 2).val < 128 := this; omega⟩ := Fin.ext h2
  exact (congrArg P ex).trans ((hP (x 1) (x 2)).trans (congrArg G (congrArg₂ (fun (a : Fin 512) (b : Fin 1024) => ix3 (seq t) (row t a) b) e1.symm e2.symm)))

include hU hT
/-- A head's stored queries are the reference's. -/
theorem turn_at (h : Fin 8) (r : Fin 512) (d : Fin 128) :
    turn (k0_pay25 (H m c t) (iblk m c 8 t) (iblk m c 9 t)) (k0_pay26 (H m c t) (iblk m c 8 t) (iblk m c 10 t))
      (k0_pay27 (k0_pay20 (iblk m c 1 t)) (iblk m c 14 t)) (k0_pay28 (k0_pay20 (iblk m c 1 t)) (iblk m c 14 t)) h r d
      = InputRef.queries U (ix3 (seq t) (row t r) ⟨h.val * 128 + d.val, by omega⟩) := query_at m c t U hU hT r h d
/-- A head's stored keys are the reference's. -/
theorem shared_at (h : Fin 8) (r : Fin 512) (d : Fin 128) :
    shared (k0_pay40 (H m c t) (iblk m c 11 t) (iblk m c 12 t)) (k0_pay41 (H m c t) (k0_pay22 (k0_pay20 (iblk m c 1 t)) (iblk m c 14 t)))
      (k0_pay42 (H m c t) (k0_pay23 (k0_pay20 (iblk m c 1 t)) (iblk m c 14 t))) h r d
      = InputRef.keys U (ix3 (seq t) (row t r) ⟨h.val * 128 + d.val, by omega⟩) := by
  rw [shared, pay41_at, pay42_at]
  exact key_at m c t U hU hT r h d

/-- The stored queries. -/
theorem stored_queries (y : S1x512x1024.Idx) : (dats m 0 c).after 16 t y = InputRef.queries U (ix3 (seq t) (row t (y 1)) (y 2)) := by
  rw [after0_16]
  by_cases t0 : t.val % 8 = 0
  · rw [outsAt0_A m c t t0]
    frame_out
    canon_tiles x h
    · exact tile t _ _ 7 y x h1 h2 fun r d => (pay38_at _ _ _ _ r d).trans (turn_at m c t U hU hT 7 r d)
    · exact tile t _ _ 6 y x h1 h2 fun r d => (pay37_at _ _ _ _ r d).trans (turn_at m c t U hU hT 6 r d)
    · exact tile t _ _ 5 y x h1 h2 fun r d => (pay36_at _ _ _ _ r d).trans (turn_at m c t U hU hT 5 r d)
    · exact tile t _ _ 4 y x h1 h2 fun r d => (pay34_at _ _ _ _ r d).trans (turn_at m c t U hU hT 4 r d)
    · exact tile t _ _ 3 y x h1 h2 fun r d => (pay33_at _ _ _ _ r d).trans (turn_at m c t U hU hT 3 r d)
    · exact tile t _ _ 2 y x h1 h2 fun r d => (pay32_at _ _ _ _ r d).trans (turn_at m c t U hU hT 2 r d)
    · exact tile t _ _ 1 y x h1 h2 fun r d => (pay31_at _ _ _ _ _ _ _ r d).trans (turn_at m c t U hU hT 1 r d)
    · exact tile t _ _ 0 y x h1 (h2.trans (Nat.zero_add _).symm) fun r d => (pay29_at _ _ _ _ _ _ r d).trans (turn_at m c t U hU hT 0 r d)
  · rw [outsAt0_B m c t t0]
    frame_out
    canon_tiles x h
    · exact tile t _ _ 7 y x h1 h2 fun r d => (pay38_at _ _ _ _ r d).trans (turn_at m c t U hU hT 7 r d)
    · exact tile t _ _ 6 y x h1 h2 fun r d => (pay37_at _ _ _ _ r d).trans (turn_at m c t U hU hT 6 r d)
    · exact tile t _ _ 5 y x h1 h2 fun r d => (pay36_at _ _ _ _ r d).trans (turn_at m c t U hU hT 5 r d)
    · exact tile t _ _ 4 y x h1 h2 fun r d => (pay34_at _ _ _ _ r d).trans (turn_at m c t U hU hT 4 r d)
    · exact tile t _ _ 3 y x h1 h2 fun r d => (pay33_at _ _ _ _ r d).trans (turn_at m c t U hU hT 3 r d)
    · exact tile t _ _ 2 y x h1 h2 fun r d => (pay32_at _ _ _ _ r d).trans (turn_at m c t U hU hT 2 r d)
    · exact tile t _ _ 1 y x h1 h2 fun r d => (pay31_at _ _ _ _ _ _ _ r d).trans (turn_at m c t U hU hT 1 r d)
    · exact tile t _ _ 0 y x h1 (h2.trans (Nat.zero_add _).symm) fun r d => (pay29_at _ _ _ _ _ _ r d).trans (turn_at m c t U hU hT 0 r d)
/-- The stored keys. -/
theorem stored_keys (y : S1x512x1024.Idx) : (dats m 0 c).after 17 t y = InputRef.keys U (ix3 (seq t) (row t (y 1)) (y 2)) := by
  rw [after0_17]
  by_cases t0 : t.val % 8 = 0
  · rw [outsAt0_A m c t t0]
    frame_out
    canon_tiles x h
    · exact tile t _ _ 7 y x h1 h2 fun r d => (pay2_at _ _ _ r d).trans (shared_at m c t U hU hT 7 r d)
    · exact tile t _ _ 6 y x h1 h2 fun r d => (pay1_at _ _ _ r d).trans (shared_at m c t U hU hT 6 r d)
    · exact tile t _ _ 5 y x h1 h2 fun r d => (pay49_at _ _ _ r d).trans (shared_at m c t U hU hT 5 r d)
    · exact tile t _ _ 4 y x h1 h2 fun r d => (pay48_at _ _ _ r d).trans (shared_at m c t U hU hT 4 r d)
    · exact tile t _ _ 3 y x h1 h2 fun r d => (pay47_at _ _ _ r d).trans (shared_at m c t U hU hT 3 r d)
    · exact tile t _ _ 2 y x h1 h2 fun r d => (pay46_at _ _ _ r d).trans (shared_at m c t U hU hT 2 r d)
    · exact tile t _ _ 1 y x h1 h2 fun r d => (pay45_at _ _ _ r d).trans (shared_at m c t U hU hT 1 r d)
    · exact tile t _ _ 0 y x h1 (h2.trans (Nat.zero_add _).symm) fun r d => (pay44_at _ _ _ r d).trans (shared_at m c t U hU hT 0 r d)
  · rw [outsAt0_B m c t t0]
    frame_out
    canon_tiles x h
    · exact tile t _ _ 7 y x h1 h2 fun r d => (pay2_at _ _ _ r d).trans (shared_at m c t U hU hT 7 r d)
    · exact tile t _ _ 6 y x h1 h2 fun r d => (pay1_at _ _ _ r d).trans (shared_at m c t U hU hT 6 r d)
    · exact tile t _ _ 5 y x h1 h2 fun r d => (pay49_at _ _ _ r d).trans (shared_at m c t U hU hT 5 r d)
    · exact tile t _ _ 4 y x h1 h2 fun r d => (pay48_at _ _ _ r d).trans (shared_at m c t U hU hT 4 r d)
    · exact tile t _ _ 3 y x h1 h2 fun r d => (pay47_at _ _ _ r d).trans (shared_at m c t U hU hT 3 r d)
    · exact tile t _ _ 2 y x h1 h2 fun r d => (pay46_at _ _ _ r d).trans (shared_at m c t U hU hT 2 r d)
    · exact tile t _ _ 1 y x h1 h2 fun r d => (pay45_at _ _ _ r d).trans (shared_at m c t U hU hT 1 r d)
    · exact tile t _ _ 0 y x h1 (h2.trans (Nat.zero_add _).symm) fun r d => (pay44_at _ _ _ r d).trans (shared_at m c t U hU hT 0 r d)
omit hT
/-- The stored values. -/
theorem stored_values (r : Fin 512) (j : Fin 512) : (dats m 0 c).after 18 t (ix3 0 r j) = InputRef.values U (ix3 (seq t) (row t r) j) := by
  have e : j = ⟨(⟨j.val / 64, by omega⟩ : Fin 8).val * 64 + (⟨j.val % 64, by omega⟩ : Fin 64).val, by dsimp only; omega⟩ := Fin.ext (by dsimp only; omega)
  rw [after0_18]
  by_cases t0 : t.val % 8 = 0
  · rw [outsAt0_A m c t t0]
    frame_out
    rw [e]
    exact value_at m c t U hU r _ _
  · rw [outsAt0_B m c t t0]
    frame_out
    rw [e]
    exact value_at m c t U hU r _ _
end Cert.InputStore
end
-- ==== Proof.InputConv.lean ====
module
public import proofs.«01_k».proof.Proof.InputPoint
public import Idealize.ShloMosaic.Lib.WritesUnit
@[expose] public section
/-! The convolution of layer 0's input step: the rows a grid point hands to the next one, and what it stores of the
    convolved branch. -/
set_option maxRecDepth 16384
noncomputable section
namespace Cert.InputConv
open Cert.InputRow Cert.InputIdeal Cert.InputIdeal.Gen Cert.InputArray Cert.InputMath Cert.InputPoint Idealize.ShloMosaic Idealize.ShloMosaic.TcCoe Idealize.SL.Sem
variable (m : (ℓ : Loc nD τ sig) → Buf (Elt Ideal) ℓ) (c : Dev nD) (t : Fin cfg0.N)

/-- The rows carried over are stored as they are read. -/
theorem pay19_id (a : FVec Ideal S32x512 .f32) : k0_pay19 a = a := by
  funext y; pointwise [k0_pay19]
/-- The gain is used as it is read. -/
theorem pay12_id (a : FVec Ideal S1x512 .f32) : k0_pay12 a = a := by
  funext y; pointwise [k0_pay12]
/-- The shift is used as it is read. -/
theorem pay13_id (a : FVec Ideal S1x512 .f32) : k0_pay13 a = a := by
  funext y; pointwise [k0_pay13]
/-- The rows before a sequence's first are zeros. -/
theorem pay15_at (i : Fin 32) (j : Fin 512) : k0_pay15 (F := Ideal) (ix2 i j) = (0 : EReal) := by
  pointwise [k0_pay15]

/-- Rows just stored are read back. -/
theorem under {κ : Kind} {sp : Space} (v : View sig κ sp S544x512 .f32) (f : v.ty.Contents (Elt Ideal)) (o n : ℕ)
    (inb : ∀ a, (![o, 0] : Fin 2 → ℕ) a + (![n, 512] : Fin 2 → ℕ) a ≤ S544x512.size a) (w : (Rect.unit (s := S544x512) ![o, 0] ![n, 512] inb).shape.Idx → Elt Ideal .f32)
    (L : List (View.Piece (Elt Ideal) S544x512 .f32)) (q : Fin 544) (p : Fin n) (j : Fin 512) (h : q.val = o + p.val) :
    v.read (Elt Ideal) (v.writes (Elt Ideal) f (⟨Rect.unit ![o, 0] ![n, 512] inb, w⟩ :: L)) (ix2 q j) = w (ix2 p j) :=
  View.read_writes_cons_unit_of_mem v f inb w L (ix2 q j) (ix2 p j) rfl (Fin.forall_fin_two.2 ⟨h, (Nat.zero_add _).symm⟩)
/-- Rows stored earlier are read through. -/
theorem past {κ : Kind} {sp : Space} (v : View sig κ sp S544x512 .f32) (f : v.ty.Contents (Elt Ideal)) (o n : ℕ)
    (inb : ∀ a, (![o, 0] : Fin 2 → ℕ) a + (![n, 512] : Fin 2 → ℕ) a ≤ S544x512.size a) (w : (Rect.unit (s := S544x512) ![o, 0] ![n, 512] inb).shape.Idx → Elt Ideal .f32)
    (L : List (View.Piece (Elt Ideal) S544x512 .f32)) (q : Fin 544) (j : Fin 512) (h : q.val < o) :
    v.read (Elt Ideal) (v.writes (Elt Ideal) f (⟨Rect.unit ![o, 0] ![n, 512] inb, w⟩ :: L)) (ix2 q j) = v.read (Elt Ideal) (v.writes (Elt Ideal) f L) (ix2 q j) :=
  View.read_writes_cons_unit_of_not_mem v f inb w L (ix2 q j) rfl 0 (.inl h)
/-- A load within the rows just stored. -/
theorem under_load {κ : Kind} {sp : Space} (v : View sig κ sp S544x512 .f32) (o n : ℕ)
    (inb : ∀ a, (![o, 0] : Fin 2 → ℕ) a + (![n, 512] : Fin 2 → ℕ) a ≤ S544x512.size a) (w : (Rect.unit (s := S544x512) ![o, 0] ![n, 512] inb).shape.Idx → Elt Ideal .f32)
    (L : List (View.Piece (Elt Ideal) S544x512 .f32)) (o' n' : ℕ) (inb' : ∀ a, (![o', 0] : Fin 2 → ℕ) a + (![n', 512] : Fin 2 → ℕ) a ≤ S544x512.size a)
    (i : Fin n') (p : Fin n) (j : Fin 512) (h : o' + i.val = o + p.val) :
    v.readCov (⟨Rect.unit ![o, 0] ![n, 512] inb, w⟩ :: L) (Rect.unit (s := S544x512) ![o', 0] ![n', 512] inb').toLoadRect (ix2 i j) = w (ix2 p j) :=
  View.read_writes_cons_unit_of_mem v _ inb w L _ (ix2 p j) rfl (Fin.forall_fin_two.2
    ⟨by show o' + 1 * i.val = o + p.val; omega, by show 0 + 1 * j.val = 0 + j.val; rw [Nat.one_mul]⟩)

/-- The rows a grid point leaves for the next one: the last thirty-two of its gated rows. -/
theorem carried (i : Fin 32) (j : Fin 512) :
    (outsAt0 m c t.val t.isLt).2.2.2.2 (ix2 ⟨i.val, by omega⟩ j) = k0_pay17 (iblk m c 0 t) (iblk m c 2 t) (iblk m c 3 t) (ix2 ⟨480 + i.val, by omega⟩ j) := by
  by_cases t0 : t.val % 8 = 0
  · refine (congrFun (congrArg (fun o => o.2.2.2.2) (outsAt0_A m c t t0)) _).trans ?_
    frame_out
    exact (View.read_writes_junk_apply_eq_canon (View.whole cc0_scratch0) _ _).symm.trans
      ((under (View.whole cc0_scratch0) _ 0 32 _ _ _ _ i j (Nat.zero_add _).symm).trans ((congrFun (pay19_id _) _).trans
        (under_load (View.whole cc0_scratch0) 32 512 _ _ _ 512 32 _ i ⟨480 + i.val, by omega⟩ j (by show 512 + i.val = 32 + (480 + i.val); omega))))
  · refine (congrFun (congrArg (fun o => o.2.2.2.2) (outsAt0_B m c t t0)) _).trans ?_
    frame_out
    exact (View.read_writes_junk_apply_eq_canon (View.whole cc0_scratch0) _ _).symm.trans
      ((under (View.whole cc0_scratch0) _ 0 32 _ _ _ _ i j (Nat.zero_add _).symm).trans ((congrFun (pay19_id _) _).trans
        (under_load (View.whole cc0_scratch0) 32 512 _ _ _ 512 32 _ i ⟨480 + i.val, by omega⟩ j (by show 512 + i.val = 32 + (480 + i.val); omega))))

variable (U : Valuation Cert.InputRefIdeal.τ Cert.InputRefIdeal.sig (Elt Ideal)) (hU : Agrees m c U)

/-- The buffer holds the sequence's gated rows from thirty before the tile on, zeros before the sequence. -/
def Loaded (t : Fin cfg0.N) (U : Valuation Cert.InputRefIdeal.τ Cert.InputRefIdeal.sig (Elt Ideal)) (Y : (View.whole cc0_scratch0).ty.Contents (Elt Ideal)) : Prop :=
  ∀ (q : Fin 544) (j : Fin 512), 2 ≤ q.val →
    (View.whole cc0_scratch0).read (Elt Ideal) Y (ix2 q j) = late (InputRef.glu U (seq t) j) (512 * (t.val % 8) + q.val - 2)

include hU in
/-- Its upper rows are the tile's. -/
theorem upper (q : Fin 544) (j : Fin 512) (h : 32 ≤ q.val) :
    k0_pay17 (iblk m c 0 t) (iblk m c 2 t) (iblk m c 3 t) (ix2 ⟨q.val - 32, by omega⟩ j) = late (InputRef.glu U (seq t) j) (512 * (t.val % 8) + q.val - 2) := by
  rw [glu_at m c t U hU, late, dif_pos (by omega)]
  exact congrArg _ (Fin.ext (by show 512 * (t.val % 8) + (q.val - 32) = _; dsimp only; omega))

/-- Its lower rows, at a sequence's first tile. -/
theorem lower_first (t0 : t.val % 8 = 0) (q : Fin 544) (j : Fin 512) (h : ¬32 ≤ q.val) :
    k0_pay15 (F := Ideal) (ix2 ⟨q.val, by omega⟩ j) = late (InputRef.glu U (seq t) j) (512 * (t.val % 8) + q.val - 2) := by
  rw [pay15_at, late, dif_neg (by omega)]

include hU in
/-- Its lower rows, at a later tile. -/
theorem lower_next (t0 : ¬t.val % 8 = 0) (q : Fin 544) (j : Fin 512) (h : ¬32 ≤ q.val) (h2 : 2 ≤ q.val) (ht : t.val - 1 < cfg0.N) :
    (outsAt0 m c (t.val - 1) ht).2.2.2.2 (ix2 q j) = late (InputRef.glu U (seq t) j) (512 * (t.val % 8) + q.val - 2) := by
  have := points t
  refine (carried m c ⟨t.val - 1, ht⟩ ⟨q.val, by omega⟩ j).trans ?_
  rw [glu_at m c _ U hU, late, dif_pos (by omega)]
  have e : seq ⟨t.val - 1, ht⟩ = seq t := Fin.ext (by show (t.val - 1) / 8 = t.val / 8; omega)
  rw [e]
  exact congrArg _ (Fin.ext (by show 512 * ((t.val - 1) % 8) + (480 + q.val) = _; dsimp only; omega))

/-- A tap is a row of the table. -/
theorem taps_in (j : ℕ) : ∀ a, (![j % 31, 0] : Fin 2 → ℕ) a + (![1, 512] : Fin 2 → ℕ) a ≤ S31x512.size a :=
  Fin.forall_fin_two.2 ⟨by show j % 31 + 1 ≤ 31; omega, by show 0 + 512 ≤ 512; omega⟩
/-- The taps, as the loop loads them. -/
def taps (j : ℕ) : Vec Ideal S1x512 .f32 := View.ld (iblk m c 4 t) (Rect.unit ![j % 31, 0] ![1, 512] (taps_in j))
/-- A tap's entries. -/
theorem taps_at (j : ℕ) (d : Fin 512) : taps m c t j (ix2 0 d) = Cw m c (ix2 (Fin.ofNat 31 j) d) :=
  (View.ld_unit_apply_of _ _ _ _ _ (ix2 (Fin.ofNat 31 j) d) (Fin.forall_fin_two.2 ⟨rfl, (Nat.zero_add _).symm⟩)).trans (read_taps m c t _ d)

/-- The rows' sums. -/
theorem pay14_at (u : Vec Ideal S64x512 .f32) (a b : FVec Ideal S32x512 .f32) (w0 w1 w2 w3 w4 w5 w6 : Vec Ideal S1x512 .f32) (i : Fin 32) :
    k0_pay14 u a b w0 w1 w2 w3 w4 w5 w6 (ix1 i) = ∑ k, k0_pay11 u a b w0 w1 w2 w3 w4 w5 w6 (ix2 i k) := by
  unfold k0_pay14
  generalize k0_pay11 u a b w0 w1 w2 w3 w4 w5 w6 = y
  pointwise

/-- The loop makes sixteen trips. -/
theorem trips : k0_t1_loop.trips = 16 := by decide +kernel
/-- The row a trip reads from. -/
theorem from_row : ∀ k : Fin k0_t1_loop.trips, k0_off1 k = ![32 * k.val, 0] := by decide +kernel
/-- The row a trip stores to. -/
theorem to_row : ∀ k : Fin k0_t1_loop.trips, k0_off2 k = ![0, 32 * k.val, 0] := by decide +kernel

include hU in
/-- Thirty-two stored rows, from their window. -/
theorem block (k : ℕ) (hk : k < 16) (u : Vec Ideal S64x512 .f32)
    (hu : ∀ p (hp : p < 64) (d : Fin 512), 2 ≤ p → u (ix2 ⟨p, hp⟩ d) = late (InputRef.glu U (seq t) d) (512 * (t.val % 8) + (32 * k + p) - 2))
    (i : Fin 32) (d : Fin 512) :
    k0_pay18 (k0_pay11 u (k0_pay9 u (k0_pay7 u (k0_pay4 u (iblk m c 5 t) (taps m c t 0) (taps m c t 1) (taps m c t 2) (taps m c t 3) (taps m c t 4) (taps m c t 5)) (k0_pay5 u) (k0_pay6 (taps m c t 6)) (taps m c t 7) (taps m c t 8) (taps m c t 9) (taps m c t 10) (taps m c t 11) (taps m c t 12) (taps m c t 13) (taps m c t 14)) (k0_pay8 u) (taps m c t 15) (taps m c t 16) (taps m c t 17) (taps m c t 18) (taps m c t 19) (taps m c t 20) (taps m c t 21) (taps m c t 22))
        (k0_pay10 u (taps m c t 23)) (taps m c t 24) (taps m c t 25) (taps m c t 26) (taps m c t 27) (taps m c t 28) (taps m c t 29) (taps m c t 30)) (k0_pay12 (iblk m c 6 t)) (k0_pay13 (iblk m c 7 t))
      (k0_pay14 u (k0_pay9 u (k0_pay7 u (k0_pay4 u (iblk m c 5 t) (taps m c t 0) (taps m c t 1) (taps m c t 2) (taps m c t 3) (taps m c t 4) (taps m c t 5)) (k0_pay5 u) (k0_pay6 (taps m c t 6)) (taps m c t 7) (taps m c t 8) (taps m c t 9) (taps m c t 10) (taps m c t 11) (taps m c t 12) (taps m c t 13) (taps m c t 14)) (k0_pay8 u) (taps m c t 15) (taps m c t 16) (taps m c t 17) (taps m c t 18) (taps m c t 19) (taps m c t 20) (taps m c t 21) (taps m c t 22))
        (k0_pay10 u (taps m c t 23)) (taps m c t 24) (taps m c t 25) (taps m c t 26) (taps m c t 27) (taps m c t 28) (taps m c t 29) (taps m c t 30)) (ix3 0 i d)
      = InputRef.conved U (ix3 (seq t) (row t ⟨32 * k + i.val, by omega⟩) d) := by
  refine (InputBlock.pay18_at _ _ _ _ (fun i => pay14_at _ _ _ _ _ _ _ _ _ _ i) i d).trans ?_
  rw [InputRef.conved_at, pay12_id, pay13_id]
  have hc : ∀ e : Fin 512, k0_pay11 u (k0_pay9 u (k0_pay7 u (k0_pay4 u (iblk m c 5 t) (taps m c t 0) (taps m c t 1) (taps m c t 2) (taps m c t 3) (taps m c t 4) (taps m c t 5)) (k0_pay5 u) (k0_pay6 (taps m c t 6)) (taps m c t 7) (taps m c t 8) (taps m c t 9) (taps m c t 10) (taps m c t 11) (taps m c t 12) (taps m c t 13) (taps m c t 14)) (k0_pay8 u) (taps m c t 15) (taps m c t 16) (taps m c t 17) (taps m c t 18) (taps m c t 19) (taps m c t 20) (taps m c t 21) (taps m c t 22))
        (k0_pay10 u (taps m c t 23)) (taps m c t 24) (taps m c t 25) (taps m c t 26) (taps m c t 27) (taps m c t 28) (taps m c t 29) (taps m c t 30) (ix2 i e)
      = conv (InputRef.glu U (seq t) e) (fun j => InputRef.Cw U (ix2 j e)) (InputRef.Cb U (ix1 e)) (row t ⟨32 * k + i.val, by omega⟩) := by
    intro e
    refine (InputBlock.conv_at u (iblk m c 5 t) (taps m c t) i e (fun p => if hp : p < 64 then u (ix2 ⟨p, hp⟩ e) else 0) (fun p hp => by rw [dif_pos hp])).trans ?_
    rw [conv, read_bias m c t, hU.cb, hU.cw]
    refine chain_congr _ _ _ _ fun j hj => ?_
    rw [dif_pos (by omega), taps_at, hu _ _ _ (by omega)]
    refine congrArg (fun q => late _ q * _) ?_
    show 512 * (t.val % 8) + (32 * k + (2 + j + i.val)) - 2 = 512 * (t.val % 8) + (32 * k + i.val) + j
    omega
  simp only [hc, read_gain m c t, read_shift m c t, hU.lg, hU.lb]

/-- The pieces the loop's first so many trips store. -/
abbrev pieces (Y : (View.whole cc0_scratch0).ty.Contents (Elt Ideal)) (n : ℕ) : List (View.Piece (Elt Ideal) S1x512x512 .bf16) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _)
    ((hs0_4 t).unread (iblk m c 4 t)) ((hs0_5 t).unread (iblk m c 5 t)) ((hs0_6 t).unread (iblk m c 6 t)) ((hs0_7 t).unread (iblk m c 7 t)) Y n

include hU in
/-- One trip stores one piece: thirty-two rows. -/
theorem trip (Y : (View.whole cc0_scratch0).ty.Contents (Elt Ideal)) (hY : Loaded t U Y) (k : Fin k0_t1_loop.trips) :
    ∃ P : S1x32x512.Idx → EReal, pieces m c t Y (k.val + 1) = ⟨Rect.unit (k0_off2 k) S1x32x512.size (k0_off2_inb k), P⟩ :: pieces m c t Y k.val
      ∧ ∀ (i : Fin 32) (d : Fin 512), P (ix3 0 i d) = InputRef.conved U (ix3 (seq t) (row t ⟨32 * k.val + i.val, by have := lt_of_lt_of_eq k.isLt trips; omega⟩) d) := by
  have hk : k.val < 16 := lt_of_lt_of_eq k.isLt trips
  unfold pieces
  rw [pb_k0_t1_succ (k := k)]
  unfold tripL_k0_t1 trip_k0_t1
  frame_out
  refine ⟨_, rfl, fun i d => ?_⟩
  refine block m c t U hU k.val hk _ (fun p hp d h2 => ?_) i d
  refine (View.ld_unit_apply_of _ _ _ _ _ (ix2 ⟨32 * k.val + p, by omega⟩ d) ?_).trans ((hY _ _ (by dsimp only; omega)).trans rfl)
  have e : ∀ a : Fin 2, (ix2 (⟨32 * k.val + p, by omega⟩ : Fin 544) d a).val = (![32 * k.val, 0] : Fin 2 → ℕ) a + (ix2 (⟨p, hp⟩ : Fin 64) d a).val :=
    Fin.forall_fin_two.2 ⟨rfl, (Nat.zero_add _).symm⟩
  exact fun a => (e a).trans (congrArg (· + _) (congrFun (from_row k) a).symm)

include hU in
/-- The trips' pieces all hold the reference's entries. -/
theorem agree (Y : (View.whole cc0_scratch0).ty.Contents (Elt Ideal)) (hY : Loaded t U Y) :
    ∀ n, n ≤ 16 → ∀ p ∈ pieces m c t Y n, ∀ x, p.2 x = InputRef.conved U (ix3 (seq t) (row t (p.1.emb x 1)) (p.1.emb x 2)) := by
  intro n
  induction n with
  | zero => exact fun _ p hp => absurd hp List.not_mem_nil
  | succ n ih =>
    intro hn p hp x
    obtain ⟨P, e, hP⟩ := trip m c t U hU Y hY ⟨n, lt_of_lt_of_eq (by omega) trips.symm⟩
    rw [e] at hp
    rcases List.mem_cons.1 hp with rfl | hp
    · have ex : x = ix3 0 (x 1) (x 2) := by
        funext a; fin_cases a
        exacts [Subsingleton.elim (α := Fin 1) _ _, rfl, rfl]
      refine (congrArg P ex).trans ((hP (x 1) (x 2)).trans (congrArg _ (congrArg₂ (fun (a : Fin 512) (b : Fin 512) => ix3 (seq t) (row t a) b) (Fin.ext ?_) (Fin.ext ?_))))
      · show 32 * n + (x 1).val = k0_off2 ⟨n, lt_of_lt_of_eq (by omega) trips.symm⟩ 1 + 1 * (x 1).val
        exact (congrArg₂ (fun a b => a + b) (congrFun (to_row ⟨n, lt_of_lt_of_eq (by omega) trips.symm⟩) 1) (Nat.one_mul _)).symm
      · show (x 2).val = k0_off2 ⟨n, lt_of_lt_of_eq (by omega) trips.symm⟩ 2 + 1 * (x 2).val
        exact ((congrArg₂ (fun a b => a + b) (congrFun (to_row ⟨n, lt_of_lt_of_eq (by omega) trips.symm⟩) 2) (Nat.one_mul _)).trans (Nat.zero_add _)).symm
    · exact ih (by omega) p hp x

include hU in
/-- The trips' pieces fill the rows they reach. -/
theorem fill (Y : (View.whole cc0_scratch0).ty.Contents (Elt Ideal)) (hY : Loaded t U Y) (y : S1x512x512.Idx) :
    ∀ n, n ≤ 16 → (y 1).val < 32 * n → ∃ p ∈ pieces m c t Y n, y ∈ p.1.set := by
  intro n
  induction n with
  | zero => exact fun _ h => absurd h (by omega)
  | succ n ih =>
    intro hn hy
    obtain ⟨P, e, -⟩ := trip m c t U hU Y hY ⟨n, lt_of_lt_of_eq (by omega) trips.symm⟩
    rw [e]
    by_cases h : (y 1).val < 32 * n
    · obtain ⟨p, hp, hm⟩ := ih (by omega) h
      exact ⟨p, List.mem_cons_of_mem _ hp, hm⟩
    · refine ⟨_, List.mem_cons_self, ?_⟩
      rw [Rect.mem_set_unit]
      intro a
      rw [to_row]
      fin_cases a
      · exact ⟨Nat.zero_le _, lt_of_lt_of_eq (y 0).isLt rfl⟩
      · exact ⟨by show 32 * n ≤ (y 1).val; omega, by show (y 1).val < 32 * n + 32; omega⟩
      · exact ⟨Nat.zero_le _, lt_of_lt_of_eq (y 2).isLt rfl⟩

include hU in
/-- What the loop finds in the buffer at a sequence's first tile. -/
theorem first (t0 : t.val % 8 = 0) : Loaded t U ((View.whole cc0_scratch0).writes (Elt Ideal) (View.whole cc0_scratch0).junk
    [⟨Rect.unit ![32, 0] ![512, 512] inb_S544x512_S512x512_32_0, k0_pay17 (iblk m c 0 t) (iblk m c 2 t) (iblk m c 3 t)⟩,
      ⟨Rect.unit ![0, 0] ![32, 512] inb_S544x512_S32x512_0_0, k0_pay15 (F := Ideal)⟩]) := by
  intro q j h2
  by_cases h : 32 ≤ q.val
  · exact (under (View.whole cc0_scratch0) _ 32 512 _ _ _ q ⟨q.val - 32, by omega⟩ j (by show q.val = 32 + (q.val - 32); omega)).trans (upper m c t U hU q j h)
  · exact (past (View.whole cc0_scratch0) _ 32 512 _ _ _ q j (by omega)).trans
      ((under (View.whole cc0_scratch0) _ 0 32 _ _ _ q ⟨q.val, by omega⟩ j (Nat.zero_add _).symm).trans (lower_first t U t0 q j h))

include hU in
/-- What the loop finds in the buffer at a later tile. -/
theorem next (t0 : ¬t.val % 8 = 0) (ht : t.val - 1 < cfg0.N) : Loaded t U ((View.whole cc0_scratch0).writes (Elt Ideal) ((Memref.isWhole_whole _ : scM0_0.IsWhole).unread (outsAt0 m c (t.val - 1) ht).2.2.2.2)
    [⟨Rect.unit ![32, 0] ![512, 512] inb_S544x512_S512x512_32_0, k0_pay17 (iblk m c 0 t) (iblk m c 2 t) (iblk m c 3 t)⟩]) := by
  intro q j h2
  by_cases h : 32 ≤ q.val
  · exact (under (View.whole cc0_scratch0) _ 32 512 _ _ _ q ⟨q.val - 32, by omega⟩ j (by show q.val = 32 + (q.val - 32); omega)).trans (upper m c t U hU q j h)
  · exact (past (View.whole cc0_scratch0) _ 32 512 _ _ _ q j (by omega)).trans
      ((congrFun (Memref.IsWhole.read_unread _ _) _).trans (lower_next m c t U hU t0 q j h h2 ht))

include hU in
/-- What the point stores of the convolved branch. -/
theorem stored_conved (y : S1x512x512.Idx) : (dats m 0 c).after 15 t y = InputRef.conved U (ix3 (seq t) (row t (y 1)) (y 2)) := by
  rw [after0_15]
  by_cases t0 : t.val % 8 = 0
  · rw [outsAt0_A m c t t0]
    frame_out
    rw [show Scf.trips (0#32) (Scalar.addi 0#32 16#32) 1#32 = 16 from trips]
    refine View.canon_apply_of_pieces (fun y => InputRef.conved U (ix3 (seq t) (row t (y 1)) (y 2))) (pieces m c t _ 16)
      (agree m c t U hU _ (first m c t U hU t0) 16 le_rfl) y (fill m c t U hU _ (first m c t U hU t0) y 16 le_rfl (lt_of_lt_of_eq (y 1).isLt rfl))
  · rw [outsAt0_B m c t t0]
    frame_out
    rw [show Scf.trips (0#32) (Scalar.addi 0#32 16#32) 1#32 = 16 from trips]
    refine View.canon_apply_of_pieces (fun y => InputRef.conved U (ix3 (seq t) (row t (y 1)) (y 2))) (pieces m c t _ 16)
      (agree m c t U hU _ (next m c t U hU t0 _) 16 le_rfl) y (fill m c t U hU _ (next m c t U hU t0 _) y 16 le_rfl (lt_of_lt_of_eq (y 1).isLt rfl))
end Cert.InputConv
end
-- ==== Proof.InputClaim.lean ====
module
public import proofs.«01_k».proof.Defs
public import proofs.«01_k».proof.Proof.InputStore
public import proofs.«01_k».proof.Proof.InputConv
public import proofs.«01_k».proof.Proof.Finite
public import proofs.«01_k».proof.Proof.Gen.Pre_l0_is_finite
@[expose] public section
/-! Layer 0's input step: the precondition read, the four arrays, and the two runs put side by side. -/
set_option maxRecDepth 16384
noncomputable section
namespace Cert.InputClaim
open Idealize.ShloMosaic Idealize.ShloMosaic.TcCoe Idealize.SL.Sem

section final
open Cert.InputIdeal Cert.InputIdeal.Gen Cert.InputArray Cert.InputMath Cert.InputPoint
variable (m : (ℓ : Loc nD τ sig) → Buf (Elt Ideal) ℓ) (c : Dev nD)
variable (U : Valuation Cert.InputRefIdeal.τ Cert.InputRefIdeal.sig (Elt Ideal)) (hU : Agrees m c U) (hT : Tame m c)

/-- The precondition, read: the rows, the projection, its shift, the queries' gain and weights are real numbers. -/
theorem tame (h : (Cert.Pre_l0_is_finite.fn (F := Ideal) (X m c) (Pos m c) (W m c) (B m c) (Cw m c) (Cb m c) (Lg m c) (Lb m c) (Qg m c) (Uq m c) (Kg m c) (Ukv m c)).1 = (fun _ => 1#1)
      ∧ (Cert.Pre_l0_is_finite.fn (F := Ideal) (X m c) (Pos m c) (W m c) (B m c) (Cw m c) (Cb m c) (Lg m c) (Lb m c) (Qg m c) (Uq m c) (Kg m c) (Ukv m c)).2.1 = (fun _ => 1#1)
      ∧ (Cert.Pre_l0_is_finite.fn (F := Ideal) (X m c) (Pos m c) (W m c) (B m c) (Cw m c) (Cb m c) (Lg m c) (Lb m c) (Qg m c) (Uq m c) (Kg m c) (Ukv m c)).2.2.1 = (fun _ => 1#1)
      ∧ (Cert.Pre_l0_is_finite.fn (F := Ideal) (X m c) (Pos m c) (W m c) (B m c) (Cw m c) (Cb m c) (Lg m c) (Lb m c) (Qg m c) (Uq m c) (Kg m c) (Ukv m c)).2.2.2.1 = (fun _ => 1#1)
      ∧ (Cert.Pre_l0_is_finite.fn (F := Ideal) (X m c) (Pos m c) (W m c) (B m c) (Cw m c) (Cb m c) (Lg m c) (Lb m c) (Qg m c) (Uq m c) (Kg m c) (Ukv m c)).2.2.2.2 = (fun _ => 1#1)) : Tame m c := by
  simp only [Cert.Pre_l0_is_finite.fn] at h
  exact ⟨fun i => Cert.Finite.real_of_olt _ (congrFun h.1 i), fun i => Cert.Finite.real_of_olt _ (congrFun h.2.1 i),
    fun i => Cert.Finite.real_of_olt _ (congrFun h.2.2.1 i), fun i => Cert.Finite.real_of_olt _ (congrFun h.2.2.2.1 i),
    fun i => Cert.Finite.real_of_olt _ (congrFun h.2.2.2.2 i)⟩

include hU
/-- The convolved branch's array. -/
theorem final_conved : (dats m 0 c).arrAt 15 cfg0.N = InputRef.conved U := by
  refine (dats m 0 c).arrAt_eq_of_covers 15 _ (by decide +kernel) fun t _ y => ?_
  blk_simp
  obtain ⟨r, d, rfl⟩ : ∃ (r : Fin 512) (d : Fin 512), y = ix3 0 r d := ⟨y 1, y 2, by funext a; fin_cases a; exacts [Subsingleton.elim (α := Fin 1) _ _, rfl, rfl]⟩
  refine (InputConv.stored_conved m c t U hU (ix3 0 r d)).trans ?_
  generalize InputRef.conved U = G
  unfold row seq
  blk_ext [place t]
/-- The values' array. -/
theorem final_values : (dats m 0 c).arrAt 18 cfg0.N = InputRef.values U := by
  refine (dats m 0 c).arrAt_eq_of_covers 18 _ (by decide +kernel) fun t _ y => ?_
  blk_simp
  obtain ⟨r, d, rfl⟩ : ∃ (r : Fin 512) (d : Fin 512), y = ix3 0 r d := ⟨y 1, y 2, by funext a; fin_cases a; exacts [Subsingleton.elim (α := Fin 1) _ _, rfl, rfl]⟩
  refine (InputStore.stored_values m c t U hU r d).trans ?_
  generalize InputRef.values U = G
  unfold row seq
  blk_ext [place t]
include hT
/-- The queries' array. -/
theorem final_queries : (dats m 0 c).arrAt 16 cfg0.N = InputRef.queries U := by
  refine (dats m 0 c).arrAt_eq_of_covers 16 _ (by decide +kernel) fun t _ y => ?_
  blk_simp
  obtain ⟨r, d, rfl⟩ : ∃ (r : Fin 512) (d : Fin 1024), y = ix3 0 r d := ⟨y 1, y 2, by funext a; fin_cases a; exacts [Subsingleton.elim (α := Fin 1) _ _, rfl, rfl]⟩
  refine (InputStore.stored_queries m c t U hU hT (ix3 0 r d)).trans ?_
  generalize InputRef.queries U = G
  unfold row seq
  blk_ext [place t]
/-- The keys' array. -/
theorem final_keys : (dats m 0 c).arrAt 17 cfg0.N = InputRef.keys U := by
  refine (dats m 0 c).arrAt_eq_of_covers 17 _ (by decide +kernel) fun t _ y => ?_
  blk_simp
  obtain ⟨r, d, rfl⟩ : ∃ (r : Fin 512) (d : Fin 1024), y = ix3 0 r d := ⟨y 1, y 2, by funext a; fin_cases a; exacts [Subsingleton.elim (α := Fin 1) _ _, rfl, rfl]⟩
  refine (InputStore.stored_keys m c t U hU hT (ix3 0 r d)).trans ?_
  generalize InputRef.keys U = G
  unfold row seq
  blk_ext [place t]
end final

/-- The reference's run: its four results, in its own words. -/
theorem run_reference (m : (ℓ : Loc Cert.InputRefIdeal.nD Cert.InputRefIdeal.τ Cert.InputRefIdeal.sig) → Buf (Elt Ideal) ℓ) (g : Dev Cert.InputRefIdeal.nD → PrngReg) :
    θ_run Cert.InputRefIdeal.defs (onTc (τ := Cert.InputRefIdeal.τ) (Cert.InputRefIdeal.main (F := Ideal))) ⟨m, fun _ => 0, g⟩ fun r => ∀ c : Dev Cert.InputRefIdeal.nD,
      (r.2.mem ((c.tc : Thread Cert.InputRefIdeal.nD Cert.InputRefIdeal.τ).loc Cert.InputRefIdeal.main_v345) = InputRef.conved (StableHlo.launchContents m c)
        ∧ r.2.mem ((c.tc : Thread Cert.InputRefIdeal.nD Cert.InputRefIdeal.τ).loc Cert.InputRefIdeal.main_v350) = InputRef.queries (StableHlo.launchContents m c)
        ∧ r.2.mem ((c.tc : Thread Cert.InputRefIdeal.nD Cert.InputRefIdeal.τ).loc Cert.InputRefIdeal.main_v353) = InputRef.keys (StableHlo.launchContents m c)
        ∧ r.2.mem ((c.tc : Thread Cert.InputRefIdeal.nD Cert.InputRefIdeal.τ).loc Cert.InputRefIdeal.main_v354) = InputRef.values (StableHlo.launchContents m c))
      ∧ r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4)
      ∧ r.2.mem ((c.tc : Thread Cert.InputRefIdeal.nD Cert.InputRefIdeal.τ).loc Cert.InputRefIdeal.main_arg5) = m ((c.tc : Thread Cert.InputRefIdeal.nD Cert.InputRefIdeal.τ).loc Cert.InputRefIdeal.main_arg5)
      ∧ r.2.mem ((c.tc : Thread Cert.InputRefIdeal.nD Cert.InputRefIdeal.τ).loc Cert.InputRefIdeal.main_arg6) = m ((c.tc : Thread Cert.InputRefIdeal.nD Cert.InputRefIdeal.τ).loc Cert.InputRefIdeal.main_arg6)
      ∧ r.2.mem ((c.tc : Thread Cert.InputRefIdeal.nD Cert.InputRefIdeal.τ).loc Cert.InputRefIdeal.main_arg7) = m ((c.tc : Thread Cert.InputRefIdeal.nD Cert.InputRefIdeal.τ).loc Cert.InputRefIdeal.main_arg7)
      ∧ r.2.mem ((c.tc : Thread Cert.InputRefIdeal.nD Cert.InputRefIdeal.τ).loc Cert.InputRefIdeal.main_arg8) = m ((c.tc : Thread Cert.InputRefIdeal.nD Cert.InputRefIdeal.τ).loc Cert.InputRefIdeal.main_arg8)
      ∧ r.2.mem ((c.tc : Thread Cert.InputRefIdeal.nD Cert.InputRefIdeal.τ).loc Cert.InputRefIdeal.main_arg9) = m ((c.tc : Thread Cert.InputRefIdeal.nD Cert.InputRefIdeal.τ).loc Cert.InputRefIdeal.main_arg9)
      ∧ r.2.mem ((c.tc : Thread Cert.InputRefIdeal.nD Cert.InputRefIdeal.τ).loc Cert.InputRefIdeal.main_arg10) = m ((c.tc : Thread Cert.InputRefIdeal.nD Cert.InputRefIdeal.τ).loc Cert.InputRefIdeal.main_arg10)
      ∧ r.2.mem ((c.tc : Thread Cert.InputRefIdeal.nD Cert.InputRefIdeal.τ).loc Cert.InputRefIdeal.main_arg11) = m ((c.tc : Thread Cert.InputRefIdeal.nD Cert.InputRefIdeal.τ).loc Cert.InputRefIdeal.main_arg11) :=
  (θ_run Cert.InputRefIdeal.defs _ _).mono (fun _ h c => ⟨⟨(h c).1, (h c).2.1, (h c).2.2.1, (h c).2.2.2.1⟩, (h c).2.2.2.2⟩) (Cert.InputRefIdeal.Value.run (F := Ideal) m g)

/-- The reference runs, leaves its arguments unchanged and declares no semaphore. -/
theorem frame_reference : Cert.quiescent_InputRefIdeal := fun m g _ =>
  (θ_run Cert.InputRefIdeal.defs _ _).mono (fun r h => ⟨fun c => (h c).2, sem_eq_zero_of_no_sems (by decide) r.2⟩) (run_reference m g)

/-- For finite arguments of the rotation the kernel's four arrays are the reference's. -/
theorem algebraic : Cert.algebraic_InputIdeal_InputRefIdeal_pre_l0_is_finite := by
  intro m g m' g' hpre hagree
  have hA : ∀ c, InputPoint.Agrees m c (StableHlo.launchContents m' c) := fun c =>
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2⟩
  have hT : ∀ c, InputPoint.Tame m c := fun c => tame m c (hpre c)
  refine ⟨fun c => InputRef.conved (StableHlo.launchContents m' c), fun c => InputRef.queries (StableHlo.launchContents m' c),
    fun c => InputRef.keys (StableHlo.launchContents m' c), fun c => InputRef.values (StableHlo.launchContents m' c), ?_, ?_⟩
  · exact (θ_run _ _ _).mono (fun r h c =>
      ⟨(Cert.InputIdeal.Value.post15 m r h c).trans (final_conved m c _ (hA c)), (Cert.InputIdeal.Value.post16 m r h c).trans (final_queries m c _ (hA c) (hT c)),
       (Cert.InputIdeal.Value.post17 m r h c).trans (final_keys m c _ (hA c) (hT c)), (Cert.InputIdeal.Value.post18 m r h c).trans (final_values m c _ (hA c)),
       Cert.InputIdeal.Value.kept_main_arg0 m r h c, Cert.InputIdeal.Value.kept_main_arg1 m r h c, Cert.InputIdeal.Value.kept_main_arg2 m r h c, Cert.InputIdeal.Value.kept_main_arg3 m r h c, Cert.InputIdeal.Value.kept_main_arg4 m r h c, Cert.InputIdeal.Value.kept_main_arg5 m r h c, Cert.InputIdeal.Value.kept_main_arg6 m r h c, Cert.InputIdeal.Value.kept_main_arg7 m r h c, Cert.InputIdeal.Value.kept_main_arg8 m r h c, Cert.InputIdeal.Value.kept_main_arg9 m r h c, Cert.InputIdeal.Value.kept_main_arg10 m r h c, Cert.InputIdeal.Value.kept_main_arg11 m r h c⟩)
      (Cert.InputIdeal.Gen.run_main m g)
  · refine (θ_run _ _ _).mono (fun r h c => ?_) (run_reference m' g')
    have e := (h c).1
    exact ⟨e.1, e.2.1, e.2.2.1, e.2.2.2, (h c).2⟩
end Cert.InputClaim
end
-- ==== Proof.lean ====
module
public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_fox_is_finite
public import proofs.«01_k».proof.Proof.Gen.Latent.Frame
public import proofs.«01_k».proof.Proof.Gen.LatentIdeal.Value
public import proofs.«01_k».proof.Proof.Gen.LatentRefIdeal.Run
public import proofs.«01_k».proof.Proof.Gen.Pre_mla_is_finite
public import proofs.«01_k».proof.Proof.Gen.MoeOut.Frame
public import proofs.«01_k».proof.Proof.Gen.MoeOutIdeal.Value
public import proofs.«01_k».proof.Proof.Gen.MoeOutRefIdeal.Run
public import proofs.«01_k».proof.Proof.Gen.Front.Frame
public import proofs.«01_k».proof.Proof.Gen.FrontIdeal.Value
public import proofs.«01_k».proof.Proof.Gen.FrontRefIdeal.Run
public import proofs.«01_k».proof.Proof.Gen.Mix.Frame
public import proofs.«01_k».proof.Proof.Gen.MixIdeal.Value
public import proofs.«01_k».proof.Proof.Gen.MixRefIdeal.Run
public import proofs.«01_k».proof.Proof.Gen.MixTwo.Frame
public import proofs.«01_k».proof.Proof.Gen.MixTwoIdeal.Value
public import proofs.«01_k».proof.Proof.Gen.MixTwoRefIdeal.Run
public import proofs.«01_k».proof.Proof.Gen.Input.Frame
public import proofs.«01_k».proof.Proof.Gen.InputIdeal.Value
public import proofs.«01_k».proof.Proof.Gen.InputRefIdeal.Run
public import proofs.«01_k».proof.Proof.Gen.Pre_l0_is_finite
public import proofs.«01_k».proof.Proof.FoxClaim
public import proofs.«01_k».proof.Proof.LatentClaim
public import proofs.«01_k».proof.Proof.ExpertsClaim
public import proofs.«01_k».proof.Proof.MoeOutClaim
public import proofs.«01_k».proof.Proof.FrontClaim
public import proofs.«01_k».proof.Proof.MixClaim
public import proofs.«01_k».proof.Proof.InputClaim
@[expose] public section
noncomputable section
namespace Cert.Proof
open Idealize.ShloMosaic Idealize.SL.Sem

/-- Every claim of this certificate. -/
theorem claim : Cert.Claim := by
  refine ⟨Cert.Kernel.Gen.facts, Cert.KernelIdeal.Gen.facts, Cert.ReferenceIdeal.Gen.facts,
    Cert.Latent.Gen.facts, Cert.LatentIdeal.Gen.facts, Cert.LatentRefIdeal.Gen.facts,
    Cert.Experts.Gen.facts, Cert.ExpertsIdeal.Gen.facts, Cert.ExpertsRefIdeal.Gen.facts,
    Cert.MoeOut.Gen.facts, Cert.MoeOutIdeal.Gen.facts, Cert.MoeOutRefIdeal.Gen.facts, Cert.Front.Gen.facts, Cert.FrontIdeal.Gen.facts, Cert.FrontRefIdeal.Gen.facts,
    Cert.Mix.Gen.facts, Cert.MixIdeal.Gen.facts, Cert.MixRefIdeal.Gen.facts, Cert.MixTwo.Gen.facts, Cert.MixTwoIdeal.Gen.facts, Cert.MixTwoRefIdeal.Gen.facts,
    Cert.Input.Gen.facts, Cert.InputIdeal.Gen.facts, Cert.InputRefIdeal.Gen.facts,
    Cert.Pre_fox_is_finite.Gen.facts, Cert.Pre_mla_is_finite.Gen.facts, Cert.Pre_tiles_name_experts.Gen.facts, Cert.Pre_l0_is_finite.Gen.facts, ?_⟩
  refine ⟨fun m g _ => Cert.Kernel.Gen.frame m g, fun m g _ => Cert.KernelIdeal.Gen.frame m g, fun m g _ => Cert.KernelIdeal.Gen.frame m g,
    Cert.Fox.frame_reference, fun m g _ => Cert.Fox.frame_reference m g trivial,
    fun m g _ => Cert.Latent.Gen.frame m g, fun m g _ => Cert.LatentIdeal.Gen.frame m g, fun m g _ => Cert.LatentIdeal.Gen.frame m g,
    Cert.Latent.frame_reference, fun m g _ => Cert.Latent.frame_reference m g trivial,
    Cert.ExpertsClaim.frame_bits, Cert.ExpertsClaim.frame_ideal,
    Cert.ExpertsClaim.frame_reference, fun m g _ => Cert.ExpertsClaim.frame_reference m g trivial,
    fun m g _ => Cert.MoeOut.Gen.frame m g, fun m g _ => Cert.MoeOutIdeal.Gen.frame m g, Cert.MoeOutClaim.frame_reference,
    fun m g _ => Cert.Front.Gen.frame m g, fun m g _ => Cert.FrontIdeal.Gen.frame m g, Cert.FrontClaim.frame_reference,
    fun m g _ => Cert.Mix.Gen.frame m g, fun m g _ => Cert.MixIdeal.Gen.frame m g, Cert.MixClaim.mix_frame_reference,
    fun m g _ => Cert.MixTwo.Gen.frame m g, fun m g _ => Cert.MixTwoIdeal.Gen.frame m g, Cert.MixClaim.mixtwo_frame_reference,
    fun m g _ => Cert.Input.Gen.frame m g, fun m g _ => Cert.InputIdeal.Gen.frame m g, fun m g _ => Cert.InputIdeal.Gen.frame m g,
    Cert.InputClaim.frame_reference, fun m g _ => Cert.InputClaim.frame_reference m g trivial,
    trivial, Cert.Fox.algebraic, trivial, Cert.Latent.algebraic, trivial, Cert.ExpertsClaim.algebraic, trivial, Cert.MoeOutClaim.algebraic, trivial, Cert.FrontClaim.algebraic,
    trivial, Cert.MixClaim.mix_algebraic, trivial, Cert.MixClaim.mixtwo_algebraic,
    trivial, Cert.InputClaim.algebraic⟩
end Cert.Proof
end
